-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_HiddenKernel (m : (ℓ : Loc Cert.HiddenKernel.nD Cert.HiddenKernel.τ Cert.HiddenKernel.sig) → Buf (Elt Bits) ℓ) : Prop :=
  True

def Pre_HiddenKernelIdeal (m : (ℓ : Loc Cert.HiddenKernelIdeal.nD Cert.HiddenKernelIdeal.τ Cert.HiddenKernelIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_BranchKernel (m : (ℓ : Loc Cert.BranchKernel.nD Cert.BranchKernel.τ Cert.BranchKernel.sig) → Buf (Elt Bits) ℓ) : Prop :=
  True

def Pre_BranchKernelIdeal (m : (ℓ : Loc Cert.BranchKernelIdeal.nD Cert.BranchKernelIdeal.τ Cert.BranchKernelIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_H2Kernel (m : (ℓ : Loc Cert.H2Kernel.nD Cert.H2Kernel.τ Cert.H2Kernel.sig) → Buf (Elt Bits) ℓ) : Prop :=
  True

def Pre_H2KernelIdeal (m : (ℓ : Loc Cert.H2KernelIdeal.nD Cert.H2KernelIdeal.τ Cert.H2KernelIdeal.sig) → Buf (Elt Ideal) ℓ) : Prop :=
  True

def Pre_H2ReferenceIdeal (m : (ℓ : Loc Cert.H2ReferenceIdeal.nD Cert.H2ReferenceIdeal.τ Cert.H2ReferenceIdeal.sig) → Buf (Elt Ideal) ℓ) : Prop :=
  True

def Pre_HKernel (m : (ℓ : Loc Cert.HKernel.nD Cert.HKernel.τ Cert.HKernel.sig) → Buf (Elt Bits) ℓ) : Prop :=
  True

def Pre_HKernelIdeal (m : (ℓ : Loc Cert.HKernelIdeal.nD Cert.HKernelIdeal.τ Cert.HKernelIdeal.sig) → Buf (Elt Ideal) ℓ) : Prop :=
  True

def Pre_HReferenceIdeal (m : (ℓ : Loc Cert.HReferenceIdeal.nD Cert.HReferenceIdeal.τ Cert.HReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_HiddenKernel [hHiddenKernel : Cert.HiddenKernel.Facts] : Prop :=
  ∀ (m : (ℓ : Loc Cert.HiddenKernel.nD Cert.HiddenKernel.τ Cert.HiddenKernel.sig) → Buf (Elt Bits) ℓ) (g : Dev Cert.HiddenKernel.nD → PrngReg), Pre_HiddenKernel m →
    θ_run (Cert.HiddenKernel.defs (F := Bits)) (onTc (τ := Cert.HiddenKernel.τ) (Cert.HiddenKernel.main (F := Bits))) ⟨m, fun _ => 0, g⟩ (fun r => (∀ c : Dev Cert.HiddenKernel.nD,
      r.2.mem ((c.tc : Thread Cert.HiddenKernel.nD Cert.HiddenKernel.τ).loc Cert.HiddenKernel.main_arg0) = m ((c.tc : Thread Cert.HiddenKernel.nD Cert.HiddenKernel.τ).loc Cert.HiddenKernel.main_arg0)
      ∧ r.2.mem ((c.tc : Thread Cert.HiddenKernel.nD Cert.HiddenKernel.τ).loc Cert.HiddenKernel.main_arg1) = m ((c.tc : Thread Cert.HiddenKernel.nD Cert.HiddenKernel.τ).loc Cert.HiddenKernel.main_arg1))
      ∧ r.2.sem = fun _ => 0)

def quiescent_HiddenKernelIdeal [hHiddenKernelIdeal : Cert.HiddenKernelIdeal.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg), Pre_HiddenKernelIdeal m →
    θ_run (Cert.HiddenKernelIdeal.defs (F := Ideal)) (onTc (τ := Cert.HiddenKernelIdeal.τ) (Cert.HiddenKernelIdeal.main (F := Ideal))) ⟨m, fun _ => 0, g⟩ (fun r => (∀ c : Dev Cert.HiddenKernelIdeal.nD,
      r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
      ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1))
      ∧ r.2.sem = fun _ => 0)

def quiescent_BranchKernel [hBranchKernel : Cert.BranchKernel.Facts] : Prop :=
  ∀ (m : (ℓ : Loc Cert.BranchKernel.nD Cert.BranchKernel.τ Cert.BranchKernel.sig) → Buf (Elt Bits) ℓ) (g : Dev Cert.BranchKernel.nD → PrngReg), Pre_BranchKernel m →
    θ_run (Cert.BranchKernel.defs (F := Bits)) (onTc (τ := Cert.BranchKernel.τ) (Cert.BranchKernel.main (F := Bits))) ⟨m, fun _ => 0, g⟩ (fun r => (∀ c : Dev Cert.BranchKernel.nD,
      r.2.mem ((c.tc : Thread Cert.BranchKernel.nD Cert.BranchKernel.τ).loc Cert.BranchKernel.main_arg0) = m ((c.tc : Thread Cert.BranchKernel.nD Cert.BranchKernel.τ).loc Cert.BranchKernel.main_arg0)
      ∧ r.2.mem ((c.tc : Thread Cert.BranchKernel.nD Cert.BranchKernel.τ).loc Cert.BranchKernel.main_arg1) = m ((c.tc : Thread Cert.BranchKernel.nD Cert.BranchKernel.τ).loc Cert.BranchKernel.main_arg1))
      ∧ r.2.sem = fun _ => 0)

def quiescent_BranchKernelIdeal [hBranchKernelIdeal : Cert.BranchKernelIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg), Pre_BranchKernelIdeal m →
    θ_run (Cert.BranchKernelIdeal.defs (F := Ideal)) (onTc (τ := Cert.BranchKernelIdeal.τ) (Cert.BranchKernelIdeal.main (F := Ideal))) ⟨m, fun _ => 0, g⟩ (fun r => (∀ c : Dev Cert.BranchKernelIdeal.nD,
      r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
      ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1))
      ∧ r.2.sem = fun _ => 0)

def quiescent_H2Kernel [hH2Kernel : Cert.H2Kernel.Facts] : Prop :=
  ∀ (m : (ℓ : Loc Cert.H2Kernel.nD Cert.H2Kernel.τ Cert.H2Kernel.sig) → Buf (Elt Bits) ℓ) (g : Dev Cert.H2Kernel.nD → PrngReg), Pre_H2Kernel m →
    θ_run (Cert.H2Kernel.defs (F := Bits)) (onTc (τ := Cert.H2Kernel.τ) (Cert.H2Kernel.main (F := Bits))) ⟨m, fun _ => 0, g⟩ (fun r => (∀ c : Dev Cert.H2Kernel.nD,
      r.2.mem ((c.tc : Thread Cert.H2Kernel.nD Cert.H2Kernel.τ).loc Cert.H2Kernel.main_arg0) = m ((c.tc : Thread Cert.H2Kernel.nD Cert.H2Kernel.τ).loc Cert.H2Kernel.main_arg0)
      ∧ r.2.mem ((c.tc : Thread Cert.H2Kernel.nD Cert.H2Kernel.τ).loc Cert.H2Kernel.main_arg1) = m ((c.tc : Thread Cert.H2Kernel.nD Cert.H2Kernel.τ).loc Cert.H2Kernel.main_arg1))
      ∧ r.2.sem = fun _ => 0)

def quiescent_H2KernelIdeal [hH2KernelIdeal : Cert.H2KernelIdeal.Facts] : Prop :=
  ∀ (m : (ℓ : Loc Cert.H2KernelIdeal.nD Cert.H2KernelIdeal.τ Cert.H2KernelIdeal.sig) → Buf (Elt Ideal) ℓ) (g : Dev Cert.H2KernelIdeal.nD → PrngReg), Pre_H2KernelIdeal m →
    θ_run (Cert.H2KernelIdeal.defs (F := Ideal)) (onTc (τ := Cert.H2KernelIdeal.τ) (Cert.H2KernelIdeal.main (F := Ideal))) ⟨m, fun _ => 0, g⟩ (fun r => (∀ c : Dev Cert.H2KernelIdeal.nD,
      r.2.mem ((c.tc : Thread Cert.H2KernelIdeal.nD Cert.H2KernelIdeal.τ).loc Cert.H2KernelIdeal.main_arg0) = m ((c.tc : Thread Cert.H2KernelIdeal.nD Cert.H2KernelIdeal.τ).loc Cert.H2KernelIdeal.main_arg0)
      ∧ r.2.mem ((c.tc : Thread Cert.H2KernelIdeal.nD Cert.H2KernelIdeal.τ).loc Cert.H2KernelIdeal.main_arg1) = m ((c.tc : Thread Cert.H2KernelIdeal.nD Cert.H2KernelIdeal.τ).loc Cert.H2KernelIdeal.main_arg1))
      ∧ r.2.sem = fun _ => 0)

def quiescent_H2ReferenceIdeal [hH2ReferenceIdeal : Cert.H2ReferenceIdeal.Facts] : Prop :=
  ∀ (m : (ℓ : Loc Cert.H2ReferenceIdeal.nD Cert.H2ReferenceIdeal.τ Cert.H2ReferenceIdeal.sig) → Buf (Elt Ideal) ℓ) (g : Dev Cert.H2ReferenceIdeal.nD → PrngReg), Pre_H2ReferenceIdeal m →
    θ_run (Cert.H2ReferenceIdeal.defs (F := Ideal)) (onTc (τ := Cert.H2ReferenceIdeal.τ) (Cert.H2ReferenceIdeal.main (F := Ideal))) ⟨m, fun _ => 0, g⟩ (fun r => (∀ c : Dev Cert.H2ReferenceIdeal.nD,
      r.2.mem ((c.tc : Thread Cert.H2ReferenceIdeal.nD Cert.H2ReferenceIdeal.τ).loc Cert.H2ReferenceIdeal.main_arg0) = m ((c.tc : Thread Cert.H2ReferenceIdeal.nD Cert.H2ReferenceIdeal.τ).loc Cert.H2ReferenceIdeal.main_arg0)
      ∧ r.2.mem ((c.tc : Thread Cert.H2ReferenceIdeal.nD Cert.H2ReferenceIdeal.τ).loc Cert.H2ReferenceIdeal.main_arg1) = m ((c.tc : Thread Cert.H2ReferenceIdeal.nD Cert.H2ReferenceIdeal.τ).loc Cert.H2ReferenceIdeal.main_arg1))
      ∧ r.2.sem = fun _ => 0)

def quiescent_HKernel [hHKernel : Cert.HKernel.Facts] : Prop :=
  ∀ (m : (ℓ : Loc Cert.HKernel.nD Cert.HKernel.τ Cert.HKernel.sig) → Buf (Elt Bits) ℓ) (g : Dev Cert.HKernel.nD → PrngReg), Pre_HKernel m →
    θ_run (Cert.HKernel.defs (F := Bits)) (onTc (τ := Cert.HKernel.τ) (Cert.HKernel.main (F := Bits))) ⟨m, fun _ => 0, g⟩ (fun r => (∀ c : Dev Cert.HKernel.nD,
      r.2.mem ((c.tc : Thread Cert.HKernel.nD Cert.HKernel.τ).loc Cert.HKernel.main_arg0) = m ((c.tc : Thread Cert.HKernel.nD Cert.HKernel.τ).loc Cert.HKernel.main_arg0)
      ∧ r.2.mem ((c.tc : Thread Cert.HKernel.nD Cert.HKernel.τ).loc Cert.HKernel.main_arg1) = m ((c.tc : Thread Cert.HKernel.nD Cert.HKernel.τ).loc Cert.HKernel.main_arg1)
      ∧ r.2.mem ((c.tc : Thread Cert.HKernel.nD Cert.HKernel.τ).loc Cert.HKernel.main_arg2) = m ((c.tc : Thread Cert.HKernel.nD Cert.HKernel.τ).loc Cert.HKernel.main_arg2))
      ∧ r.2.sem = fun _ => 0)

def quiescent_HKernelIdeal [hHKernelIdeal : Cert.HKernelIdeal.Facts] : Prop :=
  ∀ (m : (ℓ : Loc Cert.HKernelIdeal.nD Cert.HKernelIdeal.τ Cert.HKernelIdeal.sig) → Buf (Elt Ideal) ℓ) (g : Dev Cert.HKernelIdeal.nD → PrngReg), Pre_HKernelIdeal m →
    θ_run (Cert.HKernelIdeal.defs (F := Ideal)) (onTc (τ := Cert.HKernelIdeal.τ) (Cert.HKernelIdeal.main (F := Ideal))) ⟨m, fun _ => 0, g⟩ (fun r => (∀ c : Dev Cert.HKernelIdeal.nD,
      r.2.mem ((c.tc : Thread Cert.HKernelIdeal.nD Cert.HKernelIdeal.τ).loc Cert.HKernelIdeal.main_arg0) = m ((c.tc : Thread Cert.HKernelIdeal.nD Cert.HKernelIdeal.τ).loc Cert.HKernelIdeal.main_arg0)
      ∧ r.2.mem ((c.tc : Thread Cert.HKernelIdeal.nD Cert.HKernelIdeal.τ).loc Cert.HKernelIdeal.main_arg1) = m ((c.tc : Thread Cert.HKernelIdeal.nD Cert.HKernelIdeal.τ).loc Cert.HKernelIdeal.main_arg1)
      ∧ r.2.mem ((c.tc : Thread Cert.HKernelIdeal.nD Cert.HKernelIdeal.τ).loc Cert.HKernelIdeal.main_arg2) = m ((c.tc : Thread Cert.HKernelIdeal.nD Cert.HKernelIdeal.τ).loc Cert.HKernelIdeal.main_arg2))
      ∧ r.2.sem = fun _ => 0)

def quiescent_HReferenceIdeal [hHReferenceIdeal : Cert.HReferenceIdeal.Facts] : Prop :=
  ∀ (m : (ℓ : Loc Cert.HReferenceIdeal.nD Cert.HReferenceIdeal.τ Cert.HReferenceIdeal.sig) → Buf (Elt Ideal) ℓ) (g : Dev Cert.HReferenceIdeal.nD → PrngReg), Pre_HReferenceIdeal m →
    θ_run (Cert.HReferenceIdeal.defs (F := Ideal)) (onTc (τ := Cert.HReferenceIdeal.τ) (Cert.HReferenceIdeal.main (F := Ideal))) ⟨m, fun _ => 0, g⟩ (fun r => (∀ c : Dev Cert.HReferenceIdeal.nD,
      r.2.mem ((c.tc : Thread Cert.HReferenceIdeal.nD Cert.HReferenceIdeal.τ).loc Cert.HReferenceIdeal.main_arg0) = m ((c.tc : Thread Cert.HReferenceIdeal.nD Cert.HReferenceIdeal.τ).loc Cert.HReferenceIdeal.main_arg0)
      ∧ r.2.mem ((c.tc : Thread Cert.HReferenceIdeal.nD Cert.HReferenceIdeal.τ).loc Cert.HReferenceIdeal.main_arg1) = m ((c.tc : Thread Cert.HReferenceIdeal.nD Cert.HReferenceIdeal.τ).loc Cert.HReferenceIdeal.main_arg1)
      ∧ r.2.mem ((c.tc : Thread Cert.HReferenceIdeal.nD Cert.HReferenceIdeal.τ).loc Cert.HReferenceIdeal.main_arg2) = m ((c.tc : Thread Cert.HReferenceIdeal.nD Cert.HReferenceIdeal.τ).loc Cert.HReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v18) = v0 c
          ∧ r.2.mem ((c.tc : Thread Cert.LossReferenceIdeal.nD Cert.LossReferenceIdeal.τ).loc Cert.LossReferenceIdeal.main_v19) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v0)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v4) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_HiddenKernel_HiddenKernelIdeal : Prop :=
  True

def algebraic_HiddenKernelIdeal_HiddenReferenceIdeal [hHiddenKernelIdeal : Cert.HiddenKernelIdeal.Facts] [hHiddenReferenceIdeal : Cert.HiddenReferenceIdeal.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenKernelIdeal m →
    (∀ c : Dev Cert.HiddenKernelIdeal.nD,
      m' ((c.tc : Thread Cert.HiddenReferenceIdeal.nD Cert.HiddenReferenceIdeal.τ).loc Cert.HiddenReferenceIdeal.main_arg0) = m ((c.tc : Thread Cert.HiddenKernelIdeal.nD Cert.HiddenKernelIdeal.τ).loc Cert.HiddenKernelIdeal.main_arg0)
      ∧ m' ((c.tc : Thread Cert.HiddenReferenceIdeal.nD Cert.HiddenReferenceIdeal.τ).loc Cert.HiddenReferenceIdeal.main_arg1) = m ((c.tc : Thread Cert.HiddenKernelIdeal.nD Cert.HiddenKernelIdeal.τ).loc Cert.HiddenKernelIdeal.main_arg1)) →
    ∃ (v0 : (c : Dev Cert.HiddenKernelIdeal.nD) → Buf (Elt Ideal) ((c.tc : Thread Cert.HiddenKernelIdeal.nD Cert.HiddenKernelIdeal.τ).loc Cert.HiddenKernelIdeal.main_v0_0)) (v1 : (c : Dev Cert.HiddenKernelIdeal.nD) → Buf (Elt Ideal) ((c.tc : Thread Cert.HiddenKernelIdeal.nD Cert.HiddenKernelIdeal.τ).loc Cert.HiddenKernelIdeal.main_v0_1)),
      θ_run (Cert.HiddenKernelIdeal.defs (F := Ideal)) (onTc (τ := Cert.HiddenKernelIdeal.τ) (Cert.HiddenKernelIdeal.main (F := Ideal))) ⟨m, fun _ => 0, g⟩ (fun r => ∀ c : Dev Cert.HiddenKernelIdeal.nD,
          r.2.mem ((c.tc : Thread Cert.HiddenKernelIdeal.nD Cert.HiddenKernelIdeal.τ).loc Cert.HiddenKernelIdeal.main_v0_0) = v0 c
          ∧ r.2.mem ((c.tc : Thread Cert.HiddenKernelIdeal.nD Cert.HiddenKernelIdeal.τ).loc Cert.HiddenKernelIdeal.main_v0_1) = v1 c
          ∧ r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
          ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v3) = v0 c
          ∧ r.2.mem ((c.tc : Thread Cert.HiddenReferenceIdeal.nD Cert.HiddenReferenceIdeal.τ).loc Cert.HiddenReferenceIdeal.main_v6) = v1 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1))

def preserves_BranchKernel_BranchKernelIdeal : Prop :=
  True

def algebraic_BranchKernelIdeal_BranchReferenceIdeal [hBranchKernelIdeal : Cert.BranchKernelIdeal.Facts] [hBranchReferenceIdeal : Cert.BranchReferenceIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchKernelIdeal m →
    (∀ c : Dev Cert.BranchKernelIdeal.nD,
      m' ((c.tc : Thread Cert.BranchReferenceIdeal.nD Cert.BranchReferenceIdeal.τ).loc Cert.BranchReferenceIdeal.main_arg0) = m ((c.tc : Thread Cert.BranchKernelIdeal.nD Cert.BranchKernelIdeal.τ).loc Cert.BranchKernelIdeal.main_arg0)
      ∧ m' ((c.tc : Thread Cert.BranchReferenceIdeal.nD Cert.BranchReferenceIdeal.τ).loc Cert.BranchReferenceIdeal.main_arg1) = m ((c.tc : Thread Cert.BranchKernelIdeal.nD Cert.BranchKernelIdeal.τ).loc Cert.BranchKernelIdeal.main_arg1)) →
    ∃ (v0 : (c : Dev Cert.BranchKernelIdeal.nD) → Buf (Elt Ideal) ((c.tc : Thread Cert.BranchKernelIdeal.nD Cert.BranchKernelIdeal.τ).loc Cert.BranchKernelIdeal.main_v0)),
      θ_run (Cert.BranchKernelIdeal.defs (F := Ideal)) (onTc (τ := Cert.BranchKernelIdeal.τ) (Cert.BranchKernelIdeal.main (F := Ideal))) ⟨m, fun _ => 0, g⟩ (fun r => ∀ c : Dev Cert.BranchKernelIdeal.nD,
          r.2.mem ((c.tc : Thread Cert.BranchKernelIdeal.nD Cert.BranchKernelIdeal.τ).loc Cert.BranchKernelIdeal.main_v0) = v0 c
          ∧ r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
          ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v8) = v0 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1))

def preserves_H2Kernel_H2KernelIdeal : Prop :=
  True

def algebraic_H2KernelIdeal_H2ReferenceIdeal [hH2KernelIdeal : Cert.H2KernelIdeal.Facts] [hH2ReferenceIdeal : Cert.H2ReferenceIdeal.Facts] : Prop :=
  ∀ (m : (ℓ : Loc Cert.H2KernelIdeal.nD Cert.H2KernelIdeal.τ Cert.H2KernelIdeal.sig) → Buf (Elt Ideal) ℓ) (g : Dev Cert.H2KernelIdeal.nD → PrngReg)
    (m' : (ℓ : Loc Cert.H2ReferenceIdeal.nD Cert.H2ReferenceIdeal.τ Cert.H2ReferenceIdeal.sig) → Buf (Elt Ideal) ℓ) (g' : Dev Cert.H2ReferenceIdeal.nD → PrngReg), Pre_H2KernelIdeal m →
    (∀ c : Dev Cert.H2KernelIdeal.nD,
      m' ((c.tc : Thread Cert.H2ReferenceIdeal.nD Cert.H2ReferenceIdeal.τ).loc Cert.H2ReferenceIdeal.main_arg0) = m ((c.tc : Thread Cert.H2KernelIdeal.nD Cert.H2KernelIdeal.τ).loc Cert.H2KernelIdeal.main_arg0)
      ∧ m' ((c.tc : Thread Cert.H2ReferenceIdeal.nD Cert.H2ReferenceIdeal.τ).loc Cert.H2ReferenceIdeal.main_arg1) = m ((c.tc : Thread Cert.H2KernelIdeal.nD Cert.H2KernelIdeal.τ).loc Cert.H2KernelIdeal.main_arg1)) →
    ∃ (v0 : (c : Dev Cert.H2KernelIdeal.nD) → Buf (Elt Ideal) ((c.tc : Thread Cert.H2KernelIdeal.nD Cert.H2KernelIdeal.τ).loc Cert.H2KernelIdeal.main_v0)),
      θ_run (Cert.H2KernelIdeal.defs (F := Ideal)) (onTc (τ := Cert.H2KernelIdeal.τ) (Cert.H2KernelIdeal.main (F := Ideal))) ⟨m, fun _ => 0, g⟩ (fun r => ∀ c : Dev Cert.H2KernelIdeal.nD,
          r.2.mem ((c.tc : Thread Cert.H2KernelIdeal.nD Cert.H2KernelIdeal.τ).loc Cert.H2KernelIdeal.main_v0) = v0 c
          ∧ r.2.mem ((c.tc : Thread Cert.H2KernelIdeal.nD Cert.H2KernelIdeal.τ).loc Cert.H2KernelIdeal.main_arg0) = m ((c.tc : Thread Cert.H2KernelIdeal.nD Cert.H2KernelIdeal.τ).loc Cert.H2KernelIdeal.main_arg0)
          ∧ r.2.mem ((c.tc : Thread Cert.H2KernelIdeal.nD Cert.H2KernelIdeal.τ).loc Cert.H2KernelIdeal.main_arg1) = m ((c.tc : Thread Cert.H2KernelIdeal.nD Cert.H2KernelIdeal.τ).loc Cert.H2KernelIdeal.main_arg1))
      ∧ θ_run (Cert.H2ReferenceIdeal.defs (F := Ideal)) (onTc (τ := Cert.H2ReferenceIdeal.τ) (Cert.H2ReferenceIdeal.main (F := Ideal))) ⟨m', fun _ => 0, g'⟩ (fun r => ∀ c : Dev Cert.H2ReferenceIdeal.nD,
          r.2.mem ((c.tc : Thread Cert.H2ReferenceIdeal.nD Cert.H2ReferenceIdeal.τ).loc Cert.H2ReferenceIdeal.main_v4) = v0 c
          ∧ r.2.mem ((c.tc : Thread Cert.H2ReferenceIdeal.nD Cert.H2ReferenceIdeal.τ).loc Cert.H2ReferenceIdeal.main_arg0) = m' ((c.tc : Thread Cert.H2ReferenceIdeal.nD Cert.H2ReferenceIdeal.τ).loc Cert.H2ReferenceIdeal.main_arg0)
          ∧ r.2.mem ((c.tc : Thread Cert.H2ReferenceIdeal.nD Cert.H2ReferenceIdeal.τ).loc Cert.H2ReferenceIdeal.main_arg1) = m' ((c.tc : Thread Cert.H2ReferenceIdeal.nD Cert.H2ReferenceIdeal.τ).loc Cert.H2ReferenceIdeal.main_arg1))

def preserves_HKernel_HKernelIdeal : Prop :=
  True

def algebraic_HKernelIdeal_HReferenceIdeal [hHKernelIdeal : Cert.HKernelIdeal.Facts] [hHReferenceIdeal : Cert.HReferenceIdeal.Facts] : Prop :=
  ∀ (m : (ℓ : Loc Cert.HKernelIdeal.nD Cert.HKernelIdeal.τ Cert.HKernelIdeal.sig) → Buf (Elt Ideal) ℓ) (g : Dev Cert.HKernelIdeal.nD → PrngReg)
    (m' : (ℓ : Loc Cert.HReferenceIdeal.nD Cert.HReferenceIdeal.τ Cert.HReferenceIdeal.sig) → Buf (Elt Ideal) ℓ) (g' : Dev Cert.HReferenceIdeal.nD → PrngReg), Pre_HKernelIdeal m →
    (∀ c : Dev Cert.HKernelIdeal.nD,
      m' ((c.tc : Thread Cert.HReferenceIdeal.nD Cert.HReferenceIdeal.τ).loc Cert.HReferenceIdeal.main_arg0) = m ((c.tc : Thread Cert.HKernelIdeal.nD Cert.HKernelIdeal.τ).loc Cert.HKernelIdeal.main_arg0)
      ∧ m' ((c.tc : Thread Cert.HReferenceIdeal.nD Cert.HReferenceIdeal.τ).loc Cert.HReferenceIdeal.main_arg1) = m ((c.tc : Thread Cert.HKernelIdeal.nD Cert.HKernelIdeal.τ).loc Cert.HKernelIdeal.main_arg1)
      ∧ m' ((c.tc : Thread Cert.HReferenceIdeal.nD Cert.HReferenceIdeal.τ).loc Cert.HReferenceIdeal.main_arg2) = m ((c.tc : Thread Cert.HKernelIdeal.nD Cert.HKernelIdeal.τ).loc Cert.HKernelIdeal.main_arg2)) →
    ∃ (v0 : (c : Dev Cert.HKernelIdeal.nD) → Buf (Elt Ideal) ((c.tc : Thread Cert.HKernelIdeal.nD Cert.HKernelIdeal.τ).loc Cert.HKernelIdeal.main_v0)),
      θ_run (Cert.HKernelIdeal.defs (F := Ideal)) (onTc (τ := Cert.HKernelIdeal.τ) (Cert.HKernelIdeal.main (F := Ideal))) ⟨m, fun _ => 0, g⟩ (fun r => ∀ c : Dev Cert.HKernelIdeal.nD,
          r.2.mem ((c.tc : Thread Cert.HKernelIdeal.nD Cert.HKernelIdeal.τ).loc Cert.HKernelIdeal.main_v0) = v0 c
          ∧ r.2.mem ((c.tc : Thread Cert.HKernelIdeal.nD Cert.HKernelIdeal.τ).loc Cert.HKernelIdeal.main_arg0) = m ((c.tc : Thread Cert.HKernelIdeal.nD Cert.HKernelIdeal.τ).loc Cert.HKernelIdeal.main_arg0)
          ∧ r.2.mem ((c.tc : Thread Cert.HKernelIdeal.nD Cert.HKernelIdeal.τ).loc Cert.HKernelIdeal.main_arg1) = m ((c.tc : Thread Cert.HKernelIdeal.nD Cert.HKernelIdeal.τ).loc Cert.HKernelIdeal.main_arg1)
          ∧ r.2.mem ((c.tc : Thread Cert.HKernelIdeal.nD Cert.HKernelIdeal.τ).loc Cert.HKernelIdeal.main_arg2) = m ((c.tc : Thread Cert.HKernelIdeal.nD Cert.HKernelIdeal.τ).loc Cert.HKernelIdeal.main_arg2))
      ∧ θ_run (Cert.HReferenceIdeal.defs (F := Ideal)) (onTc (τ := Cert.HReferenceIdeal.τ) (Cert.HReferenceIdeal.main (F := Ideal))) ⟨m', fun _ => 0, g'⟩ (fun r => ∀ c : Dev Cert.HReferenceIdeal.nD,
          r.2.mem ((c.tc : Thread Cert.HReferenceIdeal.nD Cert.HReferenceIdeal.τ).loc Cert.HReferenceIdeal.main_v6) = v0 c
          ∧ r.2.mem ((c.tc : Thread Cert.HReferenceIdeal.nD Cert.HReferenceIdeal.τ).loc Cert.HReferenceIdeal.main_arg0) = m' ((c.tc : Thread Cert.HReferenceIdeal.nD Cert.HReferenceIdeal.τ).loc Cert.HReferenceIdeal.main_arg0)
          ∧ r.2.mem ((c.tc : Thread Cert.HReferenceIdeal.nD Cert.HReferenceIdeal.τ).loc Cert.HReferenceIdeal.main_arg1) = m' ((c.tc : Thread Cert.HReferenceIdeal.nD Cert.HReferenceIdeal.τ).loc Cert.HReferenceIdeal.main_arg1)
          ∧ r.2.mem ((c.tc : Thread Cert.HReferenceIdeal.nD Cert.HReferenceIdeal.τ).loc Cert.HReferenceIdeal.main_arg2) = m' ((c.tc : Thread Cert.HReferenceIdeal.nD Cert.HReferenceIdeal.τ).loc Cert.HReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v6) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v8) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v0)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v7) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)) →
    ∃ (v0 : (c : Dev Cert.OutKernelIdeal.nD) → Buf (Elt Ideal) ((c.tc : Thread Cert.OutKernelIdeal.nD Cert.OutKernelIdeal.τ).loc Cert.OutKernelIdeal.main_v0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v6) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_ActKernel_ActKernelIdeal : Prop :=
  True

def algebraic_ActKernelIdeal_ActReferenceIdeal [hActKernelIdeal : Cert.ActKernelIdeal.Facts] [hActReferenceIdeal : Cert.ActReferenceIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)
      ∧ m' ((c.tc : Thread Cert.ActReferenceIdeal.nD Cert.ActReferenceIdeal.τ).loc Cert.ActReferenceIdeal.main_arg2) = m ((c.tc : Thread Cert.ActKernelIdeal.nD Cert.ActKernelIdeal.τ).loc Cert.ActKernelIdeal.main_arg2)) →
    ∃ (v0 : (c : Dev Cert.ActKernelIdeal.nD) → Buf (Elt Ideal) ((c.tc : Thread Cert.ActKernelIdeal.nD Cert.ActKernelIdeal.τ).loc Cert.ActKernelIdeal.main_v0)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v0) = v0 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v15) = v0 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2))

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v72_0)) (v1 : (c : Dev Cert.KernelIdeal.nD) → Buf (Elt Ideal) ((c.tc : Thread Cert.KernelIdeal.nD Cert.KernelIdeal.τ).loc Cert.KernelIdeal.main_v72_1)) (v2 : (c : Dev Cert.KernelIdeal.nD) → Buf (Elt Ideal) ((c.tc : Thread Cert.KernelIdeal.nD Cert.KernelIdeal.τ).loc Cert.KernelIdeal.main_v72_2)) (v3 : (c : Dev Cert.KernelIdeal.nD) → Buf (Elt Ideal) ((c.tc : Thread Cert.KernelIdeal.nD Cert.KernelIdeal.τ).loc Cert.KernelIdeal.main_v72_3)) (v4 : (c : Dev Cert.KernelIdeal.nD) → Buf (Elt Ideal) ((c.tc : Thread Cert.KernelIdeal.nD Cert.KernelIdeal.τ).loc Cert.KernelIdeal.main_v72_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_v72_2) = v2 c
          ∧ r.2.mem ((c.tc : Thread Cert.KernelIdeal.nD Cert.KernelIdeal.τ).loc Cert.KernelIdeal.main_v72_3) = v3 c
          ∧ r.2.mem ((c.tc : Thread Cert.KernelIdeal.nD Cert.KernelIdeal.τ).loc Cert.KernelIdeal.main_v72_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v170) = v2 c
          ∧ r.2.mem ((c.tc : Thread Cert.ReferenceIdeal.nD Cert.ReferenceIdeal.τ).loc Cert.ReferenceIdeal.main_v171) = v3 c
          ∧ r.2.mem ((c.tc : Thread Cert.ReferenceIdeal.nD Cert.ReferenceIdeal.τ).loc Cert.ReferenceIdeal.main_v172) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hLossKernel : Cert.LossKernel.Facts) (hLossKernelIdeal : Cert.LossKernelIdeal.Facts) (hLossReferenceIdeal : Cert.LossReferenceIdeal.Facts) (hProjKernel : Cert.ProjKernel.Facts) (hProjKernelIdeal : Cert.ProjKernelIdeal.Facts) (hProjReferenceIdeal : Cert.ProjReferenceIdeal.Facts) (hHiddenKernel : Cert.HiddenKernel.Facts) (hHiddenKernelIdeal : Cert.HiddenKernelIdeal.Facts) (hHiddenReferenceIdeal : Cert.HiddenReferenceIdeal.Facts) (hBranchKernel : Cert.BranchKernel.Facts) (hBranchKernelIdeal : Cert.BranchKernelIdeal.Facts) (hBranchReferenceIdeal : Cert.BranchReferenceIdeal.Facts) (hH2Kernel : Cert.H2Kernel.Facts) (hH2KernelIdeal : Cert.H2KernelIdeal.Facts) (hH2ReferenceIdeal : Cert.H2ReferenceIdeal.Facts) (hHKernel : Cert.HKernel.Facts) (hHKernelIdeal : Cert.HKernelIdeal.Facts) (hHReferenceIdeal : Cert.HReferenceIdeal.Facts) (hDownKernel : Cert.DownKernel.Facts) (hDownKernelIdeal : Cert.DownKernelIdeal.Facts) (hDownReferenceIdeal : Cert.DownReferenceIdeal.Facts) (hUpKernel : Cert.UpKernel.Facts) (hUpKernelIdeal : Cert.UpKernelIdeal.Facts) (hUpReferenceIdeal : Cert.UpReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hActKernel : Cert.ActKernel.Facts) (hActKernelIdeal : Cert.ActKernelIdeal.Facts) (hActReferenceIdeal : Cert.ActReferenceIdeal.Facts) (hKernel : Cert.Kernel.Facts) (hKernelIdeal : Cert.KernelIdeal.Facts) (hReferenceIdeal : Cert.ReferenceIdeal.Facts) (hPre_finite : Cert.Pre_finite.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_HiddenKernel (hHiddenKernel := hHiddenKernel)
    ∧ quiescent_HiddenKernelIdeal (hHiddenKernelIdeal := hHiddenKernelIdeal)
    ∧ quiescent_HiddenReferenceIdeal (hHiddenReferenceIdeal := hHiddenReferenceIdeal)
    ∧ quiescent_BranchKernel (hBranchKernel := hBranchKernel)
    ∧ quiescent_BranchKernelIdeal (hBranchKernelIdeal := hBranchKernelIdeal)
    ∧ quiescent_BranchReferenceIdeal (hBranchReferenceIdeal := hBranchReferenceIdeal)
    ∧ quiescent_H2Kernel (hH2Kernel := hH2Kernel)
    ∧ quiescent_H2KernelIdeal (hH2KernelIdeal := hH2KernelIdeal)
    ∧ quiescent_H2ReferenceIdeal (hH2ReferenceIdeal := hH2ReferenceIdeal)
    ∧ quiescent_HKernel (hHKernel := hHKernel)
    ∧ quiescent_HKernelIdeal (hHKernelIdeal := hHKernelIdeal)
    ∧ quiescent_HReferenceIdeal (hHReferenceIdeal := hHReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_ActKernel (hActKernel := hActKernel)
    ∧ quiescent_ActKernelIdeal (hActKernelIdeal := hActKernelIdeal)
    ∧ quiescent_ActReferenceIdeal (hActReferenceIdeal := hActReferenceIdeal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_LossKernel_LossKernelIdeal
    ∧ algebraic_LossKernelIdeal_LossReferenceIdeal (hLossKernelIdeal := hLossKernelIdeal) (hLossReferenceIdeal := hLossReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_HiddenKernel_HiddenKernelIdeal
    ∧ algebraic_HiddenKernelIdeal_HiddenReferenceIdeal (hHiddenKernelIdeal := hHiddenKernelIdeal) (hHiddenReferenceIdeal := hHiddenReferenceIdeal)
    ∧ preserves_BranchKernel_BranchKernelIdeal
    ∧ algebraic_BranchKernelIdeal_BranchReferenceIdeal (hBranchKernelIdeal := hBranchKernelIdeal) (hBranchReferenceIdeal := hBranchReferenceIdeal)
    ∧ preserves_H2Kernel_H2KernelIdeal
    ∧ algebraic_H2KernelIdeal_H2ReferenceIdeal (hH2KernelIdeal := hH2KernelIdeal) (hH2ReferenceIdeal := hH2ReferenceIdeal)
    ∧ preserves_HKernel_HKernelIdeal
    ∧ algebraic_HKernelIdeal_HReferenceIdeal (hHKernelIdeal := hHKernelIdeal) (hHReferenceIdeal := hHReferenceIdeal)
    ∧ preserves_DownKernel_DownKernelIdeal
    ∧ algebraic_DownKernelIdeal_DownReferenceIdeal (hDownKernelIdeal := hDownKernelIdeal) (hDownReferenceIdeal := hDownReferenceIdeal)
    ∧ preserves_UpKernel_UpKernelIdeal
    ∧ algebraic_UpKernelIdeal_UpReferenceIdeal (hUpKernelIdeal := hUpKernelIdeal) (hUpReferenceIdeal := hUpReferenceIdeal)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal (hOutKernelIdeal := hOutKernelIdeal) (hOutReferenceIdeal := hOutReferenceIdeal)
    ∧ preserves_ActKernel_ActKernelIdeal
    ∧ algebraic_ActKernelIdeal_ActReferenceIdeal (hActKernelIdeal := hActKernelIdeal) (hActReferenceIdeal := hActReferenceIdeal)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x13312 : Shape := ⟨2, ![4096, 13312]⟩
abbrev S4096x1024 : Shape := ⟨2, ![4096, 1024]⟩
abbrev S128 : Shape := ⟨1, ![128]⟩
abbrev S8x4096 : Shape := ⟨2, ![8, 4096]⟩
abbrev S4096x3072 : Shape := ⟨2, ![4096, 3072]⟩
abbrev S_ : Shape := ⟨0, ![]⟩

class Facts : Prop where
  slices_S4096x13312_S4096x3072_0_9216 : S4096x13312.Slices ![0, 9216] S4096x3072
  bitsLt_bf16_f32 : FTy.bits .bf16 < FTy.bits .f32
  bcast_S_S4096x3072 : S_.BroadcastsInDim S4096x3072 (![] : Fin 0 → Fin S4096x3072.rank)
  bcast_S_S4096x1024 : S_.BroadcastsInDim S4096x1024 (![] : Fin 0 → Fin S4096x1024.rank)
  bcast_S_S128 : S_.BroadcastsInDim S128 (![] : Fin 0 → Fin S128.rank)
  bcast_S_S8x4096 : S_.BroadcastsInDim S8x4096 (![] : Fin 0 → Fin S8x4096.rank)

variable [Facts]

def fn {F : FTy → Type} [FloatOps F] (main_arg0 : FVec F S4096x13312 .bf16) (main_arg1 : FVec F S4096x1024 .bf16) (main_arg2 : FVec F S128 .f32) (main_arg3 : FVec F S128 .f32) (main_arg4 : FVec F S8x4096 .f32) (main_arg5 : FVec F S4096x13312 .bf16) : IVec S4096x3072 1 × IVec S4096x1024 1 × IVec S128 1 × IVec S128 1 × IVec S8x4096 1 :=
  let main_v0 : FVec F S4096x3072 .bf16 := (extractStridedSlice S4096x3072 ![0, 9216] · slices_S4096x13312_S4096x3072_0_9216) main_arg0
  let main_v1 : FVec F S4096x3072 .f32 := (extf .f32 · bitsLt_bf16_f32) main_v0
  let main_v2 : FVec F S4096x3072 .f32 := Host.absf main_v1
  let main_cst : FVec F S_ .f32 := constant S_ .f32 0x7F800000#32
  let main_v3 : FVec F S4096x3072 .f32 := broadcastInDim S4096x3072 ![] bcast_S_S4096x3072 main_cst
  let main_v4 : IVec S4096x3072 1 := cmpf .olt main_v2 main_v3
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_v9 : FVec F S128 .f32 := Host.absf main_arg2
  let main_cst_1 : FVec F S_ .f32 := constant S_ .f32 0x7F800000#32
  let main_v10 : FVec F S128 .f32 := broadcastInDim S128 ![] bcast_S_S128 main_cst_1
  let main_v11 : IVec S128 1 := cmpf .olt main_v9 main_v10
  let main_v12 : FVec F S128 .f32 := Host.absf main_arg3
  let main_cst_2 : FVec F S_ .f32 := constant S_ .f32 0x7F800000#32
  let main_v13 : FVec F S128 .f32 := broadcastInDim S128 ![] bcast_S_S128 main_cst_2
  let main_v14 : IVec S128 1 := cmpf .olt main_v12 main_v13
  let main_v15 : FVec F S8x4096 .f32 := Host.absf main_arg4
  let main_cst_3 : FVec F S_ .f32 := constant S_ .f32 0x7F800000#32
  let main_v16 : FVec F S8x4096 .f32 := broadcastInDim S8x4096 ![] bcast_S_S8x4096 main_cst_3
  let main_v17 : IVec S8x4096 1 := cmpf .olt main_v15 main_v16
  (main_v4, main_v8, main_v11, main_v14, main_v17)
-- ==== LossKernel.lean ====
abbrev S4096x8192 : Shape := ⟨2, ![4096, 8192]⟩
abbrev S8192x2048 : Shape := ⟨2, ![8192, 2048]⟩
abbrev S4096x2048 : Shape := ⟨2, ![4096, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 13
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== LossReferenceIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S4096 : Shape := ⟨1, ![4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .hbm, ⟨4, _⟩ => ⟨S4096x8192, .f32⟩
  | .hbm, ⟨5, _⟩ => ⟨S8192x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x2048, .f32⟩
  | .hbm, ⟨30, _⟩ => ⟨S4096x2048, .f32⟩
  | .hbm, ⟨31, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== ProjKernel.lean ====
abbrev S4096x2048 : Shape := ⟨2, ![4096, 2048]⟩
abbrev S13312x2048 : Shape := ⟨2, ![13312, 2048]⟩
abbrev S4096x13312 : Shape := ⟨2, ![4096, 13312]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S13312x2048, .bf16⟩
  | .hbm, ⟨2, _⟩ => ⟨S4096x13312, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 26, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S4096x2048 : Shape := ⟨2, ![4096, 2048]⟩
abbrev S13312x2048 : Shape := ⟨2, ![13312, 2048]⟩
abbrev S2048x13312 : Shape := ⟨2, ![2048, 13312]⟩
abbrev S4096x13312 : Shape := ⟨2, ![4096, 13312]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S13312x2048, .bf16⟩
  | .hbm, ⟨2, _⟩ => ⟨S4096x2048, .f32⟩
  | .hbm, ⟨3, _⟩ => ⟨S2048x13312, .bf16⟩
  | .hbm, ⟨4, _⟩ => ⟨S2048x13312, .f32⟩
  | .hbm, ⟨5, _⟩ => ⟨S4096x13312, .f32⟩
  | .hbm, ⟨6, _⟩ => ⟨S4096x13312, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== HiddenKernel.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HiddenReferenceIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== BranchKernel.lean ====
abbrev S4096x1024 : Shape := ⟨2, ![4096, 1024]⟩
abbrev S4096x2048 : Shape := ⟨2, ![4096, 2048]⟩
abbrev S8x1024x256 : Shape := ⟨3, ![8, 1024, 256]⟩
abbrev S4096x512 : Shape := ⟨2, ![4096, 512]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .local _ .vmem, ⟨0, _⟩ => ⟨S4096x512, .bf16⟩
  | .local _ .vmem, ⟨1, _⟩ => ⟨S4096x512, .bf16⟩
  | .local _ .vmem, ⟨2, _⟩ => ⟨S4096x256, .bf16⟩
  | .local _ .vmem, ⟨3, _⟩ => ⟨S4096x256, .bf16⟩
  | .local _ .vmem, ⟨4, _⟩ => ⟨S1x512x256, .bf16⟩
  | .local _ .vmem, ⟨5, _⟩ => ⟨S1x512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1024x8x256, .bf16⟩
  | .hbm, ⟨11, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== H2Kernel.lean ====
abbrev S4096x8192 : Shape := ⟨2, ![4096, 8192]⟩
abbrev S2048x8192 : Shape := ⟨2, ![2048, 8192]⟩
abbrev S4096x2048 : Shape := ⟨2, ![4096, 2048]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== H2ReferenceIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== HKernel.lean ====
abbrev S4096x13312 : Shape := ⟨2, ![4096, 13312]⟩
abbrev S13312x2048 : Shape := ⟨2, ![13312, 2048]⟩
abbrev S4096x2048 : Shape := ⟨2, ![4096, 2048]⟩
abbrev S1024x3328 : Shape := ⟨2, ![1024, 3328]⟩
abbrev S3328x512 : Shape := ⟨2, ![3328, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x13312, .bf16⟩
  | .hbm, ⟨1, _⟩ => ⟨S13312x2048, .bf16⟩
  | .hbm, ⟨2, _⟩ => ⟨S4096x2048, .f32⟩
  | .hbm, ⟨3, _⟩ => ⟨S4096x2048, .f32⟩
  | .local _ .vmem, ⟨0, _⟩ => ⟨S1024x3328, .bf16⟩
  | .local _ .vmem, ⟨1, _⟩ => ⟨S1024x3328, .bf16⟩
  | .local _ .vmem, ⟨2, _⟩ => ⟨S3328x512, .bf16⟩
  | .local _ .vmem, ⟨3, _⟩ => ⟨S3328x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3328x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HReferenceIdeal.lean ====
abbrev S4096x13312 : Shape := ⟨2, ![4096, 13312]⟩
abbrev S13312x2048 : Shape := ⟨2, ![13312, 2048]⟩
abbrev S4096x2048 : Shape := ⟨2, ![4096, 2048]⟩
abbrev S2048x13312 : Shape := ⟨2, ![2048, 13312]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x13312, .bf16⟩
  | .hbm, ⟨1, _⟩ => ⟨S13312x2048, .bf16⟩
  | .hbm, ⟨2, _⟩ => ⟨S4096x2048, .f32⟩
  | .hbm, ⟨3, _⟩ => ⟨S2048x13312, .bf16⟩
  | .hbm, ⟨4, _⟩ => ⟨S_, .f32⟩
  | .hbm, ⟨5, _⟩ => ⟨S4096x2048, .f32⟩
  | .hbm, ⟨6, _⟩ => ⟨S2048x13312, .f32⟩
  | .hbm, ⟨7, _⟩ => ⟨S4096x13312, .f32⟩
  | .hbm, ⟨8, _⟩ => ⟨S4096x13312, .f32⟩
  | .hbm, ⟨9, _⟩ => ⟨S4096x2048, .f32⟩
  | .hbm, ⟨10, _⟩ => ⟨S4096x2048, .f32⟩
  | _, _ => ⟨S4096x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DownKernel.lean ====
abbrev S4096x8192 : Shape := ⟨2, ![4096, 8192]⟩
abbrev S4096x2048 : Shape := ⟨2, ![4096, 2048]⟩
abbrev S8192x2048 : Shape := ⟨2, ![8192, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpKernel.lean ====
abbrev S4096x2048 : Shape := ⟨2, ![4096, 2048]⟩
abbrev S4096x8192 : Shape := ⟨2, ![4096, 8192]⟩
abbrev S8x2048x1024 : Shape := ⟨3, ![8, 2048, 1024]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x8x1024, .bf16⟩
  | .hbm, ⟨11, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InKernel.lean ====
abbrev S4096x13312 : Shape := ⟨2, ![4096, 13312]⟩
abbrev S4096x2048 : Shape := ⟨2, ![4096, 2048]⟩
abbrev S13312x2048 : Shape := ⟨2, ![13312, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x13312, .bf16⟩
  | .hbm, ⟨1, _⟩ => ⟨S4096x2048, .bf16⟩
  | .hbm, ⟨2, _⟩ => ⟨S13312x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 26, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S4096x13312 : Shape := ⟨2, ![4096, 13312]⟩
abbrev S4096x2048 : Shape := ⟨2, ![4096, 2048]⟩
abbrev S_ : Shape := ⟨0, ![]⟩
abbrev S2048x13312 : Shape := ⟨2, ![2048, 13312]⟩
abbrev S13312x2048 : Shape := ⟨2, ![13312, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x13312, .bf16⟩
  | .hbm, ⟨1, _⟩ => ⟨S4096x2048, .bf16⟩
  | .hbm, ⟨2, _⟩ => ⟨S_, .f32⟩
  | .hbm, ⟨3, _⟩ => ⟨S2048x13312, .f32⟩
  | .hbm, ⟨4, _⟩ => ⟨S4096x2048, .f32⟩
  | .hbm, ⟨5, _⟩ => ⟨S4096x13312, .f32⟩
  | .hbm, ⟨6, _⟩ => ⟨S4096x13312, .f32⟩
  | .hbm, ⟨7, _⟩ => ⟨S13312x2048, .f32⟩
  | .hbm, ⟨8, _⟩ => ⟨S2048x13312, .f32⟩
  | .hbm, ⟨9, _⟩ => ⟨S2048x13312, .bf16⟩
  | .hbm, ⟨10, _⟩ => ⟨S13312x2048, .bf16⟩
  | _, _ => ⟨S4096x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutKernel.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ActKernel.lean ====
abbrev S4096x2048 : Shape := ⟨2, ![4096, 2048]⟩
abbrev S8192x2048 : Shape := ⟨2, ![8192, 2048]⟩
abbrev S4096x8192 : Shape := ⟨2, ![4096, 8192]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActReferenceIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S8192x2048, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel.lean ====
abbrev S4096x13312 : Shape := ⟨2, ![4096, 13312]⟩
abbrev S4096x1024 : Shape := ⟨2, ![4096, 1024]⟩
abbrev S128 : Shape := ⟨1, ![128]⟩
abbrev S8x4096 : Shape := ⟨2, ![8, 4096]⟩
abbrev S4096x3072 : Shape := ⟨2, ![4096, 3072]⟩
abbrev S4096x8x3x128 : Shape := ⟨4, ![4096, 8, 3, 128]⟩
abbrev S4096x8x1x128 : Shape := ⟨4, ![4096, 8, 1, 128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x128x4096 : Shape := ⟨3, ![8, 128, 4096]⟩
abbrev S8x4096x128 : Shape := ⟨3, ![8, 4096, 128]⟩
abbrev S1x128 : Shape := ⟨2, ![1, 128]⟩
abbrev S4096x128 : Shape := ⟨2, ![4096, 128]⟩
abbrev S1x1x4096 : Shape := ⟨3, ![1, 1, 4096]⟩
abbrev S1x4096x128 : Shape := ⟨3, ![1, 4096, 128]⟩
abbrev S4096x384 : Shape := ⟨2, ![4096, 384]⟩
abbrev S1x4096x1 : Shape := ⟨3, ![1, 4096, 1]⟩
abbrev S128x4096 : Shape := ⟨2, ![128, 4096]⟩
abbrev S128x128 : Shape := ⟨2, ![128, 128]⟩
abbrev S512x1 : Shape := ⟨2, ![512, 1]⟩
abbrev S512x512 : Shape := ⟨2, ![512, 512]⟩
abbrev S512 : Shape := ⟨1, ![512]⟩
abbrev S1x512 : Shape := ⟨2, ![1, 512]⟩
abbrev S512x128 : Shape := ⟨2, ![512, 128]⟩
abbrev S128x512 : Shape := ⟨2, ![128, 512]⟩
abbrev S1x512x1 : Shape := ⟨3, ![1, 512, 1]⟩
abbrev S1x1x512 : Shape := ⟨3, ![1, 1, 512]⟩
abbrev S1024x128 : Shape := ⟨2, ![1024, 128]⟩
abbrev S512x1024 : Shape := ⟨2, ![512, 1024]⟩
abbrev S1x1x1024 : Shape := ⟨3, ![1, 1, 1024]⟩
abbrev S1x1024 : Shape := ⟨2, ![1, 1024]⟩
abbrev S128x1024 : Shape := ⟨2, ![128, 1024]⟩
abbrev S1024 : Shape := ⟨1, ![1024]⟩

abbrev nBuf : Space → Nat
  | .hbm => 96
  | .vmem => 33
  | .smem => 0
  | _ => 0

abbrev bufTy : (tb : Table) → Fin (tcTables nBuf tb) → BufTy
  | .hbm, ⟨0, _⟩ => ⟨S4096x13312, .bf16⟩
  | .hbm, ⟨1, _⟩ => ⟨S4096x1024, .bf16⟩
  | .hbm, ⟨2, _⟩ => ⟨S128, .f32⟩
  | .hbm, ⟨3, _⟩ => ⟨S128, .f32⟩
  | .hbm, ⟨4, _⟩ => ⟨S8x4096, .f32⟩
  | .hbm, ⟨5, _⟩ => ⟨S4096x13312, .bf16⟩
  | .hbm, ⟨6, _⟩ => ⟨S4096x3072, .bf16⟩
  | .hbm, ⟨7, _⟩ => ⟨S4096x3072, .f32⟩
  | .hbm, ⟨8, _⟩ => ⟨S4096x8x3x128, .f32⟩
  | .hbm, ⟨9, _⟩ => ⟨S4096x8x1x128, .f32⟩
  | .hbm, ⟨10, _⟩ => ⟨S4096x8x128, .f32⟩
  | .hbm, ⟨11, _⟩ => ⟨S4096x8x1x128, .f32⟩
  | .hbm, ⟨12, _⟩ => ⟨S4096x8x128, .f32⟩
  | .hbm, ⟨13, _⟩ => ⟨S4096x8x1x128, .f32⟩
  | .hbm, ⟨14, _⟩ => ⟨S4096x8x128, .f32⟩
  | .hbm, ⟨15, _⟩ => ⟨S4096x8x128, .f32⟩
  | .hbm, ⟨16, _⟩ => ⟨S_, .f32⟩
  | .hbm, ⟨17, _⟩ => ⟨S4096x8, .f32⟩
  | .hbm, ⟨18, _⟩ => ⟨S4096x8x1, .f32⟩
  | .hbm, ⟨19, _⟩ => ⟨S_, .f32⟩
  | .hbm, ⟨20, _⟩ => ⟨S4096x8x1, .f32⟩
  | .hbm, ⟨21, _⟩ => ⟨S4096x8x1, .f32⟩
  | .hbm, ⟨22, _⟩ => ⟨S_, .f32⟩
  | .hbm, ⟨23, _⟩ => ⟨S4096x8x1, .f32⟩
  | .hbm, ⟨24, _⟩ => ⟨S4096x8x1, .f32⟩
  | .hbm, ⟨25, _⟩ => ⟨S4096x8x1, .f32⟩
  | .hbm, ⟨26, _⟩ => ⟨S4096x8x128, .f32⟩
  | .hbm, ⟨27, _⟩ => ⟨S4096x8x128, .f32⟩
  | .hbm, ⟨28, _⟩ => ⟨S1x1x128, .f32⟩
  | .hbm, ⟨29, _⟩ => ⟨S4096x8x128, .f32⟩
  | .hbm, ⟨30, _⟩ => ⟨S4096x8x128, .f32⟩
  | .hbm, ⟨31, _⟩ => ⟨S4096x8x128, .f32⟩
  | .hbm, ⟨32, _⟩ => ⟨S_, .f32⟩
  | .hbm, ⟨33, _⟩ => ⟨S4096x8, .f32⟩
  | .hbm, ⟨34, _⟩ => ⟨S4096x8x1, .f32⟩
  | .hbm, ⟨35, _⟩ => ⟨S_, .f32⟩
  | .hbm, ⟨36, _⟩ => ⟨S4096x8x1, .f32⟩
  | .hbm, ⟨37, _⟩ => ⟨S4096x8x1, .f32⟩
  | .hbm, ⟨38, _⟩ => ⟨S_, .f32⟩
  | .hbm, ⟨39, _⟩ => ⟨S4096x8x1, .f32⟩
  | .hbm, ⟨40, _⟩ => ⟨S4096x8x1, .f32⟩
  | .hbm, ⟨41, _⟩ => ⟨S4096x8x1, .f32⟩
  | .hbm, ⟨42, _⟩ => ⟨S4096x8x128, .f32⟩
  | .hbm, ⟨43, _⟩ => ⟨S4096x8x128, .f32⟩
  | .hbm, ⟨44, _⟩ => ⟨S1x1x128, .f32⟩
  | .hbm, ⟨45, _⟩ => ⟨S4096x8x128, .f32⟩
  | .hbm, ⟨46, _⟩ => ⟨S4096x8x128, .f32⟩
  | .hbm, ⟨47, _⟩ => ⟨S8x4096x4096, .f32⟩
  | .hbm, ⟨48, _⟩ => ⟨S_, .f32⟩
  | .hbm, ⟨49, _⟩ => ⟨S8x4096x4096, .f32⟩
  | .hbm, ⟨50, _⟩ => ⟨S8x4096x4096, .f32⟩
  | .hbm, ⟨51, _⟩ => ⟨S8x4096x1, .f32⟩
  | .hbm, ⟨52, _⟩ => ⟨S8x1x4096, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S4096, .i32⟩
  | .hbm, ⟨58, _⟩ => ⟨S4096x1, .i32⟩
  | .hbm, ⟨59, _⟩ => ⟨S1x4096, .i32⟩
  | .hbm, ⟨60, _⟩ => ⟨S4096x4096, .i32⟩
  | .hbm, ⟨61, _⟩ => ⟨S4096x4096, .i32⟩
  | .hbm, ⟨62, _⟩ => ⟨S4096x4096, .i1⟩
  | .hbm, ⟨63, _⟩ => ⟨S_, .f32⟩
  | .hbm, ⟨64, _⟩ => ⟨S_, .f32⟩
  | .hbm, ⟨65, _⟩ => ⟨S8x4096x4096, .i1⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x4096, .f32⟩
  | .hbm, ⟨72, _⟩ => ⟨S8x4096x4096, .f32⟩
  | .hbm, ⟨73, _⟩ => ⟨S8x4096x4096, .f32⟩
  | .hbm, ⟨74, _⟩ => ⟨S_, .f32⟩
  | .hbm, ⟨75, _⟩ => ⟨S8x4096, .f32⟩
  | .hbm, ⟨76, _⟩ => ⟨S8x4096x1, .f32⟩
  | .hbm, ⟨77, _⟩ => ⟨S8x4096x4096, .f32⟩
  | .hbm, ⟨78, _⟩ => ⟨S8x4096x4096, .f32⟩
  | .hbm, ⟨79, _⟩ => ⟨S8x128x4096, .f32⟩
  | .hbm, ⟨80, _⟩ => ⟨S4096x8x128, .f32⟩
  | .hbm, ⟨81, _⟩ => ⟨S4096x1024, .f32⟩
  | .hbm, ⟨82, _⟩ => ⟨S4096x1024, .bf16⟩
  | .hbm, ⟨83, _⟩ => ⟨S8x4096x1, .f32⟩
  | .hbm, ⟨84, _⟩ => ⟨S8x4096x1, .f32⟩
  | .hbm, ⟨85, _⟩ => ⟨S8x1x4096, .f32⟩
  | .hbm, ⟨86, _⟩ => ⟨S8x1x4096, .f32⟩
  | .hbm, ⟨87, _⟩ => ⟨S8x4096x1, .f32⟩
  | .hbm, ⟨88, _⟩ => ⟨S8x4096x128, .f32⟩
  | .hbm, ⟨89, _⟩ => ⟨S1x128, .f32⟩
  | .hbm, ⟨90, _⟩ => ⟨S1x128, .f32⟩
  | .hbm, ⟨91, _⟩ => ⟨S4096x13312, .bf16⟩
  | .hbm, ⟨92, _⟩ => ⟨S8x1x4096, .f32⟩
  | .hbm, ⟨93, _⟩ => ⟨S8x4096x1, .f32⟩
  | .hbm, ⟨94, _⟩ => ⟨S1x128, .f32⟩
  | .hbm, ⟨95, _⟩ => ⟨S1x128, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S1x128, .f32⟩
  | .local _ .vmem, ⟨11, _⟩ => ⟨S1x128, .f32⟩
  | .local _ .vmem, ⟨12, _⟩ => ⟨S1x1x4096, .f32⟩
  | .local _ .vmem, ⟨13, _⟩ => ⟨S1x1x4096, .f32⟩
  | .local _ .vmem, ⟨14, _⟩ => ⟨S1x4096x128, .f32⟩
  | .local _ .vmem, ⟨15, _⟩ => ⟨S1x4096x128, .f32⟩
  | .local _ .vmem, ⟨16, _⟩ => ⟨S1x1x4096, .f32⟩
  | .local _ .vmem, ⟨17, _⟩ => ⟨S1x1x4096, .f32⟩
  | .local _ .vmem, ⟨18, _⟩ => ⟨S4096x384, .bf16⟩
  | .local _ .vmem, ⟨19, _⟩ => ⟨S4096x384, .bf16⟩
  | .local _ .vmem, ⟨20, _⟩ => ⟨S1x1x4096, .f32⟩
  | .local _ .vmem, ⟨21, _⟩ => ⟨S1x1x4096, .f32⟩
  | .local _ .vmem, ⟨22, _⟩ => ⟨S1x4096x1, .f32⟩
  | .local _ .vmem, ⟨23, _⟩ => ⟨S1x4096x1, .f32⟩
  | .local _ .vmem, ⟨24, _⟩ => ⟨S1x128, .f32⟩
  | .local _ .vmem, ⟨25, _⟩ => ⟨S1x128, .f32⟩
  | .local _ .vmem, ⟨26, _⟩ => ⟨S4096x128, .bf16⟩
  | .local _ .vmem, ⟨27, _⟩ => ⟨S4096x128, .bf16⟩
  | .local _ .vmem, ⟨28, _⟩ => ⟨S128x4096, .bf16⟩
  | .local _ .vmem, ⟨29, _⟩ => ⟨S128x4096, .f32⟩
  | .local _ .vmem, ⟨30, _⟩ => ⟨S4096x128, .f32⟩
  | .local _ .vmem, ⟨31, _⟩ => ⟨S1x4096, .f32⟩
  | .local _ .vmem, ⟨32, _⟩ => ⟨S1x4096, .f32⟩
  | _, _ => ⟨S4096x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72_0 : Ref sig .tc := ⟨.hbm, 91, rfl⟩
abbrev main_v72_1 : Ref sig .tc := ⟨.hbm, 92, rfl⟩
abbrev main_v72_2 : Ref sig .tc := ⟨.hbm, 93, rfl⟩
abbrev main_v72_3 : Ref sig .tc := ⟨.hbm, 94, rfl⟩
abbrev main_v72_4 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v177 : BitVec 32 := Scalar.addi c0_i32 c8_i32
  let c1_i32 : BitVec 32 := 1#32
  ⟨c0_i32, v177, c1_i32⟩
def k0_mult1 (k0_t1 : Fin k0_t1_loop.trips) : BitVec 32 :=
  let c0_i32 : BitVec 32 := 0#32
  let c1_i32 : BitVec 32 := 1#32
  let arg24 : BitVec 32 := Scf.iv c0_i32 c1_i32 k0_t1
  let c512_i32 : BitVec 32 := 512#32
  let v236 : BitVec 32 := Scalar.muli arg24 c512_i32
  v236
def k0_off1 (k0_t1 : Fin k0_t1_loop.trips) : Fin 2 → Nat :=
  let c0_i32 : BitVec 32 := 0#32
  let c1_i32 : BitVec 32 := 1#32
  let arg24 : BitVec 32 := Scf.iv c0_i32 c1_i32 k0_t1
  let c512_i32 : BitVec 32 := 512#32
  let v236 : BitVec 32 := Scalar.muli arg24 c512_i32
  let v237 : BitVec 32 := v236
  let v238 : Index := Scalar.indexCast v237
  let c0_92 : Index := 0#32
  ![v238.toNat, 0]
def k0_off2 (k0_t1 : Fin k0_t1_loop.trips) : Fin 2 → Nat :=
  let c0_93 : Index := 0#32
  let c0_i32 : BitVec 32 := 0#32
  let c1_i32 : BitVec 32 := 1#32
  let arg24 : BitVec 32 := Scf.iv c0_i32 c1_i32 k0_t1
  let c512_i32 : BitVec 32 := 512#32
  let v236 : BitVec 32 := Scalar.muli arg24 c512_i32
  let v237 : BitVec 32 := v236
  let v240 : Index := Scalar.indexCast v237
  ![0, v240.toNat]
def k0_off3 (k0_t1 : Fin k0_t1_loop.trips) : Fin 3 → Nat :=
  let c0_95 : Index := 0#32
  let c0_i32 : BitVec 32 := 0#32
  let c1_i32 : BitVec 32 := 1#32
  let arg24 : BitVec 32 := Scf.iv c0_i32 c1_i32 k0_t1
  let c512_i32 : BitVec 32 := 512#32
  let v236 : BitVec 32 := Scalar.muli arg24 c512_i32
  let v237 : BitVec 32 := v236
  let v244 : Index := Scalar.indexCast v237
  let c0_96 : Index := 0#32
  ![0, v244.toNat, 0]
def k0_mult2 (k0_t1 : Fin k0_t1_loop.trips) : BitVec 32 :=
  let c0_i32 : BitVec 32 := 0#32
  let c1_i32 : BitVec 32 := 1#32
  let arg24 : BitVec 32 := Scf.iv c0_i32 c1_i32 k0_t1
  let c512_i32_99 : BitVec 32 := 512#32
  let v249 : BitVec 32 := Scalar.muli arg24 c512_i32_99
  v249
def k0_off4 (k0_t1 : Fin k0_t1_loop.trips) : Fin 3 → Nat :=
  let c0_103 : Index := 0#32
  let c0_104 : Index := 0#32
  let c0_i32 : BitVec 32 := 0#32
  let c1_i32 : BitVec 32 := 1#32
  let arg24 : BitVec 32 := Scf.iv c0_i32 c1_i32 k0_t1
  let c512_i32_99 : BitVec 32 := 512#32
  let v249 : BitVec 32 := Scalar.muli arg24 c512_i32_99
  let v250 : BitVec 32 := v249
  let v256 : Index := Scalar.indexCast v250
  ![0, 0, v256.toNat]
def k0_off5 (k0_t1 : Fin k0_t1_loop.trips) : Fin 2 → Nat :=
  let c0_109 : Index := 0#32
  let c0_i32 : BitVec 32 := 0#32
  let c1_i32 : BitVec 32 := 1#32
  let arg24 : BitVec 32 := Scf.iv c0_i32 c1_i32 k0_t1
  let c512_i32_99 : BitVec 32 := 512#32
  let v249 : BitVec 32 := Scalar.muli arg24 c512_i32_99
  let v250 : BitVec 32 := v249
  let v271 : Index := Scalar.indexCast v250
  ![0, v271.toNat]
@[reducible] def k0_t2_loop (k0_t1 : Fin k0_t1_loop.trips) : Scf.Loop 32 :=
  let c0_i32_125 : BitVec 32 := 0#32
  let c7_i32 : BitVec 32 := 7#32
  let c0_i32 : BitVec 32 := 0#32
  let c1_i32 : BitVec 32 := 1#32
  let arg24 : BitVec 32 := Scf.iv c0_i32 c1_i32 k0_t1
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v320 : BitVec 32 := Scalar.subi v319 c0_i32_125
  let c1_i32_126 : BitVec 32 := 1#32
  let v322 : BitVec 32 := Scalar.divsi v320 c1_i32_126
  let v323 : BitVec 32 := Scalar.muli v322 c1_i32_126
  let v324 : BitVec 32 := Scalar.addi c0_i32_125 v323
  let c1_i32_127 : BitVec 32 := 1#32
  ⟨c0_i32_125, v324, c1_i32_127⟩
def k0_mult3 (k0_t1 : Fin k0_t1_loop.trips) (k0_t2 : Fin (k0_t2_loop k0_t1).trips) : BitVec 32 :=
  let c0_i32 : BitVec 32 := 0#32
  let c1_i32 : BitVec 32 := 1#32
  let arg24 : BitVec 32 := Scf.iv c0_i32 c1_i32 k0_t1
  let c1_i32_138 : BitVec 32 := 1#32
  let v348 : BitVec 32 := Scalar.addi arg24 c1_i32_138
  let c2_i32_139 : BitVec 32 := 2#32
  let c0_i32_125 : BitVec 32 := 0#32
  let c1_i32_127 : BitVec 32 := 1#32
  let arg25 : BitVec 32 := Scf.iv c0_i32_125 c1_i32_127 k0_t2
  let v349 : BitVec 32 := Scalar.muli c2_i32_139 arg25
  let v350 : BitVec 32 := Scalar.addi v348 v349
  let c512_i32_140 : BitVec 32 := 512#32
  let v351 : BitVec 32 := Scalar.muli v350 c512_i32_140
  v351
def k0_off6 (k0_t1 : Fin k0_t1_loop.trips) (k0_t2 : Fin (k0_t2_loop k0_t1).trips) : Fin 2 → Nat :=
  let c0_i32 : BitVec 32 := 0#32
  let c1_i32 : BitVec 32 := 1#32
  let arg24 : BitVec 32 := Scf.iv c0_i32 c1_i32 k0_t1
  let c1_i32_138 : BitVec 32 := 1#32
  let v348 : BitVec 32 := Scalar.addi arg24 c1_i32_138
  let c2_i32_139 : BitVec 32 := 2#32
  let c0_i32_125 : BitVec 32 := 0#32
  let c1_i32_127 : BitVec 32 := 1#32
  let arg25 : BitVec 32 := Scf.iv c0_i32_125 c1_i32_127 k0_t2
  let v349 : BitVec 32 := Scalar.muli c2_i32_139 arg25
  let v350 : BitVec 32 := Scalar.addi v348 v349
  let c512_i32_140 : BitVec 32 := 512#32
  let v351 : BitVec 32 := Scalar.muli v350 c512_i32_140
  let v352 : BitVec 32 := v351
  let v353 : Index := Scalar.indexCast v352
  let c0_141 : Index := 0#32
  ![v353.toNat, 0]
def k0_off7 (k0_t1 : Fin k0_t1_loop.trips) (k0_t2 : Fin (k0_t2_loop k0_t1).trips) : Fin 3 → Nat :=
  let c0_144 : Index := 0#32
  let c0_145 : Index := 0#32
  let c0_i32 : BitVec 32 := 0#32
  let c1_i32 : BitVec 32 := 1#32
  let arg24 : BitVec 32 := Scf.iv c0_i32 c1_i32 k0_t1
  let c1_i32_138 : BitVec 32 := 1#32
  let v348 : BitVec 32 := Scalar.addi arg24 c1_i32_138
  let c2_i32_139 : BitVec 32 := 2#32
  let c0_i32_125 : BitVec 32 := 0#32
  let c1_i32_127 : BitVec 32 := 1#32
  let arg25 : BitVec 32 := Scf.iv c0_i32_125 c1_i32_127 k0_t2
  let v349 : BitVec 32 := Scalar.muli c2_i32_139 arg25
  let v350 : BitVec 32 := Scalar.addi v348 v349
  let c512_i32_140 : BitVec 32 := 512#32
  let v351 : BitVec 32 := Scalar.muli v350 c512_i32_140
  let v352 : BitVec 32 := v351
  let v358 : Index := Scalar.indexCast v352
  ![0, 0, v358.toNat]
def k0_off8 (k0_t1 : Fin k0_t1_loop.trips) (k0_t2 : Fin (k0_t2_loop k0_t1).trips) : Fin 2 → Nat :=
  let c0_149 : Index := 0#32
  let c0_i32 : BitVec 32 := 0#32
  let c1_i32 : BitVec 32 := 1#32
  let arg24 : BitVec 32 := Scf.iv c0_i32 c1_i32 k0_t1
  let c1_i32_138 : BitVec 32 := 1#32
  let v348 : BitVec 32 := Scalar.addi arg24 c1_i32_138
  let c2_i32_139 : BitVec 32 := 2#32
  let c0_i32_125 : BitVec 32 := 0#32
  let c1_i32_127 : BitVec 32 := 1#32
  let arg25 : BitVec 32 := Scf.iv c0_i32_125 c1_i32_127 k0_t2
  let v349 : BitVec 32 := Scalar.muli c2_i32_139 arg25
  let v350 : BitVec 32 := Scalar.addi v348 v349
  let c512_i32_140 : BitVec 32 := 512#32
  let v351 : BitVec 32 := Scalar.muli v350 c512_i32_140
  let v352 : BitVec 32 := v351
  let v371 : Index := Scalar.indexCast v352
  ![0, v371.toNat]
def k0_off9 (k0_t1 : Fin k0_t1_loop.trips) (k0_t2 : Fin (k0_t2_loop k0_t1).trips) : Fin 2 → Nat :=
  let c0_152 : Index := 0#32
  let c0_i32 : BitVec 32 := 0#32
  let c1_i32 : BitVec 32 := 1#32
  let arg24 : BitVec 32 := Scf.iv c0_i32 c1_i32 k0_t1
  let c1_i32_138 : BitVec 32 := 1#32
  let v348 : BitVec 32 := Scalar.addi arg24 c1_i32_138
  let c2_i32_139 : BitVec 32 := 2#32
  let c0_i32_125 : BitVec 32 := 0#32
  let c1_i32_127 : BitVec 32 := 1#32
  let arg25 : BitVec 32 := Scf.iv c0_i32_125 c1_i32_127 k0_t2
  let v349 : BitVec 32 := Scalar.muli c2_i32_139 arg25
  let v350 : BitVec 32 := Scalar.addi v348 v349
  let c512_i32_140 : BitVec 32 := 512#32
  let v351 : BitVec 32 := Scalar.muli v350 c512_i32_140
  let v352 : BitVec 32 := v351
  let v382 : Index := Scalar.indexCast v352
  ![0, v382.toNat]
@[reducible] def k0_t3_loop (k0_t1 : Fin k0_t1_loop.trips) : Scf.Loop 32 :=
  let c0_i32_125 : BitVec 32 := 0#32
  let c7_i32 : BitVec 32 := 7#32
  let c0_i32 : BitVec 32 := 0#32
  let c1_i32 : BitVec 32 := 1#32
  let arg24 : BitVec 32 := Scf.iv c0_i32 c1_i32 k0_t1
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v320 : BitVec 32 := Scalar.subi v319 c0_i32_125
  let c1_i32_126 : BitVec 32 := 1#32
  let v322 : BitVec 32 := Scalar.divsi v320 c1_i32_126
  let v323 : BitVec 32 := Scalar.muli v322 c1_i32_126
  let v324 : BitVec 32 := Scalar.addi c0_i32_125 v323
  let v321 : BitVec 32 := Scalar.addi c0_i32_125 v320
  let c1_i32_128 : BitVec 32 := 1#32
  ⟨v324, v321, c1_i32_128⟩
def k0_mult4 (k0_t1 : Fin k0_t1_loop.trips) (k0_t3 : Fin (k0_t3_loop k0_t1).trips) : BitVec 32 :=
  let c0_i32 : BitVec 32 := 0#32
  let c1_i32 : BitVec 32 := 1#32
  let arg24 : BitVec 32 := Scf.iv c0_i32 c1_i32 k0_t1
  let c1_i32_138 : BitVec 32 := 1#32
  let v348 : BitVec 32 := Scalar.addi arg24 c1_i32_138
  let c2_i32_139 : BitVec 32 := 2#32
  let c0_i32_125 : BitVec 32 := 0#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v320 : BitVec 32 := Scalar.subi v319 c0_i32_125
  let c1_i32_126 : BitVec 32 := 1#32
  let v322 : BitVec 32 := Scalar.divsi v320 c1_i32_126
  let v323 : BitVec 32 := Scalar.muli v322 c1_i32_126
  let v324 : BitVec 32 := Scalar.addi c0_i32_125 v323
  let c1_i32_128 : BitVec 32 := 1#32
  let arg25 : BitVec 32 := Scf.iv v324 c1_i32_128 k0_t3
  let v349 : BitVec 32 := Scalar.muli c2_i32_139 arg25
  let v350 : BitVec 32 := Scalar.addi v348 v349
  let c512_i32_140 : BitVec 32 := 512#32
  let v351 : BitVec 32 := Scalar.muli v350 c512_i32_140
  v351
def k0_off10 (k0_t1 : Fin k0_t1_loop.trips) (k0_t3 : Fin (k0_t3_loop k0_t1).trips) : Fin 2 → Nat :=
  let c0_i32 : BitVec 32 := 0#32
  let c1_i32 : BitVec 32 := 1#32
  let arg24 : BitVec 32 := Scf.iv c0_i32 c1_i32 k0_t1
  let c1_i32_138 : BitVec 32 := 1#32
  let v348 : BitVec 32 := Scalar.addi arg24 c1_i32_138
  let c2_i32_139 : BitVec 32 := 2#32
  let c0_i32_125 : BitVec 32 := 0#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v320 : BitVec 32 := Scalar.subi v319 c0_i32_125
  let c1_i32_126 : BitVec 32 := 1#32
  let v322 : BitVec 32 := Scalar.divsi v320 c1_i32_126
  let v323 : BitVec 32 := Scalar.muli v322 c1_i32_126
  let v324 : BitVec 32 := Scalar.addi c0_i32_125 v323
  let c1_i32_128 : BitVec 32 := 1#32
  let arg25 : BitVec 32 := Scf.iv v324 c1_i32_128 k0_t3
  let v349 : BitVec 32 := Scalar.muli c2_i32_139 arg25
  let v350 : BitVec 32 := Scalar.addi v348 v349
  let c512_i32_140 : BitVec 32 := 512#32
  let v351 : BitVec 32 := Scalar.muli v350 c512_i32_140
  let v352 : BitVec 32 := v351
  let v353 : Index := Scalar.indexCast v352
  let c0_141 : Index := 0#32
  ![v353.toNat, 0]
def k0_off11 (k0_t1 : Fin k0_t1_loop.trips) (k0_t3 : Fin (k0_t3_loop k0_t1).trips) : Fin 3 → Nat :=
  let c0_144 : Index := 0#32
  let c0_145 : Index := 0#32
  let c0_i32 : BitVec 32 := 0#32
  let c1_i32 : BitVec 32 := 1#32
  let arg24 : BitVec 32 := Scf.iv c0_i32 c1_i32 k0_t1
  let c1_i32_138 : BitVec 32 := 1#32
  let v348 : BitVec 32 := Scalar.addi arg24 c1_i32_138
  let c2_i32_139 : BitVec 32 := 2#32
  let c0_i32_125 : BitVec 32 := 0#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v320 : BitVec 32 := Scalar.subi v319 c0_i32_125
  let c1_i32_126 : BitVec 32 := 1#32
  let v322 : BitVec 32 := Scalar.divsi v320 c1_i32_126
  let v323 : BitVec 32 := Scalar.muli v322 c1_i32_126
  let v324 : BitVec 32 := Scalar.addi c0_i32_125 v323
  let c1_i32_128 : BitVec 32 := 1#32
  let arg25 : BitVec 32 := Scf.iv v324 c1_i32_128 k0_t3
  let v349 : BitVec 32 := Scalar.muli c2_i32_139 arg25
  let v350 : BitVec 32 := Scalar.addi v348 v349
  let c512_i32_140 : BitVec 32 := 512#32
  let v351 : BitVec 32 := Scalar.muli v350 c512_i32_140
  let v352 : BitVec 32 := v351
  let v358 : Index := Scalar.indexCast v352
  ![0, 0, v358.toNat]
def k0_off12 (k0_t1 : Fin k0_t1_loop.trips) (k0_t3 : Fin (k0_t3_loop k0_t1).trips) : Fin 2 → Nat :=
  let c0_149 : Index := 0#32
  let c0_i32 : BitVec 32 := 0#32
  let c1_i32 : BitVec 32 := 1#32
  let arg24 : BitVec 32 := Scf.iv c0_i32 c1_i32 k0_t1
  let c1_i32_138 : BitVec 32 := 1#32
  let v348 : BitVec 32 := Scalar.addi arg24 c1_i32_138
  let c2_i32_139 : BitVec 32 := 2#32
  let c0_i32_125 : BitVec 32 := 0#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v320 : BitVec 32 := Scalar.subi v319 c0_i32_125
  let c1_i32_126 : BitVec 32 := 1#32
  let v322 : BitVec 32 := Scalar.divsi v320 c1_i32_126
  let v323 : BitVec 32 := Scalar.muli v322 c1_i32_126
  let v324 : BitVec 32 := Scalar.addi c0_i32_125 v323
  let c1_i32_128 : BitVec 32 := 1#32
  let arg25 : BitVec 32 := Scf.iv v324 c1_i32_128 k0_t3
  let v349 : BitVec 32 := Scalar.muli c2_i32_139 arg25
  let v350 : BitVec 32 := Scalar.addi v348 v349
  let c512_i32_140 : BitVec 32 := 512#32
  let v351 : BitVec 32 := Scalar.muli v350 c512_i32_140
  let v352 : BitVec 32 := v351
  let v371 : Index := Scalar.indexCast v352
  ![0, v371.toNat]
def k0_off13 (k0_t1 : Fin k0_t1_loop.trips) (k0_t3 : Fin (k0_t3_loop k0_t1).trips) : Fin 2 → Nat :=
  let c0_152 : Index := 0#32
  let c0_i32 : BitVec 32 := 0#32
  let c1_i32 : BitVec 32 := 1#32
  let arg24 : BitVec 32 := Scf.iv c0_i32 c1_i32 k0_t1
  let c1_i32_138 : BitVec 32 := 1#32
  let v348 : BitVec 32 := Scalar.addi arg24 c1_i32_138
  let c2_i32_139 : BitVec 32 := 2#32
  let c0_i32_125 : BitVec 32 := 0#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v320 : BitVec 32 := Scalar.subi v319 c0_i32_125
  let c1_i32_126 : BitVec 32 := 1#32
  let v322 : BitVec 32 := Scalar.divsi v320 c1_i32_126
  let v323 : BitVec 32 := Scalar.muli v322 c1_i32_126
  let v324 : BitVec 32 := Scalar.addi c0_i32_125 v323
  let c1_i32_128 : BitVec 32 := 1#32
  let arg25 : BitVec 32 := Scf.iv v324 c1_i32_128 k0_t3
  let v349 : BitVec 32 := Scalar.muli c2_i32_139 arg25
  let v350 : BitVec 32 := Scalar.addi v348 v349
  let c512_i32_140 : BitVec 32 := 512#32
  let v351 : BitVec 32 := Scalar.muli v350 c512_i32_140
  let v352 : BitVec 32 := v351
  let v382 : Index := Scalar.indexCast v352
  ![0, v382.toNat]
@[reducible] def k0_t4_loop (k0_t1 : Fin k0_t1_loop.trips) : Scf.Loop 32 :=
  let c0_i32 : BitVec 32 := 0#32
  let c1_i32 : BitVec 32 := 1#32
  let arg24 : BitVec 32 := Scf.iv c0_i32 c1_i32 k0_t1
  let c1_i32_129 : BitVec 32 := 1#32
  let v327 : BitVec 32 := Scalar.addi arg24 c1_i32_129
  let c2_i32_130 : BitVec 32 := 2#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v328 : BitVec 32 := Scalar.muli c2_i32_130 v319
  let v329 : BitVec 32 := Scalar.addi v327 v328
  let c8_i32_131 : BitVec 32 := 8#32
  let v330 : BitVec 32 := Scalar.subi c8_i32_131 v329
  let c1_i32_132 : BitVec 32 := 1#32
  let v332 : BitVec 32 := Scalar.divsi v330 c1_i32_132
  let v333 : BitVec 32 := Scalar.muli v332 c1_i32_132
  let v334 : BitVec 32 := Scalar.addi v329 v333
  let c1_i32_133 : BitVec 32 := 1#32
  ⟨v329, v334, c1_i32_133⟩
def k0_mult5 (k0_t1 : Fin k0_t1_loop.trips) (k0_t4 : Fin (k0_t4_loop k0_t1).trips) : BitVec 32 :=
  let c0_i32 : BitVec 32 := 0#32
  let c1_i32 : BitVec 32 := 1#32
  let arg24 : BitVec 32 := Scf.iv c0_i32 c1_i32 k0_t1
  let c1_i32_129 : BitVec 32 := 1#32
  let v327 : BitVec 32 := Scalar.addi arg24 c1_i32_129
  let c2_i32_130 : BitVec 32 := 2#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v328 : BitVec 32 := Scalar.muli c2_i32_130 v319
  let v329 : BitVec 32 := Scalar.addi v327 v328
  let c1_i32_133 : BitVec 32 := 1#32
  let arg25 : BitVec 32 := Scf.iv v329 c1_i32_133 k0_t4
  let c512_i32_138 : BitVec 32 := 512#32
  let v348 : BitVec 32 := Scalar.muli arg25 c512_i32_138
  v348
def k0_off14 (k0_t1 : Fin k0_t1_loop.trips) (k0_t4 : Fin (k0_t4_loop k0_t1).trips) : Fin 2 → Nat :=
  let c0_i32 : BitVec 32 := 0#32
  let c1_i32 : BitVec 32 := 1#32
  let arg24 : BitVec 32 := Scf.iv c0_i32 c1_i32 k0_t1
  let c1_i32_129 : BitVec 32 := 1#32
  let v327 : BitVec 32 := Scalar.addi arg24 c1_i32_129
  let c2_i32_130 : BitVec 32 := 2#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v328 : BitVec 32 := Scalar.muli c2_i32_130 v319
  let v329 : BitVec 32 := Scalar.addi v327 v328
  let c1_i32_133 : BitVec 32 := 1#32
  let arg25 : BitVec 32 := Scf.iv v329 c1_i32_133 k0_t4
  let c512_i32_138 : BitVec 32 := 512#32
  let v348 : BitVec 32 := Scalar.muli arg25 c512_i32_138
  let v349 : BitVec 32 := v348
  let v350 : Index := Scalar.indexCast v349
  let c0_139 : Index := 0#32
  ![v350.toNat, 0]
def k0_off15 (k0_t1 : Fin k0_t1_loop.trips) (k0_t4 : Fin (k0_t4_loop k0_t1).trips) : Fin 3 → Nat :=
  let c0_142 : Index := 0#32
  let c0_143 : Index := 0#32
  let c0_i32 : BitVec 32 := 0#32
  let c1_i32 : BitVec 32 := 1#32
  let arg24 : BitVec 32 := Scf.iv c0_i32 c1_i32 k0_t1
  let c1_i32_129 : BitVec 32 := 1#32
  let v327 : BitVec 32 := Scalar.addi arg24 c1_i32_129
  let c2_i32_130 : BitVec 32 := 2#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v328 : BitVec 32 := Scalar.muli c2_i32_130 v319
  let v329 : BitVec 32 := Scalar.addi v327 v328
  let c1_i32_133 : BitVec 32 := 1#32
  let arg25 : BitVec 32 := Scf.iv v329 c1_i32_133 k0_t4
  let c512_i32_138 : BitVec 32 := 512#32
  let v348 : BitVec 32 := Scalar.muli arg25 c512_i32_138
  let v349 : BitVec 32 := v348
  let v355 : Index := Scalar.indexCast v349
  ![0, 0, v355.toNat]
def k0_off16 (k0_t1 : Fin k0_t1_loop.trips) (k0_t4 : Fin (k0_t4_loop k0_t1).trips) : Fin 2 → Nat :=
  let c0_147 : Index := 0#32
  let c0_i32 : BitVec 32 := 0#32
  let c1_i32 : BitVec 32 := 1#32
  let arg24 : BitVec 32 := Scf.iv c0_i32 c1_i32 k0_t1
  let c1_i32_129 : BitVec 32 := 1#32
  let v327 : BitVec 32 := Scalar.addi arg24 c1_i32_129
  let c2_i32_130 : BitVec 32 := 2#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v328 : BitVec 32 := Scalar.muli c2_i32_130 v319
  let v329 : BitVec 32 := Scalar.addi v327 v328
  let c1_i32_133 : BitVec 32 := 1#32
  let arg25 : BitVec 32 := Scf.iv v329 c1_i32_133 k0_t4
  let c512_i32_138 : BitVec 32 := 512#32
  let v348 : BitVec 32 := Scalar.muli arg25 c512_i32_138
  let v349 : BitVec 32 := v348
  let v368 : Index := Scalar.indexCast v349
  ![0, v368.toNat]
def k0_off17 (k0_t1 : Fin k0_t1_loop.trips) (k0_t4 : Fin (k0_t4_loop k0_t1).trips) : Fin 2 → Nat :=
  let c0_150 : Index := 0#32
  let c0_i32 : BitVec 32 := 0#32
  let c1_i32 : BitVec 32 := 1#32
  let arg24 : BitVec 32 := Scf.iv c0_i32 c1_i32 k0_t1
  let c1_i32_129 : BitVec 32 := 1#32
  let v327 : BitVec 32 := Scalar.addi arg24 c1_i32_129
  let c2_i32_130 : BitVec 32 := 2#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v328 : BitVec 32 := Scalar.muli c2_i32_130 v319
  let v329 : BitVec 32 := Scalar.addi v327 v328
  let c1_i32_133 : BitVec 32 := 1#32
  let arg25 : BitVec 32 := Scf.iv v329 c1_i32_133 k0_t4
  let c512_i32_138 : BitVec 32 := 512#32
  let v348 : BitVec 32 := Scalar.muli arg25 c512_i32_138
  let v349 : BitVec 32 := v348
  let v379 : Index := Scalar.indexCast v349
  ![0, v379.toNat]
@[reducible] def k0_t5_loop (k0_t1 : Fin k0_t1_loop.trips) : Scf.Loop 32 :=
  let c0_i32 : BitVec 32 := 0#32
  let c1_i32 : BitVec 32 := 1#32
  let arg24 : BitVec 32 := Scf.iv c0_i32 c1_i32 k0_t1
  let c1_i32_129 : BitVec 32 := 1#32
  let v327 : BitVec 32 := Scalar.addi arg24 c1_i32_129
  let c2_i32_130 : BitVec 32 := 2#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v328 : BitVec 32 := Scalar.muli c2_i32_130 v319
  let v329 : BitVec 32 := Scalar.addi v327 v328
  let c8_i32_131 : BitVec 32 := 8#32
  let v330 : BitVec 32 := Scalar.subi c8_i32_131 v329
  let c1_i32_132 : BitVec 32 := 1#32
  let v332 : BitVec 32 := Scalar.divsi v330 c1_i32_132
  let v333 : BitVec 32 := Scalar.muli v332 c1_i32_132
  let v334 : BitVec 32 := Scalar.addi v329 v333
  let v331 : BitVec 32 := Scalar.addi v329 v330
  let c1_i32_134 : BitVec 32 := 1#32
  ⟨v334, v331, c1_i32_134⟩
def k0_mult6 (k0_t1 : Fin k0_t1_loop.trips) (k0_t5 : Fin (k0_t5_loop k0_t1).trips) : BitVec 32 :=
  let c0_i32 : BitVec 32 := 0#32
  let c1_i32 : BitVec 32 := 1#32
  let arg24 : BitVec 32 := Scf.iv c0_i32 c1_i32 k0_t1
  let c1_i32_129 : BitVec 32 := 1#32
  let v327 : BitVec 32 := Scalar.addi arg24 c1_i32_129
  let c2_i32_130 : BitVec 32 := 2#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v328 : BitVec 32 := Scalar.muli c2_i32_130 v319
  let v329 : BitVec 32 := Scalar.addi v327 v328
  let c8_i32_131 : BitVec 32 := 8#32
  let v330 : BitVec 32 := Scalar.subi c8_i32_131 v329
  let c1_i32_132 : BitVec 32 := 1#32
  let v332 : BitVec 32 := Scalar.divsi v330 c1_i32_132
  let v333 : BitVec 32 := Scalar.muli v332 c1_i32_132
  let v334 : BitVec 32 := Scalar.addi v329 v333
  let c1_i32_134 : BitVec 32 := 1#32
  let arg25 : BitVec 32 := Scf.iv v334 c1_i32_134 k0_t5
  let c512_i32_138 : BitVec 32 := 512#32
  let v348 : BitVec 32 := Scalar.muli arg25 c512_i32_138
  v348
def k0_off18 (k0_t1 : Fin k0_t1_loop.trips) (k0_t5 : Fin (k0_t5_loop k0_t1).trips) : Fin 2 → Nat :=
  let c0_i32 : BitVec 32 := 0#32
  let c1_i32 : BitVec 32 := 1#32
  let arg24 : BitVec 32 := Scf.iv c0_i32 c1_i32 k0_t1
  let c1_i32_129 : BitVec 32 := 1#32
  let v327 : BitVec 32 := Scalar.addi arg24 c1_i32_129
  let c2_i32_130 : BitVec 32 := 2#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v328 : BitVec 32 := Scalar.muli c2_i32_130 v319
  let v329 : BitVec 32 := Scalar.addi v327 v328
  let c8_i32_131 : BitVec 32 := 8#32
  let v330 : BitVec 32 := Scalar.subi c8_i32_131 v329
  let c1_i32_132 : BitVec 32 := 1#32
  let v332 : BitVec 32 := Scalar.divsi v330 c1_i32_132
  let v333 : BitVec 32 := Scalar.muli v332 c1_i32_132
  let v334 : BitVec 32 := Scalar.addi v329 v333
  let c1_i32_134 : BitVec 32 := 1#32
  let arg25 : BitVec 32 := Scf.iv v334 c1_i32_134 k0_t5
  let c512_i32_138 : BitVec 32 := 512#32
  let v348 : BitVec 32 := Scalar.muli arg25 c512_i32_138
  let v349 : BitVec 32 := v348
  let v350 : Index := Scalar.indexCast v349
  let c0_139 : Index := 0#32
  ![v350.toNat, 0]
def k0_off19 (k0_t1 : Fin k0_t1_loop.trips) (k0_t5 : Fin (k0_t5_loop k0_t1).trips) : Fin 3 → Nat :=
  let c0_142 : Index := 0#32
  let c0_143 : Index := 0#32
  let c0_i32 : BitVec 32 := 0#32
  let c1_i32 : BitVec 32 := 1#32
  let arg24 : BitVec 32 := Scf.iv c0_i32 c1_i32 k0_t1
  let c1_i32_129 : BitVec 32 := 1#32
  let v327 : BitVec 32 := Scalar.addi arg24 c1_i32_129
  let c2_i32_130 : BitVec 32 := 2#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v328 : BitVec 32 := Scalar.muli c2_i32_130 v319
  let v329 : BitVec 32 := Scalar.addi v327 v328
  let c8_i32_131 : BitVec 32 := 8#32
  let v330 : BitVec 32 := Scalar.subi c8_i32_131 v329
  let c1_i32_132 : BitVec 32 := 1#32
  let v332 : BitVec 32 := Scalar.divsi v330 c1_i32_132
  let v333 : BitVec 32 := Scalar.muli v332 c1_i32_132
  let v334 : BitVec 32 := Scalar.addi v329 v333
  let c1_i32_134 : BitVec 32 := 1#32
  let arg25 : BitVec 32 := Scf.iv v334 c1_i32_134 k0_t5
  let c512_i32_138 : BitVec 32 := 512#32
  let v348 : BitVec 32 := Scalar.muli arg25 c512_i32_138
  let v349 : BitVec 32 := v348
  let v355 : Index := Scalar.indexCast v349
  ![0, 0, v355.toNat]
def k0_off20 (k0_t1 : Fin k0_t1_loop.trips) (k0_t5 : Fin (k0_t5_loop k0_t1).trips) : Fin 2 → Nat :=
  let c0_147 : Index := 0#32
  let c0_i32 : BitVec 32 := 0#32
  let c1_i32 : BitVec 32 := 1#32
  let arg24 : BitVec 32 := Scf.iv c0_i32 c1_i32 k0_t1
  let c1_i32_129 : BitVec 32 := 1#32
  let v327 : BitVec 32 := Scalar.addi arg24 c1_i32_129
  let c2_i32_130 : BitVec 32 := 2#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v328 : BitVec 32 := Scalar.muli c2_i32_130 v319
  let v329 : BitVec 32 := Scalar.addi v327 v328
  let c8_i32_131 : BitVec 32 := 8#32
  let v330 : BitVec 32 := Scalar.subi c8_i32_131 v329
  let c1_i32_132 : BitVec 32 := 1#32
  let v332 : BitVec 32 := Scalar.divsi v330 c1_i32_132
  let v333 : BitVec 32 := Scalar.muli v332 c1_i32_132
  let v334 : BitVec 32 := Scalar.addi v329 v333
  let c1_i32_134 : BitVec 32 := 1#32
  let arg25 : BitVec 32 := Scf.iv v334 c1_i32_134 k0_t5
  let c512_i32_138 : BitVec 32 := 512#32
  let v348 : BitVec 32 := Scalar.muli arg25 c512_i32_138
  let v349 : BitVec 32 := v348
  let v368 : Index := Scalar.indexCast v349
  ![0, v368.toNat]
def k0_off21 (k0_t1 : Fin k0_t1_loop.trips) (k0_t5 : Fin (k0_t5_loop k0_t1).trips) : Fin 2 → Nat :=
  let c0_150 : Index := 0#32
  let c0_i32 : BitVec 32 := 0#32
  let c1_i32 : BitVec 32 := 1#32
  let arg24 : BitVec 32 := Scf.iv c0_i32 c1_i32 k0_t1
  let c1_i32_129 : BitVec 32 := 1#32
  let v327 : BitVec 32 := Scalar.addi arg24 c1_i32_129
  let c2_i32_130 : BitVec 32 := 2#32
  let c7_i32 : BitVec 32 := 7#32
  let v302 : BitVec 32 := Scalar.subi c7_i32 arg24
  let c0_i32_119 : BitVec 32 := 0#32
  let v304 : BitVec 1 := Scalar.cmpi .sgt v302 c0_i32_119
  let v305 : BitVec 32 := Scalar.extui v304
  let c0_i32_120 : BitVec 32 := 0#32
  let v306 : BitVec 1 := Scalar.cmpi .slt v302 c0_i32_120
  let v307 : BitVec 32 := Scalar.extui v306
  let v308 : BitVec 32 := Scalar.subi v305 v307
  let c2_i32 : BitVec 32 := 2#32
  let c0_i32_121 : BitVec 32 := 0#32
  let v309 : BitVec 1 := Scalar.cmpi .sgt c2_i32 c0_i32_121
  let v310 : BitVec 32 := Scalar.extui v309
  let c0_i32_122 : BitVec 32 := 0#32
  let v311 : BitVec 1 := Scalar.cmpi .slt c2_i32 c0_i32_122
  let v312 : BitVec 32 := Scalar.extui v311
  let v313 : BitVec 32 := Scalar.subi v310 v312
  let v314 : BitVec 1 := Scalar.cmpi .ne v308 v313
  let v315 : BitVec 32 := Scalar.remsi v302 c2_i32
  let c0_i32_123 : BitVec 32 := 0#32
  let v316 : BitVec 1 := Scalar.cmpi .ne v315 c0_i32_123
  let v317 : BitVec 1 := Scalar.andi v314 v316
  let v303 : BitVec 32 := Scalar.divsi v302 c2_i32
  let c1_i32_124 : BitVec 32 := 1#32
  let v318 : BitVec 32 := Scalar.subi v303 c1_i32_124
  let v319 : BitVec 32 := Scalar.select v317 v318 v303
  let v328 : BitVec 32 := Scalar.muli c2_i32_130 v319
  let v329 : BitVec 32 := Scalar.addi v327 v328
  let c8_i32_131 : BitVec 32 := 8#32
  let v330 : BitVec 32 := Scalar.subi c8_i32_131 v329
  let c1_i32_132 : BitVec 32 := 1#32
  let v332 : BitVec 32 := Scalar.divsi v330 c1_i32_132
  let v333 : BitVec 32 := Scalar.muli v332 c1_i32_132
  let v334 : BitVec 32 := Scalar.addi v329 v333
  let c1_i32_134 : BitVec 32 := 1#32
  let arg25 : BitVec 32 := Scf.iv v334 c1_i32_134 k0_t5
  let c512_i32_138 : BitVec 32 := 512#32
  let v348 : BitVec 32 := Scalar.muli arg25 c512_i32_138
  let v349 : BitVec 32 := v348
  let v379 : Index := Scalar.indexCast v349
  ![0, v379.toNat]
def k0_off22 (k0_t1 : Fin k0_t1_loop.trips) : Fin 2 → Nat :=
  let c0_i32 : BitVec 32 := 0#32
  let c1_i32 : BitVec 32 := 1#32
  let arg24 : BitVec 32 := Scf.iv c0_i32 c1_i32 k0_t1
  let c512_i32 : BitVec 32 := 512#32
  let v236 : BitVec 32 := Scalar.muli arg24 c512_i32
  let v237 : BitVec 32 := v236
  let v342 : Index := Scalar.indexCast v237
  let c256 : Index := 256#32
  ![v342.toNat, 256]
def k0_off23 (k0_t1 : Fin k0_t1_loop.trips) : Fin 3 → Nat :=
  let c0_136 : Index := 0#32
  let c0_i32 : BitVec 32 := 0#32
  let c1_i32 : BitVec 32 := 1#32
  let arg24 : BitVec 32 := Scf.iv c0_i32 c1_i32 k0_t1
  let c512_i32 : BitVec 32 := 512#32
  let v236 : BitVec 32 := Scalar.muli arg24 c512_i32
  let v237 : BitVec 32 := v236
  let v344 : Index := Scalar.indexCast v237
  let c0_137 : Index := 0#32
  ![0, v344.toNat, 0]
def cc0_transform_0 (i : grid0.Coords) : Fin 2 → Nat :=
  let arg0 : BitVec 32 := BitVec.ofNat 32 (i 0).val
  let c3_i32 : BitVec 32 := 3#32
  let v0 : BitVec 32 := Scalar.muli c3_i32 arg0
  let c72_i32 : BitVec 32 := 72#32
  let v1 : BitVec 32 := Scalar.addi c72_i32 v0
  let c0_i32 : BitVec 32 := 0#32
  let v2 : BitVec 32 := Scalar.addi v1 c0_i32
  let c0_i32_0 : BitVec 32 := 0#32
  let c0_i32_1 : BitVec 32 := 0#32
  ![c0_i32_0.toNat, v2.toNat]

def cc0_transform_1 (i : grid0.Coords) : Fin 2 → Nat :=
  let arg0 : BitVec 32 := BitVec.ofNat 32 (i 0).val
  let c3_i32 : BitVec 32 := 3#32
  let v0 : BitVec 32 := Scalar.muli c3_i32 arg0
  let c72_i32 : BitVec 32 := 72#32
  let v1 : BitVec 32 := Scalar.addi c72_i32 v0
  let c1_i32 : BitVec 32 := 1#32
  let v2 : BitVec 32 := Scalar.addi v1 c1_i32
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let c3_i32 : BitVec 32 := 3#32
  let v0 : BitVec 32 := Scalar.muli c3_i32 arg0
  let c72_i32 : BitVec 32 := 72#32
  let v1 : BitVec 32 := Scalar.addi c72_i32 v0
  let c2_i32 : BitVec 32 := 2#32
  let v2 : BitVec 32 := Scalar.addi v1 c2_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4096x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S4096x13312 : Shape := ⟨2, ![4096, 13312]⟩
abbrev S4096x1024 : Shape := ⟨2, ![4096, 1024]⟩
abbrev S128 : Shape := ⟨1, ![128]⟩
abbrev S8x4096 : Shape := ⟨2, ![8, 4096]⟩
abbrev S4096x3072 : Shape := ⟨2, ![4096, 3072]⟩
abbrev S4096x8x3x128 : Shape := ⟨4, ![4096, 8, 3, 128]⟩
abbrev S4096x8x1x128 : Shape := ⟨4, ![4096, 8, 1, 128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x128x4096 : Shape := ⟨3, ![8, 128, 4096]⟩
abbrev S8x4096x128 : Shape := ⟨3, ![8, 4096, 128]⟩
abbrev S4096x9216 : Shape := ⟨2, ![4096, 9216]⟩
abbrev S1x128 : Shape := ⟨2, ![1, 128]⟩

abbrev nBuf : Space → Nat
  | .hbm => 223
  | .vmem => 0
  | .smem => 0
  | _ => 0

abbrev hbmTy0_0 (i : Nat) : BufTy := match i % 128 with
  | 0 => ⟨S4096x13312, .bf16⟩
  | 1 => ⟨S4096x1024, .bf16⟩
  | 2 => ⟨S128, .f32⟩
  | 3 => ⟨S128, .f32⟩
  | 4 => ⟨S8x4096, .f32⟩
  | 5 => ⟨S4096x13312, .bf16⟩
  | 6 => ⟨S4096x3072, .bf16⟩
  | 7 => ⟨S4096x3072, .f32⟩
  | 8 => ⟨S4096x8x3x128, .f32⟩
  | 9 => ⟨S4096x8x1x128, .f32⟩
  | 10 => ⟨S4096x8x128, .f32⟩
  | 11 => ⟨S4096x8x1x128, .f32⟩
  | 12 => ⟨S4096x8x128, .f32⟩
  | 13 => ⟨S4096x8x1x128, .f32⟩
  | 14 => ⟨S4096x8x128, .f32⟩
  | 15 => ⟨S4096x8x128, .f32⟩
  | 16 => ⟨S_, .f32⟩
  | 17 => ⟨S4096x8, .f32⟩
  | 18 => ⟨S4096x8x1, .f32⟩
  | 19 => ⟨S_, .f32⟩
  | 20 => ⟨S4096x8x1, .f32⟩
  | 21 => ⟨S4096x8x1, .f32⟩
  | 22 => ⟨S_, .f32⟩
  | 23 => ⟨S4096x8x1, .f32⟩
  | 24 => ⟨S4096x8x1, .f32⟩
  | 25 => ⟨S4096x8x1, .f32⟩
  | 26 => ⟨S4096x8x1, .f32⟩
  | 27 => ⟨S_, .f32⟩
  | 28 => ⟨S4096x8x1, .f32⟩
  | 29 => ⟨S4096x8x1, .f32⟩
  | 30 => ⟨S4096x8x128, .f32⟩
  | 31 => ⟨S4096x8x128, .f32⟩
  | 32 => ⟨S1x1x128, .f32⟩
  | 33 => ⟨S4096x8x128, .f32⟩
  | 34 => ⟨S4096x8x128, .f32⟩
  | 35 => ⟨S4096x8x128, .f32⟩
  | 36 => ⟨S_, .f32⟩
  | 37 => ⟨S4096x8, .f32⟩
  | 38 => ⟨S4096x8x1, .f32⟩
  | 39 => ⟨S_, .f32⟩
  | 40 => ⟨S4096x8x1, .f32⟩
  | 41 => ⟨S4096x8x1, .f32⟩
  | 42 => ⟨S_, .f32⟩
  | 43 => ⟨S4096x8x1, .f32⟩
  | 44 => ⟨S4096x8x1, .f32⟩
  | 45 => ⟨S4096x8x1, .f32⟩
  | 46 => ⟨S4096x8x1, .f32⟩
  | 47 => ⟨S_, .f32⟩
  | 48 => ⟨S4096x8x1, .f32⟩
  | 49 => ⟨S4096x8x1, .f32⟩
  | 50 => ⟨S4096x8x128, .f32⟩
  | 51 => ⟨S4096x8x128, .f32⟩
  | 52 => ⟨S1x1x128, .f32⟩
  | 53 => ⟨S4096x8x128, .f32⟩
  | 54 => ⟨S4096x8x128, .f32⟩
  | 55 => ⟨S8x4096x4096, .f32⟩
  | 56 => ⟨S_, .f32⟩
  | 57 => ⟨S8x4096x4096, .f32⟩
  | 58 => ⟨S8x4096x4096, .f32⟩
  | 59 => ⟨S8x4096x1, .f32⟩
  | 60 => ⟨S8x1x4096, .f32⟩
  | 61 => ⟨S8x4096x4096, .f32⟩
  | 62 => ⟨S8x4096x4096, .f32⟩
  | 63 => ⟨S8x4096x4096, .f32⟩
  | 64 => ⟨S8x4096x4096, .f32⟩
  | 65 => ⟨S4096, .i32⟩
  | 66 => ⟨S4096x1, .i32⟩
  | 67 => ⟨S1x4096, .i32⟩
  | 68 => ⟨S4096x4096, .i32⟩
  | 69 => ⟨S4096x4096, .i32⟩
  | 70 => ⟨S4096x4096, .i1⟩
  | 71 => ⟨S_, .f32⟩
  | 72 => ⟨S_, .f32⟩
  | 73 => ⟨S8x4096x4096, .i1⟩
  | 74 => ⟨S8x4096x4096, .f32⟩
  | 75 => ⟨S8x4096x4096, .f32⟩
  | 76 => ⟨S_, .f32⟩
  | 77 => ⟨S8x4096x4096, .f32⟩
  | 78 => ⟨S_, .f32⟩
  | 79 => ⟨S8x4096, .f32⟩
  | 80 => ⟨S8x4096x1, .f32⟩
  | 81 => ⟨S8x4096x4096, .f32⟩
  | 82 => ⟨S8x4096x4096, .i1⟩
  | 83 => ⟨S8x4096x4096, .f32⟩
  | 84 => ⟨S_, .f32⟩
  | 85 => ⟨S8x4096, .f32⟩
  | 86 => ⟨S_, .f32⟩
  | 87 => ⟨S8x4096, .f32⟩
  | 88 => ⟨S8x4096, .f32⟩
  | 89 => ⟨S_, .f32⟩
  | 90 => ⟨S8x4096, .f32⟩
  | 91 => ⟨S8x4096, .i1⟩
  | 92 => ⟨S_, .f32⟩
  | 93 => ⟨S8x4096, .f32⟩
  | 94 => ⟨S8x4096, .i1⟩
  | 95 => ⟨S_, .f32⟩
  | 96 => ⟨S8x4096, .f32⟩
  | 97 => ⟨S_, .f32⟩
  | 98 => ⟨S8x4096, .f32⟩
  | 99 => ⟨S_, .f32⟩
  | 100 => ⟨S8x4096, .f32⟩
  | 101 => ⟨S8x4096, .f32⟩
  | 102 => ⟨S8x4096, .f32⟩
  | 103 => ⟨S8x4096x1, .f32⟩
  | 104 => ⟨S8x4096x4096, .f32⟩
  | 105 => ⟨S8x4096x4096, .f32⟩
  | 106 => ⟨S8x4096x4096, .f32⟩
  | 107 => ⟨S_, .f32⟩
  | 108 => ⟨S8x4096, .f32⟩
  | 109 => ⟨S8x4096x1, .f32⟩
  | 110 => ⟨S8x4096x4096, .f32⟩
  | 111 => ⟨S8x4096x4096, .f32⟩
  | 112 => ⟨S8x4096x1, .f32⟩
  | 113 => ⟨S_, .f32⟩
  | 114 => ⟨S8x4096x1, .f32⟩
  | 115 => ⟨S8x4096x1, .f32⟩
  | 116 => ⟨S8x128x4096, .f32⟩
  | 117 => ⟨S4096x8x128, .f32⟩
  | 118 => ⟨S4096x1024, .f32⟩
  | 119 => ⟨S4096x8x128, .f32⟩
  | 120 => ⟨S8x128x4096, .f32⟩
  | 121 => ⟨S8x4096x4096, .f32⟩
  | 122 => ⟨S8x128x4096, .f32⟩
  | 123 => ⟨S4096x8x128, .f32⟩
  | 124 => ⟨S8x4096x4096, .f32⟩
  | 125 => ⟨S8x4096x4096, .f32⟩
  | 126 => ⟨S8x4096x4096, .f32⟩
  | 127 => ⟨S_, .f32⟩
  | _ => ⟨S4096x13312, .bf16⟩

abbrev hbmTy0_1 (i : Nat) : BufTy := match i % 128 with
  | 0 => ⟨S8x4096, .f32⟩
  | 1 => ⟨S8x4096x1, .f32⟩
  | 2 => ⟨S8x4096x1, .f32⟩
  | 3 => ⟨S8x4096x4096, .f32⟩
  | 4 => ⟨S8x4096x4096, .f32⟩
  | 5 => ⟨S_, .f32⟩
  | 6 => ⟨S8x4096, .f32⟩
  | 7 => ⟨S8x4096x4096, .f32⟩
  | 8 => ⟨S8x4096x4096, .f32⟩
  | 9 => ⟨S8x4096x4096, .f32⟩
  | 10 => ⟨S_, .f32⟩
  | 11 => ⟨S8x4096x4096, .f32⟩
  | 12 => ⟨S8x4096x4096, .f32⟩
  | 13 => ⟨S_, .f32⟩
  | 14 => ⟨S8x4096, .f32⟩
  | 15 => ⟨S8x4096x1, .f32⟩
  | 16 => ⟨S8x4096x4096, .f32⟩
  | 17 => ⟨S_, .f32⟩
  | 18 => ⟨S8x4096, .f32⟩
  | 19 => ⟨S8x1x4096, .f32⟩
  | 20 => ⟨S_, .f32⟩
  | 21 => ⟨S8x4096, .f32⟩
  | 22 => ⟨S_, .f32⟩
  | 23 => ⟨S8x4096, .f32⟩
  | 24 => ⟨S_, .f32⟩
  | 25 => ⟨S8x4096x4096, .f32⟩
  | 26 => ⟨S8x4096x4096, .f32⟩
  | 27 => ⟨S8x4096x128, .f32⟩
  | 28 => ⟨S4096x8x128, .f32⟩
  | 29 => ⟨S8x4096x128, .f32⟩
  | 30 => ⟨S4096x8x128, .f32⟩
  | 31 => ⟨S4096x8x128, .f32⟩
  | 32 => ⟨S_, .f32⟩
  | 33 => ⟨S128, .f32⟩
  | 34 => ⟨S1x1x128, .f32⟩
  | 35 => ⟨S4096x8x128, .f32⟩
  | 36 => ⟨S4096x8x128, .f32⟩
  | 37 => ⟨S_, .f32⟩
  | 38 => ⟨S128, .f32⟩
  | 39 => ⟨S4096x8x128, .f32⟩
  | 40 => ⟨S_, .f32⟩
  | 41 => ⟨S4096x8, .f32⟩
  | 42 => ⟨S4096x8x1, .f32⟩
  | 43 => ⟨S4096x8x128, .f32⟩
  | 44 => ⟨S4096x8x128, .f32⟩
  | 45 => ⟨S4096x8x1, .f32⟩
  | 46 => ⟨S_, .f32⟩
  | 47 => ⟨S4096x8x1, .f32⟩
  | 48 => ⟨S4096x8x1, .f32⟩
  | 49 => ⟨S_, .f32⟩
  | 50 => ⟨S4096x8, .f32⟩
  | 51 => ⟨S4096x8x128, .f32⟩
  | 52 => ⟨S4096x8x128, .f32⟩
  | 53 => ⟨S4096x8x128, .f32⟩
  | 54 => ⟨S4096x8x128, .f32⟩
  | 55 => ⟨S4096x8x128, .f32⟩
  | 56 => ⟨S4096x8x128, .f32⟩
  | 57 => ⟨S_, .f32⟩
  | 58 => ⟨S128, .f32⟩
  | 59 => ⟨S1x1x128, .f32⟩
  | 60 => ⟨S4096x8x128, .f32⟩
  | 61 => ⟨S4096x8x128, .f32⟩
  | 62 => ⟨S_, .f32⟩
  | 63 => ⟨S128, .f32⟩
  | 64 => ⟨S4096x8x128, .f32⟩
  | 65 => ⟨S_, .f32⟩
  | 66 => ⟨S4096x8, .f32⟩
  | 67 => ⟨S4096x8x1, .f32⟩
  | 68 => ⟨S4096x8x128, .f32⟩
  | 69 => ⟨S4096x8x128, .f32⟩
  | 70 => ⟨S4096x8x1, .f32⟩
  | 71 => ⟨S_, .f32⟩
  | 72 => ⟨S4096x8x1, .f32⟩
  | 73 => ⟨S4096x8x1, .f32⟩
  | 74 => ⟨S_, .f32⟩
  | 75 => ⟨S4096x8, .f32⟩
  | 76 => ⟨S4096x8x128, .f32⟩
  | 77 => ⟨S4096x8x128, .f32⟩
  | 78 => ⟨S4096x8x128, .f32⟩
  | 79 => ⟨S4096x8x128, .f32⟩
  | 80 => ⟨S4096x8x128, .f32⟩
  | 81 => ⟨S4096x8x1x128, .f32⟩
  | 82 => ⟨S4096x8x1x128, .f32⟩
  | 83 => ⟨S4096x8x1x128, .f32⟩
  | 84 => ⟨S4096x8x3x128, .f32⟩
  | 85 => ⟨S4096x3072, .f32⟩
  | 86 => ⟨S4096x3072, .bf16⟩
  | 87 => ⟨S4096x9216, .bf16⟩
  | 88 => ⟨S4096x1024, .bf16⟩
  | 89 => ⟨S4096x13312, .bf16⟩
  | 90 => ⟨S8x1x4096, .f32⟩
  | 91 => ⟨S8x4096x1, .f32⟩
  | 92 => ⟨S8x4096x1, .f32⟩
  | 93 => ⟨S1x128, .f32⟩
  | 94 => ⟨S1x128, .f32⟩
  | _ => ⟨S4096x13312, .bf16⟩

abbrev hbmTy (i : Nat) : BufTy := match i / 128 with
  | 0 => hbmTy0_0 i
  | 1 => hbmTy0_1 i
  | _ => ⟨S4096x13312, .bf16⟩

abbrev bufTy : (tb : Table) → Fin (tcTables nBuf tb) → BufTy
  | .hbm, ⟨i, _⟩ => hbmTy i
  | _, _ => ⟨S4096x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_call0_v0 : Ref sig .tc := ⟨.hbm, 72, rfl⟩
abbrev main_v56_1 : Ref sig .tc := ⟨.hbm, 73, rfl⟩
abbrev main_call0_v2 : Ref sig .tc := ⟨.hbm, 74, rfl⟩
abbrev main_v56_0 : Ref sig .tc := ⟨.hbm, 75, rfl⟩
abbrev main_call0_cst : Ref sig .tc := ⟨.hbm, 76, rfl⟩
abbrev main_v56_2 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_cst_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_19 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_20 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_call1_cst : Ref sig .tc := ⟨.hbm, 138, rfl⟩
abbrev main_call1_v0 : Ref sig .tc := ⟨.hbm, 139, rfl⟩
abbrev main_v105 : Ref sig .tc := ⟨.hbm, 140, rfl⟩
abbrev main_cst_21 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_22 : Ref sig .tc := ⟨.hbm, 145, rfl⟩
abbrev main_v109 : Ref sig .tc := ⟨.hbm, 146, rfl⟩
abbrev main_v110 : Ref sig .tc := ⟨.hbm, 147, rfl⟩
abbrev main_cst_23 : Ref sig .tc := ⟨.hbm, 148, rfl⟩
abbrev main_v111 : Ref sig .tc := ⟨.hbm, 149, rfl⟩
abbrev main_cst_24 : Ref sig .tc := ⟨.hbm, 150, rfl⟩
abbrev main_v112 : Ref sig .tc := ⟨.hbm, 151, rfl⟩
abbrev main_cst_25 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_26 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_27 : Ref sig .tc := ⟨.hbm, 165, rfl⟩
abbrev main_v124 : Ref sig .tc := ⟨.hbm, 166, rfl⟩
abbrev main_v125 : Ref sig .tc := ⟨.hbm, 167, rfl⟩
abbrev main_cst_28 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_29 : Ref sig .tc := ⟨.hbm, 174, rfl⟩
abbrev main_v131 : Ref sig .tc := ⟨.hbm, 175, rfl⟩
abbrev main_v132 : Ref sig .tc := ⟨.hbm, 176, rfl⟩
abbrev main_cst_30 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_cst_31 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_32 : Ref sig .tc := ⟨.hbm, 190, rfl⟩
abbrev main_v144 : Ref sig .tc := ⟨.hbm, 191, rfl⟩
abbrev main_v145 : Ref sig .tc := ⟨.hbm, 192, rfl⟩
abbrev main_cst_33 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_34 : Ref sig .tc := ⟨.hbm, 199, rfl⟩
abbrev main_v151 : Ref sig .tc := ⟨.hbm, 200, rfl⟩
abbrev main_v152 : Ref sig .tc := ⟨.hbm, 201, rfl⟩
abbrev main_cst_35 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩

abbrev nD : Nat := 1
abbrev τ : Topo := Topo.v7x

variable {F : FTy → Type} [FloatOps F]
-- ==== Proof.ActValue.lean ====
/- What `d_act` computes, block by block, and the array it leaves: the gradient of the squared rectifier
   behind the second product of the feed-forward branch, `dup = (dy · w_downᵀ) · 2 · max(up, 0)`. -/
module

public import proofs.«01_k».proof.Defs
public import proofs.«01_k».proof.Proof.Gen.ActKernelIdeal.Value
public import proofs.«01_k».proof.Proof.Gen.ActReferenceIdeal.Run
public import Idealize.ShloMosaic.Lib.Pipeline.Value
public import Idealize.ShloMosaic.Lib.Pointwise

@[expose] public section

set_option maxRecDepth 16384

noncomputable section

namespace Cert.ActKernelIdeal.Dup

open Cert.ActKernelIdeal Cert.ActKernelIdeal.Gen Idealize.ShloMosaic Idealize.ShloMosaic.TcCoe Idealize.SL.Sem
open Idealize.ShloMosaic.Pipeline (Dat)

/-- The gradient at row `r`, hidden unit `n`. -/
def dup (dy : S4096x2048.Idx → EReal) (w : S8192x2048.Idx → EReal) (up : S4096x8192.Idx → EReal) : S4096x8192.Idx → EReal :=
  fun i => (∑ k : Fin 2048, dy (ix2 (i 0) k) * w (ix2 (i 1) k)) * Ideal.ofBits .f32 0x40000000#32 * max (up i) 0

variable (m : (ℓ : Loc nD τ sig) → Buf (Elt Ideal) ℓ) (ρ : Dev nD → PrngReg)

abbrev A0 (c : Dev nD) : S4096x2048.Idx → EReal := m ((c : Thread nD τ).loc main_arg0)
abbrev A1 (c : Dev nD) : S8192x2048.Idx → EReal := m ((c : Thread nD τ).loc main_arg1)
abbrev A2 (c : Dev nD) : S4096x8192.Idx → EReal := m ((c : Thread nD τ).loc main_arg2)

theorem hz : (![0, 0] : Fin 2 → Nat) = fun _ => 0 := funext fun a => by fin_cases a <;> rfl

/-- The block of each window at point `t = 16 i + j`. -/
theorem idx : ∀ t : Fin grid0.N,
    (win0_0.index t 0 = t.val / 16 ∧ win0_0.index t 1 = 0) ∧ (win0_1.index t 0 = t.val % 16 ∧ win0_1.index t 1 = 0)
    ∧ (win0_2.index t 0 = t.val / 16 ∧ win0_2.index t 1 = t.val % 16)
    ∧ (win0_3.index t 0 = t.val / 16 ∧ win0_3.index t 1 = t.val % 16) := by decide +kernel

theorem lt (t : Fin grid0.N) : t.val < 32 := lt_of_lt_of_eq t.isLt (by decide +kernel)

def row (t : Fin grid0.N) (a : Fin 2048) : Fin 4096 := ⟨t.val / 16 * 2048 + a.val, by have := lt t; omega⟩
def col (t : Fin grid0.N) (b : Fin 512) : Fin 8192 := ⟨t.val % 16 * 512 + b.val, by omega⟩

theorem blk0 (c : Dev nD) (t : Fin cfg0.N) (a k : Fin 2048) : iblk m c 0 t (ix2 a k) = A0 m c (ix2 (row t a) k) := by
  show A0 m c (((cfg0.win 0).blk t).view.emb (ix2 a k)) = _
  refine congrArg _ (funext fun x => Fin.ext ?_)
  match x with
  | ⟨0, _⟩ => show win0_0.index t 0 * 2048 + 1 * a.val = t.val / 16 * 2048 + a.val; rw [(idx t).1.1]; omega
  | ⟨1, _⟩ => show win0_0.index t 1 * 2048 + 1 * k.val = k.val; rw [(idx t).1.2]; omega

theorem blk1 (c : Dev nD) (t : Fin cfg0.N) (b : Fin 512) (k : Fin 2048) : iblk m c 1 t (ix2 b k) = A1 m c (ix2 (col t b) k) := by
  show A1 m c (((cfg0.win 1).blk t).view.emb (ix2 b k)) = _
  refine congrArg _ (funext fun x => Fin.ext ?_)
  match x with
  | ⟨0, _⟩ => show win0_1.index t 0 * 512 + 1 * b.val = t.val % 16 * 512 + b.val; rw [(idx t).2.1.1]; omega
  | ⟨1, _⟩ => show win0_1.index t 1 * 2048 + 1 * k.val = k.val; rw [(idx t).2.1.2]; omega

theorem blk2 (c : Dev nD) (t : Fin cfg0.N) (a : Fin 2048) (b : Fin 512) : iblk m c 2 t (ix2 a b) = A2 m c (ix2 (row t a) (col t b)) := by
  show A2 m c (((cfg0.win 2).blk t).view.emb (ix2 a b)) = _
  refine congrArg _ (funext fun x => Fin.ext ?_)
  match x with
  | ⟨0, _⟩ => show win0_2.index t 0 * 2048 + 1 * a.val = t.val / 16 * 2048 + a.val; rw [(idx t).2.2.1.1]; omega
  | ⟨1, _⟩ => show win0_2.index t 1 * 512 + 1 * b.val = t.val % 16 * 512 + b.val; rw [(idx t).2.2.1.2]; omega

theorem emb3 (t : Fin cfg0.N) (a : Fin 2048) (b : Fin 512) : ((cfg0.win 3).blk t).view.emb (ix2 a b) = (ix2 (row t a) (col t b) : S4096x8192.Idx) := by
  refine funext fun x => Fin.ext ?_
  match x with
  | ⟨0, _⟩ => show win0_3.index t 0 * 2048 + 1 * a.val = t.val / 16 * 2048 + a.val; rw [(idx t).2.2.2.1]; omega
  | ⟨1, _⟩ => show win0_3.index t 1 * 512 + 1 * b.val = t.val % 16 * 512 + b.val; rw [(idx t).2.2.2.2]; omega

/-- What one point stores, at an index of its block. -/
theorem pay (x : FVec Ideal S2048x2048 .bf16) (w : FVec Ideal S512x2048 .bf16) (u : FVec Ideal S2048x512 .bf16) (a : Fin 2048) (b : Fin 512) :
    k0_pay1 x w u (ix2 a b)
      = (∑ k : Fin 2048, x (ix2 a k) * w (ix2 b k)) * Ideal.ofBits .f32 0x40000000#32 * max (u (ix2 a b)) 0 := by
  pointwise [k0_pay1]

/-- What point `t` writes back is block `t` of the gradient. -/
theorem flushed_eq (c : Dev nD) (t : Fin cfg0.N) :
    (dats m 0 c).flushed 3 t = (win0_3.blk t).view.read (Elt Ideal) (dup (A0 m c) (A1 m c) (A2 m c)) := by
  rw [Value.flushed3]
  unfold out0_3
  rw [View.canon_unit_zero hz, View.ld_unit_zero hz, View.ld_unit_zero hz, View.ld_unit_zero hz]
  refine funext fun (y : S2048x512.Idx) => ?_
  obtain ⟨a, b, rfl⟩ : ∃ (a : Fin 2048) (b : Fin 512), y = ix2 a b := ⟨y 0, y 1, eq_ix2 y⟩
  refine (pay _ _ _ a b).trans ?_
  show _ = dup (A0 m c) (A1 m c) (A2 m c) (((cfg0.win 3).blk t).view.emb (ix2 a b))
  rw [emb3]
  exact congrArg₂ (· * ·) (congrArg (· * Ideal.ofBits .f32 0x40000000#32)
    (Finset.sum_congr rfl fun k _ => congrArg₂ (fun p q : EReal => p * q) (blk0 m c t a k) (blk1 m c t b k)))
    (congrArg (fun p : EReal => max p 0) (blk2 m c t a b))

theorem cover (i : S4096x8192.Idx) : ∃ t : Fin cfg0.N, (cfg0.win 3).flush t = true ∧ i ∈ ((cfg0.win 3).blk t).view.set := by
  have h0 : (i 0).val < 4096 := (i 0).isLt
  have h1 : (i 1).val < 8192 := (i 1).isLt
  have hN : grid0.N = 32 := by decide +kernel
  refine ⟨(⟨(i 0).val / 2048 * 16 + (i 1).val / 512, by omega⟩ : Fin grid0.N), flush0_3 _, ?_⟩
  have e := emb3 (⟨(i 0).val / 2048 * 16 + (i 1).val / 512, by omega⟩ : Fin grid0.N) ⟨(i 0).val % 2048, by omega⟩ ⟨(i 1).val % 512, by omega⟩
  have e' : (ix2 (row (⟨(i 0).val / 2048 * 16 + (i 1).val / 512, by omega⟩ : Fin grid0.N) ⟨(i 0).val % 2048, by omega⟩)
      (col (⟨(i 0).val / 2048 * 16 + (i 1).val / 512, by omega⟩ : Fin grid0.N) ⟨(i 1).val % 512, by omega⟩) : S4096x8192.Idx) = i := by
    refine funext fun x => Fin.ext ?_
    match x with
    | ⟨0, _⟩ => show ((i 0).val / 2048 * 16 + (i 1).val / 512) / 16 * 2048 + (i 0).val % 2048 = (i 0).val; omega
    | ⟨1, _⟩ => show ((i 0).val / 2048 * 16 + (i 1).val / 512) % 16 * 512 + (i 1).val % 512 = (i 1).val; omega
  exact Finset.mem_map.2 ⟨_, Finset.mem_univ _, e.trans e'⟩

theorem final (c : Dev nD) : (dats m 0 c).arrAt 3 cfg0.N = dup (A0 m c) (A1 m c) (A2 m c) :=
  (dats m 0 c).arrAt_eq_of_cover 3 _ (fun t _ => flushed_eq m c t) cover

/-- The reference: `jax.vjp` of the squared rectifier and the product, at the cotangent. -/
theorem ref_eq (x : FVec Ideal S4096x2048 .bf16) (w : FVec Ideal S8192x2048 .bf16) (u : FVec Ideal S4096x8192 .bf16) :
    (truncf .bf16 (select (cmpf .ogt (extf .f32 u Cert.ActReferenceIdeal.Facts₀.bitsLt_bf16_f32) (broadcastInDim Cert.ActReferenceIdeal.S4096x8192 ![] Cert.ActReferenceIdeal.Facts₀.bcast_S_S4096x8192 (constant Cert.ActReferenceIdeal.S_ .f32 0x00000000#32))) (mulf (Host.dotGeneral Cert.ActReferenceIdeal.dot_S4096x2048_S8192x2048_S4096x8192_1_1_0_0_n_n none (extf .f32 x Cert.ActReferenceIdeal.Facts₀.bitsLt_bf16_f32) (extf .f32 w Cert.ActReferenceIdeal.Facts₀.bitsLt_bf16_f32)) (mulf (broadcastInDim Cert.ActReferenceIdeal.S4096x8192 ![] Cert.ActReferenceIdeal.Facts₀.bcast_S_S4096x8192 (constant Cert.ActReferenceIdeal.S_ .f32 0x40000000#32)) (maximumf (extf .f32 u Cert.ActReferenceIdeal.Facts₀.bitsLt_bf16_f32) (broadcastInDim Cert.ActReferenceIdeal.S4096x8192 ![] Cert.ActReferenceIdeal.Facts₀.bcast_S_S4096x8192 (constant Cert.ActReferenceIdeal.S_ .f32 0x00000000#32))))) (broadcastInDim Cert.ActReferenceIdeal.S4096x8192 ![] Cert.ActReferenceIdeal.Facts₀.bcast_S_S4096x8192 (constant Cert.ActReferenceIdeal.S_ .f32 0x00000000#32))) Cert.ActReferenceIdeal.Facts₀.bitsLt_bf16_f32 : FVec Ideal S4096x8192 .bf16) = dup x w u := by
  refine funext fun i => ?_
  obtain ⟨a, b, rfl⟩ : ∃ (a : Fin 4096) (b : Fin 8192), i = ix2 a b := ⟨i 0, i 1, eq_ix2 i⟩
  pointwise [dup]
  rw [mul_assoc]
  split
  · rfl
  · rename_i h
    rw [max_eq_right (not_lt.1 h), mul_zero, mul_zero]

end Cert.ActKernelIdeal.Dup

end
-- ==== Proof.TnSum.lean ====
/- The gradient of a product in its weight, entry by entry. -/
module

public import Idealize.ShloMosaic.Lib.ValueIdx
public import Idealize.ShloMosaic.Lib.Pointwise

@[expose] public section

noncomputable section

namespace Cert.Products

open Idealize.ShloMosaic

/-- Entry `(a, b)` of `xᵀ · y`, the sum over the 4096 positions. -/
def tnSum {M N : Nat} (x : (⟨2, ![4096, M]⟩ : Shape).Idx → EReal) (y : (⟨2, ![4096, N]⟩ : Shape).Idx → EReal) (a : Fin M) (b : Fin N) : EReal :=
  ∑ k : Fin 4096, x (ix2 k a) * y (ix2 k b)

theorem zero2 : (![0, 0] : Fin 2 → Nat) = fun _ => 0 := funext fun a => by fin_cases a <;> rfl

theorem zero3 : (![0, 0, 0] : Fin 3 → Nat) = fun _ => 0 := funext fun a => by fin_cases a <;> rfl

end Cert.Products

end
-- ==== Proof.Stretches.lean ====
/- A sum over stretches of one length. -/
module

public import Mathlib.Algebra.BigOperators.Fin
public import Idealize.ShloMosaic.Lib.Pointwise

@[expose] public section

namespace Cert.Products

theorem place {m n : Nat} (s : Fin m) (q : Fin n) : s.val * n + q.val < m * n :=
  lt_of_lt_of_le (Nat.add_lt_add_left q.isLt _) (by rw [← Nat.succ_mul]; exact Nat.mul_le_mul_right n s.isLt)

/-- The sum over all places is the sum over the stretches of the sums over each. -/
theorem sum_stretches (m n : Nat) (f : Fin (m * n) → EReal) : ∑ k, f k = ∑ s : Fin m, ∑ q : Fin n, f ⟨s.val * n + q.val, place s q⟩ := by
  rw [← finProdFinEquiv.sum_comp, Fintype.sum_prod_type]
  refine Finset.sum_congr rfl fun s _ => Finset.sum_congr rfl fun q _ => congrArg f (Fin.ext ?_)
  show q.val + n * s.val = s.val * n + q.val
  rw [Nat.mul_comm, Nat.add_comm]

/-- Two stretches. -/
theorem sum_two (n : Nat) (f : Fin (2 * n) → EReal) : ∑ k, f k
    = (∑ q : Fin n, f ⟨(0 : Fin 2).val * n + q.val, place 0 q⟩) + (∑ q : Fin n, f ⟨(1 : Fin 2).val * n + q.val, place 1 q⟩) := by
  rw [sum_stretches, Fin.sum_univ_two]

/-- Four stretches. -/
theorem sum_four (n : Nat) (f : Fin (4 * n) → EReal) : ∑ k, f k
    = (∑ q : Fin n, f ⟨(0 : Fin 4).val * n + q.val, place 0 q⟩) + (∑ q : Fin n, f ⟨(1 : Fin 4).val * n + q.val, place 1 q⟩)
      + (∑ q : Fin n, f ⟨(2 : Fin 4).val * n + q.val, place 2 q⟩) + (∑ q : Fin n, f ⟨(3 : Fin 4).val * n + q.val, place 3 q⟩) := by
  rw [sum_stretches, Fin.sum_univ_four]

end Cert.Products
-- ==== Proof.LossValue.lean ====
/- What `mlp_down` computes: the second feed-forward product, and from it, the earlier array and the target the gradient of the loss. -/
module

public import proofs.«01_k».proof.Defs
public import proofs.«01_k».proof.Proof.Gen.LossKernelIdeal.Frame
public import proofs.«01_k».proof.Proof.Gen.LossReferenceIdeal.Run
public import proofs.«01_k».proof.Proof.TnSum
public import proofs.«01_k».proof.Proof.Stretches
public import Idealize.ShloMosaic.Lib.Pipeline.Value
public import Idealize.ShloMosaic.Lib.Pointwise

@[expose] public section

set_option maxRecDepth 16384

noncomputable section

namespace Cert.LossKernelIdeal.Prod

open Cert.LossKernelIdeal Cert.LossKernelIdeal.Gen Idealize.ShloMosaic Idealize.ShloMosaic.TcCoe Idealize.SL.Sem
open Idealize.ShloMosaic.Pipeline (Dat)
open Cert.Products (zero2)

section Cases

variable {F : FTy → Type} [FloatOps F]
variable (c : Dev nD) (i : grid0.Coords) (a3 : Memref sig .tc .vmem S1024x4096 .bf16) (h3 : a3.IsWhole) (a4 : Memref sig .tc .vmem S4096x512 .bf16) (h4 : a4.IsWhole) (a5 : Memref sig .tc .vmem S1024x512 .f32) (h5 : a5.IsWhole) (a6 : Memref sig .tc .vmem S1024x512 .f32) (h6 : a6.IsWhole) (a7 : Memref sig .tc .vmem S1024x512 .f32) (h7 : a7.IsWhole) (a8 : Memref sig .tc .vmem S1024x512 .bf16) (h8 : a8.IsWhole) (a9 : Memref sig .tc .vmem S1024x512 .f32) (h9 : a9.IsWhole)

/-- The first of two points leaves its own product in the accumulator. -/
theorem out_A (hc0 : cond0_0 i) (hc1 : ¬cond0_1 i) (hc2 : ¬cond0_2 i) (x : Vec F S1024x4096 .bf16) (y : Vec F S4096x512 .bf16) (z v : Vec F S1024x512 .f32) :
    sout0_A_0 c i a3 h3 a4 h4 a5 h5 a6 h6 a7 h7 a8 h8 a9 h9 hc0 hc1 hc2 x y z v = k0_pay1 x y := by
  unfold sout0_A_0
  rw [View.read_writes_eq_canon _ _ _ (scover0_A_0 c i a3 h3 a4 h4 a5 h5 a6 h6 a7 h7 a8 h8 a9 h9 hc0 hc1 hc2 x y z v)]
  unfold kernelRun0_A
  dsimp only
  rw [View.canon_unit_zero zero2]
  unfold k0_pay2
  simp only [View.readAt_eq_ld, h3.read_unread, h4.read_unread, View.ld_unit_zero (S := S1024x4096) zero2, View.ld_unit_zero (S := S4096x512) zero2, shapeCast_self]

/-- The second adds its product and stores the gradient of the loss, once for each result. -/
theorem out_B4 (hc0 : ¬cond0_0 i) (hc1 : ¬cond0_1 i) (hc2 : cond0_2 i) (x : Vec F S1024x4096 .bf16) (y : Vec F S4096x512 .bf16) (z v : Vec F S1024x512 .f32) (s : Vec F S1024x512 .f32) :
    out0_B_4 c i a3 h3 a4 h4 a5 h5 a6 h6 a7 h7 a8 h8 a9 h9 hc0 hc1 hc2 x y z v s = k0_pay4 x y s z v := by
  unfold out0_B_4
  rw [View.read_writes_eq_canon _ _ _ (cover0_B_4 c i a3 h3 a4 h4 a5 h5 a6 h6 a7 h7 a8 h8 a9 h9 hc0 hc1 hc2 x y z v s)]
  unfold kernelRun0_B
  dsimp only
  rw [View.canon_unit_zero zero2]
  simp only [View.readAt_eq_ld, h3.read_unread, h4.read_unread, h5.read_unread, h6.read_unread, h9.read_unread, View.ld_unit_zero (S := S1024x4096) zero2, View.ld_unit_zero (S := S4096x512) zero2, View.ld_unit_zero (S := S1024x512) zero2]

theorem out_B5 (hc0 : ¬cond0_0 i) (hc1 : ¬cond0_1 i) (hc2 : cond0_2 i) (x : Vec F S1024x4096 .bf16) (y : Vec F S4096x512 .bf16) (z v : Vec F S1024x512 .f32) (s : Vec F S1024x512 .f32) :
    out0_B_5 c i a3 h3 a4 h4 a5 h5 a6 h6 a7 h7 a8 h8 a9 h9 hc0 hc1 hc2 x y z v s = k0_pay5 x y s z v := by
  unfold out0_B_5
  rw [View.read_writes_eq_canon _ _ _ (cover0_B_5 c i a3 h3 a4 h4 a5 h5 a6 h6 a7 h7 a8 h8 a9 h9 hc0 hc1 hc2 x y z v s)]
  unfold kernelRun0_B
  dsimp only
  rw [View.canon_unit_zero zero2]
  simp only [View.readAt_eq_ld, h3.read_unread, h4.read_unread, h5.read_unread, h6.read_unread, h9.read_unread, View.ld_unit_zero (S := S1024x4096) zero2, View.ld_unit_zero (S := S4096x512) zero2, View.ld_unit_zero (S := S1024x512) zero2]

end Cases

section Points

variable (m : (ℓ : Loc nD τ sig) → Buf (Elt Ideal) ℓ)

/-- The product of the blocks of point `t`. -/
def part (c : Dev nD) (t : Fin cfg0.N) : FVec Ideal S1024x512 .f32 := k0_pay1 (iblk m c 0 t) (iblk m c 1 t)

theorem at_eq (c : Dev nD) {n k : Nat} (hn : n < cfg0.N) (hk : k < cfg0.N) (e : k = n) : outsAt0 m c k hk = outsAt0 m c n hn := by
  subst e; rfl

theorem acc_A (c : Dev nD) (n : Nat) (hn : n < cfg0.N) (h : n % 2 = 0) : (outsAt0 m c n hn).2.2 = part m c ⟨n, hn⟩ := by
  have e := congrArg (fun p => p.2.2) (outsAt0_A m c ⟨n, hn⟩ h (by dsimp only; omega))
  dsimp only at e
  rw [out_A] at e
  exact e

/-- After a second point the first result's block. -/
theorem out_eq4 (c : Dev nD) (n : Nat) (hn : n + 1 < cfg0.N) (h : n % 2 = 0) : (outsAt0 m c (n + 1) hn).1
    = k0_pay4 (F := Ideal) (iblk m c 0 ⟨n + 1, hn⟩) (iblk m c 1 ⟨n + 1, hn⟩) (part m c ⟨n, by omega⟩) (iblk m c 2 ⟨n + 1, hn⟩) (iblk m c 3 ⟨n + 1, hn⟩) := by
  have e := congrArg (fun p => p.1) (outsAt0_B m c ⟨n + 1, hn⟩ (by dsimp only; omega) (by dsimp only; omega))
  rw [at_eq m c (n := n) (by omega) _ (Nat.add_sub_cancel n 1)] at e
  dsimp only at e
  rw [out_B4, acc_A m c n (by omega) h] at e
  exact e

/-- And the second result's. -/
theorem out_eq5 (c : Dev nD) (n : Nat) (hn : n + 1 < cfg0.N) (h : n % 2 = 0) : (outsAt0 m c (n + 1) hn).2.1
    = k0_pay5 (F := Ideal) (iblk m c 0 ⟨n + 1, hn⟩) (iblk m c 1 ⟨n + 1, hn⟩) (part m c ⟨n, by omega⟩) (iblk m c 2 ⟨n + 1, hn⟩) (iblk m c 3 ⟨n + 1, hn⟩) := by
  have e := congrArg (fun p => p.2.1) (outsAt0_B m c ⟨n + 1, hn⟩ (by dsimp only; omega) (by dsimp only; omega))
  rw [at_eq m c (n := n) (by omega) _ (Nat.add_sub_cancel n 1)] at e
  dsimp only at e
  rw [out_B5, acc_A m c n (by omega) h] at e
  exact e

abbrev A0 (c : Dev nD) : S4096x8192.Idx → EReal := m ((c : Thread nD τ).loc main_arg0)
abbrev A1 (c : Dev nD) : S8192x2048.Idx → EReal := m ((c : Thread nD τ).loc main_arg1)
abbrev A2 (c : Dev nD) : S4096x2048.Idx → EReal := m ((c : Thread nD τ).loc main_arg2)
abbrev A3 (c : Dev nD) : S4096x2048.Idx → EReal := m ((c : Thread nD τ).loc main_arg3)

/-- The block of each window at point `t`. -/
theorem idx : ∀ t : Fin grid0.N,
    (win0_0.index t 0 = t.val / 8 ∧ win0_0.index t 1 = t.val % 2) ∧ (win0_1.index t 0 = t.val % 2 ∧ win0_1.index t 1 = t.val / 2 % 4)
    ∧ (win0_2.index t 0 = t.val / 8 ∧ win0_2.index t 1 = t.val / 2 % 4) ∧ (win0_3.index t 0 = t.val / 8 ∧ win0_3.index t 1 = t.val / 2 % 4)
    ∧ (win0_4.index t 0 = t.val / 8 ∧ win0_4.index t 1 = t.val / 2 % 4) ∧ (win0_5.index t 0 = t.val / 8 ∧ win0_5.index t 1 = t.val / 2 % 4) := by decide +kernel

theorem lt (t : Fin grid0.N) : t.val < 32 := lt_of_lt_of_eq t.isLt (by decide +kernel)

def row (t : Fin grid0.N) (a : Fin 1024) : Fin 4096 := ⟨t.val / 8 * 1024 + a.val, by have := lt t; omega⟩
def col (t : Fin grid0.N) (b : Fin 512) : Fin 2048 := ⟨t.val / 2 % 4 * 512 + b.val, by omega⟩
def mid (t : Fin grid0.N) (k : Fin 4096) : Fin 8192 := ⟨t.val % 2 * 4096 + k.val, by omega⟩

theorem blk0 (c : Dev nD) (t : Fin cfg0.N) (a : Fin 1024) (k : Fin 4096) : iblk m c 0 t (ix2 a k) = A0 m c (ix2 (row t a) (mid t k)) := by
  show A0 m c (((cfg0.win 0).blk t).view.emb (ix2 a k)) = _
  refine congrArg _ (funext fun x => Fin.ext ?_)
  match x with
  | ⟨0, _⟩ => show win0_0.index t 0 * 1024 + 1 * a.val = t.val / 8 * 1024 + a.val; rw [(idx t).1.1]; omega
  | ⟨1, _⟩ => show win0_0.index t 1 * 4096 + 1 * k.val = t.val % 2 * 4096 + k.val; rw [(idx t).1.2]; omega

theorem blk1 (c : Dev nD) (t : Fin cfg0.N) (b : Fin 512) (k : Fin 4096) : iblk m c 1 t (ix2 k b) = A1 m c (ix2 (mid t k) (col t b)) := by
  show A1 m c (((cfg0.win 1).blk t).view.emb (ix2 k b)) = _
  refine congrArg _ (funext fun x => Fin.ext ?_)
  match x with
  | ⟨0, _⟩ => show win0_1.index t 0 * 4096 + 1 * k.val = t.val % 2 * 4096 + k.val; rw [(idx t).2.1.1]; omega
  | ⟨1, _⟩ => show win0_1.index t 1 * 512 + 1 * b.val = t.val / 2 % 4 * 512 + b.val; rw [(idx t).2.1.2]; omega

theorem blk2 (c : Dev nD) (t : Fin cfg0.N) (a : Fin 1024) (b : Fin 512) : iblk m c 2 t (ix2 a b) = A2 m c (ix2 (row t a) (col t b)) := by
  show A2 m c (((cfg0.win 2).blk t).view.emb (ix2 a b)) = _
  refine congrArg _ (funext fun x => Fin.ext ?_)
  match x with
  | ⟨0, _⟩ => show win0_2.index t 0 * 1024 + 1 * a.val = t.val / 8 * 1024 + a.val; rw [(idx t).2.2.1.1]; omega
  | ⟨1, _⟩ => show win0_2.index t 1 * 512 + 1 * b.val = t.val / 2 % 4 * 512 + b.val; rw [(idx t).2.2.1.2]; omega

theorem blk3 (c : Dev nD) (t : Fin cfg0.N) (a : Fin 1024) (b : Fin 512) : iblk m c 3 t (ix2 a b) = A3 m c (ix2 (row t a) (col t b)) := by
  show A3 m c (((cfg0.win 3).blk t).view.emb (ix2 a b)) = _
  refine congrArg _ (funext fun x => Fin.ext ?_)
  match x with
  | ⟨0, _⟩ => show win0_3.index t 0 * 1024 + 1 * a.val = t.val / 8 * 1024 + a.val; rw [(idx t).2.2.2.1.1]; omega
  | ⟨1, _⟩ => show win0_3.index t 1 * 512 + 1 * b.val = t.val / 2 % 4 * 512 + b.val; rw [(idx t).2.2.2.1.2]; omega

theorem emb4 (t : Fin cfg0.N) (a : Fin 1024) (b : Fin 512) : ((cfg0.win 4).blk t).view.emb (ix2 a b) = (ix2 (row t a) (col t b) : S4096x2048.Idx) := by
  refine funext fun x => Fin.ext ?_
  match x with
  | ⟨0, _⟩ => show win0_4.index t 0 * 1024 + 1 * a.val = t.val / 8 * 1024 + a.val; rw [(idx t).2.2.2.2.1.1]; omega
  | ⟨1, _⟩ => show win0_4.index t 1 * 512 + 1 * b.val = t.val / 2 % 4 * 512 + b.val; rw [(idx t).2.2.2.2.1.2]; omega

theorem emb5 (t : Fin cfg0.N) (a : Fin 1024) (b : Fin 512) : ((cfg0.win 5).blk t).view.emb (ix2 a b) = (ix2 (row t a) (col t b) : S4096x2048.Idx) := by
  refine funext fun x => Fin.ext ?_
  match x with
  | ⟨0, _⟩ => show win0_5.index t 0 * 1024 + 1 * a.val = t.val / 8 * 1024 + a.val; rw [(idx t).2.2.2.2.2.1]; omega
  | ⟨1, _⟩ => show win0_5.index t 1 * 512 + 1 * b.val = t.val / 2 % 4 * 512 + b.val; rw [(idx t).2.2.2.2.2.2]; omega

/-- One product, at an index of its block. -/
theorem pay (x : FVec Ideal S1024x4096 .bf16) (y : FVec Ideal S4096x512 .bf16) (a : Fin 1024) (b : Fin 512) :
    (k0_pay1 (F := Ideal) x y (ix2 a b) : EReal) = ∑ k : Fin 4096, (x (ix2 a k) * y (ix2 k b) : EReal) := by
  pointwise [k0_pay1]

/-- The gradient of the loss from the product, the earlier array and the target: their difference over the width. -/
def slope (p z v : EReal) : EReal := (p + z - v) * Ideal.ofBits .f32 0x3A000000#32

/-- What a second point stores in either result. -/
theorem pay4 (x : FVec Ideal S1024x4096 .bf16) (y : FVec Ideal S4096x512 .bf16) (s z v : FVec Ideal S1024x512 .f32) (a : Fin 1024) (b : Fin 512) :
    (k0_pay4 (F := Ideal) x y s z v (ix2 a b) : EReal) = slope (s (ix2 a b) + k0_pay1 (F := Ideal) x y (ix2 a b)) (z (ix2 a b)) (v (ix2 a b)) := rfl

theorem pay5 (x : FVec Ideal S1024x4096 .bf16) (y : FVec Ideal S4096x512 .bf16) (s z v : FVec Ideal S1024x512 .f32) (a : Fin 1024) (b : Fin 512) :
    (k0_pay5 (F := Ideal) x y s z v (ix2 a b) : EReal) = slope (s (ix2 a b) + k0_pay1 (F := Ideal) x y (ix2 a b)) (z (ix2 a b)) (v (ix2 a b)) := rfl

/-- The summands of one entry of the product. -/
def term (c : Dev nD) (r : Fin 4096) (n : Fin 2048) (k : Fin 8192) : EReal := A0 m c (ix2 r k) * A1 m c (ix2 k n)

theorem part_apply (c : Dev nD) (t : Fin cfg0.N) (a : Fin 1024) (b : Fin 512) :
    part m c t (ix2 a b) = ∑ k : Fin 4096, term m c (row t a) (col t b) (mid t k) :=
  (pay _ _ a b).trans (Finset.sum_congr rfl fun k _ => congrArg₂ (fun p q : EReal => p * q) (blk0 m c t a k) (blk1 m c t b k))

/-- The two parts of a block are the halves of the whole sum. -/
theorem two (c : Dev nD) (n : Nat) (h : n + 1 < cfg0.N) (hn : n % 2 = 0) (a : Fin 1024) (b : Fin 512) :
    (part m c ⟨n, by omega⟩ (ix2 a b) + part m c ⟨n + 1, h⟩ (ix2 a b) : EReal) = ∑ k : Fin 8192, term m c (row ⟨n + 1, h⟩ a) (col ⟨n + 1, h⟩ b) k := by
  have step (s : Fin 2) (hs : n + s.val < cfg0.N) : part m c ⟨n + s.val, hs⟩ (ix2 a b)
      = ∑ q : Fin 4096, term m c (row ⟨n + 1, h⟩ a) (col ⟨n + 1, h⟩ b) ⟨s.val * 4096 + q.val, by omega⟩ := by
    rw [part_apply]
    have e1 : row ⟨n + s.val, hs⟩ a = row ⟨n + 1, h⟩ a := Fin.ext (by show (n + s.val) / 8 * 1024 + a.val = (n + 1) / 8 * 1024 + a.val; omega)
    have e2 : col ⟨n + s.val, hs⟩ b = col ⟨n + 1, h⟩ b := Fin.ext (by show (n + s.val) / 2 % 4 * 512 + b.val = (n + 1) / 2 % 4 * 512 + b.val; omega)
    rw [e1, e2]
    exact Finset.sum_congr rfl fun k _ => congrArg _ (Fin.ext (by show (n + s.val) % 2 * 4096 + k.val = s.val * 4096 + k.val; omega))
  refine Eq.trans ?_ (Cert.Products.sum_two 4096 (term m c (row ⟨n + 1, h⟩ a) (col ⟨n + 1, h⟩ b))).symm
  exact congrArg₂ (fun p q : EReal => p + q) (step 0 (by show n + 0 < _; omega)) (step 1 h)

/-- The gradient of the loss as an array. -/
def grad (x : S4096x8192.Idx → EReal) (y : S8192x2048.Idx → EReal) (z v : S4096x2048.Idx → EReal) : S4096x2048.Idx → EReal :=
  fun i => slope (∑ k : Fin 8192, x (ix2 (i 0) k) * y (ix2 k (i 1))) (z i) (v i)

theorem staged (c : Dev nD) (n : Nat) (h : n + 1 < cfg0.N) (hn : n % 2 = 0) (a : Fin 1024) (b : Fin 512) :
    slope (part m c ⟨n, by omega⟩ (ix2 a b) + part m c ⟨n + 1, h⟩ (ix2 a b)) (iblk m c 2 ⟨n + 1, h⟩ (ix2 a b)) (iblk m c 3 ⟨n + 1, h⟩ (ix2 a b))
      = grad (A0 m c) (A1 m c) (A2 m c) (A3 m c) (ix2 (row ⟨n + 1, h⟩ a) (col ⟨n + 1, h⟩ b)) := by
  rw [two m c n h hn, blk2, blk3]
  rfl

theorem second (t : Fin cfg0.N) (h : t.val % 2 = 1) : ∃ (n : Nat) (hn : n + 1 < cfg0.N), t = ⟨n + 1, hn⟩ ∧ n % 2 = 0 :=
  ⟨t.val - 1, by have := t.isLt; omega, Fin.ext (by show t.val = t.val - 1 + 1; omega), by omega⟩

theorem inside (i : S4096x2048.Idx) : ∃ (t : Fin grid0.N) (a : Fin 1024) (b : Fin 512), t.val % 2 = 1 ∧ (ix2 (row t a) (col t b) : S4096x2048.Idx) = i := by
  have h0 : (i 0).val < 4096 := (i 0).isLt
  have h1 : (i 1).val < 2048 := (i 1).isLt
  have hN : grid0.N = 32 := by decide +kernel
  obtain ⟨t, ht⟩ : ∃ t : Fin grid0.N, t.val = (i 0).val / 1024 * 8 + (i 1).val / 512 * 2 + 1 := ⟨⟨(i 0).val / 1024 * 8 + (i 1).val / 512 * 2 + 1, by omega⟩, rfl⟩
  refine ⟨t, ⟨(i 0).val % 1024, by omega⟩, ⟨(i 1).val % 512, by omega⟩, by omega, funext fun x => Fin.ext ?_⟩
  match x with
  | ⟨0, _⟩ => show t.val / 8 * 1024 + (i 0).val % 1024 = (i 0).val; omega
  | ⟨1, _⟩ => show t.val / 2 % 4 * 512 + (i 1).val % 512 = (i 1).val; omega

/-- What a second point writes back is its block of the gradient. -/
theorem flushed_eq4 (c : Dev nD) (t : Fin cfg0.N) (hf : (cfg0.win 4).flush t = true) :
    (dats m 0 c).flushed 4 t = (win0_4.blk t).view.read (Elt Ideal) (grad (A0 m c) (A1 m c) (A2 m c) (A3 m c)) := by
  obtain ⟨n, hn, rfl, hm⟩ := second t ((flush0_4 t).mp hf)
  show (cfg0.win 4).cut (grid0.coords ⟨n + 1, hn⟩) ((dats m 0 c).after 4 ⟨n + 1, hn⟩) = _
  rw [after0_4, out_eq4 m c n hn hm]
  refine funext fun (y : S1024x512.Idx) => ?_
  obtain ⟨a, b, rfl⟩ : ∃ (a : Fin 1024) (b : Fin 512), y = ix2 a b := ⟨y 0, y 1, eq_ix2 y⟩
  refine (pay4 _ _ _ _ _ a b).trans ((staged m c n hn hm a b).trans ?_)
  show _ = grad (A0 m c) (A1 m c) (A2 m c) (A3 m c) (((cfg0.win 4).blk ⟨n + 1, hn⟩).view.emb (ix2 a b))
  rw [emb4]

theorem final4 (c : Dev nD) : (dats m 0 c).arrAt 4 cfg0.N = grad (A0 m c) (A1 m c) (A2 m c) (A3 m c) :=
  (dats m 0 c).arrAt_eq_of_cover 4 _ (flushed_eq4 m c) fun i =>
    let ⟨t, a, b, h, e⟩ := inside i
    ⟨t, (flush0_4 t).mpr h, Finset.mem_map.2 ⟨ix2 a b, Finset.mem_univ _, (emb4 t a b).trans e⟩⟩

/-- What a second point writes back is its block of the gradient. -/
theorem flushed_eq5 (c : Dev nD) (t : Fin cfg0.N) (hf : (cfg0.win 5).flush t = true) :
    (dats m 0 c).flushed 5 t = (win0_5.blk t).view.read (Elt Ideal) (grad (A0 m c) (A1 m c) (A2 m c) (A3 m c)) := by
  obtain ⟨n, hn, rfl, hm⟩ := second t ((flush0_5 t).mp hf)
  show (cfg0.win 5).cut (grid0.coords ⟨n + 1, hn⟩) ((dats m 0 c).after 5 ⟨n + 1, hn⟩) = _
  rw [after0_5, out_eq5 m c n hn hm]
  refine funext fun (y : S1024x512.Idx) => ?_
  obtain ⟨a, b, rfl⟩ : ∃ (a : Fin 1024) (b : Fin 512), y = ix2 a b := ⟨y 0, y 1, eq_ix2 y⟩
  refine (pay5 _ _ _ _ _ a b).trans ((staged m c n hn hm a b).trans ?_)
  show _ = grad (A0 m c) (A1 m c) (A2 m c) (A3 m c) (((cfg0.win 5).blk ⟨n + 1, hn⟩).view.emb (ix2 a b))
  rw [emb5]

theorem final5 (c : Dev nD) : (dats m 0 c).arrAt 5 cfg0.N = grad (A0 m c) (A1 m c) (A2 m c) (A3 m c) :=
  (dats m 0 c).arrAt_eq_of_cover 5 _ (flushed_eq5 m c) fun i =>
    let ⟨t, a, b, h, e⟩ := inside i
    ⟨t, (flush0_5 t).mpr h, Finset.mem_map.2 ⟨ix2 a b, Finset.mem_univ _, (emb5 t a b).trans e⟩⟩

/-- The run: both results at the gradient, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = grad (A0 m c) (A1 m c) (A2 m c) (A3 m c)
      ∧ r.2.mem ((c : Thread nD τ).loc main_v0_1) = grad (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Points

/-- Over the numbers: half the derivative of a square, over the width, is the difference over the width. -/
theorem slope_eq (p z v : EReal) : Ideal.div (Ideal.ofBits .f32 0x3F000000#32 * Ideal.ofBits .f32 0x3F800000#32) (Ideal.ofBits .f32 0x45000000#32)
    * (Ideal.ofBits .f32 0x40000000#32 * (z + p - v)) = slope p z v := by
  have h1 : Ideal.ofBits .f32 0x3F000000#32 = ((1 / 2 : ℝ) : EReal) := by simp [Ideal.ofBits, Ideal.ieee, -EReal.coe_mul]; norm_num
  have h2 : Ideal.ofBits .f32 0x3F800000#32 = ((1 : ℝ) : EReal) := by simp [Ideal.ofBits, Ideal.ieee, -EReal.coe_mul]; norm_num
  have h3 : Ideal.ofBits .f32 0x45000000#32 = ((2048 : ℝ) : EReal) := by simp [Ideal.ofBits, Ideal.ieee, -EReal.coe_mul]; norm_num
  have h4 : Ideal.ofBits .f32 0x40000000#32 = ((2 : ℝ) : EReal) := by simp [Ideal.ofBits, Ideal.ieee, -EReal.coe_mul]; norm_num
  have h5 : Ideal.ofBits .f32 0x3A000000#32 = ((1 / 2048 : ℝ) : EReal) := by simp [Ideal.ofBits, Ideal.ieee, -EReal.coe_mul]; norm_num
  have h6 : Ideal.div (((1 / 2 : ℝ) : EReal) * ((1 : ℝ) : EReal)) ((2048 : ℝ) : EReal) = ((1 / 4096 : ℝ) : EReal) := by
    rw [← EReal.coe_mul, Ideal.div_coe (by norm_num), ← EReal.coe_mul]
    norm_num
  unfold slope
  rw [h1, h2, h3, h4, h5, h6, ← mul_assoc, ← EReal.coe_mul, add_comm z p, mul_comm]
  norm_num

/-- The reference: `jax.grad` of reference.py's loss at the sum of the earlier array and the product. -/
theorem ref_eq (x : FVec Ideal S4096x8192 .bf16) (y : FVec Ideal S8192x2048 .bf16) (z v : FVec Ideal S4096x2048 .f32) :
    (mulf (broadcastInDim Cert.LossReferenceIdeal.S4096x2048 ![0] Cert.LossReferenceIdeal.Facts₀.bcast_S4096_S4096x2048_0 (Host.divf (broadcastInDim Cert.LossReferenceIdeal.S4096 ![] Cert.LossReferenceIdeal.Facts₀.bcast_S_S4096 (mulf (constant Cert.LossReferenceIdeal.S_ .f32 0x3F000000#32) (constant Cert.LossReferenceIdeal.S_ .f32 0x3F800000#32))) (broadcastInDim Cert.LossReferenceIdeal.S4096 ![] Cert.LossReferenceIdeal.Facts₀.bcast_S_S4096 (constant Cert.LossReferenceIdeal.S_ .f32 0x45000000#32)))) (mulf (broadcastInDim Cert.LossReferenceIdeal.S4096x2048 ![] Cert.LossReferenceIdeal.Facts₀.bcast_S_S4096x2048 (constant Cert.LossReferenceIdeal.S_ .f32 0x40000000#32)) (subf (addf z (Host.dotGeneral Cert.LossReferenceIdeal.dot_S4096x8192_S8192x2048_S4096x2048_1_0_0_1_n_n none (extf .f32 x Cert.LossReferenceIdeal.Facts₀.bitsLt_bf16_f32) (extf .f32 y Cert.LossReferenceIdeal.Facts₀.bitsLt_bf16_f32))) v)) : FVec Ideal S4096x2048 .f32) = grad x y z v := by
  refine funext fun i => ?_
  obtain ⟨a, b, rfl⟩ : ∃ (a : Fin 4096) (b : Fin 2048), i = ix2 a b := ⟨i 0, i 1, eq_ix2 i⟩
  refine Eq.trans ?_ (slope_eq _ _ _)
  pointwise

/-- Kernel and reference compute the same. -/
theorem algebraic : Cert.algebraic_LossKernelIdeal_LossReferenceIdeal := by
  intro m g m' g' _ hin
  refine ⟨fun c => grad (A0 m c) (A1 m c) (A2 m c) (A3 m c), fun c => grad (A0 m c) (A1 m c) (A2 m c) (A3 m c), run m g, ?_⟩
  refine (θ_run Cert.LossReferenceIdeal.defs _ _).mono (fun r h c => ⟨(h c).1.trans ?_, (h c).2.1.trans ?_, (h c).2.2⟩) (Cert.LossReferenceIdeal.Value.run m' g')
  · rw [(hin c).1, (hin c).2.1, (hin c).2.2.1, (hin c).2.2.2]
    exact ref_eq _ _ _ _
  · rw [(hin c).1, (hin c).2.1, (hin c).2.2.1, (hin c).2.2.2]
    exact ref_eq _ _ _ _

/-- The reference's frame. -/
theorem frame_ref : Cert.quiescent_LossReferenceIdeal := fun m ρ _ =>
  (θ_run Cert.LossReferenceIdeal.defs _ _).mono (fun r h => ⟨fun c => (h c).2.2, Idealize.ShloMosaic.sem_eq_zero_of_no_sems (by decide) r.2⟩)
    (Cert.LossReferenceIdeal.Value.run m ρ)

end Cert.LossKernelIdeal.Prod

end
-- ==== Proof.ProjValue.lean ====
/- What `proj` computes: the projection of the normalised input, `h · wᵀ`. -/
module

public import proofs.«01_k».proof.Defs
public import proofs.«01_k».proof.Proof.Gen.ProjKernelIdeal.Value
public import proofs.«01_k».proof.Proof.Gen.ProjReferenceIdeal.Run
public import proofs.«01_k».proof.Proof.TnSum
public import Idealize.ShloMosaic.Lib.Pipeline.Value
public import Idealize.ShloMosaic.Lib.Pointwise

@[expose] public section

set_option maxRecDepth 16384

noncomputable section

namespace Cert.ProjKernelIdeal.Prod

open Cert.ProjKernelIdeal Cert.ProjKernelIdeal.Gen Idealize.ShloMosaic Idealize.ShloMosaic.TcCoe Idealize.SL.Sem
open Idealize.ShloMosaic.Pipeline (Dat)
open Cert.Products (zero2)

variable (m : (ℓ : Loc nD τ sig) → Buf (Elt Ideal) ℓ)

abbrev A0 (c : Dev nD) : S4096x2048.Idx → EReal := m ((c : Thread nD τ).loc main_arg0)
abbrev A1 (c : Dev nD) : S13312x2048.Idx → EReal := m ((c : Thread nD τ).loc main_arg1)

/-- The block of each window at point `t`. -/
theorem idx : ∀ t : Fin grid0.N,
    (win0_0.index t 0 = t.val / 26 ∧ win0_0.index t 1 = 0) ∧ (win0_1.index t 0 = t.val % 26 ∧ win0_1.index t 1 = 0)
    ∧ (win0_2.index t 0 = t.val / 26 ∧ win0_2.index t 1 = t.val % 26) := by decide +kernel

theorem lt (t : Fin grid0.N) : t.val < 52 := lt_of_lt_of_eq t.isLt (by decide +kernel)

def row (t : Fin grid0.N) (a : Fin 2048) : Fin 4096 := ⟨t.val / 26 * 2048 + a.val, by have := lt t; omega⟩
def col (t : Fin grid0.N) (b : Fin 512) : Fin 13312 := ⟨t.val % 26 * 512 + b.val, by omega⟩

theorem blk0 (c : Dev nD) (t : Fin cfg0.N) (a : Fin 2048) (k : Fin 2048) : iblk m c 0 t (ix2 a k) = A0 m c (ix2 (row t a) k) := by
  show A0 m c (((cfg0.win 0).blk t).view.emb (ix2 a k)) = _
  refine congrArg _ (funext fun x => Fin.ext ?_)
  match x with
  | ⟨0, _⟩ => show win0_0.index t 0 * 2048 + 1 * a.val = t.val / 26 * 2048 + a.val; rw [(idx t).1.1]; omega
  | ⟨1, _⟩ => show win0_0.index t 1 * 2048 + 1 * k.val = k.val; rw [(idx t).1.2]; omega

theorem blk1 (c : Dev nD) (t : Fin cfg0.N) (b : Fin 512) (k : Fin 2048) : iblk m c 1 t (ix2 b k) = A1 m c (ix2 (col t b) k) := by
  show A1 m c (((cfg0.win 1).blk t).view.emb (ix2 b k)) = _
  refine congrArg _ (funext fun x => Fin.ext ?_)
  match x with
  | ⟨0, _⟩ => show win0_1.index t 0 * 512 + 1 * b.val = t.val % 26 * 512 + b.val; rw [(idx t).2.1.1]; omega
  | ⟨1, _⟩ => show win0_1.index t 1 * 2048 + 1 * k.val = k.val; rw [(idx t).2.1.2]; omega

theorem inside (i : S4096x13312.Idx) : ∃ (t : Fin grid0.N) (a : Fin 2048) (b : Fin 512), (ix2 (row t a) (col t b) : S4096x13312.Idx) = i := by
  have h0 : (i 0).val < 4096 := (i 0).isLt
  have h1 : (i 1).val < 13312 := (i 1).isLt
  have hN : grid0.N = 52 := by decide +kernel
  obtain ⟨t, ht⟩ : ∃ t : Fin grid0.N, t.val = (i 0).val / 2048 * 26 + (i 1).val / 512 := ⟨⟨(i 0).val / 2048 * 26 + (i 1).val / 512, by omega⟩, rfl⟩
  refine ⟨t, ⟨(i 0).val % 2048, by omega⟩, ⟨(i 1).val % 512, by omega⟩, funext fun x => Fin.ext ?_⟩
  match x with
  | ⟨0, _⟩ => show t.val / 26 * 2048 + (i 0).val % 2048 = (i 0).val; omega
  | ⟨1, _⟩ => show t.val % 26 * 512 + (i 1).val % 512 = (i 1).val; omega

/-- The product as an array. -/
def prod (x : S4096x2048.Idx → EReal) (w : S13312x2048.Idx → EReal) : S4096x13312.Idx → EReal :=
  fun i => ∑ k : Fin 2048, x (ix2 (i 0) k) * w (ix2 (i 1) k)

theorem emb2 (t : Fin cfg0.N) (a : Fin 2048) (b : Fin 512) : ((cfg0.win 2).blk t).view.emb (ix2 a b) = (ix2 (row t a) (col t b) : S4096x13312.Idx) := by
  refine funext fun x => Fin.ext ?_
  match x with
  | ⟨0, _⟩ => show win0_2.index t 0 * 2048 + 1 * a.val = t.val / 26 * 2048 + a.val; rw [(idx t).2.2.1]; omega
  | ⟨1, _⟩ => show win0_2.index t 1 * 512 + 1 * b.val = t.val % 26 * 512 + b.val; rw [(idx t).2.2.2]; omega

/-- What one point stores, at an index of its block. -/
theorem pay2 (x : FVec Ideal S2048x2048 .bf16) (w : FVec Ideal S512x2048 .bf16) (a : Fin 2048) (b : Fin 512) :
    k0_pay1 x w (ix2 a b) = ∑ k : Fin 2048, x (ix2 a k) * w (ix2 b k) := by
  pointwise [k0_pay1]

/-- What point `t` writes back is block `t` of the array. -/
theorem flushed_eq2 (c : Dev nD) (t : Fin cfg0.N) : (dats m 0 c).flushed 2 t = (win0_2.blk t).view.read (Elt Ideal) (prod (A0 m c) (A1 m c)) := by
  rw [Value.flushed2]
  unfold out0_2
  rw [View.canon_unit_zero zero2, View.ld_unit_zero zero2, View.ld_unit_zero zero2]
  refine funext fun (y : S2048x512.Idx) => ?_
  obtain ⟨a, b, rfl⟩ : ∃ (a : Fin 2048) (b : Fin 512), y = ix2 a b := ⟨y 0, y 1, eq_ix2 y⟩
  refine (pay2 _ _ a b).trans ?_
  show _ = prod (A0 m c) (A1 m c) (((cfg0.win 2).blk t).view.emb (ix2 a b))
  rw [emb2]
  exact (Finset.sum_congr rfl fun k _ => congrArg₂ (fun p q : EReal => p * q) (blk0 m c t a k) (blk1 m c t b k))

theorem final2 (c : Dev nD) : (dats m 0 c).arrAt 2 cfg0.N = prod (A0 m c) (A1 m c) :=
  (dats m 0 c).arrAt_eq_of_cover 2 _ (fun t _ => flushed_eq2 m c t) fun i =>
    let ⟨t, a, b, e⟩ := inside i
    ⟨t, flush0_2 _, Finset.mem_map.2 ⟨ix2 a b, Finset.mem_univ _, (emb2 t a b).trans e⟩⟩

/-- The reference: the product of reference.py. -/
theorem ref_eq (x : FVec Ideal S4096x2048 .bf16) (w : FVec Ideal S13312x2048 .bf16) :
    (truncf .bf16 (Host.dotGeneral Cert.ProjReferenceIdeal.dot_S4096x2048_S2048x13312_S4096x13312_1_0_0_1_n_n none (extf .f32 x Cert.ProjReferenceIdeal.Facts₀.bitsLt_bf16_f32) (extf .f32 (transpose Cert.ProjReferenceIdeal.S2048x13312 [1, 0] w Cert.ProjReferenceIdeal.Facts₀.transposes_S13312x2048_S2048x13312_1_0) Cert.ProjReferenceIdeal.Facts₀.bitsLt_bf16_f32)) Cert.ProjReferenceIdeal.Facts₀.bitsLt_bf16_f32 : FVec Ideal S4096x13312 .bf16) = prod x w := by
  refine funext fun i => ?_
  obtain ⟨a, b, rfl⟩ : ∃ (a : Fin 4096) (b : Fin 13312), i = ix2 a b := ⟨i 0, i 1, eq_ix2 i⟩
  pointwise [prod]

/-- Kernel and reference compute the same. -/
theorem algebraic : Cert.algebraic_ProjKernelIdeal_ProjReferenceIdeal := by
  intro m g m' g' _ hin
  refine ⟨fun c => prod (A0 m c) (A1 m c), ?_, ?_⟩
  · exact (θ_run Cert.ProjKernelIdeal.defs _ _).mono (fun r h c => ⟨(h c).1.trans (final2 m c), (h c).2⟩) (Value.run_blocks m g)
  · refine (θ_run Cert.ProjReferenceIdeal.defs _ _).mono (fun r h c => ⟨(h c).1.trans ?_, (h c).2⟩) (Cert.ProjReferenceIdeal.Value.run m' g')
    rw [(hin c).1, (hin c).2]
    exact ref_eq _ _

/-- The reference's frame. -/
theorem frame_ref : Cert.quiescent_ProjReferenceIdeal := fun m ρ _ =>
  (θ_run Cert.ProjReferenceIdeal.defs _ _).mono (fun r h => ⟨fun c => (h c).2, Idealize.ShloMosaic.sem_eq_zero_of_no_sems (by decide) r.2⟩)
    (Cert.ProjReferenceIdeal.Value.run m ρ)

end Cert.ProjKernelIdeal.Prod

end
-- ==== Proof.HiddenValue.lean ====
/- What `mlp_up` computes: the hidden units `h2 · w_up` and the square of their positive part. -/
module

public import proofs.«01_k».proof.Defs
public import proofs.«01_k».proof.Proof.Gen.HiddenKernelIdeal.Value
public import proofs.«01_k».proof.Proof.Gen.HiddenReferenceIdeal.Run
public import proofs.«01_k».proof.Proof.TnSum
public import Idealize.ShloMosaic.Lib.Pipeline.Value
public import Idealize.ShloMosaic.Lib.Pointwise

@[expose] public section

set_option maxRecDepth 16384

noncomputable section

namespace Cert.HiddenKernelIdeal.Prod

open Cert.HiddenKernelIdeal Cert.HiddenKernelIdeal.Gen Idealize.ShloMosaic Idealize.ShloMosaic.TcCoe Idealize.SL.Sem
open Idealize.ShloMosaic.Pipeline (Dat)
open Cert.Products (zero2)

variable (m : (ℓ : Loc nD τ sig) → Buf (Elt Ideal) ℓ)

abbrev A0 (c : Dev nD) : S4096x2048.Idx → EReal := m ((c : Thread nD τ).loc main_arg0)
abbrev A1 (c : Dev nD) : S2048x8192.Idx → EReal := m ((c : Thread nD τ).loc main_arg1)

/-- The block of each window at point `t`. -/
theorem idx : ∀ t : Fin grid0.N,
    (win0_0.index t 0 = t.val / 16 ∧ win0_0.index t 1 = 0) ∧ (win0_1.index t 0 = 0 ∧ win0_1.index t 1 = t.val % 16)
    ∧ (win0_2.index t 0 = t.val / 16 ∧ win0_2.index t 1 = t.val % 16)
    ∧ (win0_3.index t 0 = t.val / 16 ∧ win0_3.index t 1 = t.val % 16) := by decide +kernel

theorem lt (t : Fin grid0.N) : t.val < 64 := lt_of_lt_of_eq t.isLt (by decide +kernel)

def row (t : Fin grid0.N) (a : Fin 1024) : Fin 4096 := ⟨t.val / 16 * 1024 + a.val, by have := lt t; omega⟩
def col (t : Fin grid0.N) (b : Fin 512) : Fin 8192 := ⟨t.val % 16 * 512 + b.val, by omega⟩

theorem blk0 (c : Dev nD) (t : Fin cfg0.N) (a : Fin 1024) (k : Fin 2048) : iblk m c 0 t (ix2 a k) = A0 m c (ix2 (row t a) k) := by
  show A0 m c (((cfg0.win 0).blk t).view.emb (ix2 a k)) = _
  refine congrArg _ (funext fun x => Fin.ext ?_)
  match x with
  | ⟨0, _⟩ => show win0_0.index t 0 * 1024 + 1 * a.val = t.val / 16 * 1024 + a.val; rw [(idx t).1.1]; omega
  | ⟨1, _⟩ => show win0_0.index t 1 * 2048 + 1 * k.val = k.val; rw [(idx t).1.2]; omega

theorem blk1 (c : Dev nD) (t : Fin cfg0.N) (b : Fin 512) (k : Fin 2048) : iblk m c 1 t (ix2 k b) = A1 m c (ix2 k (col t b)) := by
  show A1 m c (((cfg0.win 1).blk t).view.emb (ix2 k b)) = _
  refine congrArg _ (funext fun x => Fin.ext ?_)
  match x with
  | ⟨0, _⟩ => show win0_1.index t 0 * 2048 + 1 * k.val = k.val; rw [(idx t).2.1.1]; omega
  | ⟨1, _⟩ => show win0_1.index t 1 * 512 + 1 * b.val = t.val % 16 * 512 + b.val; rw [(idx t).2.1.2]; omega

theorem inside (i : S4096x8192.Idx) : ∃ (t : Fin grid0.N) (a : Fin 1024) (b : Fin 512), (ix2 (row t a) (col t b) : S4096x8192.Idx) = i := by
  have h0 : (i 0).val < 4096 := (i 0).isLt
  have h1 : (i 1).val < 8192 := (i 1).isLt
  have hN : grid0.N = 64 := by decide +kernel
  obtain ⟨t, ht⟩ : ∃ t : Fin grid0.N, t.val = (i 0).val / 1024 * 16 + (i 1).val / 512 := ⟨⟨(i 0).val / 1024 * 16 + (i 1).val / 512, by omega⟩, rfl⟩
  refine ⟨t, ⟨(i 0).val % 1024, by omega⟩, ⟨(i 1).val % 512, by omega⟩, funext fun x => Fin.ext ?_⟩
  match x with
  | ⟨0, _⟩ => show t.val / 16 * 1024 + (i 0).val % 1024 = (i 0).val; omega
  | ⟨1, _⟩ => show t.val % 16 * 512 + (i 1).val % 512 = (i 1).val; omega

/-- The product as an array. -/
def prod (x : S4096x2048.Idx → EReal) (w : S2048x8192.Idx → EReal) : S4096x8192.Idx → EReal :=
  fun i => ∑ k : Fin 2048, x (ix2 (i 0) k) * w (ix2 k (i 1))

theorem emb2 (t : Fin cfg0.N) (a : Fin 1024) (b : Fin 512) : ((cfg0.win 2).blk t).view.emb (ix2 a b) = (ix2 (row t a) (col t b) : S4096x8192.Idx) := by
  refine funext fun x => Fin.ext ?_
  match x with
  | ⟨0, _⟩ => show win0_2.index t 0 * 1024 + 1 * a.val = t.val / 16 * 1024 + a.val; rw [(idx t).2.2.1.1]; omega
  | ⟨1, _⟩ => show win0_2.index t 1 * 512 + 1 * b.val = t.val % 16 * 512 + b.val; rw [(idx t).2.2.1.2]; omega

/-- What one point stores first, at an index of its block. -/
theorem pay2 (x : FVec Ideal S1024x2048 .bf16) (w : FVec Ideal S2048x512 .bf16) (a : Fin 1024) (b : Fin 512) :
    k0_pay2 x w (ix2 a b) = ∑ k : Fin 2048, x (ix2 a k) * w (ix2 k b) := by
  pointwise [k0_pay2, k0_pay1]

/-- What point `t` writes back is block `t` of the array. -/
theorem flushed_eq2 (c : Dev nD) (t : Fin cfg0.N) : (dats m 0 c).flushed 2 t = (win0_2.blk t).view.read (Elt Ideal) (prod (A0 m c) (A1 m c)) := by
  rw [Value.flushed2]
  unfold out0_2
  rw [View.canon_unit_zero zero2, View.ld_unit_zero zero2, View.ld_unit_zero zero2]
  refine funext fun (y : S1024x512.Idx) => ?_
  obtain ⟨a, b, rfl⟩ : ∃ (a : Fin 1024) (b : Fin 512), y = ix2 a b := ⟨y 0, y 1, eq_ix2 y⟩
  refine (pay2 _ _ a b).trans ?_
  show _ = prod (A0 m c) (A1 m c) (((cfg0.win 2).blk t).view.emb (ix2 a b))
  rw [emb2]
  exact (Finset.sum_congr rfl fun k _ => congrArg₂ (fun p q : EReal => p * q) (blk0 m c t a k) (blk1 m c t b k))

theorem final2 (c : Dev nD) : (dats m 0 c).arrAt 2 cfg0.N = prod (A0 m c) (A1 m c) :=
  (dats m 0 c).arrAt_eq_of_cover 2 _ (fun t _ => flushed_eq2 m c t) fun i =>
    let ⟨t, a, b, e⟩ := inside i
    ⟨t, flush0_2 _, Finset.mem_map.2 ⟨ix2 a b, Finset.mem_univ _, (emb2 t a b).trans e⟩⟩

/-- The square of a number's positive part. -/
def act (u : EReal) : EReal := max u 0 * max u 0

/-- The squared rectifier of the product, as an array. -/
def squared (x : S4096x2048.Idx → EReal) (w : S2048x8192.Idx → EReal) : S4096x8192.Idx → EReal := fun i => act (prod x w i)

theorem emb3 (t : Fin cfg0.N) (a : Fin 1024) (b : Fin 512) : ((cfg0.win 3).blk t).view.emb (ix2 a b) = (ix2 (row t a) (col t b) : S4096x8192.Idx) := by
  refine funext fun x => Fin.ext ?_
  match x with
  | ⟨0, _⟩ => show win0_3.index t 0 * 1024 + 1 * a.val = t.val / 16 * 1024 + a.val; rw [(idx t).2.2.2.1]; omega
  | ⟨1, _⟩ => show win0_3.index t 1 * 512 + 1 * b.val = t.val % 16 * 512 + b.val; rw [(idx t).2.2.2.2]; omega

/-- What one point stores second, at an index of its block. -/
theorem pay3 (x : FVec Ideal S1024x2048 .bf16) (w : FVec Ideal S2048x512 .bf16) (a : Fin 1024) (b : Fin 512) :
    (k0_pay3 (F := Ideal) x w (ix2 a b) : EReal) = act (∑ k : Fin 2048, (x (ix2 a k) * w (ix2 k b) : EReal)) := by
  pointwise [k0_pay3, k0_pay1, act]

/-- What point `t` writes back is block `t` of the array. -/
theorem flushed_eq3 (c : Dev nD) (t : Fin cfg0.N) : (dats m 0 c).flushed 3 t = (win0_3.blk t).view.read (Elt Ideal) (squared (A0 m c) (A1 m c)) := by
  rw [Value.flushed3]
  unfold out0_3
  rw [View.canon_unit_zero zero2, View.ld_unit_zero zero2, View.ld_unit_zero zero2]
  refine funext fun (y : S1024x512.Idx) => ?_
  obtain ⟨a, b, rfl⟩ : ∃ (a : Fin 1024) (b : Fin 512), y = ix2 a b := ⟨y 0, y 1, eq_ix2 y⟩
  refine (pay3 _ _ a b).trans ?_
  show _ = squared (A0 m c) (A1 m c) (((cfg0.win 3).blk t).view.emb (ix2 a b))
  rw [emb3]
  exact congrArg act (Finset.sum_congr rfl fun k _ => congrArg₂ (fun p q : EReal => p * q) (blk0 m c t a k) (blk1 m c t b k))

theorem final3 (c : Dev nD) : (dats m 0 c).arrAt 3 cfg0.N = squared (A0 m c) (A1 m c) :=
  (dats m 0 c).arrAt_eq_of_cover 3 _ (fun t _ => flushed_eq3 m c t) fun i =>
    let ⟨t, a, b, e⟩ := inside i
    ⟨t, flush0_3 _, Finset.mem_map.2 ⟨ix2 a b, Finset.mem_univ _, (emb3 t a b).trans e⟩⟩

/-- The reference's hidden units. -/
theorem ref_up (x : FVec Ideal S4096x2048 .bf16) (w : FVec Ideal S2048x8192 .bf16) :
    (truncf .bf16 (Host.dotGeneral Cert.HiddenReferenceIdeal.dot_S4096x2048_S2048x8192_S4096x8192_1_0_0_1_n_n none (extf .f32 x Cert.HiddenReferenceIdeal.Facts₀.bitsLt_bf16_f32) (extf .f32 w Cert.HiddenReferenceIdeal.Facts₀.bitsLt_bf16_f32)) Cert.HiddenReferenceIdeal.Facts₀.bitsLt_bf16_f32 : FVec Ideal S4096x8192 .bf16) = prod x w := by
  refine funext fun i => ?_
  obtain ⟨a, b, rfl⟩ : ∃ (a : Fin 4096) (b : Fin 8192), i = ix2 a b := ⟨i 0, i 1, eq_ix2 i⟩
  pointwise [prod]

/-- The reference's squared rectifier of them. -/
theorem ref_act (x : FVec Ideal S4096x2048 .bf16) (w : FVec Ideal S2048x8192 .bf16) :
    (truncf .bf16 (mulf (maximumf (Host.dotGeneral Cert.HiddenReferenceIdeal.dot_S4096x2048_S2048x8192_S4096x8192_1_0_0_1_n_n none (extf .f32 x Cert.HiddenReferenceIdeal.Facts₀.bitsLt_bf16_f32) (extf .f32 w Cert.HiddenReferenceIdeal.Facts₀.bitsLt_bf16_f32)) (broadcastInDim Cert.HiddenReferenceIdeal.S4096x8192 ![] Cert.HiddenReferenceIdeal.Facts₀.bcast_S_S4096x8192 (constant Cert.HiddenReferenceIdeal.S_ .f32 0x00000000#32))) (maximumf (Host.dotGeneral Cert.HiddenReferenceIdeal.dot_S4096x2048_S2048x8192_S4096x8192_1_0_0_1_n_n none (extf .f32 x Cert.HiddenReferenceIdeal.Facts₀.bitsLt_bf16_f32) (extf .f32 w Cert.HiddenReferenceIdeal.Facts₀.bitsLt_bf16_f32)) (broadcastInDim Cert.HiddenReferenceIdeal.S4096x8192 ![] Cert.HiddenReferenceIdeal.Facts₀.bcast_S_S4096x8192 (constant Cert.HiddenReferenceIdeal.S_ .f32 0x00000000#32)))) Cert.HiddenReferenceIdeal.Facts₀.bitsLt_bf16_f32 : FVec Ideal S4096x8192 .bf16) = squared x w := by
  refine funext fun i => ?_
  obtain ⟨a, b, rfl⟩ : ∃ (a : Fin 4096) (b : Fin 8192), i = ix2 a b := ⟨i 0, i 1, eq_ix2 i⟩
  pointwise [squared, act, prod]

/-- Kernel and reference compute the same. -/
theorem algebraic : Cert.algebraic_HiddenKernelIdeal_HiddenReferenceIdeal := by
  intro m g m' g' _ hin
  refine ⟨fun c => (prod (A0 m c) (A1 m c)), fun c => squared (A0 m c) (A1 m c), ?_, ?_⟩
  · exact (θ_run Cert.HiddenKernelIdeal.defs _ _).mono (fun r h c => ⟨(h c).1.trans (final2 m c), (h c).2.1.trans (final3 m c), (h c).2.2⟩) (Value.run_blocks m g)
  · refine (θ_run Cert.HiddenReferenceIdeal.defs _ _).mono (fun r h c => ⟨(h c).1.trans ?_, (h c).2.1.trans ?_, (h c).2.2⟩) (Cert.HiddenReferenceIdeal.Value.run m' g')
    · rw [(hin c).1, (hin c).2]
      exact ref_up _ _
    · rw [(hin c).1, (hin c).2]
      exact ref_act _ _

/-- The reference's frame. -/
theorem frame_ref : Cert.quiescent_HiddenReferenceIdeal := fun m ρ _ =>
  (θ_run Cert.HiddenReferenceIdeal.defs _ _).mono (fun r h => ⟨fun c => (h c).2.2, Idealize.ShloMosaic.sem_eq_zero_of_no_sems (by decide) r.2⟩)
    (Cert.HiddenReferenceIdeal.Value.run m ρ)

end Cert.HiddenKernelIdeal.Prod

end
-- ==== Proof.BranchValue.lean ====
/- What `d_w_branch` computes: the gradient of one branch's output weight, `yᵀ · do`, cut into the eight owners' stretches of columns. -/
module

public import proofs.«01_k».proof.Defs
public import proofs.«01_k».proof.Proof.Gen.BranchKernelIdeal.Value
public import proofs.«01_k».proof.Proof.Gen.BranchReferenceIdeal.Run
public import proofs.«01_k».proof.Proof.TnSum
public import Idealize.ShloMosaic.Lib.Pipeline.Value
public import Idealize.ShloMosaic.Lib.Pointwise

@[expose] public section

set_option maxRecDepth 16384

noncomputable section

namespace Cert.BranchKernelIdeal.Prod

open Cert.BranchKernelIdeal Cert.BranchKernelIdeal.Gen Idealize.ShloMosaic Idealize.ShloMosaic.TcCoe Idealize.SL.Sem
open Idealize.ShloMosaic.Pipeline (Dat)
open Cert.Products (tnSum)

variable (m : (ℓ : Loc nD τ sig) → Buf (Elt Ideal) ℓ)

abbrev A0 (c : Dev nD) : S4096x1024.Idx → EReal := m ((c : Thread nD τ).loc main_arg0)
abbrev A1 (c : Dev nD) : S4096x2048.Idx → EReal := m ((c : Thread nD τ).loc main_arg1)

/-- The block of each window at point `t`. -/
theorem idx : ∀ t : Fin grid0.N,
    (win0_0.index t 0 = 0 ∧ win0_0.index t 1 = t.val / 8) ∧ (win0_1.index t 0 = 0 ∧ win0_1.index t 1 = t.val % 8)
    ∧ (win0_2.index t 0 = t.val % 8 ∧ win0_2.index t 1 = t.val / 8 ∧ win0_2.index t 2 = 0) := by decide +kernel

theorem lt (t : Fin grid0.N) : t.val < 16 := lt_of_lt_of_eq t.isLt (by decide +kernel)

def row (t : Fin grid0.N) (a : Fin 512) : Fin 1024 := ⟨t.val / 8 * 512 + a.val, by have := lt t; omega⟩
def col (t : Fin grid0.N) (b : Fin 256) : Fin 2048 := ⟨t.val % 8 * 256 + b.val, by have := lt t; omega⟩

theorem blk0 (c : Dev nD) (t : Fin cfg0.N) (k : Fin 4096) (a : Fin 512) : iblk m c 0 t (ix2 k a) = A0 m c (ix2 k (row t a)) := by
  show A0 m c (((cfg0.win 0).blk t).view.emb (ix2 k a)) = _
  refine congrArg _ (funext fun x => Fin.ext ?_)
  match x with
  | ⟨0, _⟩ => show win0_0.index t 0 * 4096 + 1 * k.val = k.val; rw [(idx t).1.1]; omega
  | ⟨1, _⟩ => show win0_0.index t 1 * 512 + 1 * a.val = t.val / 8 * 512 + a.val; rw [(idx t).1.2]; omega

theorem blk1 (c : Dev nD) (t : Fin cfg0.N) (k : Fin 4096) (b : Fin 256) : iblk m c 1 t (ix2 k b) = A1 m c (ix2 k (col t b)) := by
  show A1 m c (((cfg0.win 1).blk t).view.emb (ix2 k b)) = _
  refine congrArg _ (funext fun x => Fin.ext ?_)
  match x with
  | ⟨0, _⟩ => show win0_1.index t 0 * 4096 + 1 * k.val = k.val; rw [(idx t).2.1.1]; omega
  | ⟨1, _⟩ => show win0_1.index t 1 * 256 + 1 * b.val = t.val % 8 * 256 + b.val; rw [(idx t).2.1.2]; omega

/-- The column of the whole gradient at an owner's column. -/
def whole (o : Fin 8) (b : Fin 256) : Fin 2048 := ⟨o.val * 256 + b.val, by omega⟩

def owner (t : Fin grid0.N) : Fin 8 := ⟨t.val % 8, by omega⟩

theorem emb2 (t : Fin cfg0.N) (a : Fin 512) (b : Fin 256) :
    ((cfg0.win 2).blk t).view.emb (ix3 (0 : Fin 1) a b) = (ix3 (owner t) (row t a) b : S8x1024x256.Idx) := by
  refine funext fun x => Fin.ext ?_
  match x with
  | ⟨0, _⟩ => show win0_2.index t 0 * 1 + 1 * 0 = t.val % 8; rw [(idx t).2.2.1]; omega
  | ⟨1, _⟩ => show win0_2.index t 1 * 512 + 1 * a.val = t.val / 8 * 512 + a.val; rw [(idx t).2.2.2.1]; omega
  | ⟨2, _⟩ => show win0_2.index t 2 * 256 + 1 * b.val = b.val; rw [(idx t).2.2.2.2]; omega

/-- What one point stores, at an index of its block. -/
theorem pay (x : FVec Ideal S4096x512 .bf16) (y : FVec Ideal S4096x256 .bf16) (a : Fin 512) (b : Fin 256) :
    k0_pay1 x y (ix3 (0 : Fin 1) a b) = ∑ k : Fin 4096, x (ix2 k a) * y (ix2 k b) := by
  pointwise [k0_pay1]

/-- The gradient as an array. -/
def grad (x : S4096x1024.Idx → EReal) (y : S4096x2048.Idx → EReal) : S8x1024x256.Idx → EReal := fun i => tnSum x y (i 1) (whole (i 0) (i 2))

/-- What point `t` writes back is block `t` of the gradient. -/
theorem flushed_eq (c : Dev nD) (t : Fin cfg0.N) :
    (dats m 0 c).flushed 2 t = (win0_2.blk t).view.read (Elt Ideal) (grad (A0 m c) (A1 m c)) := by
  rw [Value.flushed2]
  unfold out0_2
  rw [View.canon_unit_zero Cert.Products.zero3, View.ld_unit_zero Cert.Products.zero2, View.ld_unit_zero Cert.Products.zero2]
  refine funext fun (y : S1x512x256.Idx) => ?_
  obtain ⟨z, a, b, rfl⟩ : ∃ (z : Fin 1) (a : Fin 512) (b : Fin 256), y = ix3 z a b := ⟨y 0, y 1, y 2, eq_ix3 y⟩
  obtain rfl : z = 0 := Subsingleton.elim _ _
  refine (pay _ _ a b).trans ?_
  show _ = grad (A0 m c) (A1 m c) (((cfg0.win 2).blk t).view.emb (ix3 (0 : Fin 1) a b))
  rw [emb2]
  exact Finset.sum_congr rfl fun k _ => congrArg₂ (fun p q : EReal => p * q) (blk0 m c t k a) (blk1 m c t k b)

theorem cover (i : S8x1024x256.Idx) : ∃ t : Fin cfg0.N, (cfg0.win 2).flush t = true ∧ i ∈ ((cfg0.win 2).blk t).view.set := by
  have h0 : (i 0).val < 8 := (i 0).isLt
  have h1 : (i 1).val < 1024 := (i 1).isLt
  have hN : grid0.N = 16 := by decide +kernel
  obtain ⟨t, ht⟩ : ∃ t : Fin grid0.N, t.val = (i 1).val / 512 * 8 + (i 0).val := ⟨⟨(i 1).val / 512 * 8 + (i 0).val, by omega⟩, rfl⟩
  refine ⟨t, flush0_2 _, Finset.mem_map.2 ⟨ix3 (0 : Fin 1) (⟨(i 1).val % 512, by omega⟩ : Fin 512) (i 2),
    Finset.mem_univ _, (emb2 t _ _).trans (funext fun x => Fin.ext ?_)⟩⟩
  match x with
  | ⟨0, _⟩ => show t.val % 8 = (i 0).val; omega
  | ⟨1, _⟩ => show t.val / 8 * 512 + (i 1).val % 512 = (i 1).val; omega
  | ⟨2, _⟩ => rfl

theorem final (c : Dev nD) : (dats m 0 c).arrAt 2 cfg0.N = grad (A0 m c) (A1 m c) :=
  (dats m 0 c).arrAt_eq_of_cover 2 _ (fun t _ => flushed_eq m c t) cover

/-- The reference: `jax.vjp` of the product in its weight, at the cotangent. -/
theorem ref_eq (x : FVec Ideal S4096x1024 .bf16) (y : FVec Ideal S4096x2048 .bf16) :
    (transpose Cert.BranchReferenceIdeal.S8x1024x256 [1, 0, 2] (shapeCast Cert.BranchReferenceIdeal.S1024x8x256 (truncf .bf16 (transpose Cert.BranchReferenceIdeal.S1024x2048 [1, 0] (Host.dotGeneral Cert.BranchReferenceIdeal.dot_S4096x2048_S4096x1024_S2048x1024_0_0_1_1_n_n none (extf .f32 y Cert.BranchReferenceIdeal.Facts₀.bitsLt_bf16_f32) (extf .f32 x Cert.BranchReferenceIdeal.Facts₀.bitsLt_bf16_f32)) Cert.BranchReferenceIdeal.Facts₀.transposes_S2048x1024_S1024x2048_1_0) Cert.BranchReferenceIdeal.Facts₀.bitsLt_bf16_f32) Cert.BranchReferenceIdeal.Facts₀.shapeCasts_S1024x2048_S1024x8x256) Cert.BranchReferenceIdeal.Facts₀.transposes_S1024x8x256_S8x1024x256_1_0_2 : FVec Ideal S8x1024x256 .bf16) = grad x y := by
  refine funext fun i => ?_
  obtain ⟨o, a, b, rfl⟩ : ∃ (o : Fin 8) (a : Fin 1024) (b : Fin 256), i = ix3 o a b := ⟨i 0, i 1, i 2, eq_ix3 i⟩
  pointwise [grad, tnSum]
  exact Finset.sum_congr rfl fun k _ => mul_comm _ _

/-- Kernel and reference compute the same. -/
theorem algebraic : Cert.algebraic_BranchKernelIdeal_BranchReferenceIdeal := by
  intro m g m' g' _ hin
  refine ⟨fun c => grad (A0 m c) (A1 m c), ?_, ?_⟩
  · exact (θ_run Cert.BranchKernelIdeal.defs _ _).mono (fun r h c => ⟨(h c).1.trans (final m c), (h c).2⟩) (Value.run_blocks m g)
  · refine (θ_run Cert.BranchReferenceIdeal.defs _ _).mono (fun r h c => ⟨(h c).1.trans ?_, (h c).2⟩) (Cert.BranchReferenceIdeal.Value.run m' g')
    rw [(hin c).1, (hin c).2]
    exact ref_eq _ _

/-- The reference's frame. -/
theorem frame_ref : Cert.quiescent_BranchReferenceIdeal := fun m ρ _ =>
  (θ_run Cert.BranchReferenceIdeal.defs _ _).mono (fun r h => ⟨fun c => (h c).2, Idealize.ShloMosaic.sem_eq_zero_of_no_sems (by decide) r.2⟩)
    (Cert.BranchReferenceIdeal.Value.run m ρ)

end Cert.BranchKernelIdeal.Prod

end
-- ==== Proof.H2Value.lean ====
/- What `d_h2` computes: the gradient in the input of the first feed-forward product, `dup · w_upᵀ`, summed over four stretches of the hidden units. -/
module

public import proofs.«01_k».proof.Defs
public import proofs.«01_k».proof.Proof.Gen.H2KernelIdeal.Frame
public import proofs.«01_k».proof.Proof.Gen.H2ReferenceIdeal.Run
public import proofs.«01_k».proof.Proof.TnSum
public import proofs.«01_k».proof.Proof.Stretches
public import Idealize.ShloMosaic.Lib.Pipeline.Value
public import Idealize.ShloMosaic.Lib.Pointwise

@[expose] public section

set_option maxRecDepth 16384

noncomputable section

namespace Cert.H2KernelIdeal.Prod

open Cert.H2KernelIdeal Cert.H2KernelIdeal.Gen Idealize.ShloMosaic Idealize.ShloMosaic.TcCoe Idealize.SL.Sem
open Idealize.ShloMosaic.Pipeline (Dat)
open Cert.Products (zero2)

section Cases

variable {F : FTy → Type} [FloatOps F]
variable (c : Dev nD) (i : grid0.Coords) (a3 : Memref sig .tc .vmem S2048x2048 .bf16) (h3 : a3.IsWhole) (a4 : Memref sig .tc .vmem S512x2048 .bf16) (h4 : a4.IsWhole) (a5 : Memref sig .tc .vmem S2048x512 .f32) (h5 : a5.IsWhole) (a6 : Memref sig .tc .vmem S2048x512 .f32) (h6 : a6.IsWhole)

/-- The first of four points leaves its own product in the accumulator. -/
theorem out_A (hc0 : cond0_0 i) (hc1 : ¬cond0_1 i) (hc2 : ¬cond0_2 i) (x : Vec F S2048x2048 .bf16) (y : Vec F S512x2048 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero zero2]
  unfold k0_pay2
  simp only [View.readAt_eq_ld, h3.read_unread, h4.read_unread, View.ld_unit_zero (S := S2048x2048) zero2, View.ld_unit_zero (S := S512x2048) zero2, shapeCast_self]

/-- The second and the third add their product to it. -/
theorem out_B (hc0 : ¬cond0_0 i) (hc1 : cond0_1 i) (hc2 : ¬cond0_2 i) (x : Vec F S2048x2048 .bf16) (y : Vec F S512x2048 .bf16) (s : Vec F S2048x512 .f32) :
    sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  rw [View.canon_unit_zero zero2]
  unfold k0_pay3
  simp only [View.readAt_eq_ld, h3.read_unread, h4.read_unread, h6.read_unread, View.ld_unit_zero (S := S2048x2048) zero2, View.ld_unit_zero (S := S512x2048) zero2, View.ld_unit_zero (S := S2048x512) zero2, shapeCast_self]

/-- The fourth stores the whole sum. -/
theorem out_C (hc0 : ¬cond0_0 i) (hc1 : ¬cond0_1 i) (hc2 : cond0_2 i) (x : Vec F S2048x2048 .bf16) (y : Vec F S512x2048 .bf16) (s : Vec F S2048x512 .f32) :
    out0_C_2 c i a3 h3 a4 h4 a5 h5 a6 h6 hc0 hc1 hc2 x y s = addf s (k0_pay1 x y) := by
  unfold out0_C_2
  rw [View.read_writes_eq_canon _ _ _ (cover0_C_2 c i a3 h3 a4 h4 a5 h5 a6 h6 hc0 hc1 hc2 x y s)]
  unfold kernelRun0_C
  dsimp only
  rw [View.canon_unit_zero zero2]
  unfold k0_pay4
  simp only [View.readAt_eq_ld, h3.read_unread, h4.read_unread, h6.read_unread, View.ld_unit_zero (S := S2048x2048) zero2, View.ld_unit_zero (S := S512x2048) zero2, View.ld_unit_zero (S := S2048x512) zero2]

end Cases

section Points

variable (m : (ℓ : Loc nD τ sig) → Buf (Elt Ideal) ℓ)

/-- The sum of two blocks, entry by entry. -/
abbrev plus (p q : FVec Ideal S2048x512 .f32) : FVec Ideal S2048x512 .f32 := addf p q

/-- The product of the blocks of point `t`. -/
def part (c : Dev nD) (t : Fin cfg0.N) : FVec Ideal S2048x512 .f32 := k0_pay1 (iblk m c 0 t) (iblk m c 1 t)

theorem at_eq (c : Dev nD) {n k : Nat} (hn : n < cfg0.N) (hk : k < cfg0.N) (e : k = n) : outsAt0 m c k hk = outsAt0 m c n hn := by
  subst e; rfl

theorem acc_A (c : Dev nD) (n : Nat) (hn : n < cfg0.N) (h : n % 4 = 0) : (outsAt0 m c n hn).2 = part m c ⟨n, hn⟩ := by
  have e := congrArg Prod.snd (outsAt0_A m c ⟨n, hn⟩ h (by dsimp only; omega) (by dsimp only; omega))
  dsimp only at e
  rw [out_A] at e
  exact e

theorem acc_B (c : Dev nD) (n : Nat) (hn : n + 1 < cfg0.N) (h : n % 4 ≤ 1) :
    (outsAt0 m c (n + 1) hn).2 = plus (outsAt0 m c n (by omega)).2 (part m c ⟨n + 1, hn⟩) := by
  have e := congrArg Prod.snd (outsAt0_B m c ⟨n + 1, hn⟩ (by dsimp only; omega) (by dsimp only; omega) (by dsimp only; omega))
  rw [at_eq m c (n := n) (by omega) _ (Nat.add_sub_cancel n 1)] at e
  dsimp only at e
  rw [out_B] at e
  exact e

theorem acc_C (c : Dev nD) (n : Nat) (hn : n + 1 < cfg0.N) (h : n % 4 = 2) :
    (outsAt0 m c (n + 1) hn).1 = plus (outsAt0 m c n (by omega)).2 (part m c ⟨n + 1, hn⟩) := by
  have e := congrArg Prod.fst (outsAt0_C m c ⟨n + 1, hn⟩ (by dsimp only; omega) (by dsimp only; omega) (by dsimp only; omega))
  rw [at_eq m c (n := n) (by omega) _ (Nat.add_sub_cancel n 1)] at e
  dsimp only at e
  rw [out_C] at e
  exact e

/-- After a fourth point the staged block is the sum of four products, first to last. -/
theorem out_eq (c : Dev nD) (n : Nat) (h : n + 3 < cfg0.N) (hn : n % 4 = 0) :
    (outsAt0 m c (n + 3) h).1 = plus (plus (plus (part m c ⟨n, by omega⟩) (part m c ⟨n + 1, by omega⟩)) (part m c ⟨n + 2, by omega⟩)) (part m c ⟨n + 3, h⟩) := by
  rw [acc_C m c (n + 2) h (by omega), acc_B m c (n + 1) (by omega) (by omega), acc_B m c n (by omega) (by omega), acc_A m c n (by omega) hn]

abbrev A0 (c : Dev nD) : S4096x8192.Idx → EReal := m ((c : Thread nD τ).loc main_arg0)
abbrev A1 (c : Dev nD) : S2048x8192.Idx → EReal := m ((c : Thread nD τ).loc main_arg1)

/-- The block of each window at point `t`. -/
theorem idx : ∀ t : Fin grid0.N,
    (win0_0.index t 0 = t.val / 16 ∧ win0_0.index t 1 = t.val % 4) ∧ (win0_1.index t 0 = t.val / 4 % 4 ∧ win0_1.index t 1 = t.val % 4)
    ∧ (win0_2.index t 0 = t.val / 16 ∧ win0_2.index t 1 = t.val / 4 % 4) := by decide +kernel

theorem lt (t : Fin grid0.N) : t.val < 32 := lt_of_lt_of_eq t.isLt (by decide +kernel)

def row (t : Fin grid0.N) (a : Fin 2048) : Fin 4096 := ⟨t.val / 16 * 2048 + a.val, by have := lt t; omega⟩
def col (t : Fin grid0.N) (b : Fin 512) : Fin 2048 := ⟨t.val / 4 % 4 * 512 + b.val, by omega⟩
def mid (t : Fin grid0.N) (k : Fin 2048) : Fin 8192 := ⟨t.val % 4 * 2048 + k.val, by omega⟩

theorem blk0 (c : Dev nD) (t : Fin cfg0.N) (a : Fin 2048) (k : Fin 2048) : iblk m c 0 t (ix2 a k) = A0 m c (ix2 (row t a) (mid t k)) := by
  show A0 m c (((cfg0.win 0).blk t).view.emb (ix2 a k)) = _
  refine congrArg _ (funext fun x => Fin.ext ?_)
  match x with
  | ⟨0, _⟩ => show win0_0.index t 0 * 2048 + 1 * a.val = t.val / 16 * 2048 + a.val; rw [(idx t).1.1]; omega
  | ⟨1, _⟩ => show win0_0.index t 1 * 2048 + 1 * k.val = t.val % 4 * 2048 + k.val; rw [(idx t).1.2]; omega

theorem blk1 (c : Dev nD) (t : Fin cfg0.N) (b : Fin 512) (k : Fin 2048) : iblk m c 1 t (ix2 b k) = A1 m c (ix2 (col t b) (mid t k)) := by
  show A1 m c (((cfg0.win 1).blk t).view.emb (ix2 b k)) = _
  refine congrArg _ (funext fun x => Fin.ext ?_)
  match x with
  | ⟨0, _⟩ => show win0_1.index t 0 * 512 + 1 * b.val = t.val / 4 % 4 * 512 + b.val; rw [(idx t).2.1.1]; omega
  | ⟨1, _⟩ => show win0_1.index t 1 * 2048 + 1 * k.val = t.val % 4 * 2048 + k.val; rw [(idx t).2.1.2]; omega

theorem embO (t : Fin cfg0.N) (a : Fin 2048) (b : Fin 512) : ((cfg0.win 2).blk t).view.emb (ix2 a b) = (ix2 (row t a) (col t b) : S4096x2048.Idx) := by
  refine funext fun x => Fin.ext ?_
  match x with
  | ⟨0, _⟩ => show win0_2.index t 0 * 2048 + 1 * a.val = t.val / 16 * 2048 + a.val; rw [(idx t).2.2.1]; omega
  | ⟨1, _⟩ => show win0_2.index t 1 * 512 + 1 * b.val = t.val / 4 % 4 * 512 + b.val; rw [(idx t).2.2.2]; omega

/-- One product, at an index of its block. -/
theorem pay (x : FVec Ideal S2048x2048 .bf16) (y : FVec Ideal S512x2048 .bf16) (a : Fin 2048) (b : Fin 512) :
    (k0_pay1 (F := Ideal) x y (ix2 a b) : EReal) = ∑ k : Fin 2048, (x (ix2 a k) * y (ix2 b k) : EReal) := by
  pointwise [k0_pay1]

/-- The summands of one entry of the result. -/
def term (c : Dev nD) (r : Fin 4096) (n : Fin 2048) (k : Fin 8192) : EReal := A0 m c (ix2 r k) * A1 m c (ix2 n k)

theorem part_apply (c : Dev nD) (t : Fin cfg0.N) (a : Fin 2048) (b : Fin 512) :
    part m c t (ix2 a b) = ∑ k : Fin 2048, term m c (row t a) (col t b) (mid t k) :=
  (pay _ _ a b).trans (Finset.sum_congr rfl fun k _ => congrArg₂ (fun p q : EReal => p * q) (blk0 m c t a k) (blk1 m c t b k))

/-- The four parts of a block are the stretches of the whole sum. -/
theorem four (c : Dev nD) (n : Nat) (h : n + 3 < cfg0.N) (hn : n % 4 = 0) (a : Fin 2048) (b : Fin 512) :
    plus (plus (plus (part m c ⟨n, by omega⟩) (part m c ⟨n + 1, by omega⟩)) (part m c ⟨n + 2, by omega⟩)) (part m c ⟨n + 3, h⟩) (ix2 a b)
      = ∑ k : Fin 8192, term m c (row ⟨n + 3, h⟩ a) (col ⟨n + 3, h⟩ b) k := by
  have step (s : Fin 4) (hs : n + s.val < cfg0.N) : part m c ⟨n + s.val, hs⟩ (ix2 a b)
      = ∑ q : Fin 2048, term m c (row ⟨n + 3, h⟩ a) (col ⟨n + 3, h⟩ b) ⟨s.val * 2048 + q.val, by omega⟩ := by
    rw [part_apply]
    have e1 : row ⟨n + s.val, hs⟩ a = row ⟨n + 3, h⟩ a := Fin.ext (by show (n + s.val) / 16 * 2048 + a.val = (n + 3) / 16 * 2048 + a.val; omega)
    have e2 : col ⟨n + s.val, hs⟩ b = col ⟨n + 3, h⟩ b := Fin.ext (by show (n + s.val) / 4 % 4 * 512 + b.val = (n + 3) / 4 % 4 * 512 + b.val; omega)
    rw [e1, e2]
    exact Finset.sum_congr rfl fun k _ => congrArg _ (Fin.ext (by show (n + s.val) % 4 * 2048 + k.val = s.val * 2048 + k.val; omega))
  refine Eq.trans ?_ (Cert.Products.sum_four 2048 (term m c (row ⟨n + 3, h⟩ a) (col ⟨n + 3, h⟩ b))).symm
  show part m c ⟨n, _⟩ (ix2 a b) + part m c ⟨n + 1, _⟩ (ix2 a b) + part m c ⟨n + 2, _⟩ (ix2 a b) + part m c ⟨n + 3, _⟩ (ix2 a b) = _
  exact congrArg₂ (fun p q : EReal => p + q) (congrArg₂ (fun p q : EReal => p + q) (congrArg₂ (fun p q : EReal => p + q) (step 0 (by show n + 0 < _; omega)) (step 1 (by show n + 1 < _; omega)))
    (step 2 (by show n + 2 < _; omega))) (step 3 h)

/-- The gradient as an array. -/
def grad (x : S4096x8192.Idx → EReal) (y : S2048x8192.Idx → EReal) : S4096x2048.Idx → EReal :=
  fun i => (∑ k : Fin 8192, x (ix2 (i 0) k) * y (ix2 (i 1) k))

/-- What a fourth point `t` writes back is its block of the gradient. -/
theorem flushed_eq (c : Dev nD) (t : Fin cfg0.N) (hf : (cfg0.win 2).flush t = true) :
    (dats m 0 c).flushed 2 t = (win0_2.blk t).view.read (Elt Ideal) (grad (A0 m c) (A1 m c)) := by
  have h3 : t.val % 4 = 3 := (flush0_2 t).mp hf
  obtain ⟨n, hn, rfl⟩ : ∃ (n : Nat) (hn : n + 3 < cfg0.N), t = ⟨n + 3, hn⟩ := ⟨t.val - 3, by have := t.isLt; omega, Fin.ext (by show t.val = t.val - 3 + 3; omega)⟩
  have hm : n % 4 = 0 := by dsimp only at h3; omega
  show (cfg0.win 2).cut (grid0.coords ⟨n + 3, hn⟩) ((dats m 0 c).after 2 ⟨n + 3, hn⟩) = _
  rw [after0_2, out_eq m c n hn hm]
  refine funext fun (y : S2048x512.Idx) => ?_
  obtain ⟨a, b, rfl⟩ : ∃ (a : Fin 2048) (b : Fin 512), y = ix2 a b := ⟨y 0, y 1, eq_ix2 y⟩
  refine (four m c n hn hm a b).trans ?_
  show _ = grad (A0 m c) (A1 m c) (((cfg0.win 2).blk ⟨n + 3, hn⟩).view.emb (ix2 a b))
  rw [embO]
  rfl

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : grid0.N = 32 := by decide +kernel
  obtain ⟨t, ht⟩ : ∃ t : Fin grid0.N, t.val = (i 0).val / 2048 * 16 + (i 1).val / 512 * 4 + 3 := ⟨⟨(i 0).val / 2048 * 16 + (i 1).val / 512 * 4 + 3, by omega⟩, rfl⟩
  refine ⟨t, (flush0_2 t).mpr (by omega), Finset.mem_map.2 ⟨ix2 (⟨(i 0).val % 2048, by omega⟩ : Fin 2048) (⟨(i 1).val % 512, by omega⟩ : Fin 512),
    Finset.mem_univ _, (embO t _ _).trans (funext fun x => Fin.ext ?_)⟩⟩
  match x with
  | ⟨0, _⟩ => show t.val / 16 * 2048 + (i 0).val % 2048 = (i 0).val; omega
  | ⟨1, _⟩ => show t.val / 4 % 4 * 512 + (i 1).val % 512 = (i 1).val; omega

theorem final (c : Dev nD) : (dats m 0 c).arrAt 2 cfg0.N = grad (A0 m c) (A1 m c) :=
  (dats m 0 c).arrAt_eq_of_cover 2 _ (flushed_eq m c) cover

/-- The run: the result at the gradient, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = grad (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Points

/-- The reference: `jax.vjp` of the product in its input, at the cotangent. -/
theorem ref_eq (x : FVec Ideal S4096x8192 .bf16) (y : FVec Ideal S2048x8192 .bf16) :
    (Host.dotGeneral Cert.H2ReferenceIdeal.dot_S4096x8192_S2048x8192_S4096x2048_1_1_0_0_n_n none (extf .f32 x Cert.H2ReferenceIdeal.Facts₀.bitsLt_bf16_f32) (extf .f32 y Cert.H2ReferenceIdeal.Facts₀.bitsLt_bf16_f32) : FVec Ideal S4096x2048 .f32) = grad x y := by
  refine funext fun i => ?_
  obtain ⟨a, b, rfl⟩ : ∃ (a : Fin 4096) (b : Fin 2048), i = ix2 a b := ⟨i 0, i 1, eq_ix2 i⟩
  pointwise [grad]

/-- Kernel and reference compute the same. -/
theorem algebraic : Cert.algebraic_H2KernelIdeal_H2ReferenceIdeal := by
  intro m g m' g' _ hin
  refine ⟨fun c => grad (A0 m c) (A1 m c), run m g, ?_⟩
  refine (θ_run Cert.H2ReferenceIdeal.defs _ _).mono (fun r h c => ⟨(h c).1.trans ?_, (h c).2⟩) (Cert.H2ReferenceIdeal.Value.run m' g')
  rw [(hin c).1, (hin c).2]
  exact ref_eq _ _

/-- The reference's frame. -/
theorem frame_ref : Cert.quiescent_H2ReferenceIdeal := fun m ρ _ =>
  (θ_run Cert.H2ReferenceIdeal.defs _ _).mono (fun r h => ⟨fun c => (h c).2, Idealize.ShloMosaic.sem_eq_zero_of_no_sems (by decide) r.2⟩)
    (Cert.H2ReferenceIdeal.Value.run m ρ)

end Cert.H2KernelIdeal.Prod

end
-- ==== Proof.HValue.lean ====
/- What `d_h` computes: the gradient in the input of the projection, `dproj · w` summed over four stretches of its columns, added to what came before. -/
module

public import proofs.«01_k».proof.Defs
public import proofs.«01_k».proof.Proof.Gen.HKernelIdeal.Frame
public import proofs.«01_k».proof.Proof.Gen.HReferenceIdeal.Run
public import proofs.«01_k».proof.Proof.TnSum
public import proofs.«01_k».proof.Proof.Stretches
public import Idealize.ShloMosaic.Lib.Pipeline.Value
public import Idealize.ShloMosaic.Lib.Pointwise

@[expose] public section

set_option maxRecDepth 16384

noncomputable section

namespace Cert.HKernelIdeal.Prod

open Cert.HKernelIdeal Cert.HKernelIdeal.Gen Idealize.ShloMosaic Idealize.ShloMosaic.TcCoe Idealize.SL.Sem
open Idealize.ShloMosaic.Pipeline (Dat)
open Cert.Products (zero2)

section Cases

variable {F : FTy → Type} [FloatOps F]
variable (c : Dev nD) (i : grid0.Coords) (a3 : Memref sig .tc .vmem S1024x3328 .bf16) (h3 : a3.IsWhole) (a4 : Memref sig .tc .vmem S3328x512 .bf16) (h4 : a4.IsWhole) (a5 : Memref sig .tc .vmem S1024x512 .f32) (h5 : a5.IsWhole) (a6 : Memref sig .tc .vmem S1024x512 .f32) (h6 : a6.IsWhole) (a7 : Memref sig .tc .vmem S1024x512 .f32) (h7 : a7.IsWhole)

/-- The first of four points leaves its own product in the accumulator. -/
theorem out_A (hc0 : cond0_0 i) (hc1 : ¬cond0_1 i) (hc2 : ¬cond0_2 i) (x : Vec F S1024x3328 .bf16) (y : Vec F S3328x512 .bf16) (z : Vec F S1024x512 .f32) :
    sout0_A_0 c i a3 h3 a4 h4 a5 h5 a6 h6 a7 h7 hc0 hc1 hc2 x y z = k0_pay1 x y := by
  unfold sout0_A_0
  rw [View.read_writes_eq_canon _ _ _ (scover0_A_0 c i a3 h3 a4 h4 a5 h5 a6 h6 a7 h7 hc0 hc1 hc2 x y z)]
  unfold kernelRun0_A
  dsimp only
  rw [View.canon_unit_zero zero2]
  unfold k0_pay2
  simp only [View.readAt_eq_ld, h3.read_unread, h4.read_unread, View.ld_unit_zero (S := S1024x3328) zero2, View.ld_unit_zero (S := S3328x512) zero2, shapeCast_self]

/-- The second and the third add their product to it. -/
theorem out_B (hc0 : ¬cond0_0 i) (hc1 : cond0_1 i) (hc2 : ¬cond0_2 i) (x : Vec F S1024x3328 .bf16) (y : Vec F S3328x512 .bf16) (z : Vec F S1024x512 .f32) (s : Vec F S1024x512 .f32) :
    sout0_B_0 c i a3 h3 a4 h4 a5 h5 a6 h6 a7 h7 hc0 hc1 hc2 x y z s = addf s (k0_pay1 x y) := by
  unfold sout0_B_0
  rw [View.read_writes_eq_canon _ _ _ (scover0_B_0 c i a3 h3 a4 h4 a5 h5 a6 h6 a7 h7 hc0 hc1 hc2 x y z s)]
  unfold kernelRun0_B
  dsimp only
  rw [View.canon_unit_zero zero2]
  unfold k0_pay3
  simp only [View.readAt_eq_ld, h3.read_unread, h4.read_unread, h7.read_unread, View.ld_unit_zero (S := S1024x3328) zero2, View.ld_unit_zero (S := S3328x512) zero2, View.ld_unit_zero (S := S1024x512) zero2, shapeCast_self]

/-- The fourth stores the whole sum with the earlier array added. -/
theorem out_C (hc0 : ¬cond0_0 i) (hc1 : ¬cond0_1 i) (hc2 : cond0_2 i) (x : Vec F S1024x3328 .bf16) (y : Vec F S3328x512 .bf16) (z : Vec F S1024x512 .f32) (s : Vec F S1024x512 .f32) :
    out0_C_3 c i a3 h3 a4 h4 a5 h5 a6 h6 a7 h7 hc0 hc1 hc2 x y z s = addf (addf s (k0_pay1 x y)) z := by
  unfold out0_C_3
  rw [View.read_writes_eq_canon _ _ _ (cover0_C_3 c i a3 h3 a4 h4 a5 h5 a6 h6 a7 h7 hc0 hc1 hc2 x y z s)]
  unfold kernelRun0_C
  dsimp only
  rw [View.canon_unit_zero zero2]
  unfold k0_pay4
  simp only [View.readAt_eq_ld, h3.read_unread, h4.read_unread, h5.read_unread, h7.read_unread, View.ld_unit_zero (S := S1024x3328) zero2, View.ld_unit_zero (S := S3328x512) zero2, View.ld_unit_zero (S := S1024x512) zero2]

end Cases

section Points

variable (m : (ℓ : Loc nD τ sig) → Buf (Elt Ideal) ℓ)

/-- The sum of two blocks, entry by entry. -/
abbrev plus (p q : FVec Ideal S1024x512 .f32) : FVec Ideal S1024x512 .f32 := addf p q

/-- The product of the blocks of point `t`. -/
def part (c : Dev nD) (t : Fin cfg0.N) : FVec Ideal S1024x512 .f32 := k0_pay1 (iblk m c 0 t) (iblk m c 1 t)

theorem at_eq (c : Dev nD) {n k : Nat} (hn : n < cfg0.N) (hk : k < cfg0.N) (e : k = n) : outsAt0 m c k hk = outsAt0 m c n hn := by
  subst e; rfl

theorem acc_A (c : Dev nD) (n : Nat) (hn : n < cfg0.N) (h : n % 4 = 0) : (outsAt0 m c n hn).2 = part m c ⟨n, hn⟩ := by
  have e := congrArg Prod.snd (outsAt0_A m c ⟨n, hn⟩ h (by dsimp only; omega) (by dsimp only; omega))
  dsimp only at e
  rw [out_A] at e
  exact e

theorem acc_B (c : Dev nD) (n : Nat) (hn : n + 1 < cfg0.N) (h : n % 4 ≤ 1) :
    (outsAt0 m c (n + 1) hn).2 = plus (outsAt0 m c n (by omega)).2 (part m c ⟨n + 1, hn⟩) := by
  have e := congrArg Prod.snd (outsAt0_B m c ⟨n + 1, hn⟩ (by dsimp only; omega) (by dsimp only; omega) (by dsimp only; omega))
  rw [at_eq m c (n := n) (by omega) _ (Nat.add_sub_cancel n 1)] at e
  dsimp only at e
  rw [out_B] at e
  exact e

theorem acc_C (c : Dev nD) (n : Nat) (hn : n + 1 < cfg0.N) (h : n % 4 = 2) :
    (outsAt0 m c (n + 1) hn).1 = plus (plus (outsAt0 m c n (by omega)).2 (part m c ⟨n + 1, hn⟩)) (iblk m c 2 ⟨n + 1, hn⟩) := by
  have e := congrArg Prod.fst (outsAt0_C m c ⟨n + 1, hn⟩ (by dsimp only; omega) (by dsimp only; omega) (by dsimp only; omega))
  rw [at_eq m c (n := n) (by omega) _ (Nat.add_sub_cancel n 1)] at e
  dsimp only at e
  rw [out_C] at e
  exact e

/-- After a fourth point the staged block is the sum of four products, first to last. -/
theorem out_eq (c : Dev nD) (n : Nat) (h : n + 3 < cfg0.N) (hn : n % 4 = 0) :
    (outsAt0 m c (n + 3) h).1 = plus (plus (plus (plus (part m c ⟨n, by omega⟩) (part m c ⟨n + 1, by omega⟩)) (part m c ⟨n + 2, by omega⟩)) (part m c ⟨n + 3, h⟩)) (iblk m c 2 ⟨n + 3, h⟩) := by
  rw [acc_C m c (n + 2) h (by omega), acc_B m c (n + 1) (by omega) (by omega), acc_B m c n (by omega) (by omega), acc_A m c n (by omega) hn]

abbrev A0 (c : Dev nD) : S4096x13312.Idx → EReal := m ((c : Thread nD τ).loc main_arg0)
abbrev A1 (c : Dev nD) : S13312x2048.Idx → EReal := m ((c : Thread nD τ).loc main_arg1)
abbrev A2 (c : Dev nD) : S4096x2048.Idx → EReal := m ((c : Thread nD τ).loc main_arg2)

/-- The block of each window at point `t`. -/
theorem idx : ∀ t : Fin grid0.N,
    (win0_0.index t 0 = t.val / 16 ∧ win0_0.index t 1 = t.val % 4) ∧ (win0_1.index t 0 = t.val % 4 ∧ win0_1.index t 1 = t.val / 4 % 4)
    ∧ (win0_3.index t 0 = t.val / 16 ∧ win0_3.index t 1 = t.val / 4 % 4)
    ∧ (win0_2.index t 0 = t.val / 16 ∧ win0_2.index t 1 = t.val / 4 % 4) := by decide +kernel

theorem lt (t : Fin grid0.N) : t.val < 64 := lt_of_lt_of_eq t.isLt (by decide +kernel)

def row (t : Fin grid0.N) (a : Fin 1024) : Fin 4096 := ⟨t.val / 16 * 1024 + a.val, by have := lt t; omega⟩
def col (t : Fin grid0.N) (b : Fin 512) : Fin 2048 := ⟨t.val / 4 % 4 * 512 + b.val, by omega⟩
def mid (t : Fin grid0.N) (k : Fin 3328) : Fin 13312 := ⟨t.val % 4 * 3328 + k.val, by omega⟩

theorem blk0 (c : Dev nD) (t : Fin cfg0.N) (a : Fin 1024) (k : Fin 3328) : iblk m c 0 t (ix2 a k) = A0 m c (ix2 (row t a) (mid t k)) := by
  show A0 m c (((cfg0.win 0).blk t).view.emb (ix2 a k)) = _
  refine congrArg _ (funext fun x => Fin.ext ?_)
  match x with
  | ⟨0, _⟩ => show win0_0.index t 0 * 1024 + 1 * a.val = t.val / 16 * 1024 + a.val; rw [(idx t).1.1]; omega
  | ⟨1, _⟩ => show win0_0.index t 1 * 3328 + 1 * k.val = t.val % 4 * 3328 + k.val; rw [(idx t).1.2]; omega

theorem blk1 (c : Dev nD) (t : Fin cfg0.N) (b : Fin 512) (k : Fin 3328) : iblk m c 1 t (ix2 k b) = A1 m c (ix2 (mid t k) (col t b)) := by
  show A1 m c (((cfg0.win 1).blk t).view.emb (ix2 k b)) = _
  refine congrArg _ (funext fun x => Fin.ext ?_)
  match x with
  | ⟨0, _⟩ => show win0_1.index t 0 * 3328 + 1 * k.val = t.val % 4 * 3328 + k.val; rw [(idx t).2.1.1]; omega
  | ⟨1, _⟩ => show win0_1.index t 1 * 512 + 1 * b.val = t.val / 4 % 4 * 512 + b.val; rw [(idx t).2.1.2]; omega

theorem blk2 (c : Dev nD) (t : Fin cfg0.N) (a : Fin 1024) (b : Fin 512) : iblk m c 2 t (ix2 a b) = A2 m c (ix2 (row t a) (col t b)) := by
  show A2 m c (((cfg0.win 2).blk t).view.emb (ix2 a b)) = _
  refine congrArg _ (funext fun x => Fin.ext ?_)
  match x with
  | ⟨0, _⟩ => show win0_2.index t 0 * 1024 + 1 * a.val = t.val / 16 * 1024 + a.val; rw [(idx t).2.2.2.1]; omega
  | ⟨1, _⟩ => show win0_2.index t 1 * 512 + 1 * b.val = t.val / 4 % 4 * 512 + b.val; rw [(idx t).2.2.2.2]; omega

theorem embO (t : Fin cfg0.N) (a : Fin 1024) (b : Fin 512) : ((cfg0.win 3).blk t).view.emb (ix2 a b) = (ix2 (row t a) (col t b) : S4096x2048.Idx) := by
  refine funext fun x => Fin.ext ?_
  match x with
  | ⟨0, _⟩ => show win0_3.index t 0 * 1024 + 1 * a.val = t.val / 16 * 1024 + a.val; rw [(idx t).2.2.1.1]; omega
  | ⟨1, _⟩ => show win0_3.index t 1 * 512 + 1 * b.val = t.val / 4 % 4 * 512 + b.val; rw [(idx t).2.2.1.2]; omega

/-- One product, at an index of its block. -/
theorem pay (x : FVec Ideal S1024x3328 .bf16) (y : FVec Ideal S3328x512 .bf16) (a : Fin 1024) (b : Fin 512) :
    (k0_pay1 (F := Ideal) x y (ix2 a b) : EReal) = ∑ k : Fin 3328, (x (ix2 a k) * y (ix2 k b) : EReal) := by
  pointwise [k0_pay1]

/-- The summands of one entry of the result. -/
def term (c : Dev nD) (r : Fin 4096) (n : Fin 2048) (k : Fin 13312) : EReal := A0 m c (ix2 r k) * A1 m c (ix2 k n)

theorem part_apply (c : Dev nD) (t : Fin cfg0.N) (a : Fin 1024) (b : Fin 512) :
    part m c t (ix2 a b) = ∑ k : Fin 3328, term m c (row t a) (col t b) (mid t k) :=
  (pay _ _ a b).trans (Finset.sum_congr rfl fun k _ => congrArg₂ (fun p q : EReal => p * q) (blk0 m c t a k) (blk1 m c t b k))

/-- The four parts of a block are the stretches of the whole sum. -/
theorem four (c : Dev nD) (n : Nat) (h : n + 3 < cfg0.N) (hn : n % 4 = 0) (a : Fin 1024) (b : Fin 512) :
    plus (plus (plus (part m c ⟨n, by omega⟩) (part m c ⟨n + 1, by omega⟩)) (part m c ⟨n + 2, by omega⟩)) (part m c ⟨n + 3, h⟩) (ix2 a b)
      = ∑ k : Fin 13312, term m c (row ⟨n + 3, h⟩ a) (col ⟨n + 3, h⟩ b) k := by
  have step (s : Fin 4) (hs : n + s.val < cfg0.N) : part m c ⟨n + s.val, hs⟩ (ix2 a b)
      = ∑ q : Fin 3328, term m c (row ⟨n + 3, h⟩ a) (col ⟨n + 3, h⟩ b) ⟨s.val * 3328 + q.val, by omega⟩ := by
    rw [part_apply]
    have e1 : row ⟨n + s.val, hs⟩ a = row ⟨n + 3, h⟩ a := Fin.ext (by show (n + s.val) / 16 * 1024 + a.val = (n + 3) / 16 * 1024 + a.val; omega)
    have e2 : col ⟨n + s.val, hs⟩ b = col ⟨n + 3, h⟩ b := Fin.ext (by show (n + s.val) / 4 % 4 * 512 + b.val = (n + 3) / 4 % 4 * 512 + b.val; omega)
    rw [e1, e2]
    exact Finset.sum_congr rfl fun k _ => congrArg _ (Fin.ext (by show (n + s.val) % 4 * 3328 + k.val = s.val * 3328 + k.val; omega))
  refine Eq.trans ?_ (Cert.Products.sum_four 3328 (term m c (row ⟨n + 3, h⟩ a) (col ⟨n + 3, h⟩ b))).symm
  show part m c ⟨n, _⟩ (ix2 a b) + part m c ⟨n + 1, _⟩ (ix2 a b) + part m c ⟨n + 2, _⟩ (ix2 a b) + part m c ⟨n + 3, _⟩ (ix2 a b) = _
  exact congrArg₂ (fun p q : EReal => p + q) (congrArg₂ (fun p q : EReal => p + q) (congrArg₂ (fun p q : EReal => p + q) (step 0 (by show n + 0 < _; omega)) (step 1 (by show n + 1 < _; omega)))
    (step 2 (by show n + 2 < _; omega))) (step 3 h)

/-- The gradient as an array. -/
def grad (x : S4096x13312.Idx → EReal) (y : S13312x2048.Idx → EReal) (z : S4096x2048.Idx → EReal) : S4096x2048.Idx → EReal :=
  fun i => (∑ k : Fin 13312, x (ix2 (i 0) k) * y (ix2 k (i 1))) + z i

/-- What a fourth point `t` writes back is its block of the gradient. -/
theorem flushed_eq (c : Dev nD) (t : Fin cfg0.N) (hf : (cfg0.win 3).flush t = true) :
    (dats m 0 c).flushed 3 t = (win0_3.blk t).view.read (Elt Ideal) (grad (A0 m c) (A1 m c) (A2 m c)) := by
  have h3 : t.val % 4 = 3 := (flush0_3 t).mp hf
  obtain ⟨n, hn, rfl⟩ : ∃ (n : Nat) (hn : n + 3 < cfg0.N), t = ⟨n + 3, hn⟩ := ⟨t.val - 3, by have := t.isLt; omega, Fin.ext (by show t.val = t.val - 3 + 3; omega)⟩
  have hm : n % 4 = 0 := by dsimp only at h3; omega
  show (cfg0.win 3).cut (grid0.coords ⟨n + 3, hn⟩) ((dats m 0 c).after 3 ⟨n + 3, hn⟩) = _
  rw [after0_3, out_eq m c n hn hm]
  refine funext fun (y : S1024x512.Idx) => ?_
  obtain ⟨a, b, rfl⟩ : ∃ (a : Fin 1024) (b : Fin 512), y = ix2 a b := ⟨y 0, y 1, eq_ix2 y⟩
  refine (congrArg₂ (fun p q : EReal => p + q) (four m c n hn hm a b) (blk2 m c ⟨n + 3, hn⟩ a b)).trans ?_
  show _ = grad (A0 m c) (A1 m c) (A2 m c) (((cfg0.win 3).blk ⟨n + 3, hn⟩).view.emb (ix2 a b))
  rw [embO]
  rfl

theorem cover (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN : grid0.N = 64 := by decide +kernel
  obtain ⟨t, ht⟩ : ∃ t : Fin grid0.N, t.val = (i 0).val / 1024 * 16 + (i 1).val / 512 * 4 + 3 := ⟨⟨(i 0).val / 1024 * 16 + (i 1).val / 512 * 4 + 3, by omega⟩, rfl⟩
  refine ⟨t, (flush0_3 t).mpr (by omega), Finset.mem_map.2 ⟨ix2 (⟨(i 0).val % 1024, by omega⟩ : Fin 1024) (⟨(i 1).val % 512, by omega⟩ : Fin 512),
    Finset.mem_univ _, (embO t _ _).trans (funext fun x => Fin.ext ?_)⟩⟩
  match x with
  | ⟨0, _⟩ => show t.val / 16 * 1024 + (i 0).val % 1024 = (i 0).val; omega
  | ⟨1, _⟩ => show t.val / 4 % 4 * 512 + (i 1).val % 512 = (i 1).val; omega

theorem final (c : Dev nD) : (dats m 0 c).arrAt 3 cfg0.N = grad (A0 m c) (A1 m c) (A2 m c) :=
  (dats m 0 c).arrAt_eq_of_cover 3 _ (flushed_eq m c) cover

/-- The run: the result at the gradient, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = grad (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Points

/-- The reference: `jax.vjp` of the product in its input, at the cotangent. -/
theorem ref_eq (x : FVec Ideal S4096x13312 .bf16) (y : FVec Ideal S13312x2048 .bf16) (z : FVec Ideal S4096x2048 .f32) :
    (addf (Host.dotGeneral Cert.HReferenceIdeal.dot_S4096x13312_S2048x13312_S4096x2048_1_1_0_0_n_n none (extf .f32 x Cert.HReferenceIdeal.Facts₀.bitsLt_bf16_f32) (extf .f32 (transpose Cert.HReferenceIdeal.S2048x13312 [1, 0] y Cert.HReferenceIdeal.Facts₀.transposes_S13312x2048_S2048x13312_1_0) Cert.HReferenceIdeal.Facts₀.bitsLt_bf16_f32)) z : FVec Ideal S4096x2048 .f32) = grad x y z := by
  refine funext fun i => ?_
  obtain ⟨a, b, rfl⟩ : ∃ (a : Fin 4096) (b : Fin 2048), i = ix2 a b := ⟨i 0, i 1, eq_ix2 i⟩
  pointwise [grad]

/-- Kernel and reference compute the same. -/
theorem algebraic : Cert.algebraic_HKernelIdeal_HReferenceIdeal := by
  intro m g m' g' _ hin
  refine ⟨fun c => grad (A0 m c) (A1 m c) (A2 m c), run m g, ?_⟩
  refine (θ_run Cert.HReferenceIdeal.defs _ _).mono (fun r h c => ⟨(h c).1.trans ?_, (h c).2⟩) (Cert.HReferenceIdeal.Value.run m' g')
  rw [(hin c).1, (hin c).2.1, (hin c).2.2]
  exact ref_eq _ _ _

/-- The reference's frame. -/
theorem frame_ref : Cert.quiescent_HReferenceIdeal := fun m ρ _ =>
  (θ_run Cert.HReferenceIdeal.defs _ _).mono (fun r h => ⟨fun c => (h c).2, Idealize.ShloMosaic.sem_eq_zero_of_no_sems (by decide) r.2⟩)
    (Cert.HReferenceIdeal.Value.run m ρ)

end Cert.HKernelIdeal.Prod

end
-- ==== Proof.DownValue.lean ====
/- What `d_w_down` computes: the gradient of the second feed-forward weight, `actᵀ · dy`. -/
module

public import proofs.«01_k».proof.Defs
public import proofs.«01_k».proof.Proof.Gen.DownKernelIdeal.Value
public import proofs.«01_k».proof.Proof.Gen.DownReferenceIdeal.Run
public import proofs.«01_k».proof.Proof.TnSum
public import Idealize.ShloMosaic.Lib.Pipeline.Value
public import Idealize.ShloMosaic.Lib.Pointwise

@[expose] public section

set_option maxRecDepth 16384

noncomputable section

namespace Cert.DownKernelIdeal.Prod

open Cert.DownKernelIdeal Cert.DownKernelIdeal.Gen Idealize.ShloMosaic Idealize.ShloMosaic.TcCoe Idealize.SL.Sem
open Idealize.ShloMosaic.Pipeline (Dat)
open Cert.Products (tnSum)

variable (m : (ℓ : Loc nD τ sig) → Buf (Elt Ideal) ℓ)

abbrev A0 (c : Dev nD) : S4096x8192.Idx → EReal := m ((c : Thread nD τ).loc main_arg0)
abbrev A1 (c : Dev nD) : S4096x2048.Idx → EReal := m ((c : Thread nD τ).loc main_arg1)

/-- The block of each window at point `t`. -/
theorem idx : ∀ t : Fin grid0.N,
    (win0_0.index t 0 = 0 ∧ win0_0.index t 1 = t.val / 2) ∧ (win0_1.index t 0 = 0 ∧ win0_1.index t 1 = t.val % 2)
    ∧ (win0_2.index t 0 = t.val / 2 ∧ win0_2.index t 1 = t.val % 2) := by decide +kernel

theorem lt (t : Fin grid0.N) : t.val < 32 := lt_of_lt_of_eq t.isLt (by decide +kernel)

def row (t : Fin grid0.N) (a : Fin 512) : Fin 8192 := ⟨t.val / 2 * 512 + a.val, by have := lt t; omega⟩
def col (t : Fin grid0.N) (b : Fin 1024) : Fin 2048 := ⟨t.val % 2 * 1024 + b.val, by have := lt t; omega⟩

theorem blk0 (c : Dev nD) (t : Fin cfg0.N) (k : Fin 4096) (a : Fin 512) : iblk m c 0 t (ix2 k a) = A0 m c (ix2 k (row t a)) := by
  show A0 m c (((cfg0.win 0).blk t).view.emb (ix2 k a)) = _
  refine congrArg _ (funext fun x => Fin.ext ?_)
  match x with
  | ⟨0, _⟩ => show win0_0.index t 0 * 4096 + 1 * k.val = k.val; rw [(idx t).1.1]; omega
  | ⟨1, _⟩ => show win0_0.index t 1 * 512 + 1 * a.val = t.val / 2 * 512 + a.val; rw [(idx t).1.2]; omega

theorem blk1 (c : Dev nD) (t : Fin cfg0.N) (k : Fin 4096) (b : Fin 1024) : iblk m c 1 t (ix2 k b) = A1 m c (ix2 k (col t b)) := by
  show A1 m c (((cfg0.win 1).blk t).view.emb (ix2 k b)) = _
  refine congrArg _ (funext fun x => Fin.ext ?_)
  match x with
  | ⟨0, _⟩ => show win0_1.index t 0 * 4096 + 1 * k.val = k.val; rw [(idx t).2.1.1]; omega
  | ⟨1, _⟩ => show win0_1.index t 1 * 1024 + 1 * b.val = t.val % 2 * 1024 + b.val; rw [(idx t).2.1.2]; omega

theorem emb2 (t : Fin cfg0.N) (a : Fin 512) (b : Fin 1024) : ((cfg0.win 2).blk t).view.emb (ix2 a b) = (ix2 (row t a) (col t b) : S8192x2048.Idx) := by
  refine funext fun x => Fin.ext ?_
  match x with
  | ⟨0, _⟩ => show win0_2.index t 0 * 512 + 1 * a.val = t.val / 2 * 512 + a.val; rw [(idx t).2.2.1]; omega
  | ⟨1, _⟩ => show win0_2.index t 1 * 1024 + 1 * b.val = t.val % 2 * 1024 + b.val; rw [(idx t).2.2.2]; omega

/-- What one point stores, at an index of its block. -/
theorem pay (x : FVec Ideal S4096x512 .bf16) (y : FVec Ideal S4096x1024 .bf16) (a : Fin 512) (b : Fin 1024) :
    k0_pay1 x y (ix2 a b) = ∑ k : Fin 4096, x (ix2 k a) * y (ix2 k b) := by
  pointwise [k0_pay1]

/-- The gradient as an array. -/
def grad (x : S4096x8192.Idx → EReal) (y : S4096x2048.Idx → EReal) : S8192x2048.Idx → EReal := fun i => tnSum x y (i 0) (i 1)

/-- What point `t` writes back is block `t` of the gradient. -/
theorem flushed_eq (c : Dev nD) (t : Fin cfg0.N) :
    (dats m 0 c).flushed 2 t = (win0_2.blk t).view.read (Elt Ideal) (grad (A0 m c) (A1 m c)) := by
  rw [Value.flushed2]
  unfold out0_2
  rw [View.canon_unit_zero Cert.Products.zero2, View.ld_unit_zero Cert.Products.zero2, View.ld_unit_zero Cert.Products.zero2]
  refine funext fun (y : S512x1024.Idx) => ?_
  obtain ⟨a, b, rfl⟩ : ∃ (a : Fin 512) (b : Fin 1024), y = ix2 a b := ⟨y 0, y 1, eq_ix2 y⟩
  refine (pay _ _ a b).trans ?_
  show _ = grad (A0 m c) (A1 m c) (((cfg0.win 2).blk t).view.emb (ix2 a b))
  rw [emb2]
  exact Finset.sum_congr rfl fun k _ => congrArg₂ (fun p q : EReal => p * q) (blk0 m c t k a) (blk1 m c t k b)

theorem cover (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hN : grid0.N = 32 := by decide +kernel
  obtain ⟨t, ht⟩ : ∃ t : Fin grid0.N, t.val = (i 0).val / 512 * 2 + (i 1).val / 1024 := ⟨⟨(i 0).val / 512 * 2 + (i 1).val / 1024, by omega⟩, rfl⟩
  refine ⟨t, flush0_2 _, Finset.mem_map.2 ⟨ix2 (⟨(i 0).val % 512, by omega⟩ : Fin 512) (⟨(i 1).val % 1024, by omega⟩ : Fin 1024),
    Finset.mem_univ _, (emb2 t _ _).trans (funext fun x => Fin.ext ?_)⟩⟩
  match x with
  | ⟨0, _⟩ => show t.val / 2 * 512 + (i 0).val % 512 = (i 0).val; omega
  | ⟨1, _⟩ => show t.val % 2 * 1024 + (i 1).val % 1024 = (i 1).val; omega

theorem final (c : Dev nD) : (dats m 0 c).arrAt 2 cfg0.N = grad (A0 m c) (A1 m c) :=
  (dats m 0 c).arrAt_eq_of_cover 2 _ (fun t _ => flushed_eq m c t) cover

/-- The reference: `jax.vjp` of the product in its weight, at the cotangent. -/
theorem ref_eq (x : FVec Ideal S4096x8192 .bf16) (y : FVec Ideal S4096x2048 .bf16) :
    (truncf .bf16 (transpose Cert.DownReferenceIdeal.S8192x2048 [1, 0] (Host.dotGeneral Cert.DownReferenceIdeal.dot_S4096x2048_S4096x8192_S2048x8192_0_0_1_1_n_n none (extf .f32 y Cert.DownReferenceIdeal.Facts₀.bitsLt_bf16_f32) (extf .f32 x Cert.DownReferenceIdeal.Facts₀.bitsLt_bf16_f32)) Cert.DownReferenceIdeal.Facts₀.transposes_S2048x8192_S8192x2048_1_0) Cert.DownReferenceIdeal.Facts₀.bitsLt_bf16_f32 : FVec Ideal S8192x2048 .bf16) = grad x y := by
  refine funext fun i => ?_
  obtain ⟨a, b, rfl⟩ : ∃ (a : Fin 8192) (b : Fin 2048), i = ix2 a b := ⟨i 0, i 1, eq_ix2 i⟩
  pointwise [grad, tnSum]
  exact Finset.sum_congr rfl fun k _ => mul_comm _ _

/-- Kernel and reference compute the same. -/
theorem algebraic : Cert.algebraic_DownKernelIdeal_DownReferenceIdeal := by
  intro m g m' g' _ hin
  refine ⟨fun c => grad (A0 m c) (A1 m c), ?_, ?_⟩
  · exact (θ_run Cert.DownKernelIdeal.defs _ _).mono (fun r h c => ⟨(h c).1.trans (final m c), (h c).2⟩) (Value.run_blocks m g)
  · refine (θ_run Cert.DownReferenceIdeal.defs _ _).mono (fun r h c => ⟨(h c).1.trans ?_, (h c).2⟩) (Cert.DownReferenceIdeal.Value.run m' g')
    rw [(hin c).1, (hin c).2]
    exact ref_eq _ _

/-- The reference's frame. -/
theorem frame_ref : Cert.quiescent_DownReferenceIdeal := fun m ρ _ =>
  (θ_run Cert.DownReferenceIdeal.defs _ _).mono (fun r h => ⟨fun c => (h c).2, Idealize.ShloMosaic.sem_eq_zero_of_no_sems (by decide) r.2⟩)
    (Cert.DownReferenceIdeal.Value.run m ρ)

end Cert.DownKernelIdeal.Prod

end
-- ==== Proof.UpValue.lean ====
/- What `d_w_up` computes: the gradient of the first feed-forward weight, `h2ᵀ · dup`, cut into the eight owners' stretches of columns. -/
module

public import proofs.«01_k».proof.Defs
public import proofs.«01_k».proof.Proof.Gen.UpKernelIdeal.Value
public import proofs.«01_k».proof.Proof.Gen.UpReferenceIdeal.Run
public import proofs.«01_k».proof.Proof.TnSum
public import Idealize.ShloMosaic.Lib.Pipeline.Value
public import Idealize.ShloMosaic.Lib.Pointwise

@[expose] public section

set_option maxRecDepth 16384

noncomputable section

namespace Cert.UpKernelIdeal.Prod

open Cert.UpKernelIdeal Cert.UpKernelIdeal.Gen Idealize.ShloMosaic Idealize.ShloMosaic.TcCoe Idealize.SL.Sem
open Idealize.ShloMosaic.Pipeline (Dat)
open Cert.Products (tnSum)

variable (m : (ℓ : Loc nD τ sig) → Buf (Elt Ideal) ℓ)

abbrev A0 (c : Dev nD) : S4096x2048.Idx → EReal := m ((c : Thread nD τ).loc main_arg0)
abbrev A1 (c : Dev nD) : S4096x8192.Idx → EReal := m ((c : Thread nD τ).loc main_arg1)

/-- The block of each window at point `t`. -/
theorem idx : ∀ t : Fin grid0.N,
    (win0_0.index t 0 = 0 ∧ win0_0.index t 1 = t.val / 8) ∧ (win0_1.index t 0 = 0 ∧ win0_1.index t 1 = t.val % 8)
    ∧ (win0_2.index t 0 = t.val % 8 ∧ win0_2.index t 1 = t.val / 8 ∧ win0_2.index t 2 = 0) := by decide +kernel

theorem lt (t : Fin grid0.N) : t.val < 32 := lt_of_lt_of_eq t.isLt (by decide +kernel)

def row (t : Fin grid0.N) (a : Fin 512) : Fin 2048 := ⟨t.val / 8 * 512 + a.val, by have := lt t; omega⟩
def col (t : Fin grid0.N) (b : Fin 1024) : Fin 8192 := ⟨t.val % 8 * 1024 + b.val, by have := lt t; omega⟩

theorem blk0 (c : Dev nD) (t : Fin cfg0.N) (k : Fin 4096) (a : Fin 512) : iblk m c 0 t (ix2 k a) = A0 m c (ix2 k (row t a)) := by
  show A0 m c (((cfg0.win 0).blk t).view.emb (ix2 k a)) = _
  refine congrArg _ (funext fun x => Fin.ext ?_)
  match x with
  | ⟨0, _⟩ => show win0_0.index t 0 * 4096 + 1 * k.val = k.val; rw [(idx t).1.1]; omega
  | ⟨1, _⟩ => show win0_0.index t 1 * 512 + 1 * a.val = t.val / 8 * 512 + a.val; rw [(idx t).1.2]; omega

theorem blk1 (c : Dev nD) (t : Fin cfg0.N) (k : Fin 4096) (b : Fin 1024) : iblk m c 1 t (ix2 k b) = A1 m c (ix2 k (col t b)) := by
  show A1 m c (((cfg0.win 1).blk t).view.emb (ix2 k b)) = _
  refine congrArg _ (funext fun x => Fin.ext ?_)
  match x with
  | ⟨0, _⟩ => show win0_1.index t 0 * 4096 + 1 * k.val = k.val; rw [(idx t).2.1.1]; omega
  | ⟨1, _⟩ => show win0_1.index t 1 * 1024 + 1 * b.val = t.val % 8 * 1024 + b.val; rw [(idx t).2.1.2]; omega

/-- The column of the whole gradient at an owner's column. -/
def whole (o : Fin 8) (b : Fin 1024) : Fin 8192 := ⟨o.val * 1024 + b.val, by omega⟩

def owner (t : Fin grid0.N) : Fin 8 := ⟨t.val % 8, by omega⟩

theorem emb2 (t : Fin cfg0.N) (a : Fin 512) (b : Fin 1024) :
    ((cfg0.win 2).blk t).view.emb (ix3 (0 : Fin 1) a b) = (ix3 (owner t) (row t a) b : S8x2048x1024.Idx) := by
  refine funext fun x => Fin.ext ?_
  match x with
  | ⟨0, _⟩ => show win0_2.index t 0 * 1 + 1 * 0 = t.val % 8; rw [(idx t).2.2.1]; omega
  | ⟨1, _⟩ => show win0_2.index t 1 * 512 + 1 * a.val = t.val / 8 * 512 + a.val; rw [(idx t).2.2.2.1]; omega
  | ⟨2, _⟩ => show win0_2.index t 2 * 1024 + 1 * b.val = b.val; rw [(idx t).2.2.2.2]; omega

/-- What one point stores, at an index of its block. -/
theorem pay (x : FVec Ideal S4096x512 .bf16) (y : FVec Ideal S4096x1024 .bf16) (a : Fin 512) (b : Fin 1024) :
    k0_pay1 x y (ix3 (0 : Fin 1) a b) = ∑ k : Fin 4096, x (ix2 k a) * y (ix2 k b) := by
  pointwise [k0_pay1]

/-- The gradient as an array. -/
def grad (x : S4096x2048.Idx → EReal) (y : S4096x8192.Idx → EReal) : S8x2048x1024.Idx → EReal := fun i => tnSum x y (i 1) (whole (i 0) (i 2))

/-- What point `t` writes back is block `t` of the gradient. -/
theorem flushed_eq (c : Dev nD) (t : Fin cfg0.N) :
    (dats m 0 c).flushed 2 t = (win0_2.blk t).view.read (Elt Ideal) (grad (A0 m c) (A1 m c)) := by
  rw [Value.flushed2]
  unfold out0_2
  rw [View.canon_unit_zero Cert.Products.zero3, View.ld_unit_zero Cert.Products.zero2, View.ld_unit_zero Cert.Products.zero2]
  refine funext fun (y : S1x512x1024.Idx) => ?_
  obtain ⟨z, a, b, rfl⟩ : ∃ (z : Fin 1) (a : Fin 512) (b : Fin 1024), y = ix3 z a b := ⟨y 0, y 1, y 2, eq_ix3 y⟩
  obtain rfl : z = 0 := Subsingleton.elim _ _
  refine (pay _ _ a b).trans ?_
  show _ = grad (A0 m c) (A1 m c) (((cfg0.win 2).blk t).view.emb (ix3 (0 : Fin 1) a b))
  rw [emb2]
  exact Finset.sum_congr rfl fun k _ => congrArg₂ (fun p q : EReal => p * q) (blk0 m c t k a) (blk1 m c t k b)

theorem cover (i : S8x2048x1024.Idx) : ∃ t : Fin cfg0.N, (cfg0.win 2).flush t = true ∧ i ∈ ((cfg0.win 2).blk t).view.set := by
  have h0 : (i 0).val < 8 := (i 0).isLt
  have h1 : (i 1).val < 2048 := (i 1).isLt
  have hN : grid0.N = 32 := by decide +kernel
  obtain ⟨t, ht⟩ : ∃ t : Fin grid0.N, t.val = (i 1).val / 512 * 8 + (i 0).val := ⟨⟨(i 1).val / 512 * 8 + (i 0).val, by omega⟩, rfl⟩
  refine ⟨t, flush0_2 _, Finset.mem_map.2 ⟨ix3 (0 : Fin 1) (⟨(i 1).val % 512, by omega⟩ : Fin 512) (i 2),
    Finset.mem_univ _, (emb2 t _ _).trans (funext fun x => Fin.ext ?_)⟩⟩
  match x with
  | ⟨0, _⟩ => show t.val % 8 = (i 0).val; omega
  | ⟨1, _⟩ => show t.val / 8 * 512 + (i 1).val % 512 = (i 1).val; omega
  | ⟨2, _⟩ => rfl

theorem final (c : Dev nD) : (dats m 0 c).arrAt 2 cfg0.N = grad (A0 m c) (A1 m c) :=
  (dats m 0 c).arrAt_eq_of_cover 2 _ (fun t _ => flushed_eq m c t) cover

/-- The reference: `jax.vjp` of the product in its weight, at the cotangent. -/
theorem ref_eq (x : FVec Ideal S4096x2048 .bf16) (y : FVec Ideal S4096x8192 .bf16) :
    (transpose Cert.UpReferenceIdeal.S8x2048x1024 [1, 0, 2] (shapeCast Cert.UpReferenceIdeal.S2048x8x1024 (truncf .bf16 (transpose Cert.UpReferenceIdeal.S2048x8192 [1, 0] (Host.dotGeneral Cert.UpReferenceIdeal.dot_S4096x8192_S4096x2048_S8192x2048_0_0_1_1_n_n none (extf .f32 y Cert.UpReferenceIdeal.Facts₀.bitsLt_bf16_f32) (extf .f32 x Cert.UpReferenceIdeal.Facts₀.bitsLt_bf16_f32)) Cert.UpReferenceIdeal.Facts₀.transposes_S8192x2048_S2048x8192_1_0) Cert.UpReferenceIdeal.Facts₀.bitsLt_bf16_f32) Cert.UpReferenceIdeal.Facts₀.shapeCasts_S2048x8192_S2048x8x1024) Cert.UpReferenceIdeal.Facts₀.transposes_S2048x8x1024_S8x2048x1024_1_0_2 : FVec Ideal S8x2048x1024 .bf16) = grad x y := by
  refine funext fun i => ?_
  obtain ⟨o, a, b, rfl⟩ : ∃ (o : Fin 8) (a : Fin 2048) (b : Fin 1024), i = ix3 o a b := ⟨i 0, i 1, i 2, eq_ix3 i⟩
  pointwise [grad, tnSum]
  exact Finset.sum_congr rfl fun k _ => mul_comm _ _

/-- Kernel and reference compute the same. -/
theorem algebraic : Cert.algebraic_UpKernelIdeal_UpReferenceIdeal := by
  intro m g m' g' _ hin
  refine ⟨fun c => grad (A0 m c) (A1 m c), ?_, ?_⟩
  · exact (θ_run Cert.UpKernelIdeal.defs _ _).mono (fun r h c => ⟨(h c).1.trans (final m c), (h c).2⟩) (Value.run_blocks m g)
  · refine (θ_run Cert.UpReferenceIdeal.defs _ _).mono (fun r h c => ⟨(h c).1.trans ?_, (h c).2⟩) (Cert.UpReferenceIdeal.Value.run m' g')
    rw [(hin c).1, (hin c).2]
    exact ref_eq _ _

/-- The reference's frame. -/
theorem frame_ref : Cert.quiescent_UpReferenceIdeal := fun m ρ _ =>
  (θ_run Cert.UpReferenceIdeal.defs _ _).mono (fun r h => ⟨fun c => (h c).2, Idealize.ShloMosaic.sem_eq_zero_of_no_sems (by decide) r.2⟩)
    (Cert.UpReferenceIdeal.Value.run m ρ)

end Cert.UpKernelIdeal.Prod

end
-- ==== Proof.InValue.lean ====
/- What `d_w_in` computes: the gradient of the input projection's weight, row by column of the projection, `dprojᵀ · h`. -/
module

public import proofs.«01_k».proof.Defs
public import proofs.«01_k».proof.Proof.Gen.InKernelIdeal.Value
public import proofs.«01_k».proof.Proof.Gen.InReferenceIdeal.Run
public import proofs.«01_k».proof.Proof.TnSum
public import Idealize.ShloMosaic.Lib.Pipeline.Value
public import Idealize.ShloMosaic.Lib.Pointwise

@[expose] public section

set_option maxRecDepth 16384

noncomputable section

namespace Cert.InKernelIdeal.Prod

open Cert.InKernelIdeal Cert.InKernelIdeal.Gen Idealize.ShloMosaic Idealize.ShloMosaic.TcCoe Idealize.SL.Sem
open Idealize.ShloMosaic.Pipeline (Dat)
open Cert.Products (tnSum)

variable (m : (ℓ : Loc nD τ sig) → Buf (Elt Ideal) ℓ)

abbrev A0 (c : Dev nD) : S4096x13312.Idx → EReal := m ((c : Thread nD τ).loc main_arg0)
abbrev A1 (c : Dev nD) : S4096x2048.Idx → EReal := m ((c : Thread nD τ).loc main_arg1)

/-- The block of each window at point `t`. -/
theorem idx : ∀ t : Fin grid0.N,
    (win0_0.index t 0 = 0 ∧ win0_0.index t 1 = t.val % 26) ∧ (win0_1.index t 0 = 0 ∧ win0_1.index t 1 = t.val / 26)
    ∧ (win0_2.index t 0 = t.val % 26 ∧ win0_2.index t 1 = t.val / 26) := by decide +kernel

theorem lt (t : Fin grid0.N) : t.val < 52 := lt_of_lt_of_eq t.isLt (by decide +kernel)

def row (t : Fin grid0.N) (a : Fin 512) : Fin 13312 := ⟨t.val % 26 * 512 + a.val, by have := lt t; omega⟩
def col (t : Fin grid0.N) (b : Fin 1024) : Fin 2048 := ⟨t.val / 26 * 1024 + b.val, by have := lt t; omega⟩

theorem blk0 (c : Dev nD) (t : Fin cfg0.N) (k : Fin 4096) (a : Fin 512) : iblk m c 0 t (ix2 k a) = A0 m c (ix2 k (row t a)) := by
  show A0 m c (((cfg0.win 0).blk t).view.emb (ix2 k a)) = _
  refine congrArg _ (funext fun x => Fin.ext ?_)
  match x with
  | ⟨0, _⟩ => show win0_0.index t 0 * 4096 + 1 * k.val = k.val; rw [(idx t).1.1]; omega
  | ⟨1, _⟩ => show win0_0.index t 1 * 512 + 1 * a.val = t.val % 26 * 512 + a.val; rw [(idx t).1.2]; omega

theorem blk1 (c : Dev nD) (t : Fin cfg0.N) (k : Fin 4096) (b : Fin 1024) : iblk m c 1 t (ix2 k b) = A1 m c (ix2 k (col t b)) := by
  show A1 m c (((cfg0.win 1).blk t).view.emb (ix2 k b)) = _
  refine congrArg _ (funext fun x => Fin.ext ?_)
  match x with
  | ⟨0, _⟩ => show win0_1.index t 0 * 4096 + 1 * k.val = k.val; rw [(idx t).2.1.1]; omega
  | ⟨1, _⟩ => show win0_1.index t 1 * 1024 + 1 * b.val = t.val / 26 * 1024 + b.val; rw [(idx t).2.1.2]; omega

theorem emb2 (t : Fin cfg0.N) (a : Fin 512) (b : Fin 1024) : ((cfg0.win 2).blk t).view.emb (ix2 a b) = (ix2 (row t a) (col t b) : S13312x2048.Idx) := by
  refine funext fun x => Fin.ext ?_
  match x with
  | ⟨0, _⟩ => show win0_2.index t 0 * 512 + 1 * a.val = t.val % 26 * 512 + a.val; rw [(idx t).2.2.1]; omega
  | ⟨1, _⟩ => show win0_2.index t 1 * 1024 + 1 * b.val = t.val / 26 * 1024 + b.val; rw [(idx t).2.2.2]; omega

/-- What one point stores, at an index of its block. -/
theorem pay (x : FVec Ideal S4096x512 .bf16) (y : FVec Ideal S4096x1024 .bf16) (a : Fin 512) (b : Fin 1024) :
    k0_pay1 x y (ix2 a b) = ∑ k : Fin 4096, x (ix2 k a) * y (ix2 k b) := by
  pointwise [k0_pay1]

/-- The gradient as an array. -/
def grad (x : S4096x13312.Idx → EReal) (y : S4096x2048.Idx → EReal) : S13312x2048.Idx → EReal := fun i => tnSum x y (i 0) (i 1)

/-- What point `t` writes back is block `t` of the gradient. -/
theorem flushed_eq (c : Dev nD) (t : Fin cfg0.N) :
    (dats m 0 c).flushed 2 t = (win0_2.blk t).view.read (Elt Ideal) (grad (A0 m c) (A1 m c)) := by
  rw [Value.flushed2]
  unfold out0_2
  rw [View.canon_unit_zero Cert.Products.zero2, View.ld_unit_zero Cert.Products.zero2, View.ld_unit_zero Cert.Products.zero2]
  refine funext fun (y : S512x1024.Idx) => ?_
  obtain ⟨a, b, rfl⟩ : ∃ (a : Fin 512) (b : Fin 1024), y = ix2 a b := ⟨y 0, y 1, eq_ix2 y⟩
  refine (pay _ _ a b).trans ?_
  show _ = grad (A0 m c) (A1 m c) (((cfg0.win 2).blk t).view.emb (ix2 a b))
  rw [emb2]
  exact Finset.sum_congr rfl fun k _ => congrArg₂ (fun p q : EReal => p * q) (blk0 m c t k a) (blk1 m c t k b)

theorem cover (i : S13312x2048.Idx) : ∃ t : Fin cfg0.N, (cfg0.win 2).flush t = true ∧ i ∈ ((cfg0.win 2).blk t).view.set := by
  have h0 : (i 0).val < 13312 := (i 0).isLt
  have h1 : (i 1).val < 2048 := (i 1).isLt
  have hN : grid0.N = 52 := by decide +kernel
  obtain ⟨t, ht⟩ : ∃ t : Fin grid0.N, t.val = (i 1).val / 1024 * 26 + (i 0).val / 512 := ⟨⟨(i 1).val / 1024 * 26 + (i 0).val / 512, by omega⟩, rfl⟩
  refine ⟨t, flush0_2 _, Finset.mem_map.2 ⟨ix2 (⟨(i 0).val % 512, by omega⟩ : Fin 512) (⟨(i 1).val % 1024, by omega⟩ : Fin 1024),
    Finset.mem_univ _, (emb2 t _ _).trans (funext fun x => Fin.ext ?_)⟩⟩
  match x with
  | ⟨0, _⟩ => show t.val % 26 * 512 + (i 0).val % 512 = (i 0).val; omega
  | ⟨1, _⟩ => show t.val / 26 * 1024 + (i 1).val % 1024 = (i 1).val; omega

theorem final (c : Dev nD) : (dats m 0 c).arrAt 2 cfg0.N = grad (A0 m c) (A1 m c) :=
  (dats m 0 c).arrAt_eq_of_cover 2 _ (fun t _ => flushed_eq m c t) cover

/-- The reference: `jax.vjp` of the product in its weight, at the cotangent. -/
theorem ref_eq (x : FVec Ideal S4096x13312 .bf16) (y : FVec Ideal S4096x2048 .bf16) :
    (transpose Cert.InReferenceIdeal.S13312x2048 [1, 0] (truncf .bf16 (transpose Cert.InReferenceIdeal.S2048x13312 [1, 0] (Host.dotGeneral Cert.InReferenceIdeal.dot_S4096x13312_S4096x2048_S13312x2048_0_0_1_1_n_n none (extf .f32 x Cert.InReferenceIdeal.Facts₀.bitsLt_bf16_f32) (extf .f32 y Cert.InReferenceIdeal.Facts₀.bitsLt_bf16_f32)) Cert.InReferenceIdeal.Facts₀.transposes_S13312x2048_S2048x13312_1_0) Cert.InReferenceIdeal.Facts₀.bitsLt_bf16_f32) Cert.InReferenceIdeal.Facts₀.transposes_S2048x13312_S13312x2048_1_0 : FVec Ideal S13312x2048 .bf16) = grad x y := by
  refine funext fun i => ?_
  obtain ⟨a, b, rfl⟩ : ∃ (a : Fin 13312) (b : Fin 2048), i = ix2 a b := ⟨i 0, i 1, eq_ix2 i⟩
  pointwise [grad, tnSum]

/-- Kernel and reference compute the same. -/
theorem algebraic : Cert.algebraic_InKernelIdeal_InReferenceIdeal := by
  intro m g m' g' _ hin
  refine ⟨fun c => grad (A0 m c) (A1 m c), ?_, ?_⟩
  · exact (θ_run Cert.InKernelIdeal.defs _ _).mono (fun r h c => ⟨(h c).1.trans (final m c), (h c).2⟩) (Value.run_blocks m g)
  · refine (θ_run Cert.InReferenceIdeal.defs _ _).mono (fun r h c => ⟨(h c).1.trans ?_, (h c).2⟩) (Cert.InReferenceIdeal.Value.run m' g')
    rw [(hin c).1, (hin c).2]
    exact ref_eq _ _

/-- The reference's frame. -/
theorem frame_ref : Cert.quiescent_InReferenceIdeal := fun m ρ _ =>
  (θ_run Cert.InReferenceIdeal.defs _ _).mono (fun r h => ⟨fun c => (h c).2, Idealize.ShloMosaic.sem_eq_zero_of_no_sems (by decide) r.2⟩)
    (Cert.InReferenceIdeal.Value.run m ρ)

end Cert.InKernelIdeal.Prod

end
-- ==== Proof.OutValue.lean ====
/- What `d_w_out` computes: the gradient of the output projection's weight, `mergedᵀ · dx`. -/
module

public import proofs.«01_k».proof.Defs
public import proofs.«01_k».proof.Proof.Gen.OutKernelIdeal.Value
public import proofs.«01_k».proof.Proof.Gen.OutReferenceIdeal.Run
public import proofs.«01_k».proof.Proof.TnSum
public import Idealize.ShloMosaic.Lib.Pipeline.Value
public import Idealize.ShloMosaic.Lib.Pointwise

@[expose] public section

set_option maxRecDepth 16384

noncomputable section

namespace Cert.OutKernelIdeal.Prod

open Cert.OutKernelIdeal Cert.OutKernelIdeal.Gen Idealize.ShloMosaic Idealize.ShloMosaic.TcCoe Idealize.SL.Sem
open Idealize.ShloMosaic.Pipeline (Dat)
open Cert.Products (tnSum)

variable (m : (ℓ : Loc nD τ sig) → Buf (Elt Ideal) ℓ)

abbrev A0 (c : Dev nD) : S4096x2048.Idx → EReal := m ((c : Thread nD τ).loc main_arg0)
abbrev A1 (c : Dev nD) : S4096x2048.Idx → EReal := m ((c : Thread nD τ).loc main_arg1)

/-- The block of each window at point `t`. -/
theorem idx : ∀ t : Fin grid0.N,
    (win0_0.index t 0 = 0 ∧ win0_0.index t 1 = t.val / 2) ∧ (win0_1.index t 0 = 0 ∧ win0_1.index t 1 = t.val % 2)
    ∧ (win0_2.index t 0 = t.val / 2 ∧ win0_2.index t 1 = t.val % 2) := by decide +kernel

theorem lt (t : Fin grid0.N) : t.val < 8 := lt_of_lt_of_eq t.isLt (by decide +kernel)

def row (t : Fin grid0.N) (a : Fin 512) : Fin 2048 := ⟨t.val / 2 * 512 + a.val, by have := lt t; omega⟩
def col (t : Fin grid0.N) (b : Fin 1024) : Fin 2048 := ⟨t.val % 2 * 1024 + b.val, by have := lt t; omega⟩

theorem blk0 (c : Dev nD) (t : Fin cfg0.N) (k : Fin 4096) (a : Fin 512) : iblk m c 0 t (ix2 k a) = A0 m c (ix2 k (row t a)) := by
  show A0 m c (((cfg0.win 0).blk t).view.emb (ix2 k a)) = _
  refine congrArg _ (funext fun x => Fin.ext ?_)
  match x with
  | ⟨0, _⟩ => show win0_0.index t 0 * 4096 + 1 * k.val = k.val; rw [(idx t).1.1]; omega
  | ⟨1, _⟩ => show win0_0.index t 1 * 512 + 1 * a.val = t.val / 2 * 512 + a.val; rw [(idx t).1.2]; omega

theorem blk1 (c : Dev nD) (t : Fin cfg0.N) (k : Fin 4096) (b : Fin 1024) : iblk m c 1 t (ix2 k b) = A1 m c (ix2 k (col t b)) := by
  show A1 m c (((cfg0.win 1).blk t).view.emb (ix2 k b)) = _
  refine congrArg _ (funext fun x => Fin.ext ?_)
  match x with
  | ⟨0, _⟩ => show win0_1.index t 0 * 4096 + 1 * k.val = k.val; rw [(idx t).2.1.1]; omega
  | ⟨1, _⟩ => show win0_1.index t 1 * 1024 + 1 * b.val = t.val % 2 * 1024 + b.val; rw [(idx t).2.1.2]; omega

theorem emb2 (t : Fin cfg0.N) (a : Fin 512) (b : Fin 1024) : ((cfg0.win 2).blk t).view.emb (ix2 a b) = (ix2 (row t a) (col t b) : S2048x2048.Idx) := by
  refine funext fun x => Fin.ext ?_
  match x with
  | ⟨0, _⟩ => show win0_2.index t 0 * 512 + 1 * a.val = t.val / 2 * 512 + a.val; rw [(idx t).2.2.1]; omega
  | ⟨1, _⟩ => show win0_2.index t 1 * 1024 + 1 * b.val = t.val % 2 * 1024 + b.val; rw [(idx t).2.2.2]; omega

/-- What one point stores, at an index of its block. -/
theorem pay (x : FVec Ideal S4096x512 .bf16) (y : FVec Ideal S4096x1024 .bf16) (a : Fin 512) (b : Fin 1024) :
    k0_pay1 x y (ix2 a b) = ∑ k : Fin 4096, x (ix2 k a) * y (ix2 k b) := by
  pointwise [k0_pay1]

/-- The gradient as an array. -/
def grad (x : S4096x2048.Idx → EReal) (y : S4096x2048.Idx → EReal) : S2048x2048.Idx → EReal := fun i => tnSum x y (i 0) (i 1)

/-- What point `t` writes back is block `t` of the gradient. -/
theorem flushed_eq (c : Dev nD) (t : Fin cfg0.N) :
    (dats m 0 c).flushed 2 t = (win0_2.blk t).view.read (Elt Ideal) (grad (A0 m c) (A1 m c)) := by
  rw [Value.flushed2]
  unfold out0_2
  rw [View.canon_unit_zero Cert.Products.zero2, View.ld_unit_zero Cert.Products.zero2, View.ld_unit_zero Cert.Products.zero2]
  refine funext fun (y : S512x1024.Idx) => ?_
  obtain ⟨a, b, rfl⟩ : ∃ (a : Fin 512) (b : Fin 1024), y = ix2 a b := ⟨y 0, y 1, eq_ix2 y⟩
  refine (pay _ _ a b).trans ?_
  show _ = grad (A0 m c) (A1 m c) (((cfg0.win 2).blk t).view.emb (ix2 a b))
  rw [emb2]
  exact Finset.sum_congr rfl fun k _ => congrArg₂ (fun p q : EReal => p * q) (blk0 m c t k a) (blk1 m c t k b)

theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  have hN : grid0.N = 8 := by decide +kernel
  obtain ⟨t, ht⟩ : ∃ t : Fin grid0.N, t.val = (i 0).val / 512 * 2 + (i 1).val / 1024 := ⟨⟨(i 0).val / 512 * 2 + (i 1).val / 1024, by omega⟩, rfl⟩
  refine ⟨t, flush0_2 _, Finset.mem_map.2 ⟨ix2 (⟨(i 0).val % 512, by omega⟩ : Fin 512) (⟨(i 1).val % 1024, by omega⟩ : Fin 1024),
    Finset.mem_univ _, (emb2 t _ _).trans (funext fun x => Fin.ext ?_)⟩⟩
  match x with
  | ⟨0, _⟩ => show t.val / 2 * 512 + (i 0).val % 512 = (i 0).val; omega
  | ⟨1, _⟩ => show t.val % 2 * 1024 + (i 1).val % 1024 = (i 1).val; omega

theorem final (c : Dev nD) : (dats m 0 c).arrAt 2 cfg0.N = grad (A0 m c) (A1 m c) :=
  (dats m 0 c).arrAt_eq_of_cover 2 _ (fun t _ => flushed_eq m c t) cover

/-- The reference: `jax.vjp` of the product in its weight, at the cotangent. -/
theorem ref_eq (x : FVec Ideal S4096x2048 .bf16) (y : FVec Ideal S4096x2048 .bf16) :
    (truncf .bf16 (transpose Cert.OutReferenceIdeal.S2048x2048 [1, 0] (Host.dotGeneral Cert.OutReferenceIdeal.dot_S4096x2048_S4096x2048_S2048x2048_0_0_1_1_n_n none (extf .f32 y Cert.OutReferenceIdeal.Facts₀.bitsLt_bf16_f32) (extf .f32 x Cert.OutReferenceIdeal.Facts₀.bitsLt_bf16_f32)) Cert.OutReferenceIdeal.Facts₀.transposes_S2048x2048_S2048x2048_1_0) Cert.OutReferenceIdeal.Facts₀.bitsLt_bf16_f32 : FVec Ideal S2048x2048 .bf16) = grad x y := by
  refine funext fun i => ?_
  obtain ⟨a, b, rfl⟩ : ∃ (a : Fin 2048) (b : Fin 2048), i = ix2 a b := ⟨i 0, i 1, eq_ix2 i⟩
  pointwise [grad, tnSum]
  exact Finset.sum_congr rfl fun k _ => mul_comm _ _

/-- Kernel and reference compute the same. -/
theorem algebraic : Cert.algebraic_OutKernelIdeal_OutReferenceIdeal := by
  intro m g m' g' _ hin
  refine ⟨fun c => grad (A0 m c) (A1 m c), ?_, ?_⟩
  · exact (θ_run Cert.OutKernelIdeal.defs _ _).mono (fun r h c => ⟨(h c).1.trans (final m c), (h c).2⟩) (Value.run_blocks m g)
  · refine (θ_run Cert.OutReferenceIdeal.defs _ _).mono (fun r h c => ⟨(h c).1.trans ?_, (h c).2⟩) (Cert.OutReferenceIdeal.Value.run m' g')
    rw [(hin c).1, (hin c).2]
    exact ref_eq _ _

/-- The reference's frame. -/
theorem frame_ref : Cert.quiescent_OutReferenceIdeal := fun m ρ _ =>
  (θ_run Cert.OutReferenceIdeal.defs _ _).mono (fun r h => ⟨fun c => (h c).2, Idealize.ShloMosaic.sem_eq_zero_of_no_sems (by decide) r.2⟩)
    (Cert.OutReferenceIdeal.Value.run m ρ)

end Cert.OutKernelIdeal.Prod

end
-- ==== Proof.FoxModel.lean ====
module

public import proofs.«01_k».proof.Proof.Gen.KernelIdeal.Skeleton
public import Idealize.ShloMosaic.Lib.VecWindow

/-! What one head of the backward kernel of the forgetting attention computes, as functions of the arrays
    that it reads. The kernel walks the blocks of 512 keys; for each it meets the block of queries on the diagonal,
    then the later queries two blocks at a time and, if their number is odd, the last block alone. -/

@[expose] public section

set_option maxRecDepth 16384

noncomputable section

namespace Cert.KernelIdeal.Fox

open Idealize.ShloMosaic Idealize.SL.Sem
open Cert.KernelIdeal.Gen

variable {F : FTy → Type} [FloatOps F]

/-- What a block of keys reads of all queries: the scaled normal queries, the incoming gradient, the gates by row, the log sums
    and the row sums `delta`. -/
structure Rd (F : FTy → Type) where
  qh : Vec F S4096x128 .bf16
  dO : Vec F S4096x128 .bf16
  cr : Vec F S1x1x4096 .f32
  ls : Vec F S1x1x4096 .f32
  dl : Vec F S1x4096 .f32

/-- What every block of keys is cut from, besides: the normal keys, the same transposed, the values, and the gates by column. -/
structure Env (F : FTy → Type) extends Rd F where
  kh : Vec F S4096x128 .bf16
  kt : Vec F S128x4096 .bf16
  v : Vec F S4096x128 .bf16
  cc : Vec F S1x4096x128 .f32

/-- One block of keys: the keys, the same transposed, the values and the gates. -/
structure KB (F : FTy → Type) where
  k : Vec F S512x128 .bf16
  kt : Vec F S128x512 .bf16
  v : Vec F S512x128 .bf16
  c : FVec F S512x1 .f32

/-- What a block of keys gathers: the gradients of its keys, of its values and of its gates, and the two arrays over all
    queries that it adds to: the gradient of the queries, transposed, and of their gates. -/
@[ext] structure St (F : FTy → Type) where
  dk : FVec F S512x128 .f32
  dv : FVec F S512x128 .f32
  dc : FVec F S512x1 .f32
  dq : Vec F S128x4096 .f32
  dcq : Vec F S1x4096 .f32

/-- the values a block carries from one trip to the next -/
abbrev St.tup (s : St F) : FVec F S512x128 .f32 × FVec F S512x128 .f32 × FVec F S512x1 .f32 := (s.dk, s.dv, s.dc)

section block
variable (E : Env F) (j : Fin k0_t1_loop.trips)

/-- the block of keys -/
def kB : Vec F S512x128 .bf16 := VecWindow.window (s := S4096x128) E.kh (k0_off1 j) S512x128.size (k0_off1_inb j)
/-- the block of keys, transposed -/
def ktB : Vec F S128x512 .bf16 := VecWindow.window (s := S128x4096) E.kt (k0_off2 j) S128x512.size (k0_off2_inb j)
/-- the block of values -/
def vB : Vec F S512x128 .bf16 := VecWindow.window (s := S4096x128) E.v (k0_off1 j) S512x128.size (k0_off1_inb j)
/-- the block's gates, as a column -/
def cB : Vec F S1x512x1 .f32 := VecWindow.window (s := S1x4096x128) E.cc (k0_off3 j) S1x512x1.size (k0_off3_inb j)

/-- the queries of the diagonal block -/
def qD : Vec F S512x128 .bf16 := VecWindow.window (s := S4096x128) E.qh (k0_off1 j) S512x128.size (k0_off1_inb j)
/-- the incoming gradient of the diagonal block -/
def oD : Vec F S512x128 .bf16 := VecWindow.window (s := S4096x128) E.dO (k0_off1 j) S512x128.size (k0_off1_inb j)
/-- the gates of the diagonal block, as a row -/
def cD : Vec F S1x1x512 .f32 := VecWindow.window (s := S1x1x4096) E.cr (k0_off4 j) S1x1x512.size (k0_off4_inb j)
/-- the log sums of the diagonal block -/
def lD : Vec F S1x1x512 .f32 := VecWindow.window (s := S1x1x4096) E.ls (k0_off4 j) S1x1x512.size (k0_off4_inb j)
/-- the row sums of the diagonal block -/
def dD : Vec F S1x512 .f32 := VecWindow.window (s := S1x4096) E.dl (k0_off5 j) S1x512.size (k0_off5_inb j)

/-- the gradient of the diagonal block's logits -/
def dsD : FVec F S512x512 .f32 := k0_pay29 k0_pay60 (kB E j) (vB E j) (cB E j) (qD E j) (oD E j) (cD E j) (lD E j) (dD E j)

/-- the diagonal block -/
def diag (dq : Vec F S128x4096 .f32) (dcq : Vec F S1x4096 .f32) : St F where
  dk := k0_pay32 (k0_pay26 (F := F)) (qD E j) (dsD E j)
  dv := k0_pay31 (k0_pay26 (F := F)) (oD E j) (k0_pay28 k0_pay60 (kB E j) (cB E j) (qD E j) (cD E j) (lD E j))
  dc := k0_pay35 (k0_pay27 (F := F)) (dsD E j)
  dq := VecWindow.put (s := S128x4096) dq (k0_off2 j) S128x512.size
    (k0_pay33 (ktB E j) (dsD E j) (VecWindow.window (s := S128x4096) dq (k0_off2 j) S128x512.size (k0_off2_inb j)))
  dcq := VecWindow.put (s := S1x4096) dcq (k0_off5 j) S1x512.size
    (k0_pay34 (dsD E j) (VecWindow.window (s := S1x4096) dcq (k0_off5 j) S1x512.size (k0_off5_inb j)))

end block

section pair
variable (R : Rd F) (B : KB F) (j : Fin k0_t1_loop.trips) (k : Fin (k0_t2_loop j).trips)
/-- the queries of a pair of later blocks -/
def qP : Vec F S1024x128 .bf16 := VecWindow.window (s := S4096x128) R.qh (k0_off6 j k) S1024x128.size (k0_off6_inb j k)
/-- the incoming gradient of the pair -/
def oP : Vec F S1024x128 .bf16 := VecWindow.window (s := S4096x128) R.dO (k0_off6 j k) S1024x128.size (k0_off6_inb j k)
/-- the gates of the pair -/
def cP : Vec F S1x1x1024 .f32 := VecWindow.window (s := S1x1x4096) R.cr (k0_off7 j k) S1x1x1024.size (k0_off7_inb j k)
/-- the log sums of the pair -/
def lP : Vec F S1x1x1024 .f32 := VecWindow.window (s := S1x1x4096) R.ls (k0_off7 j k) S1x1x1024.size (k0_off7_inb j k)
/-- the row sums of the pair -/
def dP : Vec F S1x1024 .f32 := VecWindow.window (s := S1x4096) R.dl (k0_off8 j k) S1x1024.size (k0_off8_inb j k)
/-- the gradient of the pair's logits -/
def dsP : FVec F S512x1024 .f32 := k0_pay2 B.k B.v B.c (qP R j k) (oP R j k) (cP R j k) (lP R j k) (dP R j k)

/-- a pair of later blocks of queries -/
def pair (s : St F) : St F where
  dk := k0_pay5 B.k B.v B.c s.dk (qP R j k) (oP R j k) (cP R j k) (lP R j k) (dP R j k)
  dv := k0_pay4 B.k B.c s.dv (qP R j k) (oP R j k) (cP R j k) (lP R j k)
  dc := k0_pay62 s.dc (dsP R B j k)
  dq := VecWindow.put (s := S128x4096) s.dq (k0_off9 j k) S128x1024.size
    (k0_pay6 B.k B.kt B.v B.c (qP R j k) (oP R j k) (cP R j k) (lP R j k) (dP R j k)
      (VecWindow.window (s := S128x4096) s.dq (k0_off9 j k) S128x1024.size (k0_off9_inb j k)))
  dcq := VecWindow.put (s := S1x4096) s.dcq (k0_off8 j k) S1x1024.size
    (k0_pay61 (dsP R B j k) (VecWindow.window (s := S1x4096) s.dcq (k0_off8 j k) S1x1024.size (k0_off8_inb j k)))
end pair

section single
variable (R : Rd F) (B : KB F) (j : Fin k0_t1_loop.trips) (k : Fin (k0_t4_loop j).trips)
/-- the queries of the last block -/
def qS : Vec F S512x128 .bf16 := VecWindow.window (s := S4096x128) R.qh (k0_off14 j k) S512x128.size (k0_off14_inb j k)
/-- the incoming gradient of the last block -/
def oS : Vec F S512x128 .bf16 := VecWindow.window (s := S4096x128) R.dO (k0_off14 j k) S512x128.size (k0_off14_inb j k)
/-- the gates of the last block -/
def cS : Vec F S1x1x512 .f32 := VecWindow.window (s := S1x1x4096) R.cr (k0_off15 j k) S1x1x512.size (k0_off15_inb j k)
/-- the log sums of the last block -/
def lS : Vec F S1x1x512 .f32 := VecWindow.window (s := S1x1x4096) R.ls (k0_off15 j k) S1x1x512.size (k0_off15_inb j k)
/-- the row sums of the last block -/
def dS : Vec F S1x512 .f32 := VecWindow.window (s := S1x4096) R.dl (k0_off16 j k) S1x512.size (k0_off16_inb j k)
/-- the gradient of the last block's logits -/
def dsS : FVec F S512x512 .f32 := k0_pay14 B.k B.v B.c (qS R j k) (oS R j k) (cS R j k) (lS R j k) (dS R j k)

/-- the last block of queries alone -/
def single (s : St F) : St F where
  dk := k0_pay17 B.k B.v B.c s.dk (qS R j k) (oS R j k) (cS R j k) (lS R j k) (dS R j k)
  dv := k0_pay16 B.k B.c s.dv (qS R j k) (oS R j k) (cS R j k) (lS R j k)
  dc := k0_pay66 s.dc (dsS R B j k)
  dq := VecWindow.put (s := S128x4096) s.dq (k0_off17 j k) S128x512.size
    (k0_pay18 B.k B.kt B.v B.c (qS R j k) (oS R j k) (cS R j k) (lS R j k) (dS R j k)
      (VecWindow.window (s := S128x4096) s.dq (k0_off17 j k) S128x512.size (k0_off17_inb j k)))
  dcq := VecWindow.put (s := S1x4096) s.dcq (k0_off16 j k) S1x512.size
    (k0_pay65 (dsS R B j k) (VecWindow.window (s := S1x4096) s.dcq (k0_off16 j k) S1x512.size (k0_off16_inb j k)))
end single

/-- the first `n` pairs -/
def pairs (R : Rd F) (B : KB F) (j : Fin k0_t1_loop.trips) (s : St F) : ℕ → St F
  | 0 => s
  | n + 1 => if h : n < (k0_t2_loop j).trips then pair R B j ⟨n, h⟩ (pairs R B j s n) else pairs R B j s n

/-- the first `n` single blocks (there is at most one) -/
def singles (R : Rd F) (B : KB F) (j : Fin k0_t1_loop.trips) (s : St F) : ℕ → St F
  | 0 => s
  | n + 1 => if h : n < (k0_t4_loop j).trips then single R B j ⟨n, h⟩ (singles R B j s n) else singles R B j s n

theorem pairs_succ (R : Rd F) (B : KB F) (j : Fin k0_t1_loop.trips) (s : St F) (k : Fin (k0_t2_loop j).trips) : pairs R B j s (k.val + 1) = pair R B j k (pairs R B j s k.val) := by
  rw [pairs, dif_pos k.isLt]
theorem singles_succ (R : Rd F) (B : KB F) (j : Fin k0_t1_loop.trips) (s : St F) (k : Fin (k0_t4_loop j).trips) : singles R B j s (k.val + 1) = single R B j k (singles R B j s k.val) := by
  rw [singles, dif_pos k.isLt]

/-- block `j` of the keys -/
def kblk (E : Env F) (j : Fin k0_t1_loop.trips) : KB F := ⟨kB E j, ktB E j, vB E j, k0_pay25 (cB E j)⟩

/-- one block of keys, from the two arrays as they stand -/
def block (E : Env F) (j : Fin k0_t1_loop.trips) (x : Vec F S128x4096 .f32 × Vec F S1x4096 .f32) : St F :=
  singles E.toRd (kblk E j) j (pairs E.toRd (kblk E j) j (diag E j x.1 x.2) (k0_t2_loop j).trips) (k0_t4_loop j).trips

/-- What the walk over the blocks of keys leaves behind: the two sums over all queries, and by rows the gradients of the keys, of
    the values (in the columns from 256 of a wider array) and of the keys' gates. -/
structure Out (F : FTy → Type) where
  dq : Vec F S128x4096 .f32
  dcq : Vec F S1x4096 .f32
  dk : Vec F S4096x128 .f32
  dp : Vec F S4096x384 .bf16
  dck : Vec F S1x4096x1 .f32

/-- one block of keys: its sums added, its rows written -/
def step (E : Env F) (j : Fin k0_t1_loop.trips) (s : Out F) : Out F where
  dq := (block E j (s.dq, s.dcq)).dq
  dcq := (block E j (s.dq, s.dcq)).dcq
  dk := VecWindow.put (s := S4096x128) s.dk (k0_off1 j) S512x128.size (k0_pay69 (block E j (s.dq, s.dcq)).dk)
  dp := VecWindow.put (s := S4096x384) s.dp (k0_off22 j) S512x128.size (k0_pay70 (block E j (s.dq, s.dcq)).dv)
  dck := VecWindow.put (s := S1x4096x1) s.dck (k0_off23 j) S1x512x1.size (k0_pay71 (block E j (s.dq, s.dcq)).dc)

/-- the first `n` blocks of keys -/
def walk (E : Env F) (s : Out F) : ℕ → Out F
  | 0 => s
  | n + 1 => if h : n < k0_t1_loop.trips then step E ⟨n, h⟩ (walk E s n) else walk E s n

theorem walk_succ (E : Env F) (s : Out F) (j : Fin k0_t1_loop.trips) : walk E s (j.val + 1) = step E j (walk E s j.val) := by
  rw [walk, dif_pos j.isLt]

theorem trips3 : ∀ j : Fin k0_t1_loop.trips, (k0_t3_loop j).trips = 0 := by decide +kernel
theorem trips5 : ∀ j : Fin k0_t1_loop.trips, (k0_t5_loop j).trips = 0 := by decide +kernel

end Cert.KernelIdeal.Fox
-- ==== Proof.FoxLoop.lean ====
module

public import proofs.«01_k».proof.Proof.FoxModel
public import Idealize.ShloMosaic.Lib.Exec
public import Idealize.ShloMosaic.Lib.Tactic
public import Idealize.ShloMosaic.Lib.Pipeline.Kit
public import Idealize.ShloMosaic.Lib.Pipeline.Frame

/-! The two inner loops of the backward kernel: what the buffers hold after each trip, as `pairs` and `singles` say. -/

@[expose] public section

set_option maxRecDepth 16384
set_option maxHeartbeats 4000000

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- The contents of a whole buffer that first holds `G` and after `k` trips the value `x k`. -/
def cont {s : Shape} {e : EltTy} (m : Memref sig .tc .vmem s e) (h : m.IsWhole) (G : BufTy.Contents (Elt F) m.view.ty) (x : ℕ → Vec F s e) :
    ℕ → BufTy.Contents (Elt F) m.view.ty
  | 0 => G
  | k + 1 => h.unread (x (k + 1))

theorem read_cont {s : Shape} {e : EltTy} (m : Memref sig .tc .vmem s e) (h : m.IsWhole) (G : BufTy.Contents (Elt F) m.view.ty) (x : ℕ → Vec F s e)
    (h0 : x 0 = m.view.read (Elt F) G) (k : ℕ) : m.view.read (Elt F) (cont m h G x k) = x k := by
  cases k with
  | zero => exact h0.symm
  | succ k => exact h.read_unread _

/-- The loop's invariant: the buffers read hold what they held, and the carried values and the two sums are `pairs` of the trips done. -/
@[sl_loop, instance_reducible] def loopInv2 (𝒱 : Variants) (c : Dev nD) (bd : Option 𝒱.V) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1x4096 .f32) (harg8 : arg8.IsWhole) (arg9 : Memref sig .tc .vmem S1x4096x128 .f32) (harg9 : arg9.IsWhole) (arg10 : Memref sig .tc .vmem S1x1x4096 .f32) (harg10 : arg10.IsWhole) (arg11 : Memref sig .tc .hbm S4096x13312 .bf16) (harg11 : arg11.IsWhole) (arg12 : Memref sig .tc .vmem S4096x384 .bf16) (harg12 : arg12.IsWhole) (arg13 : Memref sig .tc .vmem S1x1x4096 .f32) (harg13 : arg13.IsWhole) (arg14 : Memref sig .tc .vmem S1x4096x1 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S4096x128 .bf16) (harg17 : arg17.IsWhole) (arg18 : Memref sig .tc .vmem S4096x128 .bf16) (harg18 : arg18.IsWhole) (arg19 : Memref sig .tc .vmem S128x4096 .bf16) (harg19 : arg19.IsWhole) (arg20 : Memref sig .tc .vmem S128x4096 .f32) (harg20 : arg20.IsWhole) (arg21 : Memref sig .tc .vmem S4096x128 .f32) (harg21 : arg21.IsWhole) (arg22 : Memref sig .tc .vmem S1x4096 .f32) (harg22 : arg22.IsWhole) (arg23 : Memref sig .tc .vmem S1x4096 .f32) (harg23 : arg23.IsWhole)
    (v9 : FVec F S4096x1 .f32) (v11 : FVec F S4096x128 .f32) (cst_52 : F .f32) (k0_t1 : Fin k0_t1_loop.trips) (arg24 : BitVec 32) (v239 : Vec F S512x128 .bf16) (v241 : Vec F S128x512 .bf16) (v243 : Vec F S512x128 .bf16) (v246 : FVec F S512x1 .f32)
    (X5 : BufTy.Contents (Elt F) arg5.view.ty) (X8 : BufTy.Contents (Elt F) arg8.view.ty) (X10 : BufTy.Contents (Elt F) arg10.view.ty) (X17 : BufTy.Contents (Elt F) arg17.view.ty) (X23 : BufTy.Contents (Elt F) arg23.view.ty)
    (G20 : BufTy.Contents (Elt F) arg20.view.ty) (G22 : BufTy.Contents (Elt F) arg22.view.ty) (init : FVec F S512x128 .f32 × FVec F S512x128 .f32 × FVec F S512x1 .f32) :
    Idealize.ShloMosaic.LoopInv (M := 𝕄G) Idealize.ShloMosaic.frame (wpE (defs₀ (F := F)) 𝒱 (c : Thread nD τ) bd) E
      (k0_t2_loop k0_t1).lb (k0_t2_loop k0_t1).ub (k0_t2_loop k0_t1).st (k0_t2_ok k0_t1) init
      (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v11 cst_52 k0_t1 arg24 v239 v241 v243 v246) where
  inv k acc := iprop((arg5.view.loc (c : Thread nD τ) ↦[arg5.view.set]{fullShare} X5) ∗ (arg8.view.loc (c : Thread nD τ) ↦[arg8.view.set]{fullShare} X8) ∗ (arg10.view.loc (c : Thread nD τ) ↦[arg10.view.set]{fullShare} X10) ∗ (arg17.view.loc (c : Thread nD τ) ↦[arg17.view.set]{fullShare} X17) ∗ (arg23.view.loc (c : Thread nD τ) ↦[arg23.view.set]{fullShare} X23)
    ∗ (∃ f, (arg20.view.loc (c : Thread nD τ) ↦[arg20.view.set]{fullShare} f) ∗ ⌜f = cont arg20 harg20 G20 (fun k => (pairs ⟨arg17.view.read (Elt F) X17, arg5.view.read (Elt F) X5, arg8.view.read (Elt F) X8, arg10.view.read (Elt F) X10, arg23.view.read (Elt F) X23⟩ ⟨v239, v241, v243, v246⟩ k0_t1 ⟨init.1, init.2.1, init.2.2, arg20.view.read (Elt F) G20, arg22.view.read (Elt F) G22⟩ k).dq) k⌝)
    ∗ (∃ f, (arg22.view.loc (c : Thread nD τ) ↦[arg22.view.set]{fullShare} f) ∗ ⌜f = cont arg22 harg22 G22 (fun k => (pairs ⟨arg17.view.read (Elt F) X17, arg5.view.read (Elt F) X5, arg8.view.read (Elt F) X8, arg10.view.read (Elt F) X10, arg23.view.read (Elt F) X23⟩ ⟨v239, v241, v243, v246⟩ k0_t1 ⟨init.1, init.2.1, init.2.2, arg20.view.read (Elt F) G20, arg22.view.read (Elt F) G22⟩ k).dcq) k⌝)
    ∗ ⌜acc = (pairs ⟨arg17.view.read (Elt F) X17, arg5.view.read (Elt F) X5, arg8.view.read (Elt F) X8, arg10.view.read (Elt F) X10, arg23.view.read (Elt F) X23⟩ ⟨v239, v241, v243, v246⟩ k0_t1 ⟨init.1, init.2.1, init.2.2, arg20.view.read (Elt F) G20, arg22.view.read (Elt F) G22⟩ k).tup⌝)
  step k acc := by
    iintro ⟨H5, H8, H10, H17, H23, ⟨%f20, H20, %h20⟩, ⟨%f22, H22, %h22⟩, %hacc⟩
    have e20 := (congrArg (arg20.view.read (Elt F)) h20).trans (read_cont arg20 harg20 G20 _ rfl k.val)
    have e22 := (congrArg (arg22.view.read (Elt F)) h22).trans (read_cont arg22 harg22 G22 _ rfl k.val)
    clear h20 h22
    subst hacc
    unfold k0_t2_body
    sl_exec
    sl_step
    isplitl [H5]; · iexact H5
    isplitl [H8]; · iexact H8
    isplitl [H10]; · iexact H10
    isplitl [H17]; · iexact H17
    isplitl [H23]; · iexact H23
    isplitl [H20]
    · iexists _; isplitl [H20]; · iexact H20
      ipureintro
      refine harg20.eq_unread ?_
      rw [View.read_writes_cons_put _ _ _ _ _ rfl, View.writes_nil]
      show _ = (pairs _ _ _ _ (k.val + 1)).dq
      rw [pairs_succ]
      dsimp only [pair]
      rw [← e20]
      rfl
    isplitl [H22]
    · iexists _; isplitl [H22]; · iexact H22
      ipureintro
      refine harg22.eq_unread ?_
      rw [View.read_writes_cons_put _ _ _ _ _ rfl, View.writes_nil]
      show _ = (pairs _ _ _ _ (k.val + 1)).dcq
      rw [pairs_succ]
      dsimp only [pair]
      rw [← e22]
      rfl
    ipureintro
    show _ = (pairs _ _ _ _ (k.val + 1)).tup
    rw [pairs_succ]
    rfl

/-- The loop's invariant: the buffers read hold what they held, and the carried values and the two sums are `singles` of the trips done. -/
@[sl_loop, instance_reducible] def loopInv4 (𝒱 : Variants) (c : Dev nD) (bd : Option 𝒱.V) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1x4096 .f32) (harg8 : arg8.IsWhole) (arg9 : Memref sig .tc .vmem S1x4096x128 .f32) (harg9 : arg9.IsWhole) (arg10 : Memref sig .tc .vmem S1x1x4096 .f32) (harg10 : arg10.IsWhole) (arg11 : Memref sig .tc .hbm S4096x13312 .bf16) (harg11 : arg11.IsWhole) (arg12 : Memref sig .tc .vmem S4096x384 .bf16) (harg12 : arg12.IsWhole) (arg13 : Memref sig .tc .vmem S1x1x4096 .f32) (harg13 : arg13.IsWhole) (arg14 : Memref sig .tc .vmem S1x4096x1 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S4096x128 .bf16) (harg17 : arg17.IsWhole) (arg18 : Memref sig .tc .vmem S4096x128 .bf16) (harg18 : arg18.IsWhole) (arg19 : Memref sig .tc .vmem S128x4096 .bf16) (harg19 : arg19.IsWhole) (arg20 : Memref sig .tc .vmem S128x4096 .f32) (harg20 : arg20.IsWhole) (arg21 : Memref sig .tc .vmem S4096x128 .f32) (harg21 : arg21.IsWhole) (arg22 : Memref sig .tc .vmem S1x4096 .f32) (harg22 : arg22.IsWhole) (arg23 : Memref sig .tc .vmem S1x4096 .f32) (harg23 : arg23.IsWhole)
    (v9 : FVec F S4096x1 .f32) (v11 : FVec F S4096x128 .f32) (cst_52 : F .f32) (k0_t1 : Fin k0_t1_loop.trips) (v239 : Vec F S512x128 .bf16) (v241 : Vec F S128x512 .bf16) (v243 : Vec F S512x128 .bf16) (v246 : FVec F S512x1 .f32) (v329 : BitVec 32)
    (X5 : BufTy.Contents (Elt F) arg5.view.ty) (X8 : BufTy.Contents (Elt F) arg8.view.ty) (X10 : BufTy.Contents (Elt F) arg10.view.ty) (X17 : BufTy.Contents (Elt F) arg17.view.ty) (X23 : BufTy.Contents (Elt F) arg23.view.ty)
    (G20 : BufTy.Contents (Elt F) arg20.view.ty) (G22 : BufTy.Contents (Elt F) arg22.view.ty) (init : FVec F S512x128 .f32 × FVec F S512x128 .f32 × FVec F S512x1 .f32) :
    Idealize.ShloMosaic.LoopInv (M := 𝕄G) Idealize.ShloMosaic.frame (wpE (defs₀ (F := F)) 𝒱 (c : Thread nD τ) bd) E
      (k0_t4_loop k0_t1).lb (k0_t4_loop k0_t1).ub (k0_t4_loop k0_t1).st (k0_t4_ok k0_t1) init
      (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v11 cst_52 k0_t1 v239 v241 v243 v246 v329) where
  inv k acc := iprop((arg5.view.loc (c : Thread nD τ) ↦[arg5.view.set]{fullShare} X5) ∗ (arg8.view.loc (c : Thread nD τ) ↦[arg8.view.set]{fullShare} X8) ∗ (arg10.view.loc (c : Thread nD τ) ↦[arg10.view.set]{fullShare} X10) ∗ (arg17.view.loc (c : Thread nD τ) ↦[arg17.view.set]{fullShare} X17) ∗ (arg23.view.loc (c : Thread nD τ) ↦[arg23.view.set]{fullShare} X23)
    ∗ (∃ f, (arg20.view.loc (c : Thread nD τ) ↦[arg20.view.set]{fullShare} f) ∗ ⌜f = cont arg20 harg20 G20 (fun k => (singles ⟨arg17.view.read (Elt F) X17, arg5.view.read (Elt F) X5, arg8.view.read (Elt F) X8, arg10.view.read (Elt F) X10, arg23.view.read (Elt F) X23⟩ ⟨v239, v241, v243, v246⟩ k0_t1 ⟨init.1, init.2.1, init.2.2, arg20.view.read (Elt F) G20, arg22.view.read (Elt F) G22⟩ k).dq) k⌝)
    ∗ (∃ f, (arg22.view.loc (c : Thread nD τ) ↦[arg22.view.set]{fullShare} f) ∗ ⌜f = cont arg22 harg22 G22 (fun k => (singles ⟨arg17.view.read (Elt F) X17, arg5.view.read (Elt F) X5, arg8.view.read (Elt F) X8, arg10.view.read (Elt F) X10, arg23.view.read (Elt F) X23⟩ ⟨v239, v241, v243, v246⟩ k0_t1 ⟨init.1, init.2.1, init.2.2, arg20.view.read (Elt F) G20, arg22.view.read (Elt F) G22⟩ k).dcq) k⌝)
    ∗ ⌜acc = (singles ⟨arg17.view.read (Elt F) X17, arg5.view.read (Elt F) X5, arg8.view.read (Elt F) X8, arg10.view.read (Elt F) X10, arg23.view.read (Elt F) X23⟩ ⟨v239, v241, v243, v246⟩ k0_t1 ⟨init.1, init.2.1, init.2.2, arg20.view.read (Elt F) G20, arg22.view.read (Elt F) G22⟩ k).tup⌝)
  step k acc := by
    iintro ⟨H5, H8, H10, H17, H23, ⟨%f20, H20, %h20⟩, ⟨%f22, H22, %h22⟩, %hacc⟩
    have e20 := (congrArg (arg20.view.read (Elt F)) h20).trans (read_cont arg20 harg20 G20 _ rfl k.val)
    have e22 := (congrArg (arg22.view.read (Elt F)) h22).trans (read_cont arg22 harg22 G22 _ rfl k.val)
    clear h20 h22
    subst hacc
    unfold k0_t4_body
    sl_exec
    sl_step
    isplitl [H5]; · iexact H5
    isplitl [H8]; · iexact H8
    isplitl [H10]; · iexact H10
    isplitl [H17]; · iexact H17
    isplitl [H23]; · iexact H23
    isplitl [H20]
    · iexists _; isplitl [H20]; · iexact H20
      ipureintro
      refine harg20.eq_unread ?_
      rw [View.read_writes_cons_put _ _ _ _ _ rfl, View.writes_nil]
      show _ = (singles _ _ _ _ (k.val + 1)).dq
      rw [singles_succ]
      dsimp only [single]
      rw [← e20]
      rfl
    isplitl [H22]
    · iexists _; isplitl [H22]; · iexact H22
      ipureintro
      refine harg22.eq_unread ?_
      rw [View.read_writes_cons_put _ _ _ _ _ rfl, View.writes_nil]
      show _ = (singles _ _ _ _ (k.val + 1)).dcq
      rw [singles_succ]
      dsimp only [single]
      rw [← e22]
      rfl
    ipureintro
    show _ = (singles _ _ _ _ (k.val + 1)).tup
    rw [singles_succ]
    rfl

end Cert.KernelIdeal.Fox
-- ==== Proof.FoxOuter.lean ====
module

public import proofs.«01_k».proof.Proof.FoxLoop
public import Idealize.ShloMosaic.Lib.Exec
public import Idealize.ShloMosaic.Lib.Tactic
public import Idealize.ShloMosaic.Lib.Pipeline.Kit
public import Idealize.ShloMosaic.Lib.Pipeline.Frame

/-! The outer loop of the backward kernel: what the buffers hold after each block of keys, as `walk` says. -/

@[expose] public section

set_option maxRecDepth 16384
set_option maxHeartbeats 400000

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

section exit
variable (m20 : Memref sig .tc .vmem S128x4096 .f32) (h20 : m20.IsWhole) (m22 : Memref sig .tc .vmem S1x4096 .f32) (h22 : m22.IsWhole)
  (G20 : BufTy.Contents (Elt F) m20.view.ty) (G22 : BufTy.Contents (Elt F) m22.view.ty)
  (R R' : Rd F) (B B' : KB F) (j : Fin k0_t1_loop.trips) (D : St F) (n2 n4 : ℕ)
  (i1 i2 a1 a2 : FVec F S512x128 .f32) (i3 a3 : FVec F S512x1 .f32)
  (hR : R = R') (hB : B = B')
  (h1 : i1 = D.dk) (h2 : i2 = D.dv) (h3 : i3 = D.dc) (h4 : m20.view.read (Elt F) G20 = D.dq) (h5 : m22.view.read (Elt F) G22 = D.dcq)
  (g1 : a1 = (pairs R B j ⟨i1, i2, i3, m20.view.read (Elt F) G20, m22.view.read (Elt F) G22⟩ n2).dk)
  (g2 : a2 = (pairs R B j ⟨i1, i2, i3, m20.view.read (Elt F) G20, m22.view.read (Elt F) G22⟩ n2).dv)
  (g3 : a3 = (pairs R B j ⟨i1, i2, i3, m20.view.read (Elt F) G20, m22.view.read (Elt F) G22⟩ n2).dc)
include hR hB h1 h2 h3 h4 h5 g1 g2 g3

/-- After both inner loops the carried state is the two loops' functions one after the other. -/
theorem exit_state :
    (⟨a1, a2, a3,
      m20.view.read (Elt F) (cont m20 h20 G20 (fun k => (pairs R B j ⟨i1, i2, i3, m20.view.read (Elt F) G20, m22.view.read (Elt F) G22⟩ k).dq) n2),
      m22.view.read (Elt F) (cont m22 h22 G22 (fun k => (pairs R B j ⟨i1, i2, i3, m20.view.read (Elt F) G20, m22.view.read (Elt F) G22⟩ k).dcq) n2)⟩ : St F)
      = pairs R' B' j D n2 := by
  subst hR hB
  rw [read_cont _ _ _ _ rfl, read_cont _ _ _ _ rfl, g1, g2, g3, h1, h2, h3, h4, h5]

theorem exit_dq :
    m20.view.read (Elt F) (cont m20 h20 (cont m20 h20 G20 (fun k => (pairs R B j ⟨i1, i2, i3, m20.view.read (Elt F) G20, m22.view.read (Elt F) G22⟩ k).dq) n2)
      (fun k => (singles R B j ⟨a1, a2, a3,
        m20.view.read (Elt F) (cont m20 h20 G20 (fun k => (pairs R B j ⟨i1, i2, i3, m20.view.read (Elt F) G20, m22.view.read (Elt F) G22⟩ k).dq) n2),
        m22.view.read (Elt F) (cont m22 h22 G22 (fun k => (pairs R B j ⟨i1, i2, i3, m20.view.read (Elt F) G20, m22.view.read (Elt F) G22⟩ k).dcq) n2)⟩ k).dq) n4)
      = (singles R' B' j (pairs R' B' j D n2) n4).dq := by
  rw [read_cont _ _ _ _ rfl, exit_state m20 h20 m22 h22 G20 G22 R R' B B' j D n2 i1 i2 a1 a2 i3 a3 hR hB h1 h2 h3 h4 h5 g1 g2 g3, hR, hB]

theorem exit_dcq :
    m22.view.read (Elt F) (cont m22 h22 (cont m22 h22 G22 (fun k => (pairs R B j ⟨i1, i2, i3, m20.view.read (Elt F) G20, m22.view.read (Elt F) G22⟩ k).dcq) n2)
      (fun k => (singles R B j ⟨a1, a2, a3,
        m20.view.read (Elt F) (cont m20 h20 G20 (fun k => (pairs R B j ⟨i1, i2, i3, m20.view.read (Elt F) G20, m22.view.read (Elt F) G22⟩ k).dq) n2),
        m22.view.read (Elt F) (cont m22 h22 G22 (fun k => (pairs R B j ⟨i1, i2, i3, m20.view.read (Elt F) G20, m22.view.read (Elt F) G22⟩ k).dcq) n2)⟩ k).dcq) n4)
      = (singles R' B' j (pairs R' B' j D n2) n4).dcq := by
  rw [read_cont _ _ _ _ rfl, exit_state m20 h20 m22 h22 G20 G22 R R' B B' j D n2 i1 i2 a1 a2 i3 a3 hR hB h1 h2 h3 h4 h5 g1 g2 g3, hR, hB]

theorem exit_acc :
    singles R B j ⟨a1, a2, a3,
        m20.view.read (Elt F) (cont m20 h20 G20 (fun k => (pairs R B j ⟨i1, i2, i3, m20.view.read (Elt F) G20, m22.view.read (Elt F) G22⟩ k).dq) n2),
        m22.view.read (Elt F) (cont m22 h22 G22 (fun k => (pairs R B j ⟨i1, i2, i3, m20.view.read (Elt F) G20, m22.view.read (Elt F) G22⟩ k).dcq) n2)⟩ n4
      = singles R' B' j (pairs R' B' j D n2) n4 := by
  rw [exit_state m20 h20 m22 h22 G20 G22 R R' B B' j D n2 i1 i2 a1 a2 i3 a3 hR hB h1 h2 h3 h4 h5 g1 g2 g3, hR, hB]
end exit

/-- The outer loop's invariant: the buffers read hold what they held, the buffers written what `walk` says of the blocks done. -/
abbrev inv1 (𝒱 : Variants) (c : Dev nD) (bd : Option 𝒱.V) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1x4096 .f32) (harg8 : arg8.IsWhole) (arg9 : Memref sig .tc .vmem S1x4096x128 .f32) (harg9 : arg9.IsWhole) (arg10 : Memref sig .tc .vmem S1x1x4096 .f32) (harg10 : arg10.IsWhole) (arg11 : Memref sig .tc .hbm S4096x13312 .bf16) (harg11 : arg11.IsWhole) (arg12 : Memref sig .tc .vmem S4096x384 .bf16) (harg12 : arg12.IsWhole) (arg13 : Memref sig .tc .vmem S1x1x4096 .f32) (harg13 : arg13.IsWhole) (arg14 : Memref sig .tc .vmem S1x4096x1 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S4096x128 .bf16) (harg17 : arg17.IsWhole) (arg18 : Memref sig .tc .vmem S4096x128 .bf16) (harg18 : arg18.IsWhole) (arg19 : Memref sig .tc .vmem S128x4096 .bf16) (harg19 : arg19.IsWhole) (arg20 : Memref sig .tc .vmem S128x4096 .f32) (harg20 : arg20.IsWhole) (arg21 : Memref sig .tc .vmem S4096x128 .f32) (harg21 : arg21.IsWhole) (arg22 : Memref sig .tc .vmem S1x4096 .f32) (harg22 : arg22.IsWhole) (arg23 : Memref sig .tc .vmem S1x4096 .f32) (harg23 : arg23.IsWhole)
    (v9 : FVec F S4096x1 .f32) (v11 : FVec F S4096x128 .f32) (cst_52 : F .f32)
    (X3 : BufTy.Contents (Elt F) arg3.view.ty) (X5 : BufTy.Contents (Elt F) arg5.view.ty) (X8 : BufTy.Contents (Elt F) arg8.view.ty) (X9 : BufTy.Contents (Elt F) arg9.view.ty) (X10 : BufTy.Contents (Elt F) arg10.view.ty) (X17 : BufTy.Contents (Elt F) arg17.view.ty) (X18 : BufTy.Contents (Elt F) arg18.view.ty) (X19 : BufTy.Contents (Elt F) arg19.view.ty) (X23 : BufTy.Contents (Elt F) arg23.view.ty)
    (G20 : BufTy.Contents (Elt F) arg20.view.ty) (G22 : BufTy.Contents (Elt F) arg22.view.ty) (G21 : BufTy.Contents (Elt F) arg21.view.ty) (G12 : BufTy.Contents (Elt F) arg12.view.ty) (G14 : BufTy.Contents (Elt F) arg14.view.ty) (init : Unit) (k : ℕ) (acc : Unit) : sProp 𝕄G :=
  iprop((arg3.view.loc (c : Thread nD τ) ↦[arg3.view.set]{fullShare} X3) ∗ (arg5.view.loc (c : Thread nD τ) ↦[arg5.view.set]{fullShare} X5) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg23.view.loc (c : Thread nD τ) ↦[arg23.view.set]{fullShare} X23)
    ∗ (∃ f, (arg20.view.loc (c : Thread nD τ) ↦[arg20.view.set]{fullShare} f) ∗ ⌜f = cont arg20 harg20 G20 (fun k => (walk ⟨⟨arg17.view.read (Elt F) X17, arg5.view.read (Elt F) X5, arg8.view.read (Elt F) X8, arg10.view.read (Elt F) X10, arg23.view.read (Elt F) X23⟩, arg18.view.read (Elt F) X18, arg19.view.read (Elt F) X19, arg3.view.read (Elt F) X3, arg9.view.read (Elt F) X9⟩ ⟨arg20.view.read (Elt F) G20, arg22.view.read (Elt F) G22, arg21.view.read (Elt F) G21, arg12.view.read (Elt F) G12, arg14.view.read (Elt F) G14⟩ k).dq) k⌝)
    ∗ (∃ f, (arg22.view.loc (c : Thread nD τ) ↦[arg22.view.set]{fullShare} f) ∗ ⌜f = cont arg22 harg22 G22 (fun k => (walk ⟨⟨arg17.view.read (Elt F) X17, arg5.view.read (Elt F) X5, arg8.view.read (Elt F) X8, arg10.view.read (Elt F) X10, arg23.view.read (Elt F) X23⟩, arg18.view.read (Elt F) X18, arg19.view.read (Elt F) X19, arg3.view.read (Elt F) X3, arg9.view.read (Elt F) X9⟩ ⟨arg20.view.read (Elt F) G20, arg22.view.read (Elt F) G22, arg21.view.read (Elt F) G21, arg12.view.read (Elt F) G12, arg14.view.read (Elt F) G14⟩ k).dcq) k⌝)
    ∗ (∃ f, (arg21.view.loc (c : Thread nD τ) ↦[arg21.view.set]{fullShare} f) ∗ ⌜f = cont arg21 harg21 G21 (fun k => (walk ⟨⟨arg17.view.read (Elt F) X17, arg5.view.read (Elt F) X5, arg8.view.read (Elt F) X8, arg10.view.read (Elt F) X10, arg23.view.read (Elt F) X23⟩, arg18.view.read (Elt F) X18, arg19.view.read (Elt F) X19, arg3.view.read (Elt F) X3, arg9.view.read (Elt F) X9⟩ ⟨arg20.view.read (Elt F) G20, arg22.view.read (Elt F) G22, arg21.view.read (Elt F) G21, arg12.view.read (Elt F) G12, arg14.view.read (Elt F) G14⟩ k).dk) k⌝)
    ∗ (∃ f, (arg12.view.loc (c : Thread nD τ) ↦[arg12.view.set]{fullShare} f) ∗ ⌜f = cont arg12 harg12 G12 (fun k => (walk ⟨⟨arg17.view.read (Elt F) X17, arg5.view.read (Elt F) X5, arg8.view.read (Elt F) X8, arg10.view.read (Elt F) X10, arg23.view.read (Elt F) X23⟩, arg18.view.read (Elt F) X18, arg19.view.read (Elt F) X19, arg3.view.read (Elt F) X3, arg9.view.read (Elt F) X9⟩ ⟨arg20.view.read (Elt F) G20, arg22.view.read (Elt F) G22, arg21.view.read (Elt F) G21, arg12.view.read (Elt F) G12, arg14.view.read (Elt F) G14⟩ k).dp) k⌝)
    ∗ (∃ f, (arg14.view.loc (c : Thread nD τ) ↦[arg14.view.set]{fullShare} f) ∗ ⌜f = cont arg14 harg14 G14 (fun k => (walk ⟨⟨arg17.view.read (Elt F) X17, arg5.view.read (Elt F) X5, arg8.view.read (Elt F) X8, arg10.view.read (Elt F) X10, arg23.view.read (Elt F) X23⟩, arg18.view.read (Elt F) X18, arg19.view.read (Elt F) X19, arg3.view.read (Elt F) X3, arg9.view.read (Elt F) X9⟩ ⟨arg20.view.read (Elt F) G20, arg22.view.read (Elt F) G22, arg21.view.read (Elt F) G21, arg12.view.read (Elt F) G12, arg14.view.read (Elt F) G14⟩ k).dck) k⌝))

set_option maxHeartbeats 6400000 in
/-- One block of keys keeps the invariant. -/
theorem step1 (𝒱 : Variants) (c : Dev nD) (bd : Option 𝒱.V) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1x4096 .f32) (harg8 : arg8.IsWhole) (arg9 : Memref sig .tc .vmem S1x4096x128 .f32) (harg9 : arg9.IsWhole) (arg10 : Memref sig .tc .vmem S1x1x4096 .f32) (harg10 : arg10.IsWhole) (arg11 : Memref sig .tc .hbm S4096x13312 .bf16) (harg11 : arg11.IsWhole) (arg12 : Memref sig .tc .vmem S4096x384 .bf16) (harg12 : arg12.IsWhole) (arg13 : Memref sig .tc .vmem S1x1x4096 .f32) (harg13 : arg13.IsWhole) (arg14 : Memref sig .tc .vmem S1x4096x1 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S4096x128 .bf16) (harg17 : arg17.IsWhole) (arg18 : Memref sig .tc .vmem S4096x128 .bf16) (harg18 : arg18.IsWhole) (arg19 : Memref sig .tc .vmem S128x4096 .bf16) (harg19 : arg19.IsWhole) (arg20 : Memref sig .tc .vmem S128x4096 .f32) (harg20 : arg20.IsWhole) (arg21 : Memref sig .tc .vmem S4096x128 .f32) (harg21 : arg21.IsWhole) (arg22 : Memref sig .tc .vmem S1x4096 .f32) (harg22 : arg22.IsWhole) (arg23 : Memref sig .tc .vmem S1x4096 .f32) (harg23 : arg23.IsWhole)
    (v9 : FVec F S4096x1 .f32) (v11 : FVec F S4096x128 .f32) (cst_52 : F .f32)
    (X3 : BufTy.Contents (Elt F) arg3.view.ty) (X5 : BufTy.Contents (Elt F) arg5.view.ty) (X8 : BufTy.Contents (Elt F) arg8.view.ty) (X9 : BufTy.Contents (Elt F) arg9.view.ty) (X10 : BufTy.Contents (Elt F) arg10.view.ty) (X17 : BufTy.Contents (Elt F) arg17.view.ty) (X18 : BufTy.Contents (Elt F) arg18.view.ty) (X19 : BufTy.Contents (Elt F) arg19.view.ty) (X23 : BufTy.Contents (Elt F) arg23.view.ty)
    (G20 : BufTy.Contents (Elt F) arg20.view.ty) (G22 : BufTy.Contents (Elt F) arg22.view.ty) (G21 : BufTy.Contents (Elt F) arg21.view.ty) (G12 : BufTy.Contents (Elt F) arg12.view.ty) (G14 : BufTy.Contents (Elt F) arg14.view.ty) (init : Unit) (j : Fin k0_t1_loop.trips) (acc : Unit) :
    inv1 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v11 cst_52 X3 X5 X8 X9 X10 X17 X18 X19 X23 G20 G22 G21 G12 G14 init j.val acc ⊢ wp Idealize.ShloMosaic.frame (wpE (defs₀ (F := F)) 𝒱 (c : Thread nD τ) bd) E
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v11 cst_52 j acc) (inv1 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v11 cst_52 X3 X5 X8 X9 X10 X17 X18 X19 X23 G20 G22 G21 G12 G14 init (j.val + 1)) := by
  iintro ⟨H3, H5, H8, H9, H10, H17, H18, H19, H23, ⟨%f20, H20, %h20⟩, ⟨%f22, H22, %h22⟩, ⟨%f21, H21, %h21⟩, ⟨%f12, H12, %h12⟩, %f14, H14, %h14⟩
  have e20 := (congrArg (arg20.view.read (Elt F)) h20).trans (read_cont arg20 harg20 G20 _ rfl j.val)
  have e22 := (congrArg (arg22.view.read (Elt F)) h22).trans (read_cont arg22 harg22 G22 _ rfl j.val)
  have e21 := (congrArg (arg21.view.read (Elt F)) h21).trans (read_cont arg21 harg21 G21 _ rfl j.val)
  have e12 := (congrArg (arg12.view.read (Elt F)) h12).trans (read_cont arg12 harg12 G12 _ rfl j.val)
  have e14 := (congrArg (arg14.view.read (Elt F)) h14).trans (read_cont arg14 harg14 G14 _ rfl j.val)
  clear h20 h22 h21 h12 h14
  have htr3 := trips3 j
  have htr5 := trips5 j
  unfold k0_t1_body
  sl_exec
  sl_step
  isplitl [H3]; · iexact H3
  isplitl [H5]; · iexact H5
  isplitl [H8]; · iexact H8
  isplitl [H9]; · iexact H9
  isplitl [H10]; · iexact H10
  isplitl [H17]; · iexact H17
  isplitl [H18]; · iexact H18
  isplitl [H19]; · iexact H19
  isplitl [H23]; · iexact H23
  isplitl [H20]
  · iexists _; isplitl [H20]; · iexact H20
    ipureintro
    refine harg20.eq_unread ?_
    refine Eq.trans (b := (walk _ _ (j.val + 1)).dq) ?_ rfl
    rw [walk_succ]
    dsimp only [step]
    rw [← e20, ← e22]
    refine exit_dq arg20 harg20 arg22 harg22 _ _ _ _ _ _ j (diag _ j _ _) _ _ _ _ _ _ _ _ rfl rfl rfl rfl rfl ?_ ?_ rfl rfl rfl
    · exact (View.read_writes_cons_put arg20.view f20 (size := S128x512.size) (k0_off2_inb j) _ [] rfl).trans rfl
    · exact (View.read_writes_cons_put arg22.view f22 (size := S1x512.size) (k0_off5_inb j) _ [] rfl).trans rfl
  isplitl [H22]
  · iexists _; isplitl [H22]; · iexact H22
    ipureintro
    refine harg22.eq_unread ?_
    refine Eq.trans (b := (walk _ _ (j.val + 1)).dcq) ?_ rfl
    rw [walk_succ]
    dsimp only [step]
    rw [← e20, ← e22]
    refine exit_dcq arg20 harg20 arg22 harg22 _ _ _ _ _ _ j (diag _ j _ _) _ _ _ _ _ _ _ _ rfl rfl rfl rfl rfl ?_ ?_ rfl rfl rfl
    · exact (View.read_writes_cons_put arg20.view f20 (size := S128x512.size) (k0_off2_inb j) _ [] rfl).trans rfl
    · exact (View.read_writes_cons_put arg22.view f22 (size := S1x512.size) (k0_off5_inb j) _ [] rfl).trans rfl
  isplitl [H21]
  · iexists _; isplitl [H21]; · iexact H21
    ipureintro
    refine harg21.eq_unread ?_
    refine Eq.trans (b := (walk _ _ (j.val + 1)).dk) ?_ rfl
    rw [View.read_writes_cons_put _ _ _ _ _ rfl, View.writes_nil, e21, walk_succ]
    dsimp only [step]
    rw [← e20, ← e22]
    refine congrArg (fun w => VecWindow.put (s := S4096x128) _ (k0_off1 j) S512x128.size (k0_pay69 (St.dk w))) ?_
    refine exit_acc arg20 harg20 arg22 harg22 _ _ _ _ _ _ j (diag _ j _ _) _ _ _ _ _ _ _ _ rfl rfl rfl rfl rfl ?_ ?_ rfl rfl rfl
    · exact (View.read_writes_cons_put arg20.view f20 (size := S128x512.size) (k0_off2_inb j) _ [] rfl).trans rfl
    · exact (View.read_writes_cons_put arg22.view f22 (size := S1x512.size) (k0_off5_inb j) _ [] rfl).trans rfl
  isplitl [H12]
  · iexists _; isplitl [H12]; · iexact H12
    ipureintro
    refine harg12.eq_unread ?_
    refine Eq.trans (b := (walk _ _ (j.val + 1)).dp) ?_ rfl
    rw [View.read_writes_cons_put _ _ _ _ _ rfl, View.writes_nil, e12, walk_succ]
    dsimp only [step]
    rw [← e20, ← e22]
    refine congrArg (fun w => VecWindow.put (s := S4096x384) _ (k0_off22 j) S512x128.size (k0_pay70 (St.dv w))) ?_
    refine exit_acc arg20 harg20 arg22 harg22 _ _ _ _ _ _ j (diag _ j _ _) _ _ _ _ _ _ _ _ rfl rfl rfl rfl rfl ?_ ?_ rfl rfl rfl
    · exact (View.read_writes_cons_put arg20.view f20 (size := S128x512.size) (k0_off2_inb j) _ [] rfl).trans rfl
    · exact (View.read_writes_cons_put arg22.view f22 (size := S1x512.size) (k0_off5_inb j) _ [] rfl).trans rfl
  iexists _; isplitl [H14]; · iexact H14
  ipureintro
  refine harg14.eq_unread ?_
  refine Eq.trans (b := (walk _ _ (j.val + 1)).dck) ?_ rfl
  rw [View.read_writes_cons_put _ _ _ _ _ rfl, View.writes_nil, e14, walk_succ]
  dsimp only [step]
  rw [← e20, ← e22]
  refine congrArg (fun w => VecWindow.put (s := S1x4096x1) _ (k0_off23 j) S1x512x1.size (k0_pay71 (St.dc w))) ?_
  refine exit_acc arg20 harg20 arg22 harg22 _ _ _ _ _ _ j (diag _ j _ _) _ _ _ _ _ _ _ _ rfl rfl rfl rfl rfl ?_ ?_ rfl rfl rfl
  · exact (View.read_writes_cons_put arg20.view f20 (size := S128x512.size) (k0_off2_inb j) _ [] rfl).trans rfl
  · exact (View.read_writes_cons_put arg22.view f22 (size := S1x512.size) (k0_off5_inb j) _ [] rfl).trans rfl

/-- The outer loop's invariant: the buffers read hold what they held, the buffers written what `walk` says of the blocks done. -/
@[sl_loop, instance_reducible] def loopInv1 (𝒱 : Variants) (c : Dev nD) (bd : Option 𝒱.V) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1x4096 .f32) (harg8 : arg8.IsWhole) (arg9 : Memref sig .tc .vmem S1x4096x128 .f32) (harg9 : arg9.IsWhole) (arg10 : Memref sig .tc .vmem S1x1x4096 .f32) (harg10 : arg10.IsWhole) (arg11 : Memref sig .tc .hbm S4096x13312 .bf16) (harg11 : arg11.IsWhole) (arg12 : Memref sig .tc .vmem S4096x384 .bf16) (harg12 : arg12.IsWhole) (arg13 : Memref sig .tc .vmem S1x1x4096 .f32) (harg13 : arg13.IsWhole) (arg14 : Memref sig .tc .vmem S1x4096x1 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S4096x128 .bf16) (harg17 : arg17.IsWhole) (arg18 : Memref sig .tc .vmem S4096x128 .bf16) (harg18 : arg18.IsWhole) (arg19 : Memref sig .tc .vmem S128x4096 .bf16) (harg19 : arg19.IsWhole) (arg20 : Memref sig .tc .vmem S128x4096 .f32) (harg20 : arg20.IsWhole) (arg21 : Memref sig .tc .vmem S4096x128 .f32) (harg21 : arg21.IsWhole) (arg22 : Memref sig .tc .vmem S1x4096 .f32) (harg22 : arg22.IsWhole) (arg23 : Memref sig .tc .vmem S1x4096 .f32) (harg23 : arg23.IsWhole)
    (v9 : FVec F S4096x1 .f32) (v11 : FVec F S4096x128 .f32) (cst_52 : F .f32)
    (X3 : BufTy.Contents (Elt F) arg3.view.ty) (X5 : BufTy.Contents (Elt F) arg5.view.ty) (X8 : BufTy.Contents (Elt F) arg8.view.ty) (X9 : BufTy.Contents (Elt F) arg9.view.ty) (X10 : BufTy.Contents (Elt F) arg10.view.ty) (X17 : BufTy.Contents (Elt F) arg17.view.ty) (X18 : BufTy.Contents (Elt F) arg18.view.ty) (X19 : BufTy.Contents (Elt F) arg19.view.ty) (X23 : BufTy.Contents (Elt F) arg23.view.ty)
    (G20 : BufTy.Contents (Elt F) arg20.view.ty) (G22 : BufTy.Contents (Elt F) arg22.view.ty) (G21 : BufTy.Contents (Elt F) arg21.view.ty) (G12 : BufTy.Contents (Elt F) arg12.view.ty) (G14 : BufTy.Contents (Elt F) arg14.view.ty) (init : Unit) :
    Idealize.ShloMosaic.LoopInv (M := 𝕄G) Idealize.ShloMosaic.frame (wpE (defs₀ (F := F)) 𝒱 (c : Thread nD τ) bd) E
      k0_t1_loop.lb k0_t1_loop.ub k0_t1_loop.st k0_t1_ok init
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v11 cst_52) where
  inv := inv1 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v11 cst_52 X3 X5 X8 X9 X10 X17 X18 X19 X23 G20 G22 G21 G12 G14 init
  step := step1 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v9 v11 cst_52 X3 X5 X8 X9 X10 X17 X18 X19 X23 G20 G22 G21 G12 G14 init

end Cert.KernelIdeal.Fox
-- ==== Proof.FoxHead.lean ====
module

public import proofs.«01_k».proof.Proof.FoxModel

/-! What one head of the backward kernel writes, as functions of the arrays that it reads, and that nothing of it
    depends on what the buffers held before. -/

@[expose] public section

set_option maxRecDepth 16384

noncomputable section

namespace Cert.KernelIdeal.Fox

open Idealize.ShloMosaic Idealize.SL.Sem
open Cert.KernelIdeal.Gen

variable {F : FTy → Type} [FloatOps F]

/-- What one head reads: queries, keys, values, the output and its gradient, the two gains, the gates by rows and by columns, the
    logarithms of the softmax's sums. -/
structure In (F : FTy → Type) where
  q : Vec F S4096x128 .bf16
  k : Vec F S4096x128 .bf16
  v : Vec F S4096x128 .bf16
  o : Vec F S4096x128 .bf16
  dO : Vec F S4096x128 .bf16
  gq : Vec F S1x128 .f32
  gk : Vec F S1x128 .f32
  cr : Vec F S1x1x4096 .f32
  cc : Vec F S1x4096x128 .f32
  ls : Vec F S1x1x4096 .f32

/-- a float value to start from where any would do -/
def zero : F .f32 := Scalar.ofBits .f32 0x00000000#32

section
variable (I : In F)

/-- the row sums of `o * do`, put piece by piece into an array laid out along the lanes -/
def rowSums (x : Vec F S1x4096 .f32) : Vec F S1x4096 .f32 :=
  VecWindow.put (s := S1x4096) (VecWindow.put (s := S1x4096) (VecWindow.put (s := S1x4096) (VecWindow.put (s := S1x4096)
    (VecWindow.put (s := S1x4096) (VecWindow.put (s := S1x4096) (VecWindow.put (s := S1x4096) (VecWindow.put (s := S1x4096) x
      ![0, 0] S1x512.size (k0_pay47 I.dO I.o))
      ![0, 512] S1x512.size (k0_pay50 k0_pay48 zero (k0_pay49 I.dO I.o)))
      ![0, 1024] S1x512.size (k0_pay51 (k0_pay46 I.dO I.o)))
      ![0, 1536] S1x512.size (k0_pay52 (k0_pay46 I.dO I.o)))
      ![0, 2048] S1x512.size (k0_pay54 (k0_pay53 (k0_pay46 I.dO I.o))))
      ![0, 2560] S1x512.size (k0_pay55 (k0_pay46 I.dO I.o)))
      ![0, 3072] S1x512.size (k0_pay56 (k0_pay46 I.dO I.o)))
      ![0, 3584] S1x512.size (k0_pay57 (k0_pay46 I.dO I.o))

theorem rowSums_indep (x y : Vec F S1x4096 .f32) : rowSums I x = rowSums I y := by
  funext i
  have h0 : (i 0).val < 1 := (i 0).isLt
  have h1 : (i 1).val < 4096 := (i 1).isLt
  unfold rowSums VecWindow.put
  repeat' split
  all_goals first | rfl | (exfalso; simp only [Fin.forall_fin_two, Matrix.cons_val_zero, Matrix.cons_val_one, not_and_or, not_le, not_lt, S1x512] at *; omega)

/-- the arrays that the walk over the blocks reads -/
def env (x : Vec F S1x4096 .f32) : Env F where
  qh := k0_pay39 I.q I.gq
  dO := I.dO
  cr := I.cr
  ls := I.ls
  dl := rowSums I x
  kh := k0_pay44 (k0_pay43 I.k I.gk)
  kt := k0_pay45 (k0_pay44 (k0_pay43 I.k I.gk))
  v := I.v
  cc := I.cc

end

/-- where the walk starts: the sums at zero, the arrays written by rows at anything -/
def start (dk : Vec F S4096x128 .f32) (dp : Vec F S4096x384 .bf16) (dck : Vec F S1x4096x1 .f32) : Out F :=
  ⟨k0_pay58 (Scalar.ofBits .f32 0x00000000#32), k0_pay59, dk, dp, dck⟩

/-- where the walk starts, the arrays written by rows at nothing in particular -/
def start0 : Out F := start (fun _ => zero) (fun _ => Scalar.ofBits .bf16 0#16) (fun _ => zero)

/-- what the walk over all the blocks leaves -/
def done (I : In F) : Out F := walk (env I fun _ => zero) start0 k0_t1_loop.trips

/-- the gradients of the queries, of the keys and of the values, side by side -/
def dpOf (I : In F) (w : Out F) : Vec F S4096x384 .bf16 :=
  VecWindow.put (s := S4096x384) (VecWindow.put (s := S4096x384) w.dp ![0, 0] S4096x128.size
      (k0_pay76 (k0_pay73 (k0_pay37 I.q) (k0_pay38 I.q) w.dq I.gq)))
    ![0, 128] S4096x128.size (k0_pay77 (k0_pay41 I.k) (k0_pay42 I.k) w.dk (k0_pay75 I.gk))

/-- the gradient of the queries' gain, added to what the heads before left -/
def ggqOf (I : In F) (w : Out F) (old : Vec F S1x128 .f32) : Vec F S1x128 .f32 := k0_pay81 (k0_pay74 (k0_pay38 I.q) w.dq) old

/-- the gradient of the keys' gain, added to what the heads before left -/
def ggkOf (I : In F) (w : Out F) (old : Vec F S1x128 .f32) : Vec F S1x128 .f32 := k0_pay82 (k0_pay42 I.k) w.dk old

/-- Two walks whose sums agree, and whose rows agree in the blocks done. -/
structure Agree (n : ℕ) (w w' : Out F) : Prop where
  dq : w.dq = w'.dq
  dcq : w.dcq = w'.dcq
  dk : ∀ y, (y 0).val < 512 * n → w.dk y = w'.dk y
  dp : ∀ y, (y 0).val < 512 * n → 256 ≤ (y 1).val → w.dp y = w'.dp y
  dck : ∀ y, (y 1).val < 512 * n → w.dck y = w'.dck y

theorem put_agree {s : Shape} {α : Type} (x x' : s.Idx → α) (off size : Fin s.rank → ℕ) (w : ((a : Fin s.rank) → Fin (size a)) → α) (y : s.Idx)
    (h : (¬ ∀ a, off a ≤ (y a).val ∧ (y a).val < off a + size a) → x y = x' y) :
    VecWindow.put (s := s) x off size w y = VecWindow.put (s := s) x' off size w y := by
  unfold VecWindow.put
  split
  · rfl
  · next hn => exact h hn

theorem step_agree (E : Env F) (j : Fin k0_t1_loop.trips) (w w' : Out F) (h : Agree j.val w w') : Agree (j.val + 1) (step E j w) (step E j w') where
  dq := by dsimp only [step]; rw [h.dq, h.dcq]
  dcq := by dsimp only [step]; rw [h.dq, h.dcq]
  dk y hy := by
    dsimp only [step]; rw [h.dq, h.dcq]
    refine put_agree _ _ _ _ _ y fun hn => h.dk y ?_
    rw [k0_off1_eq] at hn
    have h1 : (y 1).val < 128 := (y 1).isLt
    simp only [Fin.forall_fin_two, Matrix.cons_val_zero, Matrix.cons_val_one, S512x128] at hn
    omega
  dp y hy hc := by
    dsimp only [step]; rw [h.dq, h.dcq]
    refine put_agree _ _ _ _ _ y fun hn => h.dp y ?_ hc
    rw [k0_off22_eq] at hn
    have h1 : (y 1).val < 384 := (y 1).isLt
    simp only [Fin.forall_fin_two, Matrix.cons_val_zero, Matrix.cons_val_one, S512x128] at hn
    omega
  dck y hy := by
    dsimp only [step]; rw [h.dq, h.dcq]
    refine put_agree _ _ _ _ _ y fun hn => h.dck y ?_
    rw [k0_off23_eq] at hn
    have h0 : (y 0).val < 1 := (y 0).isLt
    have h2 : (y 2).val < 1 := (y 2).isLt
    simp only [Fin.forall_fin_succ, Fin.succ_zero_eq_one, Fin.succ_one_eq_two, IsEmpty.forall_iff, and_true, Matrix.cons_val_zero, Matrix.cons_val_one, Matrix.cons_val_two, Matrix.tail_cons, Matrix.head_cons, S1x512x1] at hn
    omega

theorem walk_agree (E : Env F) (w w' : Out F) (h : Agree 0 w w') : ∀ n, n ≤ k0_t1_loop.trips → Agree n (walk E w n) (walk E w' n)
  | 0, _ => h
  | n + 1, hn => by
      have e := step_agree E ⟨n, hn⟩ _ _ (walk_agree E w w' h n (Nat.le_of_succ_le hn))
      rw [← walk_succ, ← walk_succ] at e
      exact e

theorem trips1 : k0_t1_loop.trips = 8 := by decide +kernel

/-- What the walk leaves does not depend on where the arrays written by rows started. -/
theorem walk_done (I : In F) (x : Vec F S1x4096 .f32) (dk : Vec F S4096x128 .f32) (dp : Vec F S4096x384 .bf16) (dck : Vec F S1x4096x1 .f32) :
    Agree 8 (walk (env I x) (start dk dp dck) k0_t1_loop.trips) (done I) := by
  have e : env I x = env I fun _ => zero := by unfold env; rw [rowSums_indep]
  rw [e]
  have := walk_agree (env I fun _ => zero) (start dk dp dck) start0
    ⟨rfl, rfl, fun y h => absurd h (by omega), fun y h => absurd h (by omega), fun y h => absurd h (by omega)⟩ k0_t1_loop.trips le_rfl
  rw [trips1] at this ⊢
  unfold done
  rw [trips1]
  exact this

theorem Agree.dk_eq {w w' : Out F} (h : Agree 8 w w') : w.dk = w'.dk :=
  funext fun y => h.dk y (by have h0 : (y 0).val < 4096 := (y 0).isLt; omega)

theorem Agree.dck_eq {w w' : Out F} (h : Agree 8 w w') : w.dck = w'.dck :=
  funext fun y => h.dck y (by have h0 : (y 1).val < 4096 := (y 1).isLt; omega)

theorem Agree.dpOf_eq (I : In F) {w w' : Out F} (h : Agree 8 w w') : dpOf I w = dpOf I w' := by
  unfold dpOf
  rw [h.dq, h.dk_eq]
  funext y
  have h0 : (y 0).val < 4096 := (y 0).isLt
  refine put_agree _ _ _ _ _ y fun hn => put_agree _ _ _ _ _ y fun hn' => h.dp y (by omega) ?_
  simp only [Fin.forall_fin_two, Matrix.cons_val_zero, Matrix.cons_val_one, S4096x128] at hn hn'
  omega

end Cert.KernelIdeal.Fox
-- ==== Proof.FoxRun.lean ====
module

public import proofs.«01_k».proof.Proof.FoxOuter
public import proofs.«01_k».proof.Proof.FoxHead
public import proofs.«01_k».proof.Proof.Gen.KernelIdeal.Frame

/-! One run of the body of the backward kernel: from the arrays of one head to what it writes. -/

@[expose] public section

set_option maxRecDepth 16384
set_option maxHeartbeats 400000

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

section exits

/-- Read back, the eight pieces of the row sums are the row sums. -/
theorem read_rowSums (m : Memref sig .tc .vmem S1x4096 .f32) (f : BufTy.Contents (Elt F) m.view.ty) (I : In F) (d o : Vec F S4096x128 .bf16)
    (hd : d = I.dO) (ho : o = I.o) :
    m.view.read (Elt F) (m.view.writes (Elt F) f
      [⟨Rect.unit ![0, 3584] S1x512.size inb_S1x4096_S1x512_0_3584, k0_pay57 (k0_pay46 d o)⟩,
       ⟨Rect.unit ![0, 3072] S1x512.size inb_S1x4096_S1x512_0_3072, k0_pay56 (k0_pay46 d o)⟩,
       ⟨Rect.unit ![0, 2560] S1x512.size inb_S1x4096_S1x512_0_2560, k0_pay55 (k0_pay46 d o)⟩,
       ⟨Rect.unit ![0, 2048] S1x512.size inb_S1x4096_S1x512_0_2048, k0_pay54 (k0_pay53 (k0_pay46 d o))⟩,
       ⟨Rect.unit ![0, 1536] S1x512.size inb_S1x4096_S1x512_0_1536, k0_pay52 (k0_pay46 d o)⟩,
       ⟨Rect.unit ![0, 1024] S1x512.size inb_S1x4096_S1x512_0_1024, k0_pay51 (k0_pay46 d o)⟩,
       ⟨Rect.unit ![0, 512] S1x512.size inb_S1x4096_S1x512_0_512, k0_pay50 k0_pay48 zero (k0_pay49 d o)⟩,
       ⟨Rect.unit ![0, 0] S1x512.size inb_S1x4096_S1x512_0_0, k0_pay47 d o⟩]) = rowSums I (m.view.read (Elt F) f) := by
  subst hd ho
  unfold rowSums
  rw [View.read_writes_cons_put _ _ _ _ _ rfl, View.read_writes_cons_put _ _ _ _ _ rfl, View.read_writes_cons_put _ _ _ _ _ rfl,
    View.read_writes_cons_put _ _ _ _ _ rfl, View.read_writes_cons_put _ _ _ _ _ rfl, View.read_writes_cons_put _ _ _ _ _ rfl,
    View.read_writes_cons_put _ _ _ _ _ rfl, View.read_writes_cons_put _ _ _ _ _ rfl, View.writes_nil]

/-- The walk over the arrays that the buffers hold is the walk of the head. -/
theorem exit_agree (I : In F) (E : Env F) (S : Out F) (x : Vec F S1x4096 .f32) (q k : Vec F S4096x128 .bf16) (gq gk : Vec F S1x128 .f32)
    (h1 : q = I.q) (h2 : k = I.k) (h6 : gq = I.gq) (h7 : gk = I.gk)
    (hqh : E.qh = k0_pay39 q gq) (hdO : E.dO = I.dO) (hcr : E.cr = I.cr) (hls : E.ls = I.ls) (hdl : E.dl = rowSums I x)
    (hkh : E.kh = k0_pay44 (k0_pay43 k gk)) (hkt : E.kt = k0_pay45 (k0_pay44 (k0_pay43 k gk))) (hv : E.v = I.v) (hcc : E.cc = I.cc)
    (hdq : S.dq = k0_pay58 (Scalar.ofBits .f32 0x00000000#32)) (hdcq : S.dcq = k0_pay59) :
    Agree 8 (walk E S k0_t1_loop.trips) (done I) := by
  obtain ⟨⟨qh, dO, cr, ls, dl⟩, kh, kt, v, cc⟩ := E
  obtain ⟨dq, dcq, dk, dp, dck⟩ := S
  dsimp only at *
  subst h1 h2 h6 h7 hqh hdO hcr hls hdl hkh hkt hv hcc hdq hdcq
  exact walk_done I x dk dp dck

variable (I : In F) (w : Out F) (hA : Agree 8 w (done I))
include hA

/-- The three gradients side by side, read back. -/
theorem exit_dp (m : Memref sig .tc .vmem S4096x384 .bf16) (f : BufTy.Contents (Elt F) m.view.ty) (q k : Vec F S4096x128 .bf16)
    (gq gk : Vec F S1x128 .f32) (dq : Vec F S128x4096 .f32) (dk : Vec F S4096x128 .f32)
    (h1 : q = I.q) (h2 : k = I.k) (h6 : gq = I.gq) (h7 : gk = I.gk) (hf : m.view.read (Elt F) f = w.dp) (hdq : dq = w.dq) (hdk : dk = w.dk) :
    m.view.read (Elt F) (m.view.writes (Elt F) f
      [⟨Rect.unit ![0, 128] S4096x128.size inb_S4096x384_S4096x128_0_128, k0_pay77 (k0_pay41 k) (k0_pay42 k) dk (k0_pay75 gk)⟩,
       ⟨Rect.unit ![0, 0] S4096x128.size inb_S4096x384_S4096x128_0_0, k0_pay76 (k0_pay73 (k0_pay37 q) (k0_pay38 q) dq gq)⟩]) = dpOf I (done I) := by
  rw [← Agree.dpOf_eq I hA]
  subst h1 h2 h6 h7 hdq hdk
  unfold dpOf
  rw [View.read_writes_cons_put _ _ _ _ _ rfl, View.read_writes_cons_put _ _ _ _ _ rfl, View.writes_nil, hf]

/-- The gradient of the queries' gates, read back. -/
theorem exit_dc (m : Memref sig .tc .vmem S1x1x4096 .f32) (f : BufTy.Contents (Elt F) m.view.ty) (dcq : Vec F S1x4096 .f32) (h : dcq = w.dcq) :
    m.view.read (Elt F) (m.view.writes (Elt F) f [⟨Rect.unit ![0, 0, 0] S1x1x4096.size inb_S1x1x4096_S1x1x4096_0_0_0, k0_pay78 dcq⟩])
      = k0_pay78 (done I).dcq := by
  rw [← hA.dcq, ← h]
  exact View.read_writes_full m.view f _ _ []

/-- The gradient of the queries' gain, read back. -/
theorem exit_ggq (m : Memref sig .tc .vmem S1x128 .f32) (f : BufTy.Contents (Elt F) m.view.ty) (L : List (View.Piece (Elt F) S1x128 .f32))
    (q : Vec F S4096x128 .bf16) (dq : Vec F S128x4096 .f32) (old old' : Vec F S1x128 .f32) (h1 : q = I.q) (h : dq = w.dq) (ho : old = old') :
    m.view.read (Elt F) (m.view.writes (Elt F) f (⟨Rect.unit ![0, 0] S1x128.size inb_S1x128_S1x128_0_0, k0_pay81 (k0_pay74 (k0_pay38 q) dq) old⟩ :: L))
      = ggqOf I (done I) old' := by
  subst ho
  unfold ggqOf
  rw [← hA.dq, ← h, ← h1]
  exact View.read_writes_full m.view f _ _ L

/-- The gradient of the keys' gain, read back. -/
theorem exit_ggk (m : Memref sig .tc .vmem S1x128 .f32) (f : BufTy.Contents (Elt F) m.view.ty) (L : List (View.Piece (Elt F) S1x128 .f32))
    (k : Vec F S4096x128 .bf16) (dk : Vec F S4096x128 .f32) (old old' : Vec F S1x128 .f32) (h2 : k = I.k) (h : dk = w.dk) (ho : old = old') :
    m.view.read (Elt F) (m.view.writes (Elt F) f (⟨Rect.unit ![0, 0] S1x128.size inb_S1x128_S1x128_0_0, k0_pay82 (k0_pay42 k) dk old⟩ :: L))
      = ggkOf I (done I) old' := by
  subst ho
  unfold ggkOf
  rw [← hA.dk_eq, ← h, ← h2]
  exact View.read_writes_full m.view f _ _ L

end exits

set_option maxHeartbeats 6400000 in
/-- The body at any head: the arrays read stay as they are, the results are those of the head. -/
theorem sound_kernel (c : Dev nD) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1x4096 .f32) (harg8 : arg8.IsWhole) (arg9 : Memref sig .tc .vmem S1x4096x128 .f32) (harg9 : arg9.IsWhole) (arg10 : Memref sig .tc .vmem S1x1x4096 .f32) (harg10 : arg10.IsWhole) (arg11 : Memref sig .tc .hbm S4096x13312 .bf16) (harg11 : arg11.IsWhole) (arg12 : Memref sig .tc .vmem S4096x384 .bf16) (harg12 : arg12.IsWhole) (arg13 : Memref sig .tc .vmem S1x1x4096 .f32) (harg13 : arg13.IsWhole) (arg14 : Memref sig .tc .vmem S1x4096x1 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S4096x128 .bf16) (harg17 : arg17.IsWhole) (arg18 : Memref sig .tc .vmem S4096x128 .bf16) (harg18 : arg18.IsWhole) (arg19 : Memref sig .tc .vmem S128x4096 .bf16) (harg19 : arg19.IsWhole) (arg20 : Memref sig .tc .vmem S128x4096 .f32) (harg20 : arg20.IsWhole) (arg21 : Memref sig .tc .vmem S4096x128 .f32) (harg21 : arg21.IsWhole) (arg22 : Memref sig .tc .vmem S1x4096 .f32) (harg22 : arg22.IsWhole) (arg23 : Memref sig .tc .vmem S1x4096 .f32) (harg23 : arg23.IsWhole)
    (I : In F) (d15 d16 : Vec F S1x128 .f32) (K : PUnit → sProp 𝕄G) :
    iprop(owns (c : Thread nD τ) arg1 fullShare I.q ∗ owns (c : Thread nD τ) arg2 fullShare I.k ∗ owns (c : Thread nD τ) arg3 fullShare I.v ∗ owns (c : Thread nD τ) arg4 fullShare I.o ∗ owns (c : Thread nD τ) arg5 fullShare I.dO ∗ owns (c : Thread nD τ) arg6 fullShare I.gq ∗ owns (c : Thread nD τ) arg7 fullShare I.gk ∗ owns (c : Thread nD τ) arg8 fullShare I.cr ∗ owns (c : Thread nD τ) arg9 fullShare I.cc ∗ owns (c : Thread nD τ) arg10 fullShare I.ls ∗ (∃ d, owns (c : Thread nD τ) arg12 fullShare d) ∗ (∃ d, owns (c : Thread nD τ) arg13 fullShare d) ∗ (∃ d, owns (c : Thread nD τ) arg14 fullShare d) ∗ owns (c : Thread nD τ) arg15 fullShare d15 ∗ owns (c : Thread nD τ) arg16 fullShare d16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare I.q ∗ owns (c : Thread nD τ) arg2 fullShare I.k ∗ owns (c : Thread nD τ) arg3 fullShare I.v ∗ owns (c : Thread nD τ) arg4 fullShare I.o ∗ owns (c : Thread nD τ) arg5 fullShare I.dO ∗ owns (c : Thread nD τ) arg6 fullShare I.gq ∗ owns (c : Thread nD τ) arg7 fullShare I.gk ∗ owns (c : Thread nD τ) arg8 fullShare I.cr ∗ owns (c : Thread nD τ) arg9 fullShare I.cc ∗ owns (c : Thread nD τ) arg10 fullShare I.ls ∗ owns (c : Thread nD τ) arg12 fullShare (dpOf I (done I)) ∗ owns (c : Thread nD τ) arg13 fullShare (k0_pay78 (done I).dcq) ∗ owns (c : Thread nD τ) arg14 fullShare (done I).dck ∗ owns (c : Thread nD τ) arg15 fullShare (ggqOf I (done I) (if (i 0).val = 0 then k0_pay79 else d15)) ∗ owns (c : Thread nD τ) arg16 fullShare (ggkOf I (done I) (if (i 0).val = 0 then k0_pay80 else d16)) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E (cc0_fox_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  have hc' : (Scalar.cmpi .ne (Scalar.extui (Scalar.cmpi .eq (BitVec.ofNat 32 (i 0).val) 0#32) : BitVec 32) 0#32 : BitVec 1) = 1#1 ↔ (i 0).val = 0 := by
    have : (i 0).val < 8 := (i 0).isLt
    generalize (i 0).val = n at this ⊢
    revert n; decide +kernel
  obtain ⟨xq, xk, xv, xo, xd, xgq, xgk, xcr, xcc, xls⟩ := I
  simp only [cc0_fox_bwd_eq_skeleton]; unfold cc0_fox_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d12, %f12, -, H12⟩, ⟨%d13, %f13, -, H13⟩, ⟨%d14, %f14, -, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  dsimp only at hf1 hf2 hf3 hf4 hf5 hf6 hf7 hf8 hf9 hf10
  rcases Classical.em ((i 0).val = 0) with h0 | h0
  · have hc := hc'.2 h0
    sl_exec (disch := first | sl_exact hc | omega)
    sl_step
    iapply Hk
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H12]
    · iexists _; isplitr; swap; · iexact H12
      ipureintro
      refine exit_dp _ (walk _ _ k0_t1_loop.trips) (exit_agree _ _ _ (arg23.view.read (Elt F) arg23.view.junk) _ _ _ _ ((View.readAt_full arg1.view f1 inb_S4096x128_S4096x128_0_0).trans hf1) ((View.readAt_full arg2.view f2 inb_S4096x128_S4096x128_0_0).trans hf2) ((View.readAt_full arg6.view f6 inb_S1x128_S1x128_0_0).trans hf6) ((View.readAt_full arg7.view f7 inb_S1x128_S1x128_0_0).trans hf7) ?_ hf5 hf8 hf10 ?_ ?_ ?_ hf3 hf9 ?_ ?_) arg12 _ _ _ _ _ _ _ ((View.readAt_full arg1.view f1 inb_S4096x128_S4096x128_0_0).trans hf1) ((View.readAt_full arg2.view f2 inb_S4096x128_S4096x128_0_0).trans hf2) ((View.readAt_full arg6.view f6 inb_S1x128_S1x128_0_0).trans hf6) ((View.readAt_full arg7.view f7 inb_S1x128_S1x128_0_0).trans hf7) (read_cont arg12 harg12 _ _ rfl _) ((View.readAt_full arg20.view _ inb_S128x4096_S128x4096_0_0).trans (read_cont arg20 harg20 _ _ rfl _)) ((View.readAt_full arg21.view _ inb_S4096x128_S4096x128_0_0).trans (read_cont arg21 harg21 _ _ rfl _))
      · exact View.read_writes_full arg17.view _ _ _ []
      · exact read_rowSums arg23 _ _ _ _ ((View.readAt_full arg5.view f5 inb_S4096x128_S4096x128_0_0).trans hf5) ((View.readAt_full arg4.view f4 inb_S4096x128_S4096x128_0_0).trans hf4)
      · exact View.read_writes_full arg18.view _ _ _ []
      · exact (View.read_writes_full arg19.view _ _ _ []).trans (congrArg k0_pay45 (View.readCov_full arg18.view _ _ _ []))
      · exact View.read_writes_full arg20.view _ _ _ []
      · exact View.read_writes_full arg22.view _ _ _ []
    isplitl [H13]
    · iexists _; isplitr; swap; · iexact H13
      ipureintro
      refine exit_dc _ (walk _ _ k0_t1_loop.trips) (exit_agree _ _ _ (arg23.view.read (Elt F) arg23.view.junk) _ _ _ _ ((View.readAt_full arg1.view f1 inb_S4096x128_S4096x128_0_0).trans hf1) ((View.readAt_full arg2.view f2 inb_S4096x128_S4096x128_0_0).trans hf2) ((View.readAt_full arg6.view f6 inb_S1x128_S1x128_0_0).trans hf6) ((View.readAt_full arg7.view f7 inb_S1x128_S1x128_0_0).trans hf7) ?_ hf5 hf8 hf10 ?_ ?_ ?_ hf3 hf9 ?_ ?_) arg13 _ _ ((View.readAt_full arg22.view _ inb_S1x4096_S1x4096_0_0).trans (read_cont arg22 harg22 _ _ rfl _))
      · exact View.read_writes_full arg17.view _ _ _ []
      · exact read_rowSums arg23 _ _ _ _ ((View.readAt_full arg5.view f5 inb_S4096x128_S4096x128_0_0).trans hf5) ((View.readAt_full arg4.view f4 inb_S4096x128_S4096x128_0_0).trans hf4)
      · exact View.read_writes_full arg18.view _ _ _ []
      · exact (View.read_writes_full arg19.view _ _ _ []).trans (congrArg k0_pay45 (View.readCov_full arg18.view _ _ _ []))
      · exact View.read_writes_full arg20.view _ _ _ []
      · exact View.read_writes_full arg22.view _ _ _ []
    isplitl [H14]
    · iexists _; isplitr; swap; · iexact H14
      ipureintro
      refine (read_cont arg14 harg14 _ _ rfl _).trans (Agree.dck_eq (exit_agree _ _ _ (arg23.view.read (Elt F) arg23.view.junk) _ _ _ _ ((View.readAt_full arg1.view f1 inb_S4096x128_S4096x128_0_0).trans hf1) ((View.readAt_full arg2.view f2 inb_S4096x128_S4096x128_0_0).trans hf2) ((View.readAt_full arg6.view f6 inb_S1x128_S1x128_0_0).trans hf6) ((View.readAt_full arg7.view f7 inb_S1x128_S1x128_0_0).trans hf7) ?_ hf5 hf8 hf10 ?_ ?_ ?_ hf3 hf9 ?_ ?_))
      · exact View.read_writes_full arg17.view _ _ _ []
      · exact read_rowSums arg23 _ _ _ _ ((View.readAt_full arg5.view f5 inb_S4096x128_S4096x128_0_0).trans hf5) ((View.readAt_full arg4.view f4 inb_S4096x128_S4096x128_0_0).trans hf4)
      · exact View.read_writes_full arg18.view _ _ _ []
      · exact (View.read_writes_full arg19.view _ _ _ []).trans (congrArg k0_pay45 (View.readCov_full arg18.view _ _ _ []))
      · exact View.read_writes_full arg20.view _ _ _ []
      · exact View.read_writes_full arg22.view _ _ _ []
    isplitl [H15]
    · iexists _; isplitr; swap; · iexact H15
      ipureintro
      refine exit_ggq _ (walk _ _ k0_t1_loop.trips) (exit_agree _ _ _ (arg23.view.read (Elt F) arg23.view.junk) _ _ _ _ ((View.readAt_full arg1.view f1 inb_S4096x128_S4096x128_0_0).trans hf1) ((View.readAt_full arg2.view f2 inb_S4096x128_S4096x128_0_0).trans hf2) ((View.readAt_full arg6.view f6 inb_S1x128_S1x128_0_0).trans hf6) ((View.readAt_full arg7.view f7 inb_S1x128_S1x128_0_0).trans hf7) ?_ hf5 hf8 hf10 ?_ ?_ ?_ hf3 hf9 ?_ ?_) arg15 _ _ _ _ _ _ ((View.readAt_full arg1.view f1 inb_S4096x128_S4096x128_0_0).trans hf1) ((View.readAt_full arg20.view _ inb_S128x4096_S128x4096_0_0).trans (read_cont arg20 harg20 _ _ rfl _)) ?_
      · exact View.read_writes_full arg17.view _ _ _ []
      · exact read_rowSums arg23 _ _ _ _ ((View.readAt_full arg5.view f5 inb_S4096x128_S4096x128_0_0).trans hf5) ((View.readAt_full arg4.view f4 inb_S4096x128_S4096x128_0_0).trans hf4)
      · exact View.read_writes_full arg18.view _ _ _ []
      · exact (View.read_writes_full arg19.view _ _ _ []).trans (congrArg k0_pay45 (View.readCov_full arg18.view _ _ _ []))
      · exact View.read_writes_full arg20.view _ _ _ []
      · exact View.read_writes_full arg22.view _ _ _ []
      · rw [if_pos h0]; exact View.readCov_full arg15.view _ _ _ []
    isplitl [H16]
    · iexists _; isplitr; swap; · iexact H16
      ipureintro
      refine exit_ggk _ (walk _ _ k0_t1_loop.trips) (exit_agree _ _ _ (arg23.view.read (Elt F) arg23.view.junk) _ _ _ _ ((View.readAt_full arg1.view f1 inb_S4096x128_S4096x128_0_0).trans hf1) ((View.readAt_full arg2.view f2 inb_S4096x128_S4096x128_0_0).trans hf2) ((View.readAt_full arg6.view f6 inb_S1x128_S1x128_0_0).trans hf6) ((View.readAt_full arg7.view f7 inb_S1x128_S1x128_0_0).trans hf7) ?_ hf5 hf8 hf10 ?_ ?_ ?_ hf3 hf9 ?_ ?_) arg16 _ _ _ _ _ _ ((View.readAt_full arg2.view f2 inb_S4096x128_S4096x128_0_0).trans hf2) ((View.readAt_full arg21.view _ inb_S4096x128_S4096x128_0_0).trans (read_cont arg21 harg21 _ _ rfl _)) ?_
      · exact View.read_writes_full arg17.view _ _ _ []
      · exact read_rowSums arg23 _ _ _ _ ((View.readAt_full arg5.view f5 inb_S4096x128_S4096x128_0_0).trans hf5) ((View.readAt_full arg4.view f4 inb_S4096x128_S4096x128_0_0).trans hf4)
      · exact View.read_writes_full arg18.view _ _ _ []
      · exact (View.read_writes_full arg19.view _ _ _ []).trans (congrArg k0_pay45 (View.readCov_full arg18.view _ _ _ []))
      · exact View.read_writes_full arg20.view _ _ _ []
      · exact View.read_writes_full arg22.view _ _ _ []
      · rw [if_pos h0]; exact View.readCov_full arg16.view _ _ _ []
    isplitl [H17]
    · iexists _; iexists _; isplitr; swap; · iexact H17
      ipureintro; rfl
    isplitl [H18]
    · iexists _; iexists _; isplitr; swap; · iexact H18
      ipureintro; rfl
    isplitl [H19]
    · iexists _; iexists _; isplitr; swap; · iexact H19
      ipureintro; rfl
    isplitl [H20]
    · iexists _; iexists _; isplitr; swap; · iexact H20
      ipureintro; rfl
    isplitl [H21]
    · iexists _; iexists _; isplitr; swap; · iexact H21
      ipureintro; rfl
    isplitl [H22]
    · iexists _; iexists _; isplitr; swap; · iexact H22
      ipureintro; rfl
    iexists _; iexists _; isplitr; swap; · iexact H23
    ipureintro; rfl
  · have hc := mt hc'.1 h0
    sl_exec (disch := first | sl_exact hc | omega)
    sl_step
    iapply Hk
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H12]
    · iexists _; isplitr; swap; · iexact H12
      ipureintro
      refine exit_dp _ (walk _ _ k0_t1_loop.trips) (exit_agree _ _ _ (arg23.view.read (Elt F) arg23.view.junk) _ _ _ _ ((View.readAt_full arg1.view f1 inb_S4096x128_S4096x128_0_0).trans hf1) ((View.readAt_full arg2.view f2 inb_S4096x128_S4096x128_0_0).trans hf2) ((View.readAt_full arg6.view f6 inb_S1x128_S1x128_0_0).trans hf6) ((View.readAt_full arg7.view f7 inb_S1x128_S1x128_0_0).trans hf7) ?_ hf5 hf8 hf10 ?_ ?_ ?_ hf3 hf9 ?_ ?_) arg12 _ _ _ _ _ _ _ ((View.readAt_full arg1.view f1 inb_S4096x128_S4096x128_0_0).trans hf1) ((View.readAt_full arg2.view f2 inb_S4096x128_S4096x128_0_0).trans hf2) ((View.readAt_full arg6.view f6 inb_S1x128_S1x128_0_0).trans hf6) ((View.readAt_full arg7.view f7 inb_S1x128_S1x128_0_0).trans hf7) (read_cont arg12 harg12 _ _ rfl _) ((View.readAt_full arg20.view _ inb_S128x4096_S128x4096_0_0).trans (read_cont arg20 harg20 _ _ rfl _)) ((View.readAt_full arg21.view _ inb_S4096x128_S4096x128_0_0).trans (read_cont arg21 harg21 _ _ rfl _))
      · exact View.read_writes_full arg17.view _ _ _ []
      · exact read_rowSums arg23 _ _ _ _ ((View.readAt_full arg5.view f5 inb_S4096x128_S4096x128_0_0).trans hf5) ((View.readAt_full arg4.view f4 inb_S4096x128_S4096x128_0_0).trans hf4)
      · exact View.read_writes_full arg18.view _ _ _ []
      · exact (View.read_writes_full arg19.view _ _ _ []).trans (congrArg k0_pay45 (View.readCov_full arg18.view _ _ _ []))
      · exact View.read_writes_full arg20.view _ _ _ []
      · exact View.read_writes_full arg22.view _ _ _ []
    isplitl [H13]
    · iexists _; isplitr; swap; · iexact H13
      ipureintro
      refine exit_dc _ (walk _ _ k0_t1_loop.trips) (exit_agree _ _ _ (arg23.view.read (Elt F) arg23.view.junk) _ _ _ _ ((View.readAt_full arg1.view f1 inb_S4096x128_S4096x128_0_0).trans hf1) ((View.readAt_full arg2.view f2 inb_S4096x128_S4096x128_0_0).trans hf2) ((View.readAt_full arg6.view f6 inb_S1x128_S1x128_0_0).trans hf6) ((View.readAt_full arg7.view f7 inb_S1x128_S1x128_0_0).trans hf7) ?_ hf5 hf8 hf10 ?_ ?_ ?_ hf3 hf9 ?_ ?_) arg13 _ _ ((View.readAt_full arg22.view _ inb_S1x4096_S1x4096_0_0).trans (read_cont arg22 harg22 _ _ rfl _))
      · exact View.read_writes_full arg17.view _ _ _ []
      · exact read_rowSums arg23 _ _ _ _ ((View.readAt_full arg5.view f5 inb_S4096x128_S4096x128_0_0).trans hf5) ((View.readAt_full arg4.view f4 inb_S4096x128_S4096x128_0_0).trans hf4)
      · exact View.read_writes_full arg18.view _ _ _ []
      · exact (View.read_writes_full arg19.view _ _ _ []).trans (congrArg k0_pay45 (View.readCov_full arg18.view _ _ _ []))
      · exact View.read_writes_full arg20.view _ _ _ []
      · exact View.read_writes_full arg22.view _ _ _ []
    isplitl [H14]
    · iexists _; isplitr; swap; · iexact H14
      ipureintro
      refine (read_cont arg14 harg14 _ _ rfl _).trans (Agree.dck_eq (exit_agree _ _ _ (arg23.view.read (Elt F) arg23.view.junk) _ _ _ _ ((View.readAt_full arg1.view f1 inb_S4096x128_S4096x128_0_0).trans hf1) ((View.readAt_full arg2.view f2 inb_S4096x128_S4096x128_0_0).trans hf2) ((View.readAt_full arg6.view f6 inb_S1x128_S1x128_0_0).trans hf6) ((View.readAt_full arg7.view f7 inb_S1x128_S1x128_0_0).trans hf7) ?_ hf5 hf8 hf10 ?_ ?_ ?_ hf3 hf9 ?_ ?_))
      · exact View.read_writes_full arg17.view _ _ _ []
      · exact read_rowSums arg23 _ _ _ _ ((View.readAt_full arg5.view f5 inb_S4096x128_S4096x128_0_0).trans hf5) ((View.readAt_full arg4.view f4 inb_S4096x128_S4096x128_0_0).trans hf4)
      · exact View.read_writes_full arg18.view _ _ _ []
      · exact (View.read_writes_full arg19.view _ _ _ []).trans (congrArg k0_pay45 (View.readCov_full arg18.view _ _ _ []))
      · exact View.read_writes_full arg20.view _ _ _ []
      · exact View.read_writes_full arg22.view _ _ _ []
    isplitl [H15]
    · iexists _; isplitr; swap; · iexact H15
      ipureintro
      refine exit_ggq _ (walk _ _ k0_t1_loop.trips) (exit_agree _ _ _ (arg23.view.read (Elt F) arg23.view.junk) _ _ _ _ ((View.readAt_full arg1.view f1 inb_S4096x128_S4096x128_0_0).trans hf1) ((View.readAt_full arg2.view f2 inb_S4096x128_S4096x128_0_0).trans hf2) ((View.readAt_full arg6.view f6 inb_S1x128_S1x128_0_0).trans hf6) ((View.readAt_full arg7.view f7 inb_S1x128_S1x128_0_0).trans hf7) ?_ hf5 hf8 hf10 ?_ ?_ ?_ hf3 hf9 ?_ ?_) arg15 _ _ _ _ _ _ ((View.readAt_full arg1.view f1 inb_S4096x128_S4096x128_0_0).trans hf1) ((View.readAt_full arg20.view _ inb_S128x4096_S128x4096_0_0).trans (read_cont arg20 harg20 _ _ rfl _)) ?_
      · exact View.read_writes_full arg17.view _ _ _ []
      · exact read_rowSums arg23 _ _ _ _ ((View.readAt_full arg5.view f5 inb_S4096x128_S4096x128_0_0).trans hf5) ((View.readAt_full arg4.view f4 inb_S4096x128_S4096x128_0_0).trans hf4)
      · exact View.read_writes_full arg18.view _ _ _ []
      · exact (View.read_writes_full arg19.view _ _ _ []).trans (congrArg k0_pay45 (View.readCov_full arg18.view _ _ _ []))
      · exact View.read_writes_full arg20.view _ _ _ []
      · exact View.read_writes_full arg22.view _ _ _ []
      · rw [if_neg h0]; exact ((View.readAt_full arg15.view f15 inb_S1x128_S1x128_0_0).trans hf15)
    isplitl [H16]
    · iexists _; isplitr; swap; · iexact H16
      ipureintro
      refine exit_ggk _ (walk _ _ k0_t1_loop.trips) (exit_agree _ _ _ (arg23.view.read (Elt F) arg23.view.junk) _ _ _ _ ((View.readAt_full arg1.view f1 inb_S4096x128_S4096x128_0_0).trans hf1) ((View.readAt_full arg2.view f2 inb_S4096x128_S4096x128_0_0).trans hf2) ((View.readAt_full arg6.view f6 inb_S1x128_S1x128_0_0).trans hf6) ((View.readAt_full arg7.view f7 inb_S1x128_S1x128_0_0).trans hf7) ?_ hf5 hf8 hf10 ?_ ?_ ?_ hf3 hf9 ?_ ?_) arg16 _ _ _ _ _ _ ((View.readAt_full arg2.view f2 inb_S4096x128_S4096x128_0_0).trans hf2) ((View.readAt_full arg21.view _ inb_S4096x128_S4096x128_0_0).trans (read_cont arg21 harg21 _ _ rfl _)) ?_
      · exact View.read_writes_full arg17.view _ _ _ []
      · exact read_rowSums arg23 _ _ _ _ ((View.readAt_full arg5.view f5 inb_S4096x128_S4096x128_0_0).trans hf5) ((View.readAt_full arg4.view f4 inb_S4096x128_S4096x128_0_0).trans hf4)
      · exact View.read_writes_full arg18.view _ _ _ []
      · exact (View.read_writes_full arg19.view _ _ _ []).trans (congrArg k0_pay45 (View.readCov_full arg18.view _ _ _ []))
      · exact View.read_writes_full arg20.view _ _ _ []
      · exact View.read_writes_full arg22.view _ _ _ []
      · rw [if_neg h0]; exact ((View.readAt_full arg16.view f16 inb_S1x128_S1x128_0_0).trans hf16)
    isplitl [H17]
    · iexists _; iexists _; isplitr; swap; · iexact H17
      ipureintro; rfl
    isplitl [H18]
    · iexists _; iexists _; isplitr; swap; · iexact H18
      ipureintro; rfl
    isplitl [H19]
    · iexists _; iexists _; isplitr; swap; · iexact H19
      ipureintro; rfl
    isplitl [H20]
    · iexists _; iexists _; isplitr; swap; · iexact H20
      ipureintro; rfl
    isplitl [H21]
    · iexists _; iexists _; isplitr; swap; · iexact H21
      ipureintro; rfl
    isplitl [H22]
    · iexists _; iexists _; isplitr; swap; · iexact H22
      ipureintro; rfl
    iexists _; iexists _; isplitr; swap; · iexact H23
    ipureintro; rfl

end Cert.KernelIdeal.Fox
-- ==== Proof.FoxFrame.lean ====
module

public import proofs.«01_k».proof.Proof.FoxRun
public import Idealize.ShloMosaic.Lib.Claim

/-! The launch of the backward kernel: every head run, what each result array holds in the end, and the frame. -/

@[expose] public section

set_option maxRecDepth 16384
set_option maxHeartbeats 400000

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf shareOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- what head `t` reads: the windows' blocks -/
def inp (c : Dev nD) (t : Fin cfg0.N) : In F where
  q := iblk m c 0 t
  k := iblk m c 1 t
  v := iblk m c 2 t
  o := iblk m c 3 t
  dO := iblk m c 4 t
  gq := iblk m c 5 t
  gk := iblk m c 6 t
  cr := iblk m c 7 t
  cc := iblk m c 8 t
  ls := iblk m c 9 t

/-- the gradient of the queries' gain after the heads up to `n` -/
def ggqAt (c : Dev nD) : ℕ → Vec F S1x128 .f32
  | 0 => ggqOf (inp m c ⟨0, by decide⟩) (done (inp m c ⟨0, by decide⟩)) k0_pay79
  | n + 1 => if h : n + 1 < cfg0.N then ggqOf (inp m c ⟨n + 1, h⟩) (done (inp m c ⟨n + 1, h⟩)) (ggqAt c n) else ggqAt c n

/-- the gradient of the keys' gain after the heads up to `n` -/
def ggkAt (c : Dev nD) : ℕ → Vec F S1x128 .f32
  | 0 => ggkOf (inp m c ⟨0, by decide⟩) (done (inp m c ⟨0, by decide⟩)) k0_pay80
  | n + 1 => if h : n + 1 < cfg0.N then ggkOf (inp m c ⟨n + 1, h⟩) (done (inp m c ⟨n + 1, h⟩)) (ggkAt c n) else ggkAt c n

theorem ggqAt_of_pos (c : Dev nD) (t : Fin cfg0.N) (h : t.val ≠ 0) :
    ggqAt m c t.val = ggqOf (inp m c t) (done (inp m c t)) (ggqAt m c (t.val - 1)) := by
  obtain ⟨n, hn⟩ := t
  cases n with
  | zero => exact absurd rfl h
  | succ n => exact dif_pos hn

theorem ggkAt_of_pos (c : Dev nD) (t : Fin cfg0.N) (h : t.val ≠ 0) :
    ggkAt m c t.val = ggkOf (inp m c t) (done (inp m c t)) (ggkAt m c (t.val - 1)) := by
  obtain ⟨n, hn⟩ := t
  cases n with
  | zero => exact absurd rfl h
  | succ n => exact dif_pos hn

/-- The pipeline's data: the arrays as the region finds them; after each head the inputs' blocks as they were and the results' of that
    head, the two gains' gradients summed over the heads so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dpOf (inp m c t) (done (inp m c t))
    | ⟨11, _⟩ => k0_pay78 (done (inp m c t)).dcq
    | ⟨12, _⟩ => (done (inp m c t)).dck
    | ⟨13, _⟩ => ggqAt m c t.val
    | ⟨14, _⟩ => ggkAt m c t.val
  Φ _ := Pipeline.ΦA spec0 c
  q := shareOf spec0
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = dpOf (inp m c t) (done (inp m c t)) := by dsimp only [dats]
theorem after_11 (c : Dev nD) (t : Fin cfg0.N) : (dats m 0 c).after 11 t = k0_pay78 (done (inp m c t)).dcq := by dsimp only [dats]
theorem after_12 (c : Dev nD) (t : Fin cfg0.N) : (dats m 0 c).after 12 t = (done (inp m c t)).dck := by dsimp only [dats]
theorem after_13 (c : Dev nD) (t : Fin cfg0.N) : (dats m 0 c).after 13 t = ggqAt m c t.val := by dsimp only [dats]
theorem after_14 (c : Dev nD) (t : Fin cfg0.N) : (dats m 0 c).after 14 t = ggkAt m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

theorem before_13 (c : Dev nD) (t : Fin cfg0.N) (h : t.val ≠ 0) (d) : (dats m 0 c).before 13 t d = ggqAt m c (t.val - 1) := by
  rw [(dats m 0 c).before_out_kept 13 rfl t h ?_ (fun _ => rfl) (fun _ _ => rfl) d, after_13]
  have hN : t.val < 8 := t.isLt
  have := (flush0_13 ⟨t.val - 1, Nat.lt_of_le_of_lt (Nat.sub_le _ _) t.isLt⟩)
  dsimp only at this
  cases hf : (cfg0.win 13).flush ⟨t.val - 1, Nat.lt_of_le_of_lt (Nat.sub_le _ _) t.isLt⟩ with
  | false => rfl
  | true => rw [hf] at this; have := this.1 rfl; omega

theorem before_14 (c : Dev nD) (t : Fin cfg0.N) (h : t.val ≠ 0) (d) : (dats m 0 c).before 14 t d = ggkAt m c (t.val - 1) := by
  rw [(dats m 0 c).before_out_kept 14 rfl t h ?_ (fun _ => rfl) (fun _ _ => rfl) d, after_14]
  have hN : t.val < 8 := t.isLt
  have := (flush0_14 ⟨t.val - 1, Nat.lt_of_le_of_lt (Nat.sub_le _ _) t.isLt⟩)
  dsimp only at this
  cases hf : (cfg0.win 14).flush ⟨t.val - 1, Nat.lt_of_le_of_lt (Nat.sub_le _ _) t.isLt⟩ with
  | false => rfl
  | true => rw [hf] at this; have := this.1 rfl; omega

theorem coords_val : ∀ t : Fin grid0.N, (grid0.coords t 0).val = t.val := by decide +kernel

theorem ggq_step (c : Dev nD) (t : Fin cfg0.N) (d) :
    ggqOf (inp m c t) (done (inp m c t)) (if (grid0.coords t 0).val = 0 then k0_pay79 else (dats m 0 c).before 13 t d) = ggqAt m c t.val := by
  rw [coords_val t]
  by_cases h : t.val = 0
  · have e : t = ⟨0, by decide⟩ := Fin.ext h
    rw [if_pos h]
    subst e
    rfl
  · rw [if_neg h, before_13 m c t h, ggqAt_of_pos m c t h]

theorem ggk_step (c : Dev nD) (t : Fin cfg0.N) (d) :
    ggkOf (inp m c t) (done (inp m c t)) (if (grid0.coords t 0).val = 0 then k0_pay80 else (dats m 0 c).before 14 t d) = ggkAt m c t.val := by
  rw [coords_val t]
  by_cases h : t.val = 0
  · have e : t = ⟨0, by decide⟩ := Fin.ext h
    rw [if_pos h]
    subst e
    rfl
  · rw [if_neg h, before_14 m c t h, ggkAt_of_pos m c t h]

/-- what the body is called with at head `t` -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 6400000 in
/-- The body at any head. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, after_10, after_11, after_12, after_13, after_14]
  unfold Pipeline.ΦA
  rw [scopedRest0_eq]
  simp only [← owns_whole (c : Thread nD τ)]
  iintro ⟨⟨⟨⟨%s0, S0⟩, ⟨%s1, S1⟩, ⟨%s2, S2⟩, ⟨%s3, S3⟩, ⟨%s4, S4⟩, ⟨%s5, S5⟩, ⟨%s6, S6⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (inp m c t) ((dats m 0 c).before 13 t d13) ((dats m 0 c).before 14 t d14) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [H14]; · iexact H14
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  rw [ggq_step, ggk_step]
  iintro ⟨H0, H1, H2, H3, H4, H5, H6, H7, H8, H9, H10, H11, H12, H13, H14, ⟨%e0, S0⟩, ⟨%e1, S1⟩, ⟨%e2, S2⟩, ⟨%e3, S3⟩, ⟨%e4, S4⟩, ⟨%e5, S5⟩, ⟨%e6, S6⟩⟩
  isplitl [Hr S0 S1 S2 S3 S4 S5 S6]
  · isplitr [Hr]; swap; · iexact Hr
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline ends at what the data say, every other buffer as the region found it, and every semaphore
    counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := by intros; rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Fox
-- ==== Proof.FoxBits.lean ====
module

public import proofs.«01_k».proof.Defs
public import proofs.«01_k».proof.Proof.Gen.Kernel.Skeleton
public import proofs.«01_k».proof.Proof.FoxFrame

/-! The frame of the attention's backward kernel as it is printed for the machine's words: its text is that of the
    kernel over the extended reals, whose run holds at any float values. -/

@[expose] public section

set_option maxRecDepth 16384

noncomputable section

namespace Cert.Proof

open Idealize.ShloMosaic Idealize.SL.Sem

set_option maxHeartbeats 2000000

theorem body_eq : (@Cert.Kernel.cc0_fox_bwd Bits _ _) = (@Cert.KernelIdeal.cc0_fox_bwd Bits _ _) := rfl
theorem cfg_eq : (Cert.Kernel.pcfgs (F := Bits)) = (Cert.KernelIdeal.pcfgs (F := Bits)) := rfl
theorem main_eq : (Cert.Kernel.main (F := Bits)) = (Cert.KernelIdeal.main (F := Bits)) := rfl

theorem bodies_eq : (Cert.Kernel.defs₀ (F := Bits)) = (Cert.KernelIdeal.defs₀ (F := Bits)) := by
  refine congrArg Defs.onTc (funext fun l => funext fun x => ?_)
  match l, x with
  | 0, (t, s) =>
    dsimp only
    rw [body_eq]
    rfl
  | ⟨_ + 1, h⟩, _ => exact absurd h (Nat.not_lt.2 (Nat.le_add_left _ _))

theorem defs_eq : (Cert.Kernel.defs (F := Bits)) = (Cert.KernelIdeal.defs (F := Bits)) :=
  congrArg (Pipeline.defs (Cert.KernelIdeal.pcfgs (F := Bits))) bodies_eq

/-- The frame of the kernel, from the run at any float values. -/
theorem frame_kernel : Cert.quiescent_Kernel := fun m ρ _ => by
  have h := Cert.KernelIdeal.Fox.frame (F := Bits) m ρ
  rw [← defs_eq, ← main_eq] at h
  exact h

end Cert.Proof
-- ==== Proof.FoxTile.lean ====
module

public import proofs.«01_k».proof.Proof.FoxHead
public import Idealize.ShloMosaic.Lib.Pointwise

/-! The pieces of one head over the extended reals, at an index: what a tile of keys by queries adds to each sum. -/

@[expose] public section

set_option maxRecDepth 16384

noncomputable section

namespace Cert.KernelIdeal.Fox

open Idealize.ShloMosaic Idealize.SL.Sem
open Cert.KernelIdeal Cert.KernelIdeal.Gen

section windows
variable {α : Type}

theorem window2 {n m p q : ℕ} (x : (⟨2, ![n, m]⟩ : Shape).Idx → α) (off : Fin 2 → ℕ) (o u : ℕ) (ho : off = ![o, u])
    (inb : ∀ a : Fin 2, off a + (![p, q] : Fin 2 → ℕ) a ≤ (⟨2, ![n, m]⟩ : Shape).size a) (a : Fin p) (b : Fin q) (i : Fin n) (k : Fin m)
    (h0 : i.val = o + a.val) (h1 : k.val = u + b.val) :
    VecWindow.window (s := ⟨2, ![n, m]⟩) x off ![p, q] inb (ix2 a b) = x (ix2 i k) := by
  subst ho
  refine congrArg x (funext fun z => Fin.ext ?_)
  match z with
  | ⟨0, _⟩ => show o + 1 * a.val = i.val; omega
  | ⟨1, _⟩ => show u + 1 * b.val = k.val; omega

theorem window3 {n m l p q r : ℕ} (x : (⟨3, ![n, m, l]⟩ : Shape).Idx → α) (off : Fin 3 → ℕ) (o u w : ℕ) (ho : off = ![o, u, w])
    (inb : ∀ a : Fin 3, off a + (![p, q, r] : Fin 3 → ℕ) a ≤ (⟨3, ![n, m, l]⟩ : Shape).size a) (a : Fin p) (b : Fin q) (c : Fin r)
    (i : Fin n) (k : Fin m) (j : Fin l) (h0 : i.val = o + a.val) (h1 : k.val = u + b.val) (h2 : j.val = w + c.val) :
    VecWindow.window (s := ⟨3, ![n, m, l]⟩) x off ![p, q, r] inb (ix3 a b c) = x (ix3 i k j) := by
  subst ho
  refine congrArg x (funext fun z => Fin.ext ?_)
  match z with
  | ⟨0, _⟩ => show o + 1 * a.val = i.val; omega
  | ⟨1, _⟩ => show u + 1 * b.val = k.val; omega
  | ⟨2, _⟩ => show w + 1 * c.val = j.val; omega

theorem put2_in {n m p q : ℕ} (x : (⟨2, ![n, m]⟩ : Shape).Idx → α) (off : Fin 2 → ℕ) (o u : ℕ) (ho : off = ![o, u])
    (w : (⟨2, ![p, q]⟩ : Shape).Idx → α) (i : Fin n) (k : Fin m) (a : Fin p) (b : Fin q) (h0 : i.val = o + a.val) (h1 : k.val = u + b.val) :
    VecWindow.put (s := ⟨2, ![n, m]⟩) x off ![p, q] w (ix2 i k) = w (ix2 a b) := by
  subst ho
  have h : ∀ z : Fin 2, (![o, u] : Fin 2 → ℕ) z ≤ (ix2 i k z).val ∧ (ix2 i k z).val < (![o, u] : Fin 2 → ℕ) z + (![p, q] : Fin 2 → ℕ) z := fun z => by
    match z with
    | ⟨0, _⟩ => show o ≤ i.val ∧ i.val < o + p; omega
    | ⟨1, _⟩ => show u ≤ k.val ∧ k.val < u + q; omega
  refine (dif_pos h).trans (congrArg w (funext fun z => Fin.ext ?_))
  match z with
  | ⟨0, _⟩ => show i.val - o = a.val; omega
  | ⟨1, _⟩ => show k.val - u = b.val; omega

theorem put2_out {n m p q : ℕ} (x : (⟨2, ![n, m]⟩ : Shape).Idx → α) (off : Fin 2 → ℕ) (o u : ℕ) (ho : off = ![o, u])
    (w : (⟨2, ![p, q]⟩ : Shape).Idx → α) (i : Fin n) (k : Fin m) (h : ¬ ((o ≤ i.val ∧ i.val < o + p) ∧ (u ≤ k.val ∧ k.val < u + q))) :
    VecWindow.put (s := ⟨2, ![n, m]⟩) x off ![p, q] w (ix2 i k) = x (ix2 i k) := by
  subst ho
  exact dif_neg fun hh => h ⟨hh 0, hh 1⟩

theorem put3_in {n m l p q r : ℕ} (x : (⟨3, ![n, m, l]⟩ : Shape).Idx → α) (off : Fin 3 → ℕ) (o u v : ℕ) (ho : off = ![o, u, v])
    (w : (⟨3, ![p, q, r]⟩ : Shape).Idx → α) (i : Fin n) (k : Fin m) (j : Fin l) (a : Fin p) (b : Fin q) (c : Fin r) (h0 : i.val = o + a.val) (h1 : k.val = u + b.val)
    (h2 : j.val = v + c.val) :
    VecWindow.put (s := ⟨3, ![n, m, l]⟩) x off ![p, q, r] w (ix3 i k j) = w (ix3 a b c) := by
  subst ho
  have h : ∀ z : Fin 3, (![o, u, v] : Fin 3 → ℕ) z ≤ (ix3 i k j z).val ∧ (ix3 i k j z).val < (![o, u, v] : Fin 3 → ℕ) z + (![p, q, r] : Fin 3 → ℕ) z := fun z => by
    match z with
    | ⟨0, _⟩ => show o ≤ i.val ∧ i.val < o + p; omega
    | ⟨1, _⟩ => show u ≤ k.val ∧ k.val < u + q; omega
    | ⟨2, _⟩ => show v ≤ j.val ∧ j.val < v + r; omega
  refine (dif_pos h).trans (congrArg w (funext fun z => Fin.ext ?_))
  match z with
  | ⟨0, _⟩ => show i.val - o = a.val; omega
  | ⟨1, _⟩ => show k.val - u = b.val; omega
  | ⟨2, _⟩ => show j.val - v = c.val; omega

theorem put3_out {n m l p q r : ℕ} (x : (⟨3, ![n, m, l]⟩ : Shape).Idx → α) (off : Fin 3 → ℕ) (o u v : ℕ) (ho : off = ![o, u, v])
    (w : (⟨3, ![p, q, r]⟩ : Shape).Idx → α) (i : Fin n) (k : Fin m) (j : Fin l) (h : ¬ (u ≤ k.val ∧ k.val < u + q)) :
    VecWindow.put (s := ⟨3, ![n, m, l]⟩) x off ![p, q, r] w (ix3 i k j) = x (ix3 i k j) := by
  subst ho
  exact dif_neg fun hh => h (hh 1)

end windows

/-! Sums over the first rows of 4096. -/

/-- the sum over the first `N` of 4096 -/
def psum (N : ℕ) (f : Fin 4096 → EReal) : EReal := ∑ i ∈ Finset.range N, if h : i < 4096 then f ⟨i, h⟩ else 0

theorem psum_add {N W : ℕ} (h : N + W ≤ 4096) (f : Fin 4096 → EReal) : psum (N + W) f = psum N f + ∑ b : Fin W, f ⟨N + b.val, by omega⟩ := by
  unfold psum
  rw [Finset.sum_range_add]
  refine congrArg _ ((Finset.sum_range _).trans (Finset.sum_congr rfl fun b _ => ?_))
  exact dif_pos (by omega)

theorem psum_full (f : Fin 4096 → EReal) : psum 4096 f = ∑ i, f i := by
  unfold psum
  rw [Finset.sum_range]
  exact Finset.sum_congr rfl fun b _ => dif_pos b.isLt

theorem psum_zero (f : Fin 4096 → EReal) : psum 0 f = 0 := rfl

theorem psum_eq_zero (N : ℕ) (f : Fin 4096 → EReal) (h : ∀ i : Fin 4096, i.val < N → f i = 0) : psum N f = 0 := by
  refine Finset.sum_eq_zero fun i hi => ?_
  split
  · exact h _ (Finset.mem_range.1 hi)
  · rfl

/-! The payloads at an index. -/
section pays
variable (k : Vec Ideal S512x128 .bf16) (v : Vec Ideal S512x128 .bf16) (kt : Vec Ideal S128x512 .bf16)

theorem pay25 (c : Vec Ideal S1x512x1 .f32) (a : Fin 512) : k0_pay25 c (ix2 a 0) = c (ix3 0 a 0) := by pointwise [k0_pay25]

theorem pay1 (c : FVec Ideal S512x1 .f32) (q : Vec Ideal S1024x128 .bf16) (cr ls : Vec Ideal S1x1x1024 .f32) (a : Fin 512) (b : Fin 1024) :
    k0_pay1 k c q cr ls (ix2 a b) = Ideal.exp ((∑ d : Fin 128, k (ix2 a d) * q (ix2 b d)) + ((cr (ix3 0 0 b) - ls (ix3 0 0 b)) - c (ix2 a 0))) := by
  pointwise [k0_pay1]
theorem pay2 (c : FVec Ideal S512x1 .f32) (q o : Vec Ideal S1024x128 .bf16) (cr ls : Vec Ideal S1x1x1024 .f32) (dl : Vec Ideal S1x1024 .f32) (a : Fin 512) (b : Fin 1024) :
    k0_pay2 k v c q o cr ls dl (ix2 a b) = k0_pay1 k c q cr ls (ix2 a b) * ((∑ d : Fin 128, v (ix2 a d) * o (ix2 b d)) - dl (ix2 0 b)) := by
  pointwise [k0_pay2]
theorem pay4 (c : FVec Ideal S512x1 .f32) (x : FVec Ideal S512x128 .f32) (q o : Vec Ideal S1024x128 .bf16) (cr ls : Vec Ideal S1x1x1024 .f32) (a : Fin 512) (d : Fin 128) :
    k0_pay4 k c x q o cr ls (ix2 a d) = x (ix2 a d) + ∑ b : Fin 1024, k0_pay1 k c q cr ls (ix2 a b) * o (ix2 b d) := by
  pointwise [k0_pay4]
theorem pay5 (c : FVec Ideal S512x1 .f32) (x : FVec Ideal S512x128 .f32) (q o : Vec Ideal S1024x128 .bf16) (cr ls : Vec Ideal S1x1x1024 .f32) (dl : Vec Ideal S1x1024 .f32) (a : Fin 512) (d : Fin 128) :
    k0_pay5 k v c x q o cr ls dl (ix2 a d) = x (ix2 a d) + ∑ b : Fin 1024, k0_pay2 k v c q o cr ls dl (ix2 a b) * q (ix2 b d) := by
  pointwise [k0_pay5, k0_pay3]
theorem pay6 (c : FVec Ideal S512x1 .f32) (q o : Vec Ideal S1024x128 .bf16) (cr ls : Vec Ideal S1x1x1024 .f32) (dl : Vec Ideal S1x1024 .f32) (x : Vec Ideal S128x1024 .f32) (d : Fin 128) (b : Fin 1024) :
    k0_pay6 k kt v c q o cr ls dl x (ix2 d b) = x (ix2 d b) + ∑ a : Fin 512, kt (ix2 d a) * k0_pay2 k v c q o cr ls dl (ix2 a b) := by
  pointwise [k0_pay6, k0_pay3]
theorem pay61 (t : FVec Ideal S512x1024 .f32) (x : Vec Ideal S1x1024 .f32) (b : Fin 1024) : k0_pay61 t x (ix2 0 b) = x (ix2 0 b) + ∑ a : Fin 512, t (ix2 a b) := by
  pointwise [k0_pay61]
theorem pay62 (t : FVec Ideal S512x1024 .f32) (x : FVec Ideal S512x1 .f32) (a : Fin 512) : k0_pay62 x t (ix2 a 0) = x (ix2 a 0) + ∑ b : Fin 1024, t (ix2 a b) := by
  pointwise [k0_pay62]

theorem pay13 (c : FVec Ideal S512x1 .f32) (q : Vec Ideal S512x128 .bf16) (cr ls : Vec Ideal S1x1x512 .f32) (a : Fin 512) (b : Fin 512) :
    k0_pay13 k c q cr ls (ix2 a b) = Ideal.exp ((∑ d : Fin 128, k (ix2 a d) * q (ix2 b d)) + ((cr (ix3 0 0 b) - ls (ix3 0 0 b)) - c (ix2 a 0))) := by
  pointwise [k0_pay13]
theorem pay14 (c : FVec Ideal S512x1 .f32) (q o : Vec Ideal S512x128 .bf16) (cr ls : Vec Ideal S1x1x512 .f32) (dl : Vec Ideal S1x512 .f32) (a : Fin 512) (b : Fin 512) :
    k0_pay14 k v c q o cr ls dl (ix2 a b) = k0_pay13 k c q cr ls (ix2 a b) * ((∑ d : Fin 128, v (ix2 a d) * o (ix2 b d)) - dl (ix2 0 b)) := by
  pointwise [k0_pay14]
theorem pay16 (c : FVec Ideal S512x1 .f32) (x : FVec Ideal S512x128 .f32) (q o : Vec Ideal S512x128 .bf16) (cr ls : Vec Ideal S1x1x512 .f32) (a : Fin 512) (d : Fin 128) :
    k0_pay16 k c x q o cr ls (ix2 a d) = x (ix2 a d) + ∑ b : Fin 512, k0_pay13 k c q cr ls (ix2 a b) * o (ix2 b d) := by
  pointwise [k0_pay16]
theorem pay17 (c : FVec Ideal S512x1 .f32) (x : FVec Ideal S512x128 .f32) (q o : Vec Ideal S512x128 .bf16) (cr ls : Vec Ideal S1x1x512 .f32) (dl : Vec Ideal S1x512 .f32) (a : Fin 512) (d : Fin 128) :
    k0_pay17 k v c x q o cr ls dl (ix2 a d) = x (ix2 a d) + ∑ b : Fin 512, k0_pay14 k v c q o cr ls dl (ix2 a b) * q (ix2 b d) := by
  pointwise [k0_pay17, k0_pay15]
theorem pay18 (c : FVec Ideal S512x1 .f32) (q o : Vec Ideal S512x128 .bf16) (cr ls : Vec Ideal S1x1x512 .f32) (dl : Vec Ideal S1x512 .f32) (x : Vec Ideal S128x512 .f32) (d : Fin 128) (b : Fin 512) :
    k0_pay18 k kt v c q o cr ls dl x (ix2 d b) = x (ix2 d b) + ∑ a : Fin 512, kt (ix2 d a) * k0_pay14 k v c q o cr ls dl (ix2 a b) := by
  pointwise [k0_pay18, k0_pay15]
theorem pay65 (t : FVec Ideal S512x512 .f32) (x : Vec Ideal S1x512 .f32) (b : Fin 512) : k0_pay65 t x (ix2 0 b) = x (ix2 0 b) + ∑ a : Fin 512, t (ix2 a b) := by
  pointwise [k0_pay65]
theorem pay66 (t : FVec Ideal S512x512 .f32) (x : FVec Ideal S512x1 .f32) (a : Fin 512) : k0_pay66 x t (ix2 a 0) = x (ix2 a 0) + ∑ b : Fin 512, t (ix2 a b) := by
  pointwise [k0_pay66]

theorem pay26 (a : Fin 512) (d : Fin 128) : k0_pay26 (F := Ideal) (ix2 a d) = 0 := by pointwise [k0_pay26]
theorem pay27 (a : Fin 512) : k0_pay27 (F := Ideal) (ix2 a 0) = 0 := by pointwise [k0_pay27]
theorem pay60 (a b : Fin 512) : k0_pay60 (ix2 a b) = if a.val ≤ b.val then 1#1 else 0#1 := by
  pointwise [k0_pay60]
  have ha : (BitVec.ofNat 32 a.val).toInt = a.val := by rw [BitVec.toInt_eq_toNat_of_lt] <;> simp <;> omega
  have hb : (BitVec.ofNat 32 b.val).toInt = b.val := by rw [BitVec.toInt_eq_toNat_of_lt] <;> simp <;> omega
  show BitVec.ofBool (decide ((BitVec.ofNat 32 a.val).toInt ≤ (BitVec.ofNat 32 b.val).toInt)) = _
  rw [ha, hb]
  by_cases h : a.val ≤ b.val
  · rw [if_pos h, decide_eq_true (by omega)]; rfl
  · rw [if_neg h, decide_eq_false (by omega)]; rfl
theorem pay28 (c : Vec Ideal S1x512x1 .f32) (q : Vec Ideal S512x128 .bf16) (cr ls : Vec Ideal S1x1x512 .f32) (a : Fin 512) (b : Fin 512) :
    k0_pay28 k0_pay60 k c q cr ls (ix2 a b) = if a.val ≤ b.val then Ideal.exp ((∑ d : Fin 128, k (ix2 a d) * q (ix2 b d)) + ((cr (ix3 0 0 b) - ls (ix3 0 0 b)) - c (ix3 0 a 0))) else 0 := by
  have h := pay60 a b
  have h' := pay25 c a
  pointwise [k0_pay28, h, h']
  by_cases hab : a.val ≤ b.val
  · rw [if_pos hab, if_pos hab]; exact if_pos rfl
  · rw [if_neg hab, if_neg hab]; exact if_neg (by decide)
theorem pay29 (c : Vec Ideal S1x512x1 .f32) (q o : Vec Ideal S512x128 .bf16) (cr ls : Vec Ideal S1x1x512 .f32) (dl : Vec Ideal S1x512 .f32) (a : Fin 512) (b : Fin 512) :
    k0_pay29 k0_pay60 k v c q o cr ls dl (ix2 a b) = k0_pay28 k0_pay60 k c q cr ls (ix2 a b) * ((∑ d : Fin 128, v (ix2 a d) * o (ix2 b d)) - dl (ix2 0 b)) := by
  pointwise [k0_pay29]
theorem pay31 (x : FVec Ideal S512x128 .f32) (o : Vec Ideal S512x128 .bf16) (t : FVec Ideal S512x512 .f32) (a : Fin 512) (d : Fin 128) :
    k0_pay31 x o t (ix2 a d) = x (ix2 a d) + ∑ b : Fin 512, t (ix2 a b) * o (ix2 b d) := by
  pointwise [k0_pay31]
theorem pay32 (x : FVec Ideal S512x128 .f32) (q : Vec Ideal S512x128 .bf16) (t : FVec Ideal S512x512 .f32) (a : Fin 512) (d : Fin 128) :
    k0_pay32 x q t (ix2 a d) = x (ix2 a d) + ∑ b : Fin 512, t (ix2 a b) * q (ix2 b d) := by
  pointwise [k0_pay32, k0_pay30]
theorem pay33 (t : FVec Ideal S512x512 .f32) (x : Vec Ideal S128x512 .f32) (d : Fin 128) (b : Fin 512) :
    k0_pay33 kt t x (ix2 d b) = x (ix2 d b) + ∑ a : Fin 512, kt (ix2 d a) * t (ix2 a b) := by
  pointwise [k0_pay33, k0_pay30]
theorem pay34 (t : FVec Ideal S512x512 .f32) (x : Vec Ideal S1x512 .f32) (b : Fin 512) : k0_pay34 t x (ix2 0 b) = x (ix2 0 b) + ∑ a : Fin 512, t (ix2 a b) := by
  pointwise [k0_pay34]
theorem pay35 (t : FVec Ideal S512x512 .f32) (x : FVec Ideal S512x1 .f32) (a : Fin 512) : k0_pay35 x t (ix2 a 0) = x (ix2 a 0) + ∑ b : Fin 512, t (ix2 a b) := by
  pointwise [k0_pay35]
theorem pay69 (x : FVec Ideal S512x128 .f32) (a : Fin 512) (d : Fin 128) : k0_pay69 x (ix2 a d) = x (ix2 a d) := by pointwise [k0_pay69]
theorem pay70 (x : FVec Ideal S512x128 .f32) (a : Fin 512) (d : Fin 128) : k0_pay70 x (ix2 a d) = x (ix2 a d) := by pointwise [k0_pay70]
theorem pay71 (x : FVec Ideal S512x1 .f32) (a : Fin 512) : k0_pay71 x (ix3 0 a 0) = x (ix2 a 0) := by pointwise [k0_pay71]
theorem pay58 (d : Fin 128) (i : Fin 4096) : k0_pay58 (F := Ideal) (Scalar.ofBits .f32 0x00000000#32) (ix2 d i) = 0 := by pointwise [k0_pay58]
theorem pay59 (i : Fin 4096) : k0_pay59 (F := Ideal) (ix2 0 i) = 0 := by pointwise [k0_pay59]
end pays

end Cert.KernelIdeal.Fox
-- ==== Proof.FoxSums.lean ====
module

public import proofs.«01_k».proof.Proof.FoxTile

/-! One head over the extended reals, in closed form: what the walk over the blocks of keys leaves is, entry by entry, a sum
    over all keys or over all queries. -/

@[expose] public section

set_option maxRecDepth 16384

noncomputable section

namespace Cert.KernelIdeal.Fox

open Idealize.ShloMosaic Idealize.SL.Sem
open Cert.KernelIdeal Cert.KernelIdeal.Gen

section closed
variable (E : Env Ideal)

/-- the logit of key `k` at query `i`, less the logarithm of the softmax's sum -/
def logit (k i : Fin 4096) : EReal :=
  (∑ d : Fin 128, E.kh (ix2 k d) * E.qh (ix2 i d)) + ((E.cr (ix3 0 0 i) - E.ls (ix3 0 0 i)) - E.cc (ix3 0 k 0))

/-- the weight of key `k` at query `i`: nothing before the key -/
def prob (k i : Fin 4096) : EReal := if k.val ≤ i.val then Ideal.exp (logit E k i) else 0

/-- the gradient of the logit of key `k` at query `i` -/
def dlog (k i : Fin 4096) : EReal := prob E k i * ((∑ d : Fin 128, E.v (ix2 k d) * E.dO (ix2 i d)) - E.dl (ix2 0 i))

theorem prob_zero {k i : Fin 4096} (h : i.val < k.val) : prob E k i = 0 := if_neg (by omega)
theorem dlog_zero {k i : Fin 4096} (h : i.val < k.val) : dlog E k i = 0 := by rw [dlog, prob_zero E h, zero_mul]

theorem jlt (j : Fin k0_t1_loop.trips) : j.val < 8 := lt_of_lt_of_eq j.isLt trips1

/-- key `a` of block `j` -/
def key (j : Fin k0_t1_loop.trips) (a : Fin 512) : Fin 4096 := ⟨512 * j.val + a.val, by have := jlt j; omega⟩
/-- query `b` of the `W` from `N` on -/
def qry (N W : ℕ) (h : N + W ≤ 4096) (b : Fin W) : Fin 4096 := ⟨N + b.val, by omega⟩

/-- What the tile of block `j`'s keys by the `W` queries from `N` on adds. -/
structure Tile (j : Fin k0_t1_loop.trips) (N W : ℕ) (h : N + W ≤ 4096) (s s' : St Ideal) : Prop where
  dk : ∀ (a : Fin 512) (d : Fin 128), s'.dk (ix2 a d) = s.dk (ix2 a d) + ∑ b : Fin W, dlog E (key j a) (qry N W h b) * E.qh (ix2 (qry N W h b) d)
  dv : ∀ (a : Fin 512) (d : Fin 128), s'.dv (ix2 a d) = s.dv (ix2 a d) + ∑ b : Fin W, prob E (key j a) (qry N W h b) * E.dO (ix2 (qry N W h b) d)
  dc : ∀ a : Fin 512, s'.dc (ix2 a 0) = s.dc (ix2 a 0) + ∑ b : Fin W, dlog E (key j a) (qry N W h b)
  dq : ∀ (d : Fin 128) (i : Fin 4096), s'.dq (ix2 d i) = s.dq (ix2 d i) + if N ≤ i.val ∧ i.val < N + W then ∑ a : Fin 512, E.kt (ix2 d (key j a)) * dlog E (key j a) i else 0
  dcq : ∀ i : Fin 4096, s'.dcq (ix2 0 i) = s.dcq (ix2 0 i) + if N ≤ i.val ∧ i.val < N + W then ∑ a : Fin 512, dlog E (key j a) i else 0

/-- What block `j` has gathered from the queries before `N`. -/
structure Inv (j : Fin k0_t1_loop.trips) (x : Vec Ideal S128x4096 .f32 × Vec Ideal S1x4096 .f32) (N : ℕ) (s : St Ideal) : Prop where
  dk : ∀ (a : Fin 512) (d : Fin 128), s.dk (ix2 a d) = psum N fun i => dlog E (key j a) i * E.qh (ix2 i d)
  dv : ∀ (a : Fin 512) (d : Fin 128), s.dv (ix2 a d) = psum N fun i => prob E (key j a) i * E.dO (ix2 i d)
  dc : ∀ a : Fin 512, s.dc (ix2 a 0) = psum N fun i => dlog E (key j a) i
  dq : ∀ (d : Fin 128) (i : Fin 4096), s.dq (ix2 d i) = x.1 (ix2 d i) + if i.val < N then ∑ a : Fin 512, E.kt (ix2 d (key j a)) * dlog E (key j a) i else 0
  dcq : ∀ i : Fin 4096, s.dcq (ix2 0 i) = x.2 (ix2 0 i) + if i.val < N then ∑ a : Fin 512, dlog E (key j a) i else 0

theorem add_range (x A : EReal) (i N W : ℕ) : x + (if i < N then A else 0) + (if N ≤ i ∧ i < N + W then A else 0) = x + if i < N + W then A else 0 := by
  by_cases h : i < N
  · rw [if_pos h, if_neg (by omega), if_pos (by omega), add_zero]
  · rw [if_neg h, add_zero]
    by_cases h' : i < N + W
    · rw [if_pos ⟨by omega, h'⟩, if_pos h']
    · rw [if_neg (fun hh => h' hh.2), if_neg h']

theorem Inv.next {j : Fin k0_t1_loop.trips} {x : Vec Ideal S128x4096 .f32 × Vec Ideal S1x4096 .f32} {N W : ℕ} {h : N + W ≤ 4096} {s s' : St Ideal}
    (hi : Inv E j x N s) (ht : Tile E j N W h s s') : Inv E j x (N + W) s' where
  dk a d := by rw [ht.dk, hi.dk, psum_add h]; rfl
  dv a d := by rw [ht.dv, hi.dv, psum_add h]; rfl
  dc a := by rw [ht.dc, hi.dc, psum_add h]; rfl
  dq d i := by rw [ht.dq, hi.dq, add_range]
  dcq i := by rw [ht.dcq, hi.dcq, add_range]

/-- nothing gathered yet -/
def none (x : Vec Ideal S128x4096 .f32 × Vec Ideal S1x4096 .f32) : St Ideal := ⟨k0_pay26 (F := Ideal), k0_pay26 (F := Ideal), k0_pay27 (F := Ideal), x.1, x.2⟩

theorem inv_none (j : Fin k0_t1_loop.trips) (x : Vec Ideal S128x4096 .f32 × Vec Ideal S1x4096 .f32) : Inv E j x (512 * j.val) (none x) where
  dk a d := (pay26 a d).trans (psum_eq_zero _ _ fun i hi => by rw [dlog_zero E (by show i.val < 512 * j.val + a.val; omega), zero_mul]).symm
  dv a d := (pay26 a d).trans (psum_eq_zero _ _ fun i hi => by rw [prob_zero E (by show i.val < 512 * j.val + a.val; omega), zero_mul]).symm
  dc a := (pay27 a).trans (psum_eq_zero _ _ fun i hi => dlog_zero E (by show i.val < 512 * j.val + a.val; omega)).symm
  dq d i := by
    split
    · rw [Finset.sum_eq_zero fun a _ => by rw [dlog_zero E (by show i.val < 512 * j.val + a.val; omega), mul_zero], add_zero]; rfl
    · exact (add_zero _).symm
  dcq i := by
    split
    · rw [Finset.sum_eq_zero fun a _ => dlog_zero E (by show i.val < 512 * j.val + a.val; omega), add_zero]; rfl
    · exact (add_zero _).symm

/-! The blocks, by their entries. -/
section reads
variable (j : Fin k0_t1_loop.trips)

theorem kB_at (a : Fin 512) (d : Fin 128) : kB E j (ix2 a d) = E.kh (ix2 (key j a) d) :=
  window2 (p := 512) (q := 128) E.kh _ (512 * j.val) 0 (k0_off1_eq j) (k0_off1_inb j) a d _ _ rfl (by omega)
theorem ktB_at (d : Fin 128) (a : Fin 512) : ktB E j (ix2 d a) = E.kt (ix2 d (key j a)) :=
  window2 (p := 128) (q := 512) E.kt _ 0 (512 * j.val) (k0_off2_eq j) (k0_off2_inb j) d a _ _ (by omega) rfl
theorem vB_at (a : Fin 512) (d : Fin 128) : vB E j (ix2 a d) = E.v (ix2 (key j a) d) :=
  window2 (p := 512) (q := 128) E.v _ (512 * j.val) 0 (k0_off1_eq j) (k0_off1_inb j) a d _ _ rfl (by omega)
theorem cB_at (a : Fin 512) : cB E j (ix3 0 a 0) = E.cc (ix3 0 (key j a) 0) :=
  window3 (p := 1) (q := 512) (r := 1) E.cc _ 0 (512 * j.val) 0 (k0_off3_eq j) (k0_off3_inb j) 0 a 0 _ _ _ rfl rfl rfl

theorem hD : 512 * j.val + 512 ≤ 4096 := by have := jlt j; omega
theorem qD_at (b : Fin 512) (d : Fin 128) : qD E j (ix2 b d) = E.qh (ix2 (qry (512 * j.val) 512 (hD j) b) d) :=
  window2 (p := 512) (q := 128) E.qh _ (512 * j.val) 0 (k0_off1_eq j) (k0_off1_inb j) b d _ _ rfl (by omega)
theorem oD_at (b : Fin 512) (d : Fin 128) : oD E j (ix2 b d) = E.dO (ix2 (qry (512 * j.val) 512 (hD j) b) d) :=
  window2 (p := 512) (q := 128) E.dO _ (512 * j.val) 0 (k0_off1_eq j) (k0_off1_inb j) b d _ _ rfl (by omega)
theorem cD_at (b : Fin 512) : cD E j (ix3 0 0 b) = E.cr (ix3 0 0 (qry (512 * j.val) 512 (hD j) b)) :=
  window3 (p := 1) (q := 1) (r := 512) E.cr _ 0 0 (512 * j.val) (k0_off4_eq j) (k0_off4_inb j) 0 0 b _ _ _ rfl rfl rfl
theorem lD_at (b : Fin 512) : lD E j (ix3 0 0 b) = E.ls (ix3 0 0 (qry (512 * j.val) 512 (hD j) b)) :=
  window3 (p := 1) (q := 1) (r := 512) E.ls _ 0 0 (512 * j.val) (k0_off4_eq j) (k0_off4_inb j) 0 0 b _ _ _ rfl rfl rfl
theorem dD_at (b : Fin 512) : dD E j (ix2 0 b) = E.dl (ix2 0 (qry (512 * j.val) 512 (hD j) b)) :=
  window2 (p := 1) (q := 512) E.dl _ 0 (512 * j.val) (k0_off5_eq j) (k0_off5_inb j) 0 b _ _ rfl rfl

theorem pD_at (a b : Fin 512) : k0_pay28 k0_pay60 (kB E j) (cB E j) (qD E j) (cD E j) (lD E j) (ix2 a b)
    = prob E (key j a) (qry (512 * j.val) 512 (hD j) b) := by
  rw [pay28, cD_at, lD_at, cB_at, prob, logit]
  simp only [kB_at, qD_at]
  exact if_congr (by show a.val ≤ b.val ↔ 512 * j.val + a.val ≤ 512 * j.val + b.val; omega) rfl rfl
theorem dsD_at (a b : Fin 512) : dsD E j (ix2 a b) = dlog E (key j a) (qry (512 * j.val) 512 (hD j) b) := by
  rw [dsD, pay29, pD_at, dD_at, dlog]
  simp only [vB_at, oD_at]

theorem tile_diag (x : Vec Ideal S128x4096 .f32 × Vec Ideal S1x4096 .f32) : Tile E j (512 * j.val) 512 (hD j) (none x) (diag E j x.1 x.2) where
  dk a d := (pay32 _ _ _ a d).trans (congrArg _ (Finset.sum_congr rfl fun b _ => by rw [dsD_at, qD_at]))
  dv a d := (pay31 _ _ _ a d).trans (congrArg _ (Finset.sum_congr rfl fun b _ => by rw [pD_at, oD_at]))
  dc a := (pay35 _ _ a).trans (congrArg _ (Finset.sum_congr rfl fun b _ => by rw [dsD_at]))
  dq d i := by
    by_cases h : 512 * j.val ≤ i.val ∧ i.val < 512 * j.val + 512
    · have e : i = qry (512 * j.val) 512 (hD j) ⟨i.val - 512 * j.val, by omega⟩ := Fin.ext (by show i.val = 512 * j.val + (i.val - 512 * j.val); omega)
      rw [if_pos h]
      refine (put2_in (p := 128) (q := 512) x.1 _ 0 (512 * j.val) (k0_off2_eq j) _ d i d ⟨i.val - 512 * j.val, by omega⟩ (by omega) (by show i.val = 512 * j.val + (i.val - 512 * j.val); omega)).trans ?_
      refine (pay33 _ _ _ _ _).trans (congrArg₂ (fun u v : EReal => u + v) ?_ (Finset.sum_congr rfl fun a _ => ?_))
      · exact window2 (p := 128) (q := 512) x.1 _ 0 (512 * j.val) (k0_off2_eq j) (k0_off2_inb j) d _ _ _ (by omega) (by show i.val = 512 * j.val + (i.val - 512 * j.val); omega)
      · rw [dsD_at, ktB_at, ← e]
    · rw [if_neg h, add_zero]
      exact put2_out (p := 128) (q := 512) x.1 _ 0 (512 * j.val) (k0_off2_eq j) _ d i fun hh => h hh.2
  dcq i := by
    by_cases h : 512 * j.val ≤ i.val ∧ i.val < 512 * j.val + 512
    · have e : i = qry (512 * j.val) 512 (hD j) ⟨i.val - 512 * j.val, by omega⟩ := Fin.ext (by show i.val = 512 * j.val + (i.val - 512 * j.val); omega)
      rw [if_pos h]
      refine (put2_in (p := 1) (q := 512) x.2 _ 0 (512 * j.val) (k0_off5_eq j) _ 0 i 0 ⟨i.val - 512 * j.val, by omega⟩ rfl (by show i.val = 512 * j.val + (i.val - 512 * j.val); omega)).trans ?_
      refine (pay34 _ _ _).trans (congrArg₂ (fun u v : EReal => u + v) ?_ (Finset.sum_congr rfl fun a _ => ?_))
      · exact window2 (p := 1) (q := 512) x.2 _ 0 (512 * j.val) (k0_off5_eq j) (k0_off5_inb j) 0 _ _ _ rfl (by show i.val = 512 * j.val + (i.val - 512 * j.val); omega)
      · rw [dsD_at, ← e]
    · rw [if_neg h, add_zero]
      exact put2_out (p := 1) (q := 512) x.2 _ 0 (512 * j.val) (k0_off5_eq j) _ 0 i fun hh => h hh.2

end reads

section pairreads
variable (j : Fin k0_t1_loop.trips) (k : Fin (k0_t2_loop j).trips)

theorem off6_eq : ∀ (j : Fin k0_t1_loop.trips) (k : Fin (k0_t2_loop j).trips), k0_off6 j k = ![512 * (j.val + 1 + 2 * k.val), 0] := by decide +kernel
theorem off7_eq : ∀ (j : Fin k0_t1_loop.trips) (k : Fin (k0_t2_loop j).trips), k0_off7 j k = ![0, 0, 512 * (j.val + 1 + 2 * k.val)] := by decide +kernel
theorem off8_eq : ∀ (j : Fin k0_t1_loop.trips) (k : Fin (k0_t2_loop j).trips), k0_off8 j k = ![0, 512 * (j.val + 1 + 2 * k.val)] := by decide +kernel
theorem off9_eq : ∀ (j : Fin k0_t1_loop.trips) (k : Fin (k0_t2_loop j).trips), k0_off9 j k = ![0, 512 * (j.val + 1 + 2 * k.val)] := by decide +kernel
theorem hP : 512 * (j.val + 1 + 2 * k.val) + 1024 ≤ 4096 := by
  have h : ∀ (j : Fin k0_t1_loop.trips) (k : Fin (k0_t2_loop j).trips), 512 * (j.val + 1 + 2 * k.val) + 1024 ≤ 4096 := by decide +kernel
  exact h j k

theorem qP_at (b : Fin 1024) (d : Fin 128) : qP E.toRd j k (ix2 b d) = E.qh (ix2 (qry (512 * (j.val + 1 + 2 * k.val)) 1024 (hP j k) b) d) :=
  window2 (p := 1024) (q := 128) E.qh _ (512 * (j.val + 1 + 2 * k.val)) 0 (off6_eq j k) (k0_off6_inb j k) b d _ _ rfl (by omega)
theorem oP_at (b : Fin 1024) (d : Fin 128) : oP E.toRd j k (ix2 b d) = E.dO (ix2 (qry (512 * (j.val + 1 + 2 * k.val)) 1024 (hP j k) b) d) :=
  window2 (p := 1024) (q := 128) E.dO _ (512 * (j.val + 1 + 2 * k.val)) 0 (off6_eq j k) (k0_off6_inb j k) b d _ _ rfl (by omega)
theorem cP_at (b : Fin 1024) : cP E.toRd j k (ix3 0 0 b) = E.cr (ix3 0 0 (qry (512 * (j.val + 1 + 2 * k.val)) 1024 (hP j k) b)) :=
  window3 (p := 1) (q := 1) (r := 1024) E.cr _ 0 0 (512 * (j.val + 1 + 2 * k.val)) (off7_eq j k) (k0_off7_inb j k) 0 0 b _ _ _ rfl rfl rfl
theorem lP_at (b : Fin 1024) : lP E.toRd j k (ix3 0 0 b) = E.ls (ix3 0 0 (qry (512 * (j.val + 1 + 2 * k.val)) 1024 (hP j k) b)) :=
  window3 (p := 1) (q := 1) (r := 1024) E.ls _ 0 0 (512 * (j.val + 1 + 2 * k.val)) (off7_eq j k) (k0_off7_inb j k) 0 0 b _ _ _ rfl rfl rfl
theorem dP_at (b : Fin 1024) : dP E.toRd j k (ix2 0 b) = E.dl (ix2 0 (qry (512 * (j.val + 1 + 2 * k.val)) 1024 (hP j k) b)) :=
  window2 (p := 1) (q := 1024) E.dl _ 0 (512 * (j.val + 1 + 2 * k.val)) (off8_eq j k) (k0_off8_inb j k) 0 b _ _ rfl rfl

theorem pP_at (a : Fin 512) (b : Fin 1024) : k0_pay1 (kblk E j).k (kblk E j).c (qP E.toRd j k) (cP E.toRd j k) (lP E.toRd j k) (ix2 a b)
    = prob E (key j a) (qry (512 * (j.val + 1 + 2 * k.val)) 1024 (hP j k) b) := by
  rw [pay1, cP_at, lP_at, prob, if_pos (by show 512 * j.val + a.val ≤ 512 * (j.val + 1 + 2 * k.val) + b.val; omega), logit]
  refine congrArg Ideal.exp (congrArg₂ (fun u v : EReal => u + v) (Finset.sum_congr rfl fun d _ => ?_) (congrArg _ ?_))
  · rw [qP_at]; exact congrArg (· * _) (kB_at E j a d)
  · exact (pay25 _ a).trans (cB_at E j a)
theorem dsP_at (a : Fin 512) (b : Fin 1024) : dsP E.toRd (kblk E j) j k (ix2 a b) = dlog E (key j a) (qry (512 * (j.val + 1 + 2 * k.val)) 1024 (hP j k) b) := by
  rw [dsP, pay2, pP_at, dP_at, dlog]
  refine congrArg (fun u : EReal => _ * (u - _)) (Finset.sum_congr rfl fun d _ => ?_)
  rw [oP_at]; exact congrArg (· * _) (vB_at E j a d)

theorem tile_pair (s : St Ideal) : Tile E j (512 * (j.val + 1 + 2 * k.val)) 1024 (hP j k) s (pair E.toRd (kblk E j) j k s) where
  dk a d := (pay5 _ _ _ _ _ _ _ _ _ a d).trans (congrArg _ (Finset.sum_congr rfl fun b _ => by rw [qP_at]; exact congrArg (· * _) (dsP_at E j k a b)))
  dv a d := (pay4 _ _ _ _ _ _ _ a d).trans (congrArg _ (Finset.sum_congr rfl fun b _ => by rw [pP_at, oP_at]))
  dc a := (pay62 _ _ a).trans (congrArg _ (Finset.sum_congr rfl fun b _ => by rw [dsP_at]))
  dq d i := by
    by_cases h : 512 * (j.val + 1 + 2 * k.val) ≤ i.val ∧ i.val < 512 * (j.val + 1 + 2 * k.val) + 1024
    · have e : i = qry (512 * (j.val + 1 + 2 * k.val)) 1024 (hP j k) ⟨i.val - (512 * (j.val + 1 + 2 * k.val)), by omega⟩ := Fin.ext (by show i.val = 512 * (j.val + 1 + 2 * k.val) + (i.val - (512 * (j.val + 1 + 2 * k.val))); omega)
      rw [if_pos h]
      refine (put2_in (p := 128) (q := 1024) s.dq _ 0 (512 * (j.val + 1 + 2 * k.val)) (off9_eq j k) _ d i d ⟨i.val - (512 * (j.val + 1 + 2 * k.val)), by omega⟩ (by omega) (by show i.val = 512 * (j.val + 1 + 2 * k.val) + (i.val - (512 * (j.val + 1 + 2 * k.val))); omega)).trans ?_
      refine (pay6 _ _ _ _ _ _ _ _ _ _ _ _).trans (congrArg₂ (fun u v : EReal => u + v) ?_ (Finset.sum_congr rfl fun a _ => ?_))
      · exact window2 (p := 128) (q := 1024) s.dq _ 0 (512 * (j.val + 1 + 2 * k.val)) (off9_eq j k) (k0_off9_inb j k) d _ _ _ (by omega) (by show i.val = 512 * (j.val + 1 + 2 * k.val) + (i.val - (512 * (j.val + 1 + 2 * k.val))); omega)
      · exact congrArg₂ (fun u v : EReal => u * v) (ktB_at E j d a) ((dsP_at E j k a _).trans (by rw [← e]))
    · rw [if_neg h, add_zero]
      exact put2_out (p := 128) (q := 1024) s.dq _ 0 (512 * (j.val + 1 + 2 * k.val)) (off9_eq j k) _ d i fun hh => h hh.2
  dcq i := by
    by_cases h : 512 * (j.val + 1 + 2 * k.val) ≤ i.val ∧ i.val < 512 * (j.val + 1 + 2 * k.val) + 1024
    · have e : i = qry (512 * (j.val + 1 + 2 * k.val)) 1024 (hP j k) ⟨i.val - (512 * (j.val + 1 + 2 * k.val)), by omega⟩ := Fin.ext (by show i.val = 512 * (j.val + 1 + 2 * k.val) + (i.val - (512 * (j.val + 1 + 2 * k.val))); omega)
      rw [if_pos h]
      refine (put2_in (p := 1) (q := 1024) s.dcq _ 0 (512 * (j.val + 1 + 2 * k.val)) (off8_eq j k) _ 0 i 0 ⟨i.val - (512 * (j.val + 1 + 2 * k.val)), by omega⟩ rfl (by show i.val = 512 * (j.val + 1 + 2 * k.val) + (i.val - (512 * (j.val + 1 + 2 * k.val))); omega)).trans ?_
      refine (pay61 _ _ _).trans (congrArg₂ (fun u v : EReal => u + v) ?_ (Finset.sum_congr rfl fun a _ => ?_))
      · exact window2 (p := 1) (q := 1024) s.dcq _ 0 (512 * (j.val + 1 + 2 * k.val)) (off8_eq j k) (k0_off8_inb j k) 0 _ _ _ rfl (by show i.val = 512 * (j.val + 1 + 2 * k.val) + (i.val - (512 * (j.val + 1 + 2 * k.val))); omega)
      · exact (dsP_at E j k a _).trans (by rw [← e])
    · rw [if_neg h, add_zero]
      exact put2_out (p := 1) (q := 1024) s.dcq _ 0 (512 * (j.val + 1 + 2 * k.val)) (off8_eq j k) _ 0 i fun hh => h hh.2

end pairreads

section singlereads
variable (j : Fin k0_t1_loop.trips) (k : Fin (k0_t4_loop j).trips)

theorem off14_eq : ∀ (j : Fin k0_t1_loop.trips) (k : Fin (k0_t4_loop j).trips), k0_off14 j k = ![512 * (j.val + 1 + 2 * ((7 - j.val) / 2) + k.val), 0] := by decide +kernel
theorem off15_eq : ∀ (j : Fin k0_t1_loop.trips) (k : Fin (k0_t4_loop j).trips), k0_off15 j k = ![0, 0, 512 * (j.val + 1 + 2 * ((7 - j.val) / 2) + k.val)] := by decide +kernel
theorem off16_eq : ∀ (j : Fin k0_t1_loop.trips) (k : Fin (k0_t4_loop j).trips), k0_off16 j k = ![0, 512 * (j.val + 1 + 2 * ((7 - j.val) / 2) + k.val)] := by decide +kernel
theorem off17_eq : ∀ (j : Fin k0_t1_loop.trips) (k : Fin (k0_t4_loop j).trips), k0_off17 j k = ![0, 512 * (j.val + 1 + 2 * ((7 - j.val) / 2) + k.val)] := by decide +kernel
theorem hS : 512 * (j.val + 1 + 2 * ((7 - j.val) / 2) + k.val) + 512 ≤ 4096 := by
  have h : ∀ (j : Fin k0_t1_loop.trips) (k : Fin (k0_t4_loop j).trips), 512 * (j.val + 1 + 2 * ((7 - j.val) / 2) + k.val) + 512 ≤ 4096 := by decide +kernel
  exact h j k

theorem qS_at (b : Fin 512) (d : Fin 128) : qS E.toRd j k (ix2 b d) = E.qh (ix2 (qry (512 * (j.val + 1 + 2 * ((7 - j.val) / 2) + k.val)) 512 (hS j k) b) d) :=
  window2 (p := 512) (q := 128) E.qh _ (512 * (j.val + 1 + 2 * ((7 - j.val) / 2) + k.val)) 0 (off14_eq j k) (k0_off14_inb j k) b d _ _ rfl (by omega)
theorem oS_at (b : Fin 512) (d : Fin 128) : oS E.toRd j k (ix2 b d) = E.dO (ix2 (qry (512 * (j.val + 1 + 2 * ((7 - j.val) / 2) + k.val)) 512 (hS j k) b) d) :=
  window2 (p := 512) (q := 128) E.dO _ (512 * (j.val + 1 + 2 * ((7 - j.val) / 2) + k.val)) 0 (off14_eq j k) (k0_off14_inb j k) b d _ _ rfl (by omega)
theorem cS_at (b : Fin 512) : cS E.toRd j k (ix3 0 0 b) = E.cr (ix3 0 0 (qry (512 * (j.val + 1 + 2 * ((7 - j.val) / 2) + k.val)) 512 (hS j k) b)) :=
  window3 (p := 1) (q := 1) (r := 512) E.cr _ 0 0 (512 * (j.val + 1 + 2 * ((7 - j.val) / 2) + k.val)) (off15_eq j k) (k0_off15_inb j k) 0 0 b _ _ _ rfl rfl rfl
theorem lS_at (b : Fin 512) : lS E.toRd j k (ix3 0 0 b) = E.ls (ix3 0 0 (qry (512 * (j.val + 1 + 2 * ((7 - j.val) / 2) + k.val)) 512 (hS j k) b)) :=
  window3 (p := 1) (q := 1) (r := 512) E.ls _ 0 0 (512 * (j.val + 1 + 2 * ((7 - j.val) / 2) + k.val)) (off15_eq j k) (k0_off15_inb j k) 0 0 b _ _ _ rfl rfl rfl
theorem dS_at (b : Fin 512) : dS E.toRd j k (ix2 0 b) = E.dl (ix2 0 (qry (512 * (j.val + 1 + 2 * ((7 - j.val) / 2) + k.val)) 512 (hS j k) b)) :=
  window2 (p := 1) (q := 512) E.dl _ 0 (512 * (j.val + 1 + 2 * ((7 - j.val) / 2) + k.val)) (off16_eq j k) (k0_off16_inb j k) 0 b _ _ rfl rfl

theorem pS_at (a : Fin 512) (b : Fin 512) : k0_pay13 (kblk E j).k (kblk E j).c (qS E.toRd j k) (cS E.toRd j k) (lS E.toRd j k) (ix2 a b)
    = prob E (key j a) (qry (512 * (j.val + 1 + 2 * ((7 - j.val) / 2) + k.val)) 512 (hS j k) b) := by
  rw [pay13, cS_at, lS_at, prob, if_pos (by show 512 * j.val + a.val ≤ 512 * (j.val + 1 + 2 * ((7 - j.val) / 2) + k.val) + b.val; omega), logit]
  refine congrArg Ideal.exp (congrArg₂ (fun u v : EReal => u + v) (Finset.sum_congr rfl fun d _ => ?_) (congrArg _ ?_))
  · rw [qS_at]; exact congrArg (· * _) (kB_at E j a d)
  · exact (pay25 _ a).trans (cB_at E j a)
theorem dsS_at (a : Fin 512) (b : Fin 512) : dsS E.toRd (kblk E j) j k (ix2 a b) = dlog E (key j a) (qry (512 * (j.val + 1 + 2 * ((7 - j.val) / 2) + k.val)) 512 (hS j k) b) := by
  rw [dsS, pay14, pS_at, dS_at, dlog]
  refine congrArg (fun u : EReal => _ * (u - _)) (Finset.sum_congr rfl fun d _ => ?_)
  rw [oS_at]; exact congrArg (· * _) (vB_at E j a d)

theorem tile_single (s : St Ideal) : Tile E j (512 * (j.val + 1 + 2 * ((7 - j.val) / 2) + k.val)) 512 (hS j k) s (single E.toRd (kblk E j) j k s) where
  dk a d := (pay17 _ _ _ _ _ _ _ _ _ a d).trans (congrArg _ (Finset.sum_congr rfl fun b _ => by rw [qS_at]; exact congrArg (· * _) (dsS_at E j k a b)))
  dv a d := (pay16 _ _ _ _ _ _ _ a d).trans (congrArg _ (Finset.sum_congr rfl fun b _ => by rw [pS_at, oS_at]))
  dc a := (pay66 _ _ a).trans (congrArg _ (Finset.sum_congr rfl fun b _ => by rw [dsS_at]))
  dq d i := by
    by_cases h : 512 * (j.val + 1 + 2 * ((7 - j.val) / 2) + k.val) ≤ i.val ∧ i.val < 512 * (j.val + 1 + 2 * ((7 - j.val) / 2) + k.val) + 512
    · have e : i = qry (512 * (j.val + 1 + 2 * ((7 - j.val) / 2) + k.val)) 512 (hS j k) ⟨i.val - (512 * (j.val + 1 + 2 * ((7 - j.val) / 2) + k.val)), by omega⟩ := Fin.ext (by show i.val = 512 * (j.val + 1 + 2 * ((7 - j.val) / 2) + k.val) + (i.val - (512 * (j.val + 1 + 2 * ((7 - j.val) / 2) + k.val))); omega)
      rw [if_pos h]
      refine (put2_in (p := 128) (q := 512) s.dq _ 0 (512 * (j.val + 1 + 2 * ((7 - j.val) / 2) + k.val)) (off17_eq j k) _ d i d ⟨i.val - (512 * (j.val + 1 + 2 * ((7 - j.val) / 2) + k.val)), by omega⟩ (by omega) (by show i.val = 512 * (j.val + 1 + 2 * ((7 - j.val) / 2) + k.val) + (i.val - (512 * (j.val + 1 + 2 * ((7 - j.val) / 2) + k.val))); omega)).trans ?_
      refine (pay18 _ _ _ _ _ _ _ _ _ _ _ _).trans (congrArg₂ (fun u v : EReal => u + v) ?_ (Finset.sum_congr rfl fun a _ => ?_))
      · exact window2 (p := 128) (q := 512) s.dq _ 0 (512 * (j.val + 1 + 2 * ((7 - j.val) / 2) + k.val)) (off17_eq j k) (k0_off17_inb j k) d _ _ _ (by omega) (by show i.val = 512 * (j.val + 1 + 2 * ((7 - j.val) / 2) + k.val) + (i.val - (512 * (j.val + 1 + 2 * ((7 - j.val) / 2) + k.val))); omega)
      · exact congrArg₂ (fun u v : EReal => u * v) (ktB_at E j d a) ((dsS_at E j k a _).trans (by rw [← e]))
    · rw [if_neg h, add_zero]
      exact put2_out (p := 128) (q := 512) s.dq _ 0 (512 * (j.val + 1 + 2 * ((7 - j.val) / 2) + k.val)) (off17_eq j k) _ d i fun hh => h hh.2
  dcq i := by
    by_cases h : 512 * (j.val + 1 + 2 * ((7 - j.val) / 2) + k.val) ≤ i.val ∧ i.val < 512 * (j.val + 1 + 2 * ((7 - j.val) / 2) + k.val) + 512
    · have e : i = qry (512 * (j.val + 1 + 2 * ((7 - j.val) / 2) + k.val)) 512 (hS j k) ⟨i.val - (512 * (j.val + 1 + 2 * ((7 - j.val) / 2) + k.val)), by omega⟩ := Fin.ext (by show i.val = 512 * (j.val + 1 + 2 * ((7 - j.val) / 2) + k.val) + (i.val - (512 * (j.val + 1 + 2 * ((7 - j.val) / 2) + k.val))); omega)
      rw [if_pos h]
      refine (put2_in (p := 1) (q := 512) s.dcq _ 0 (512 * (j.val + 1 + 2 * ((7 - j.val) / 2) + k.val)) (off16_eq j k) _ 0 i 0 ⟨i.val - (512 * (j.val + 1 + 2 * ((7 - j.val) / 2) + k.val)), by omega⟩ rfl (by show i.val = 512 * (j.val + 1 + 2 * ((7 - j.val) / 2) + k.val) + (i.val - (512 * (j.val + 1 + 2 * ((7 - j.val) / 2) + k.val))); omega)).trans ?_
      refine (pay65 _ _ _).trans (congrArg₂ (fun u v : EReal => u + v) ?_ (Finset.sum_congr rfl fun a _ => ?_))
      · exact window2 (p := 1) (q := 512) s.dcq _ 0 (512 * (j.val + 1 + 2 * ((7 - j.val) / 2) + k.val)) (off16_eq j k) (k0_off16_inb j k) 0 _ _ _ rfl (by show i.val = 512 * (j.val + 1 + 2 * ((7 - j.val) / 2) + k.val) + (i.val - (512 * (j.val + 1 + 2 * ((7 - j.val) / 2) + k.val))); omega)
      · exact (dsS_at E j k a _).trans (by rw [← e])
    · rw [if_neg h, add_zero]
      exact put2_out (p := 1) (q := 512) s.dcq _ 0 (512 * (j.val + 1 + 2 * ((7 - j.val) / 2) + k.val)) (off16_eq j k) _ 0 i fun hh => h hh.2

end singlereads

/-! The block, and the walk over the blocks. -/

theorem trips2 : ∀ j : Fin k0_t1_loop.trips, (k0_t2_loop j).trips = (7 - j.val) / 2 := by decide +kernel
theorem trips4 : ∀ j : Fin k0_t1_loop.trips, (k0_t4_loop j).trips = (7 - j.val) % 2 := by decide +kernel

variable (j : Fin k0_t1_loop.trips) (x : Vec Ideal S128x4096 .f32 × Vec Ideal S1x4096 .f32)

theorem Inv.cast {j : Fin k0_t1_loop.trips} {x : Vec Ideal S128x4096 .f32 × Vec Ideal S1x4096 .f32} {N N' : ℕ} {s : St Ideal} (h : Inv E j x N s) (e : N = N') : Inv E j x N' s := e ▸ h

theorem inv_pairs (n : ℕ) (hn : n ≤ (k0_t2_loop j).trips) : Inv E j x (512 * (j.val + 1 + 2 * n)) (pairs E.toRd (kblk E j) j (diag E j x.1 x.2) n) := by
  induction n with
  | zero => exact ((inv_none E j x).next E (tile_diag E j x)).cast E (by omega)
  | succ n ih =>
    have h := (ih (by omega)).next E (tile_pair E j ⟨n, hn⟩ _)
    rw [show n + 1 = (⟨n, hn⟩ : Fin (k0_t2_loop j).trips).val + 1 from rfl, pairs_succ]
    exact h.cast E (by show 512 * (j.val + 1 + 2 * n) + 1024 = 512 * (j.val + 1 + 2 * (n + 1)); omega)

theorem inv_singles (n : ℕ) (hn : n ≤ (k0_t4_loop j).trips) : Inv E j x (512 * (j.val + 1 + 2 * ((7 - j.val) / 2) + n))
    (singles E.toRd (kblk E j) j (pairs E.toRd (kblk E j) j (diag E j x.1 x.2) (k0_t2_loop j).trips) n) := by
  induction n with
  | zero => exact (inv_pairs E j x _ le_rfl).cast E (by rw [trips2]; omega)
  | succ n ih =>
    have h := (ih (by omega)).next E (tile_single E j ⟨n, hn⟩ _)
    rw [show n + 1 = (⟨n, hn⟩ : Fin (k0_t4_loop j).trips).val + 1 from rfl, singles_succ]
    exact h.cast E (by show 512 * (j.val + 1 + 2 * ((7 - j.val) / 2) + n) + 512 = 512 * (j.val + 1 + 2 * ((7 - j.val) / 2) + (n + 1)); omega)

theorem inv_block : Inv E j x 4096 (block E j x) :=
  (inv_singles E j x _ le_rfl).cast E (by have := jlt j; rw [trips4]; omega)

/-- What the first `n` blocks of keys leave. -/
structure WInv (n : ℕ) (w : Out Ideal) : Prop where
  dq : ∀ (d : Fin 128) (i : Fin 4096), w.dq (ix2 d i) = psum (512 * n) fun k => E.kt (ix2 d k) * dlog E k i
  dcq : ∀ i : Fin 4096, w.dcq (ix2 0 i) = psum (512 * n) fun k => dlog E k i
  dk : ∀ (k : Fin 4096) (d : Fin 128), k.val < 512 * n → w.dk (ix2 k d) = ∑ i, dlog E k i * E.qh (ix2 i d)
  dp : ∀ (k : Fin 4096) (d : Fin 384) (d' : Fin 128), d.val = 256 + d'.val → k.val < 512 * n → w.dp (ix2 k d) = ∑ i, prob E k i * E.dO (ix2 i d')
  dck : ∀ k : Fin 4096, k.val < 512 * n → w.dck (ix3 0 k 0) = ∑ i, dlog E k i

theorem psum_key (f : Fin 4096 → EReal) : psum (512 * (j.val + 1)) f = psum (512 * j.val) f + ∑ a : Fin 512, f (key j a) := by
  rw [show 512 * (j.val + 1) = 512 * j.val + 512 by omega, psum_add (hD j)]
  rfl

theorem winv_step (w : Out Ideal) (h : WInv E j.val w) : WInv E (j.val + 1) (step E j w) := by
  have hb := inv_block E j (w.dq, w.dcq)
  have hj := jlt j
  refine ⟨fun d i => ?_, fun i => ?_, fun k d hk => ?_, fun k d d' hd hk => ?_, fun k hk => ?_⟩
  · dsimp only [step]
    refine (hb.dq d i).trans ?_
    rw [if_pos i.isLt, psum_key]
    exact congrArg (fun u : EReal => u + _) (h.dq d i)
  · dsimp only [step]
    refine (hb.dcq i).trans ?_
    rw [if_pos i.isLt, psum_key]
    exact congrArg (fun u : EReal => u + _) (h.dcq i)
  · dsimp only [step]
    by_cases hc : k.val < 512 * j.val
    · exact (put2_out (p := 512) (q := 128) w.dk _ (512 * j.val) 0 (k0_off1_eq j) _ k d fun hh => by omega).trans (h.dk k d hc)
    · refine (put2_in (p := 512) (q := 128) w.dk _ (512 * j.val) 0 (k0_off1_eq j) _ k d ⟨k.val - 512 * j.val, by omega⟩ d (by show k.val = 512 * j.val + (k.val - 512 * j.val); omega) (by omega)).trans ?_
      rw [pay69, hb.dk, psum_full, show key j ⟨k.val - 512 * j.val, by omega⟩ = k from Fin.ext (by show 512 * j.val + (k.val - 512 * j.val) = k.val; omega)]
  · dsimp only [step]
    by_cases hc : k.val < 512 * j.val
    · exact (put2_out (p := 512) (q := 128) w.dp _ (512 * j.val) 256 (k0_off22_eq j) _ k d fun hh => by omega).trans (h.dp k d d' hd hc)
    · refine (put2_in (p := 512) (q := 128) w.dp _ (512 * j.val) 256 (k0_off22_eq j) _ k d ⟨k.val - 512 * j.val, by omega⟩ d' (by show k.val = 512 * j.val + (k.val - 512 * j.val); omega) hd).trans ?_
      rw [pay70, hb.dv, psum_full, show key j ⟨k.val - 512 * j.val, by omega⟩ = k from Fin.ext (by show 512 * j.val + (k.val - 512 * j.val) = k.val; omega)]
  · dsimp only [step]
    by_cases hc : k.val < 512 * j.val
    · exact (put3_out (p := 1) (q := 512) (r := 1) w.dck _ 0 (512 * j.val) 0 (k0_off23_eq j) _ 0 k 0 fun hh => by omega).trans (h.dck k hc)
    · refine (put3_in (p := 1) (q := 512) (r := 1) w.dck _ 0 (512 * j.val) 0 (k0_off23_eq j) _ 0 k 0 0 ⟨k.val - 512 * j.val, by omega⟩ 0 rfl (by show k.val = 512 * j.val + (k.val - 512 * j.val); omega) rfl).trans ?_
      rw [pay71, hb.dc, psum_full, show key j ⟨k.val - 512 * j.val, by omega⟩ = k from Fin.ext (by show 512 * j.val + (k.val - 512 * j.val) = k.val; omega)]

theorem winv_walk (n : ℕ) (hn : n ≤ k0_t1_loop.trips) : WInv E n (walk E start0 n) := by
  induction n with
  | zero => exact ⟨fun d i => pay58 d i, fun i => pay59 i, fun k d h => absurd h (by omega), fun k d d' _ h => absurd h (by omega), fun k h => absurd h (by omega)⟩
  | succ n ih =>
    have h := winv_step E ⟨n, hn⟩ _ (ih (by omega))
    rw [show n + 1 = (⟨n, hn⟩ : Fin k0_t1_loop.trips).val + 1 from rfl, walk_succ]
    exact h

/-- What the walk over all the blocks leaves. -/
theorem winv : WInv E 8 (walk E start0 k0_t1_loop.trips) := by
  have h := winv_walk E _ le_rfl
  rw [trips1] at h ⊢
  exact h

end closed

end Cert.KernelIdeal.Fox
-- ==== Proof.FoxReal.lean ====
module

public import Idealize.ShloMosaic.PureOps.Ideal.Laws
public import Mathlib.Analysis.SpecialFunctions.Log.Basic
public import Mathlib.Tactic.Ring
public import Mathlib.Tactic.FieldSimp
public import Mathlib.Tactic.NormNum

/-! One attention head over the real numbers: its softmax, and the gradients of queries, keys, values, gains and gates. The sums
    over the whole array in which the reference states them and those in which the kernel takes them are shown equal here; and the
    extended-real operations on real numbers are the real ones. -/

@[expose] public section

noncomputable section

namespace Cert.Fox

open Idealize.ShloMosaic

/-! ### Extended reals that are real -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem div_coe (x y : ℝ) (h : y ≠ 0) : Ideal.div (x : EReal) (y : EReal) = ((x / y : ℝ) : EReal) := by
  rw [Ideal.div, if_neg (by simpa using h), ← EReal.coe_inv, ← EReal.coe_mul, div_eq_mul_inv]

theorem rsqrt_coe (x : ℝ) (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg h.le.not_gt, if_neg h.ne']

theorem log_coe (x : ℝ) (h : 0 < x) : Ideal.log (x : EReal) = ((Real.log x : ℝ) : EReal) := by
  show (if x ≤ 0 then ⊥ else ((Real.log x : ℝ) : EReal)) = _
  rw [if_neg h.not_ge]

theorem exp_coe (x : ℝ) : Ideal.exp (x : EReal) = ((Real.exp x : ℝ) : EReal) := rfl
theorem exp_bot : Ideal.exp ⊥ = 0 := rfl

theorem bits_128 : Ideal.ofBits .f32 0x43000000#32 = ((128 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul, -EReal.coe_neg]; norm_num
theorem bits_one : Ideal.ofBits .f32 0x3F800000#32 = ((1 : ℝ) : EReal) := by
  simp [Ideal.ofBits, Ideal.ieee, -EReal.coe_mul]; norm_num
theorem bits_top : Ideal.ofBits .f32 0x7F800000#32 = ⊤ := by
  simp [Ideal.ofBits, Ideal.ieee]
theorem bits_bot : Ideal.ofBits .f32 0xFF800000#32 = ⊥ := by
  simp [Ideal.ofBits, Ideal.ieee]

/-- the smoothing constant of the normalisations, the float word nearest `10⁻⁶` -/
def eps : ℝ := (Ideal.ofBits .f32 0x358637BD#32).toReal
/-- the scale of the logits, the float word nearest `128 ^ (-1/2)` -/
def sc : ℝ := (Ideal.ofBits .f32 0x3DB504F3#32).toReal

theorem bits_eps : Ideal.ofBits .f32 0x358637BD#32 = (eps : EReal) := by
  unfold eps; simp [Ideal.ofBits, Ideal.ieee, -EReal.coe_mul]
theorem bits_sc : Ideal.ofBits .f32 0x3DB504F3#32 = (sc : EReal) := by
  unfold sc; simp [Ideal.ofBits, Ideal.ieee, -EReal.coe_mul]
theorem eps_pos : 0 < eps := by
  unfold eps; simp [Ideal.ofBits, Ideal.ieee, -EReal.coe_mul]

/-- A finite extended real is a real. -/
theorem exists_real {x : EReal} (h : max x (-x) < ⊤) : ∃ r : ℝ, x = r := by
  induction x using EReal.rec with
  | bot => simp at h
  | coe r => exact ⟨r, rfl⟩
  | top => simp at h

/-! ### One head -/

/-- The arrays of one head: queries, keys, values, the gradient of the output, the two gains and the gates. -/
structure Head where
  q : Fin 4096 → Fin 128 → ℝ
  k : Fin 4096 → Fin 128 → ℝ
  v : Fin 4096 → Fin 128 → ℝ
  dy : Fin 4096 → Fin 128 → ℝ
  g : Fin 128 → ℝ
  γ : Fin 128 → ℝ
  c : Fin 4096 → ℝ

/-- the mean of a row's squares, smoothed -/
def ms (x : Fin 4096 → Fin 128 → ℝ) (i : Fin 4096) : ℝ := (∑ d, x i d * x i d) / 128 + eps
/-- the reciprocal of its root -/
def rt (x : Fin 4096 → Fin 128 → ℝ) (i : Fin 4096) : ℝ := (Real.sqrt (ms x i))⁻¹

theorem ms_pos (x : Fin 4096 → Fin 128 → ℝ) (i : Fin 4096) : 0 < ms x i :=
  add_pos_of_nonneg_of_pos (div_nonneg (Finset.sum_nonneg fun d _ => mul_self_nonneg _) (by norm_num)) eps_pos

theorem rt_sq (x : Fin 4096 → Fin 128 → ℝ) (i : Fin 4096) : rt x i / ms x i = rt x i * rt x i * rt x i := by
  have h := ms_pos x i
  have e : rt x i * rt x i = (ms x i)⁻¹ := by rw [rt, ← mul_inv, Real.mul_self_sqrt h.le]
  rw [e, div_eq_mul_inv, mul_comm]

namespace Head
variable (H : Head)

/-- the normalised queries, scaled by their gain -/
def Q (i : Fin 4096) (d : Fin 128) : ℝ := H.q i d * rt H.q i * H.g d
/-- the normalised keys, scaled by their gain -/
def K (j : Fin 4096) (d : Fin 128) : ℝ := H.k j d * rt H.k j * H.γ d
/-- the logit of key `j` at query `i` -/
def S (i j : Fin 4096) : ℝ := (∑ d, H.Q i d * H.K j d) * sc + (H.c i - H.c j)
/-- the exponential of the logit above any number `M`: nothing behind the query -/
def ex (M : ℝ) (i j : Fin 4096) : ℝ := if j.val ≤ i.val then Real.exp (H.S i j - M) else 0
/-- the softmax's sum -/
def Z (M : ℝ) (i : Fin 4096) : ℝ := ∑ j, H.ex M i j
/-- the softmax -/
def P (M : ℝ) (i j : Fin 4096) : ℝ := H.ex M i j / H.Z M i
/-- the gradient of the softmax's weights -/
def dP (i j : Fin 4096) : ℝ := ∑ d, H.dy i d * H.v j d
/-- the gradient of the logits -/
def dS (M : ℝ) (i j : Fin 4096) : ℝ := H.P M i j * (H.dP i j - ∑ l, H.P M i l * H.dP i l)

theorem ex_nonneg (M : ℝ) (i j : Fin 4096) : 0 ≤ H.ex M i j := by
  unfold ex; split
  · exact (Real.exp_pos _).le
  · exact le_rfl

theorem Z_pos (M : ℝ) (i : Fin 4096) : 0 < H.Z M i :=
  Finset.sum_pos' (fun j _ => H.ex_nonneg M i j) ⟨i, Finset.mem_univ _, by rw [ex, if_pos le_rfl]; exact Real.exp_pos _⟩

/-- The logit less the logarithm of the softmax's sum exponentiates to the weight. -/
theorem exp_lse (M : ℝ) (i j : Fin 4096) (h : j.val ≤ i.val) : Real.exp (H.S i j - (M + Real.log (H.Z M i))) = H.P M i j := by
  rw [P, ex, if_pos h, ← sub_sub, Real.exp_sub, Real.exp_log (H.Z_pos M i)]

theorem P_behind (M : ℝ) (i j : Fin 4096) (h : ¬ j.val ≤ i.val) : H.P M i j = 0 := by
  rw [P, ex, if_neg h, zero_div]

theorem dS_behind (M : ℝ) (i j : Fin 4096) (h : ¬ j.val ≤ i.val) : H.dS M i j = 0 := by
  rw [dS, P_behind H M i j h, zero_mul]

/-- the output of the head -/
def O (M : ℝ) (i : Fin 4096) (d : Fin 128) : ℝ := ∑ j, H.v j d * H.P M i j

/-- The output times its gradient, summed along the row, is the softmax's mean of the gradient of its weights. -/
theorem sum_dy_O (M : ℝ) (i : Fin 4096) : ∑ d, H.dy i d * H.O M i d = ∑ l, H.P M i l * H.dP i l := by
  simp only [O, dP, Finset.mul_sum]
  rw [Finset.sum_comm]
  exact Finset.sum_congr rfl fun l _ => Finset.sum_congr rfl fun d _ => by ring

/-- The gradient of the logits as the quotient's derivative gives it. -/
theorem dS_quot (M : ℝ) (i j : Fin 4096) :
    (H.dP i j / H.Z M i + -(∑ l, H.dP i l * (1 / (H.Z M i * H.Z M i)) * H.ex M i l)) * H.ex M i j = H.dS M i j := by
  have hz := (H.Z_pos M i).ne'
  have e : ∑ l, H.dP i l * (1 / (H.Z M i * H.Z M i)) * H.ex M i l = (∑ l, H.P M i l * H.dP i l) / H.Z M i := by
    rw [Finset.sum_div]
    refine Finset.sum_congr rfl fun l _ => ?_
    rw [P]; field_simp
  rw [e, dS, P]; field_simp; ring

/-- the gradient of the scaled queries -/
def dQ (M : ℝ) (i : Fin 4096) (d : Fin 128) : ℝ := ∑ j, H.dS M i j * sc * H.K j d
end Head

/-- the gradient of a normalised row: `x` the row, `y` the gradient behind the gain, `r` the reciprocal root -/
def rmsBwd (x y : Fin 128 → ℝ) (r : ℝ) (d : Fin 128) : ℝ := r * (y d - x d * r * ((∑ e, y e * (x e * r)) / 128))

/-- The gradient of a normalised row as the chain of derivatives gives it. -/
theorem rmsBwd_chain (x : Fin 4096 → Fin 128 → ℝ) (i : Fin 4096) (y : Fin 128 → ℝ) (d : Fin 128) :
    y d * rt x i + x i d * ((∑ e, x i e * y e) * (-(1 / 2) * (rt x i / ms x i)) / 128)
      + (∑ e, x i e * y e) * (-(1 / 2) * (rt x i / ms x i)) / 128 * x i d
      = rmsBwd (x i) y (rt x i) d := by
  rw [rt_sq, rmsBwd]
  have e : ∑ e, y e * (x i e * rt x i) = (∑ e, x i e * y e) * rt x i := by
    rw [Finset.sum_mul]; exact Finset.sum_congr rfl fun e _ => by ring
  rw [e]; ring

namespace Head
variable (H : Head)

/-- the logits of query `i` as extended reals: `-∞` behind the query -/
def row (i j : Fin 4096) : EReal := if j.val ≤ i.val then (H.S i j : EReal) else ⊥

/-- the greatest logit of query `i` -/
def M (i : Fin 4096) : ℝ := (Finset.fold max ⊥ (H.row i) Finset.univ).toReal

theorem fold_row (i : Fin 4096) : Finset.fold max ⊥ (H.row i) Finset.univ = (H.M i : EReal) := by
  refine (EReal.coe_toReal ?_ ?_).symm
  · refine (Finset.fold_max_lt (s := Finset.univ) (f := H.row i) (b := ⊥) (c := ⊤)).2 ⟨bot_lt_top, fun j _ => ?_⟩ |>.ne
    unfold row; split
    · exact EReal.coe_lt_top _
    · exact bot_lt_top
  · refine ((Finset.lt_fold_max (s := Finset.univ) (f := H.row i) (b := ⊥) (c := ⊥)).2 (Or.inr ⟨i, Finset.mem_univ _, ?_⟩)).ne'
    rw [row, if_pos le_rfl]; exact EReal.bot_lt_coe _

theorem exp_row (i j : Fin 4096) : Ideal.exp (H.row i j - (H.M i : EReal)) = (H.ex (H.M i) i j : EReal) := by
  unfold row ex
  split
  · rw [← EReal.coe_sub, exp_coe]
  · rw [EReal.bot_sub, exp_bot, EReal.coe_zero]

/-- the gradient of the scaled keys -/
def dK (M : Fin 4096 → ℝ) (j : Fin 4096) (d : Fin 128) : ℝ := ∑ i, H.dS (M i) i j * sc * H.Q i d
end Head

/-! ### All heads -/

/-- The arguments as reals: of the projection the columns of the attention, the gradient of the output, the two gains and the
    gates. -/
structure Arr where
  X : Fin 4096 → Fin 3072 → ℝ
  Y : Fin 4096 → Fin 1024 → ℝ
  g : Fin 128 → ℝ
  γ : Fin 128 → ℝ
  C : Fin 8 → Fin 4096 → ℝ

/-- head `h`: its queries, keys and values are consecutive in the projection -/
def Arr.head (A : Arr) (h : Fin 8) : Head where
  q i d := A.X i ⟨h.val * 384 + d.val, by omega⟩
  k i d := A.X i ⟨h.val * 384 + 128 + d.val, by omega⟩
  v i d := A.X i ⟨h.val * 384 + 256 + d.val, by omega⟩
  dy i d := A.Y i ⟨h.val * 128 + d.val, by omega⟩
  g := A.g
  γ := A.γ
  c := A.C h

/-- The arguments are these reals. -/
structure Arr.Holds (A : Arr) (x : Fin 4096 → Fin 13312 → EReal) (y : Fin 4096 → Fin 1024 → EReal) (g γ : Fin 128 → EReal)
    (c : Fin 8 → Fin 4096 → EReal) : Prop where
  x : ∀ i (n : Fin 3072), x i ⟨9216 + n.val, by omega⟩ = (A.X i n : EReal)
  y : ∀ i n, y i n = (A.Y i n : EReal)
  g : ∀ d, g d = (A.g d : EReal)
  γ : ∀ d, γ d = (A.γ d : EReal)
  c : ∀ h i, c h i = (A.C h i : EReal)

end Cert.Fox

end
-- ==== Proof.FoxEnv.lean ====
module

public import proofs.«01_k».proof.Proof.FoxSums
public import proofs.«01_k».proof.Proof.FoxHead
public import proofs.«01_k».proof.Proof.FoxReal

/-! One head of the backward kernel on real arrays: what it writes is, entry by entry, the real gradient. -/

@[expose] public section

set_option maxRecDepth 16384

noncomputable section

namespace Cert.KernelIdeal.Fox

open Idealize.ShloMosaic Idealize.SL.Sem
open Cert.KernelIdeal Cert.KernelIdeal.Gen
open Cert.Fox (Head)

section payloads
variable (x y : Vec Ideal S4096x128 .bf16) (g : Vec Ideal S1x128 .f32)

theorem pay37 (i : Fin 4096) : k0_pay37 x (ix2 i 0) = Ideal.rsqrt (Ideal.div (∑ d : Fin 128, x (ix2 i d) * x (ix2 i d)) (Ideal.ofBits .f32 0x43000000#32) + Ideal.ofBits .f32 0x358637BD#32) := by
  pointwise [k0_pay37, k0_pay36]
theorem pay38 (i : Fin 4096) (d : Fin 128) : k0_pay38 x (ix2 i d) = x (ix2 i d) * k0_pay37 x (ix2 i 0) := by
  pointwise [k0_pay38, k0_pay36]
theorem pay39 (i : Fin 4096) (d : Fin 128) : k0_pay39 x g (ix2 i d) = k0_pay38 x (ix2 i d) * (g (ix2 0 d) * Ideal.ofBits .f32 0x3DB504F3#32) := by
  pointwise [k0_pay39]
theorem pay41 : k0_pay41 x = k0_pay37 x := rfl
theorem pay42 : k0_pay42 x = k0_pay38 x := rfl
theorem pay44 (i : Fin 4096) (d : Fin 128) : k0_pay44 (k0_pay43 x g) (ix2 i d) = k0_pay38 x (ix2 i d) * g (ix2 0 d) := by
  rw [← pay42]
  pointwise [k0_pay43, k0_pay44]
/-- two row numbers are equal as words when they are equal -/
theorem eq_word (a b n : ℕ) (ha : a < 4096) (hb : b < 4096) :
    IntOp.cmpi .eq (BitVec.ofNat 32 a) (BitVec.ofNat 32 b) = if a = b then 1#1 else 0#1 := by
  show BitVec.ofBool (decide (BitVec.ofNat 32 a = BitVec.ofNat 32 b)) = _
  by_cases h : a = b
  · subst h; simp
  · rw [if_neg h, decide_eq_false]
    · rfl
    · intro e
      have := congrArg BitVec.toNat e
      simp only [BitVec.toNat_ofNat] at this
      omega
theorem pay45 (i : Fin 4096) (d : Fin 128) : k0_pay45 x (ix2 d i) = x (ix2 i d) := by
  pointwise [k0_pay45]
  rw [Finset.sum_eq_single d]
  · rw [eq_word _ _ 0 (by omega) (by omega), if_pos rfl]
    show (((1 : ℤ) : ℝ) : EReal) * _ = _
    simp
  · intro e _ he
    rw [eq_word _ _ 0 (by omega) (by omega), if_neg (fun h => he (Fin.ext h).symm)]
    show (((0 : ℤ) : ℝ) : EReal) * _ = _
    simp
  · exact fun h => absurd (Finset.mem_univ _) h
theorem pay46 (i : Fin 4096) : k0_pay46 y x (ix2 i 0) = ∑ d : Fin 128, y (ix2 i d) * x (ix2 i d) := by
  pointwise [k0_pay46]

/-- the sum of a diagonal's column -/
theorem diag_sum (f : Fin 512 → EReal) (b : Fin 512) :
    (∑ a : Fin 512, Scalar.select (IntOp.cmpi .eq (BitVec.ofNat 32 a.val) (BitVec.ofNat 32 b.val)) (f a) 0) = f b := by
  rw [Finset.sum_eq_single b]
  · rw [eq_word _ _ 0 (by omega) (by omega), if_pos rfl]
    exact if_pos rfl
  · intro e _ he
    rw [eq_word _ _ 0 (by omega) (by omega), if_neg (fun h => he (Fin.ext h))]
    exact if_neg (by decide)
  · exact fun h => absurd (Finset.mem_univ _) h

theorem pay47 (b : Fin 512) : k0_pay47 y x (ix2 0 b) = k0_pay46 y x (ix2 ⟨b.val, by omega⟩ 0) := by
  pointwise [k0_pay47]
  exact diag_sum (fun a => k0_pay46 y x (ix2 ⟨a.val, by omega⟩ 0)) b
theorem pay50 (b : Fin 512) : k0_pay50 k0_pay48 zero (k0_pay49 y x) (ix2 0 b) = k0_pay46 y x (ix2 ⟨512 + b.val, by omega⟩ 0) := by
  pointwise [k0_pay50, k0_pay48, k0_pay49, zero]
  exact diag_sum (fun a => k0_pay46 y x (ix2 ⟨512 + a.val, by omega⟩ 0)) b
variable (z : FVec Ideal S4096x1 .f32)
theorem pay51 (b : Fin 512) : k0_pay51 z (ix2 0 b) = z (ix2 ⟨1024 + b.val, by omega⟩ 0) := by
  pointwise [k0_pay51]
  exact diag_sum (fun a => z (ix2 ⟨1024 + a.val, by omega⟩ 0)) b
theorem pay52 (b : Fin 512) : k0_pay52 z (ix2 0 b) = z (ix2 ⟨1536 + b.val, by omega⟩ 0) := by
  pointwise [k0_pay52]
  exact diag_sum (fun a => z (ix2 ⟨1536 + a.val, by omega⟩ 0)) b
theorem pay54 (b : Fin 512) : k0_pay54 (k0_pay53 z) (ix2 0 b) = z (ix2 ⟨2048 + b.val, by omega⟩ 0) := by
  pointwise [k0_pay54, k0_pay53]
  exact diag_sum (fun a => z (ix2 ⟨2048 + a.val, by omega⟩ 0)) b
theorem pay55 (b : Fin 512) : k0_pay55 z (ix2 0 b) = z (ix2 ⟨2560 + b.val, by omega⟩ 0) := by
  pointwise [k0_pay55]
  exact diag_sum (fun a => z (ix2 ⟨2560 + a.val, by omega⟩ 0)) b
theorem pay56 (b : Fin 512) : k0_pay56 z (ix2 0 b) = z (ix2 ⟨3072 + b.val, by omega⟩ 0) := by
  pointwise [k0_pay56]
  exact diag_sum (fun a => z (ix2 ⟨3072 + a.val, by omega⟩ 0)) b
theorem pay57 (b : Fin 512) : k0_pay57 z (ix2 0 b) = z (ix2 ⟨3584 + b.val, by omega⟩ 0) := by
  pointwise [k0_pay57]
  exact diag_sum (fun a => z (ix2 ⟨3584 + a.val, by omega⟩ 0)) b
end payloads

theorem rowSums_at (I : In Ideal) (x : Vec Ideal S1x4096 .f32) (i : Fin 4096) :
    rowSums I x (ix2 0 i) = ∑ d : Fin 128, I.dO (ix2 i d) * I.o (ix2 i d) := by
  rw [← pay46]
  unfold rowSums
  by_cases h7 : 3584 ≤ i.val
  · rw [put2_in _ _ 0 3584 rfl _ 0 i 0 ⟨i.val - 3584, by omega⟩ rfl (by show i.val = 3584 + (i.val - 3584); omega), pay57]
    exact congrArg (fun k => k0_pay46 I.dO I.o (ix2 k 0)) (Fin.ext (by show 3584 + (i.val - 3584) = i.val; omega))
  rw [put2_out _ _ 0 3584 rfl _ 0 i (by show ¬ (_ ∧ 3584 ≤ i.val ∧ _); omega)]
  by_cases h6 : 3072 ≤ i.val
  · rw [put2_in _ _ 0 3072 rfl _ 0 i 0 ⟨i.val - 3072, by omega⟩ rfl (by show i.val = 3072 + (i.val - 3072); omega), pay56]
    exact congrArg (fun k => k0_pay46 I.dO I.o (ix2 k 0)) (Fin.ext (by show 3072 + (i.val - 3072) = i.val; omega))
  rw [put2_out _ _ 0 3072 rfl _ 0 i (by show ¬ (_ ∧ 3072 ≤ i.val ∧ _); omega)]
  by_cases h5 : 2560 ≤ i.val
  · rw [put2_in _ _ 0 2560 rfl _ 0 i 0 ⟨i.val - 2560, by omega⟩ rfl (by show i.val = 2560 + (i.val - 2560); omega), pay55]
    exact congrArg (fun k => k0_pay46 I.dO I.o (ix2 k 0)) (Fin.ext (by show 2560 + (i.val - 2560) = i.val; omega))
  rw [put2_out _ _ 0 2560 rfl _ 0 i (by show ¬ (_ ∧ 2560 ≤ i.val ∧ _); omega)]
  by_cases h4 : 2048 ≤ i.val
  · rw [put2_in _ _ 0 2048 rfl _ 0 i 0 ⟨i.val - 2048, by omega⟩ rfl (by show i.val = 2048 + (i.val - 2048); omega), pay54]
    exact congrArg (fun k => k0_pay46 I.dO I.o (ix2 k 0)) (Fin.ext (by show 2048 + (i.val - 2048) = i.val; omega))
  rw [put2_out _ _ 0 2048 rfl _ 0 i (by show ¬ (_ ∧ 2048 ≤ i.val ∧ _); omega)]
  by_cases h3 : 1536 ≤ i.val
  · rw [put2_in _ _ 0 1536 rfl _ 0 i 0 ⟨i.val - 1536, by omega⟩ rfl (by show i.val = 1536 + (i.val - 1536); omega), pay52]
    exact congrArg (fun k => k0_pay46 I.dO I.o (ix2 k 0)) (Fin.ext (by show 1536 + (i.val - 1536) = i.val; omega))
  rw [put2_out _ _ 0 1536 rfl _ 0 i (by show ¬ (_ ∧ 1536 ≤ i.val ∧ _); omega)]
  by_cases h2 : 1024 ≤ i.val
  · rw [put2_in _ _ 0 1024 rfl _ 0 i 0 ⟨i.val - 1024, by omega⟩ rfl (by show i.val = 1024 + (i.val - 1024); omega), pay51]
    exact congrArg (fun k => k0_pay46 I.dO I.o (ix2 k 0)) (Fin.ext (by show 1024 + (i.val - 1024) = i.val; omega))
  rw [put2_out _ _ 0 1024 rfl _ 0 i (by show ¬ (_ ∧ 1024 ≤ i.val ∧ _); omega)]
  by_cases h1 : 512 ≤ i.val
  · rw [put2_in _ _ 0 512 rfl _ 0 i 0 ⟨i.val - 512, by omega⟩ rfl (by show i.val = 512 + (i.val - 512); omega), pay50]
    exact congrArg (fun k => k0_pay46 I.dO I.o (ix2 k 0)) (Fin.ext (by show 512 + (i.val - 512) = i.val; omega))
  rw [put2_out _ _ 0 512 rfl _ 0 i (by show ¬ (_ ∧ 512 ≤ i.val ∧ _); omega)]
  rw [put2_in _ _ 0 0 rfl _ 0 i 0 ⟨i.val, by omega⟩ rfl (by show i.val = 0 + i.val; omega), pay47]

section grads
variable (r : FVec Ideal S4096x1 .f32) (n : FVec Ideal S4096x128 .f32) (dq : Vec Ideal S128x4096 .f32) (dk : Vec Ideal S4096x128 .f32) (g old : Vec Ideal S1x128 .f32)

theorem pay72 (i : Fin 4096) (d : Fin 128) : k0_pay72 dq (ix2 i d) = dq (ix2 d i) * Ideal.ofBits .f32 0x3DB504F3#32 := by
  pointwise [k0_pay72]
theorem pay76 (i : Fin 4096) (d : Fin 128) : k0_pay76 (k0_pay73 r n dq g) (ix2 i d)
    = r (ix2 i 0) * (k0_pay72 dq (ix2 i d) * g (ix2 0 d) - n (ix2 i d) * Ideal.div (∑ e : Fin 128, k0_pay72 dq (ix2 i e) * g (ix2 0 e) * n (ix2 i e)) (Ideal.ofBits .f32 0x43000000#32)) := by
  pointwise [k0_pay76, k0_pay73]
theorem pay77 (i : Fin 4096) (d : Fin 128) : k0_pay77 r n dk (k0_pay75 g) (ix2 i d)
    = r (ix2 i 0) * (dk (ix2 i d) * g (ix2 0 d) - n (ix2 i d) * Ideal.div (∑ e : Fin 128, dk (ix2 i e) * g (ix2 0 e) * n (ix2 i e)) (Ideal.ofBits .f32 0x43000000#32)) := by
  pointwise [k0_pay77, k0_pay75]
theorem pay78 (w : Vec Ideal S1x4096 .f32) (i : Fin 4096) : k0_pay78 w (ix3 0 0 i) = w (ix2 0 i) := by
  pointwise [k0_pay78]
theorem pay79 (d : Fin 128) : k0_pay79 (F := Ideal) (ix2 0 d) = 0 := by pointwise [k0_pay79]
theorem pay80 (d : Fin 128) : k0_pay80 (F := Ideal) (ix2 0 d) = 0 := by pointwise [k0_pay80]
theorem pay81 (d : Fin 128) : k0_pay81 (k0_pay74 n dq) old (ix2 0 d) = old (ix2 0 d) + ∑ i : Fin 4096, k0_pay72 dq (ix2 i d) * n (ix2 i d) := by
  pointwise [k0_pay81, k0_pay74]
theorem pay82 (d : Fin 128) : k0_pay82 n dk old (ix2 0 d) = old (ix2 0 d) + ∑ i : Fin 4096, dk (ix2 i d) * n (ix2 i d) := by
  pointwise [k0_pay82]
end grads

/-! ### The head on real arrays -/

/-- The arrays that one head reads are real: those of `H`, the output of its softmax, and the logarithms of the softmax's sums taken
    above the numbers `M`. -/
structure Reads (I : In Ideal) (H : Head) (M : Fin 4096 → ℝ) : Prop where
  q : ∀ i d, I.q (ix2 i d) = ((H.q i d : ℝ) : EReal)
  k : ∀ i d, I.k (ix2 i d) = ((H.k i d : ℝ) : EReal)
  v : ∀ i d, I.v (ix2 i d) = ((H.v i d : ℝ) : EReal)
  o : ∀ i d, I.o (ix2 i d) = ((H.O (M i) i d : ℝ) : EReal)
  dO : ∀ i d, I.dO (ix2 i d) = ((H.dy i d : ℝ) : EReal)
  gq : ∀ d, I.gq (ix2 0 d) = ((H.g d : ℝ) : EReal)
  gk : ∀ d, I.gk (ix2 0 d) = ((H.γ d : ℝ) : EReal)
  cr : ∀ i, I.cr (ix3 0 0 i) = ((H.c i : ℝ) : EReal)
  cc : ∀ i, I.cc (ix3 0 i 0) = ((H.c i : ℝ) : EReal)
  ls : ∀ i, I.ls (ix3 0 0 i) = ((M i + Real.log (H.Z (M i) i) : ℝ) : EReal)

section head
open Cert.Fox
variable {I : In Ideal} {H : Head} {M : Fin 4096 → ℝ} (R : Reads I H M)
include R

theorem rt_real {x : Vec Ideal S4096x128 .bf16} {f : Fin 4096 → Fin 128 → ℝ} (h : ∀ i d, x (ix2 i d) = ((f i d : ℝ) : EReal)) (i : Fin 4096) :
    k0_pay37 x (ix2 i 0) = ((rt f i : ℝ) : EReal) := by
  rw [pay37]
  simp only [h, ← EReal.coe_mul]
  rw [coe_sum, bits_128, bits_eps, div_coe _ _ (by norm_num), ← EReal.coe_add]
  exact rsqrt_coe _ (ms_pos f i)

theorem norm_real {x : Vec Ideal S4096x128 .bf16} {f : Fin 4096 → Fin 128 → ℝ} (h : ∀ i d, x (ix2 i d) = ((f i d : ℝ) : EReal)) (i : Fin 4096) (d : Fin 128) :
    k0_pay38 x (ix2 i d) = ((f i d * rt f i : ℝ) : EReal) := by
  rw [pay38, rt_real R h, h, EReal.coe_mul]

theorem qh_real (i : Fin 4096) (d : Fin 128) : (env I fun _ => zero (F := Ideal)).qh (ix2 i d) = ((H.Q i d * sc : ℝ) : EReal) := by
  show k0_pay39 I.q I.gq (ix2 i d) = _
  rw [pay39, norm_real R R.q, R.gq, bits_sc, ← EReal.coe_mul, ← EReal.coe_mul, Head.Q]
  exact congrArg Real.toEReal (by ring)

theorem kh_real (i : Fin 4096) (d : Fin 128) : (env I fun _ => zero (F := Ideal)).kh (ix2 i d) = ((H.K i d : ℝ) : EReal) := by
  show k0_pay44 (k0_pay43 I.k I.gk) (ix2 i d) = _
  rw [pay44, norm_real R R.k, R.gk, ← EReal.coe_mul, Head.K]

theorem kt_real (i : Fin 4096) (d : Fin 128) : (env I fun _ => zero (F := Ideal)).kt (ix2 d i) = ((H.K i d : ℝ) : EReal) :=
  (pay45 _ i d).trans (kh_real R i d)

theorem dl_real (i : Fin 4096) : (env I fun _ => zero (F := Ideal)).dl (ix2 0 i) = ((∑ l, H.P (M i) i l * H.dP i l : ℝ) : EReal) := by
  refine (rowSums_at I _ i).trans ?_
  simp only [R.dO, R.o, ← EReal.coe_mul]
  rw [coe_sum, Head.sum_dy_O]

theorem logit_real (k i : Fin 4096) : logit (env I fun _ => zero (F := Ideal)) k i = ((H.S i k - (M i + Real.log (H.Z (M i) i)) : ℝ) : EReal) := by
  unfold logit
  simp only [qh_real R, kh_real R, ← EReal.coe_mul]
  rw [coe_sum]
  show _ + ((I.cr (ix3 0 0 i) - I.ls (ix3 0 0 i)) - I.cc (ix3 0 k 0)) = _
  rw [R.cr, R.ls, R.cc, ← EReal.coe_sub, ← EReal.coe_sub, ← EReal.coe_add]
  refine congrArg Real.toEReal ?_
  have e : ∑ d, H.K k d * (H.Q i d * sc) = (∑ d, H.Q i d * H.K k d) * sc := by
    rw [Finset.sum_mul]; exact Finset.sum_congr rfl fun d _ => by ring
  rw [e, Head.S]; ring

theorem prob_real (k i : Fin 4096) : prob (env I fun _ => zero (F := Ideal)) k i = ((H.P (M i) i k : ℝ) : EReal) := by
  unfold prob
  split
  · next h => rw [logit_real R, exp_coe, Head.exp_lse H _ _ _ h]
  · next h => rw [Head.P_behind H _ _ _ h, EReal.coe_zero]

theorem dlog_real (k i : Fin 4096) : dlog (env I fun _ => zero (F := Ideal)) k i = ((H.dS (M i) i k : ℝ) : EReal) := by
  unfold dlog
  rw [prob_real R, dl_real R]
  show _ * ((∑ d, I.v (ix2 k d) * I.dO (ix2 i d)) - _) = _
  simp only [R.v, R.dO, ← EReal.coe_mul]
  rw [coe_sum, ← EReal.coe_sub, ← EReal.coe_mul, Head.dS, Head.dP]
  simp only [mul_comm]

/-- The walk's sums for the queries, scaled: the gradient of the scaled queries. -/
theorem dq_real (i : Fin 4096) (d : Fin 128) : k0_pay72 (done I).dq (ix2 i d) = ((H.dQ (M i) i d : ℝ) : EReal) := by
  rw [pay72]
  unfold done
  rw [(winv (env I fun _ => zero (F := Ideal))).dq, show 512 * 8 = 4096 from rfl, psum_full]
  simp only [kt_real R, dlog_real R, ← EReal.coe_mul]
  rw [coe_sum, bits_sc, ← EReal.coe_mul, Finset.sum_mul, Head.dQ]
  exact congrArg Real.toEReal (Finset.sum_congr rfl fun j _ => by ring)

theorem dcq_real (i : Fin 4096) : k0_pay78 (done I).dcq (ix3 0 0 i) = ((∑ j, H.dS (M i) i j : ℝ) : EReal) := by
  rw [pay78]
  unfold done
  rw [(winv (env I fun _ => zero (F := Ideal))).dcq, show 512 * 8 = 4096 from rfl, psum_full]
  simp only [dlog_real R]
  rw [coe_sum]

theorem dk_real (j : Fin 4096) (d : Fin 128) : (done I).dk (ix2 j d) = ((∑ i, H.dS (M i) i j * sc * H.Q i d : ℝ) : EReal) := by
  unfold done
  rw [(winv (env I fun _ => zero (F := Ideal))).dk j d (by omega)]
  simp only [qh_real R, dlog_real R, ← EReal.coe_mul]
  rw [coe_sum]
  exact congrArg Real.toEReal (Finset.sum_congr rfl fun i _ => by ring)

theorem dck_real (j : Fin 4096) : (done I).dck (ix3 0 j 0) = ((∑ i, H.dS (M i) i j : ℝ) : EReal) := by
  unfold done
  rw [(winv (env I fun _ => zero (F := Ideal))).dck j (by omega)]
  simp only [dlog_real R]
  rw [coe_sum]

/-- the gradients of the queries -/
theorem dp_q (i : Fin 4096) (d : Fin 128) (b : Fin 384) (hb : b.val = d.val) : dpOf I (done I) (ix2 i b)
    = ((rmsBwd (H.q i) (fun e => H.dQ (M i) i e * H.g e) (rt H.q i) d : ℝ) : EReal) := by
  unfold dpOf
  rw [put2_out _ _ 0 128 rfl _ i b (by omega), put2_in _ _ 0 0 rfl _ i b i d (by omega) (by omega), pay76]
  simp only [dq_real R, rt_real R R.q, norm_real R R.q, R.gq, ← EReal.coe_mul]
  rw [coe_sum, bits_128, div_coe _ _ (by norm_num), ← EReal.coe_mul, ← EReal.coe_sub, ← EReal.coe_mul, rmsBwd]

/-- the gradients of the keys -/
theorem dp_k (i : Fin 4096) (d : Fin 128) (b : Fin 384) (hb : b.val = 128 + d.val) : dpOf I (done I) (ix2 i b)
    = ((rmsBwd (H.k i) (fun e => (∑ l, H.dS (M l) l i * sc * H.Q l e) * H.γ e) (rt H.k i) d : ℝ) : EReal) := by
  unfold dpOf
  rw [put2_in _ _ 0 128 rfl _ i b i d (by omega) (by omega), pay77, pay41, pay42]
  simp only [dk_real R, rt_real R R.k, norm_real R R.k, R.gk, ← EReal.coe_mul]
  rw [coe_sum, bits_128, div_coe _ _ (by norm_num), ← EReal.coe_mul, ← EReal.coe_sub, ← EReal.coe_mul, rmsBwd]

/-- the gradients of the values -/
theorem dp_v (i : Fin 4096) (d : Fin 128) (b : Fin 384) (hb : b.val = 256 + d.val) : dpOf I (done I) (ix2 i b)
    = ((∑ l, H.dy l d * H.P (M l) l i : ℝ) : EReal) := by
  unfold dpOf
  rw [put2_out _ _ 0 128 rfl _ i b (by omega), put2_out _ _ 0 0 rfl _ i b (by omega)]
  unfold done
  rw [(winv (env I fun _ => zero (F := Ideal))).dp i b d hb (by omega)]
  show ∑ l, _ * I.dO (ix2 l d) = _
  simp only [prob_real R, R.dO, ← EReal.coe_mul]
  rw [coe_sum]
  exact congrArg Real.toEReal (Finset.sum_congr rfl fun i _ => by ring)

/-- the gradient of the queries' gain, one head's -/
theorem ggq_real (old : Vec Ideal S1x128 .f32) (d : Fin 128) :
    ggqOf I (done I) old (ix2 0 d) = old (ix2 0 d) + ((∑ i, H.q i d * rt H.q i * H.dQ (M i) i d : ℝ) : EReal) := by
  unfold ggqOf
  rw [pay81]
  simp only [dq_real R, norm_real R R.q, ← EReal.coe_mul]
  rw [coe_sum]
  exact congrArg (fun u : ℝ => old (ix2 0 d) + (u : EReal)) (Finset.sum_congr rfl fun i _ => by ring)

/-- the gradient of the keys' gain, one head's -/
theorem ggk_real (old : Vec Ideal S1x128 .f32) (d : Fin 128) :
    ggkOf I (done I) old (ix2 0 d) = old (ix2 0 d) + ((∑ i, H.k i d * rt H.k i * ∑ l, H.dS (M l) l i * sc * H.Q l d : ℝ) : EReal) := by
  unfold ggkOf
  rw [pay82, pay42]
  simp only [dk_real R, norm_real R R.k, ← EReal.coe_mul]
  rw [coe_sum]
  exact congrArg (fun u : ℝ => old (ix2 0 d) + (u : EReal)) (Finset.sum_congr rfl fun i _ => by ring)
end head

end Cert.KernelIdeal.Fox

end
-- ==== Proof.FoxHost.lean ====
/- What the host lines before the call leave for it, read at an index: the softmax's statistics and the output of the forward pass, and
   the arguments as the call takes them. -/
module

public import proofs.«01_k».proof.Proof.FoxEnv
public import proofs.«01_k».proof.Proof.FoxFrame
public import Idealize.ShloMosaic.Lib.Pointwise
public import Idealize.ShloMosaic.Lib.Pipeline.Value
public import Idealize.ShloMosaic.Lib.WordCmp
public import Idealize.ShloMosaic.Lib.Tactic.CleanTypes
public import Idealize.ShloMosaic.Lib.StableHlo.RunRead

@[expose] public section

set_option maxRecDepth 16384

noncomputable section

namespace Cert.KernelIdeal.Fox

open Idealize.ShloMosaic Idealize.SL.Sem
open Cert.KernelIdeal Cert.KernelIdeal.Gen
open Cert.Fox

variable (V0 : Valuation τ sig (Elt Ideal))

/-! The arguments, and what the host lines make of them. -/
abbrev A0 : FVec Ideal S4096x13312 .bf16 := V0 (Proc.devRef .tc main_arg0)
abbrev A1 : FVec Ideal S4096x1024 .bf16 := V0 (Proc.devRef .tc main_arg1)
abbrev A2 : FVec Ideal S128 .f32 := V0 (Proc.devRef .tc main_arg2)
abbrev A3 : FVec Ideal S128 .f32 := V0 (Proc.devRef .tc main_arg3)
abbrev A4 : FVec Ideal S8x4096 .f32 := V0 (Proc.devRef .tc main_arg4)
abbrev A5 : FVec Ideal S4096x13312 .bf16 := V0 (Proc.devRef .tc main_arg5)
/-- the columns of the attention, by heads -/
def k2 : FVec Ideal S4096x8x3x128 .f32 :=
  shapeCast _ (extf .f32 (extractStridedSlice S4096x3072 ![0, 9216] (A0 V0) slices_S4096x13312_S4096x3072_0_9216) bitsLt_bf16_f32) shapeCasts_S4096x3072_S4096x8x3x128
/-- the queries -/
def k4 : FVec Ideal S4096x8x128 .f32 :=
  shapeCast _ (extractStridedSlice S4096x8x1x128 ![0, 0, 0, 0] (k2 V0) slices_S4096x8x3x128_S4096x8x1x128_0_0_0_0) shapeCasts_S4096x8x1x128_S4096x8x128
/-- the keys -/
def k6 : FVec Ideal S4096x8x128 .f32 :=
  shapeCast _ (extractStridedSlice S4096x8x1x128 ![0, 0, 1, 0] (k2 V0) slices_S4096x8x3x128_S4096x8x1x128_0_0_1_0) shapeCasts_S4096x8x1x128_S4096x8x128
/-- the values -/
def k8 : FVec Ideal S4096x8x128 .f32 :=
  shapeCast _ (extractStridedSlice S4096x8x1x128 ![0, 0, 2, 0] (k2 V0) slices_S4096x8x3x128_S4096x8x1x128_0_0_2_0) shapeCasts_S4096x8x1x128_S4096x8x128
/-- the queries' mean squares -/
def k15 : FVec Ideal S4096x8x1 .f32 :=
  addf (Host.divf (broadcastInDim S4096x8x1 ![0, 1] bcast_S4096x8_S4096x8x1_0_1 (Host.reduceAdd (mulf (k4 V0) (k4 V0)) (constant S_ .f32 0x00000000#32) reducesTo_S4096x8x128_S4096x8_d2 h_S_)) (broadcastInDim S4096x8x1 ![] bcast_S_S4096x8x1 (constant S_ .f32 0x43000000#32))) (broadcastInDim S4096x8x1 ![] bcast_S_S4096x8x1 (constant S_ .f32 0x358637BD#32))
/-- the keys' mean squares -/
def k28 : FVec Ideal S4096x8x1 .f32 :=
  addf (Host.divf (broadcastInDim S4096x8x1 ![0, 1] bcast_S4096x8_S4096x8x1_0_1 (Host.reduceAdd (mulf (k6 V0) (k6 V0)) (constant S_ .f32 0x00000000#32) reducesTo_S4096x8x128_S4096x8_d2 h_S_)) (broadcastInDim S4096x8x1 ![] bcast_S_S4096x8x1 (constant S_ .f32 0x43000000#32))) (broadcastInDim S4096x8x1 ![] bcast_S_S4096x8x1 (constant S_ .f32 0x358637BD#32))
/-- the queries, normalised and scaled -/
def k21 : FVec Ideal S4096x8x128 .f32 :=
  mulf (mulf (k4 V0) (broadcastInDim S4096x8x128 ![0, 1, 2] bcast_S4096x8x1_S4096x8x128_0_1_2 (Host.rsqrt (k15 V0)))) (broadcastInDim S4096x8x128 ![0, 1, 2] bcast_S1x1x128_S4096x8x128_0_1_2 (broadcastInDim S1x1x128 ![2] bcast_S128_S1x1x128_2 (A2 V0)))
/-- the keys, normalised and scaled -/
def k34 : FVec Ideal S4096x8x128 .f32 :=
  mulf (mulf (k6 V0) (broadcastInDim S4096x8x128 ![0, 1, 2] bcast_S4096x8x1_S4096x8x128_0_1_2 (Host.rsqrt (k28 V0)))) (broadcastInDim S4096x8x128 ![0, 1, 2] bcast_S1x1x128_S4096x8x128_0_1_2 (broadcastInDim S1x1x128 ![2] bcast_S128_S1x1x128_2 (A3 V0)))
/-- the logits, masked -/
def k50 : FVec Ideal S8x4096x4096 .f32 :=
  select (broadcastInDim S8x4096x4096 ![1, 2] bcast_S4096x4096_S8x4096x4096_1_2 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (addf (mulf (Host.dotGeneral (φ₁ := .f32) (φ₂ := .f32) dot_S4096x8x128_S4096x8x128_S8x4096x4096_2_2_0_0_1_1 Option.none (k21 V0) (k34 V0)) (broadcastInDim S8x4096x4096 ![] bcast_S_S8x4096x4096 (constant S_ .f32 0x3DB504F3#32))) (subf (broadcastInDim S8x4096x4096 ![0, 1, 2] bcast_S8x4096x1_S8x4096x4096_0_1_2 (broadcastInDim S8x4096x1 ![0, 1] bcast_S8x4096_S8x4096x1_0_1 (A4 V0))) (broadcastInDim S8x4096x4096 ![0, 1, 2] bcast_S8x1x4096_S8x4096x4096_0_1_2 (broadcastInDim S8x1x4096 ![0, 2] bcast_S8x4096_S8x1x4096_0_2 (A4 V0))))) (broadcastInDim S8x4096x4096 ![] bcast_S_S8x4096x4096 (id (constant S_ .f32 0xFF800000#32)))
/-- their greatest in each row -/
def k51 : FVec Ideal S8x4096 .f32 :=
  Host.reduce FloatOps.maximumf (k50 V0) (constant S_ .f32 0xFF800000#32) reducesTo_S8x4096x4096_S8x4096_d2 h_S_
/-- the exponentials -/
def k55 : FVec Ideal S8x4096x4096 .f32 :=
  Host.exp (subf (k50 V0) (broadcastInDim S8x4096x4096 ![0, 1, 2] bcast_S8x4096x1_S8x4096x4096_0_1_2 (broadcastInDim S8x4096x1 ![0, 1] bcast_S8x4096_S8x4096x1_0_1 (k51 V0))))
/-- their sums -/
def k57 : FVec Ideal S8x4096x1 .f32 :=
  broadcastInDim S8x4096x1 ![0, 1] bcast_S8x4096_S8x4096x1_0_1 (Host.reduceAdd (k55 V0) (constant S_ .f32 0x00000000#32) reducesTo_S8x4096x4096_S8x4096_d2 h_S_)
/-- the softmax -/
def k59 : FVec Ideal S8x4096x4096 .f32 :=
  Host.divf (k55 V0) (broadcastInDim S8x4096x4096 ![0, 1, 2] bcast_S8x4096x1_S8x4096x4096_0_1_2 (k57 V0))
/-- the output -/
def k60 : FVec Ideal S8x128x4096 .f32 :=
  Host.dotGeneral (φ₁ := .f32) (φ₂ := .f32) dot_S4096x8x128_S8x4096x4096_S8x128x4096_0_2_2_1_1_0 Option.none (k8 V0) (k59 V0)
/-- the output, heads side by side -/
def k63 : FVec Ideal S4096x1024 .bf16 :=
  truncf (F := Ideal) .bf16 (shapeCast S4096x1024 (transpose S4096x8x128 [2, 0, 1] (k60 V0) transposes_S8x128x4096_S4096x8x128_2_0_1) shapeCasts_S4096x8x128_S4096x1024) bitsLt_bf16_f32
/-- the logarithms of the softmax's sums -/
def k66 : FVec Ideal S8x1x4096 .f32 :=
  shapeCast _ (addf (broadcastInDim S8x4096x1 ![0, 1] bcast_S8x4096_S8x4096x1_0_1 (k51 V0)) (Host.log (k57 V0))) shapeCasts_S8x4096x1_S8x1x4096
/-- the gates as rows -/
def k67 : FVec Ideal S8x1x4096 .f32 :=
  shapeCast _ (A4 V0) shapeCasts_S8x4096_S8x1x4096
/-- the gates as columns -/
def k69 : FVec Ideal S8x4096x128 .f32 :=
  broadcastInDim S8x4096x128 ![0, 1, 2] bcast_S8x4096x1_S8x4096x128_0_1_2 (broadcastInDim S8x4096x1 ![0, 1] bcast_S8x4096_S8x4096x1_0_1 (A4 V0))
/-- the queries' gain -/
def k70 : FVec Ideal S1x128 .f32 :=
  shapeCast _ (A2 V0) shapeCasts_S128_S1x128
/-- the keys' gain -/
def k71 : FVec Ideal S1x128 .f32 :=
  shapeCast _ (A3 V0) shapeCasts_S128_S1x128

theorem sel_ge (i j : Fin 4096) (a b b' : EReal) {m : BitVec 1} (hm : m = IntOp.cmpi .sge (BitVec.ofNat 32 i.val) (BitVec.ofNat 32 j.val)) (hb : b = b') :
    Scalar.select m a b = if j.val ≤ i.val then a else b' := by
  subst hm hb
  rw [Scalar.select]
  rw [show IntOp.cmpi .sge (BitVec.ofNat 32 i.val) (BitVec.ofNat 32 j.val) = BitVec.ofBool (decide (j.val ≤ i.val)) from by
      rw [Idealize.ShloMosaic.WordCmp.cmpi_sge_ofNat (by omega) (by omega)]]
  by_cases e : j.val ≤ i.val <;> simp [e]

theorem k4_at (i : Fin 4096) (h : Fin 8) (d : Fin 128) : k4 V0 (ix3 i h d)
    = A0 V0 (ix2 i ⟨9216 + (h.val * 384 + d.val), by omega⟩) := by
  unfold k4 k2
  pointwise []

theorem k6_at (i : Fin 4096) (h : Fin 8) (d : Fin 128) : k6 V0 (ix3 i h d)
    = A0 V0 (ix2 i ⟨9216 + (h.val * 384 + 128 + d.val), by omega⟩) := by
  unfold k6 k2
  pointwise []

theorem k8_at (i : Fin 4096) (h : Fin 8) (d : Fin 128) : k8 V0 (ix3 i h d)
    = A0 V0 (ix2 i ⟨9216 + (h.val * 384 + 256 + d.val), by omega⟩) := by
  unfold k8 k2
  pointwise []

theorem k15_at (i : Fin 4096) (h : Fin 8) : k15 V0 (ix3 i h 0)
    = Ideal.div (∑ d, k4 V0 (ix3 i h d) * k4 V0 (ix3 i h d)) (Ideal.ofBits .f32 0x43000000#32) + Ideal.ofBits .f32 0x358637BD#32 := by
  unfold k15
  generalize k4 V0 = x4
  pointwise []

theorem k28_at (i : Fin 4096) (h : Fin 8) : k28 V0 (ix3 i h 0)
    = Ideal.div (∑ d, k6 V0 (ix3 i h d) * k6 V0 (ix3 i h d)) (Ideal.ofBits .f32 0x43000000#32) + Ideal.ofBits .f32 0x358637BD#32 := by
  unfold k28
  generalize k6 V0 = x6
  pointwise []

theorem k21_at (i : Fin 4096) (h : Fin 8) (d : Fin 128) : k21 V0 (ix3 i h d)
    = k4 V0 (ix3 i h d) * Ideal.rsqrt (k15 V0 (ix3 i h 0)) * A2 V0 (ix1 d) := by
  unfold k21
  generalize k4 V0 = x4
  generalize k15 V0 = x15
  pointwise []

theorem k34_at (i : Fin 4096) (h : Fin 8) (d : Fin 128) : k34 V0 (ix3 i h d)
    = k6 V0 (ix3 i h d) * Ideal.rsqrt (k28 V0 (ix3 i h 0)) * A3 V0 (ix1 d) := by
  unfold k34
  generalize k6 V0 = x6
  generalize k28 V0 = x28
  pointwise []

theorem k50_at (h : Fin 8) (i j : Fin 4096) : k50 V0 (ix3 h i j)
    = (if j.val ≤ i.val then (∑ d, k21 V0 (ix3 i h d) * k34 V0 (ix3 j h d)) * Ideal.ofBits .f32 0x3DB504F3#32 + (A4 V0 (ix2 h i) - A4 V0 (ix2 h j)) else ⊥) := by
  unfold k50
  generalize k21 V0 = x21
  generalize k34 V0 = x34
  pointwise []
  exact sel_ge i j _ _ _ rfl bits_bot

theorem k51_at (h : Fin 8) (i : Fin 4096) : k51 V0 (ix2 h i)
    = Finset.fold max (Ideal.ofBits .f32 0xFF800000#32) (fun j => k50 V0 (ix3 h i j)) Finset.univ := by
  unfold k51
  generalize k50 V0 = x50
  pointwise []

theorem k55_at (h : Fin 8) (i j : Fin 4096) : k55 V0 (ix3 h i j)
    = Ideal.exp (k50 V0 (ix3 h i j) - k51 V0 (ix2 h i)) := by
  unfold k55
  generalize k50 V0 = x50
  generalize k51 V0 = x51
  pointwise []

theorem k57_at (h : Fin 8) (i : Fin 4096) : k57 V0 (ix3 h i 0)
    = ∑ j, k55 V0 (ix3 h i j) := by
  unfold k57
  generalize k55 V0 = x55
  pointwise []

theorem k59_at (h : Fin 8) (i j : Fin 4096) : k59 V0 (ix3 h i j)
    = Ideal.div (k55 V0 (ix3 h i j)) (k57 V0 (ix3 h i 0)) := by
  unfold k59
  generalize k55 V0 = x55
  generalize k57 V0 = x57
  pointwise []

theorem k60_at (h : Fin 8) (d : Fin 128) (i : Fin 4096) : k60 V0 (ix3 h d i)
    = ∑ j, k8 V0 (ix3 j h d) * k59 V0 (ix3 h i j) := by
  unfold k60
  generalize k8 V0 = x8
  generalize k59 V0 = x59
  pointwise []

theorem k63_at (i : Fin 4096) (h : Fin 8) (d : Fin 128) : k63 V0 (ix2 i ⟨h.val * 128 + d.val, by omega⟩)
    = k60 V0 (ix3 h d i) := by
  unfold k63
  generalize k60 V0 = x60
  pointwise []

theorem row_of_column (h : Fin 8) (i : Fin 4096) (x : FVec Ideal S8x4096x1 .f32) :
    (shapeCast S8x1x4096 x shapeCasts_S8x4096x1_S8x1x4096 : FVec Ideal S8x1x4096 .f32) (ix3 h 0 i) = x (ix3 h i 0) := by
  pointwise []
theorem add_log (h : Fin 8) (i : Fin 4096) (x : FVec Ideal S8x4096 .f32) (y : FVec Ideal S8x4096x1 .f32) :
    addf (broadcastInDim S8x4096x1 ![0, 1] bcast_S8x4096_S8x4096x1_0_1 x) (Host.log y) (ix3 h i 0)
      = x (ix2 h i) + Ideal.log (y (ix3 h i 0)) := by
  pointwise []
theorem k66_at (h : Fin 8) (i : Fin 4096) : k66 V0 (ix3 h 0 i) = k51 V0 (ix2 h i) + Ideal.log (k57 V0 (ix3 h i 0)) := by
  rw [k66]
  exact (row_of_column h i _).trans (add_log h i _ _)

theorem k67_at (h : Fin 8) (i : Fin 4096) : k67 V0 (ix3 h 0 i)
    = A4 V0 (ix2 h i) := by
  unfold k67
  pointwise []

theorem k69_at (h : Fin 8) (i : Fin 4096) (d : Fin 128) : k69 V0 (ix3 h i d)
    = A4 V0 (ix2 h i) := by
  unfold k69
  pointwise []

theorem k70_at (d : Fin 128) : k70 V0 (ix2 0 d)
    = A2 V0 (ix1 d) := by
  unfold k70
  pointwise []

theorem k71_at (d : Fin 128) : k71 V0 (ix2 0 d)
    = A3 V0 (ix1 d) := by
  unfold k71
  pointwise []

/-! ### On real arguments -/

section Real
variable {V0} {A : Arr} (W : A.Holds (fun i n => A0 V0 (ix2 i n)) (fun i n => A1 V0 (ix2 i n)) (fun d => A2 V0 (ix1 d))
  (fun d => A3 V0 (ix1 d)) (fun h i => A4 V0 (ix2 h i)))
include W

theorem k4_real (i : Fin 4096) (h : Fin 8) (d : Fin 128) : k4 V0 (ix3 i h d) = (((A.head h).q i d : ℝ) : EReal) :=
  (k4_at V0 i h d).trans (W.x i ⟨h.val * 384 + d.val, by omega⟩)
theorem k6_real (i : Fin 4096) (h : Fin 8) (d : Fin 128) : k6 V0 (ix3 i h d) = (((A.head h).k i d : ℝ) : EReal) :=
  (k6_at V0 i h d).trans (W.x i ⟨h.val * 384 + 128 + d.val, by omega⟩)
theorem k8_real (i : Fin 4096) (h : Fin 8) (d : Fin 128) : k8 V0 (ix3 i h d) = (((A.head h).v i d : ℝ) : EReal) :=
  (k8_at V0 i h d).trans (W.x i ⟨h.val * 384 + 256 + d.val, by omega⟩)
theorem k15_real (i : Fin 4096) (h : Fin 8) : k15 V0 (ix3 i h 0) = ((ms (A.head h).q i : ℝ) : EReal) := by
  rw [k15_at, Finset.sum_congr rfl fun d _ => by rw [k4_real W, ← EReal.coe_mul], coe_sum, bits_128, bits_eps,
    div_coe _ _ (by norm_num), ← EReal.coe_add, ms]
theorem k28_real (i : Fin 4096) (h : Fin 8) : k28 V0 (ix3 i h 0) = ((ms (A.head h).k i : ℝ) : EReal) := by
  rw [k28_at, Finset.sum_congr rfl fun d _ => by rw [k6_real W, ← EReal.coe_mul], coe_sum, bits_128, bits_eps,
    div_coe _ _ (by norm_num), ← EReal.coe_add, ms]
theorem k21_real (i : Fin 4096) (h : Fin 8) (d : Fin 128) : k21 V0 (ix3 i h d) = (((A.head h).Q i d : ℝ) : EReal) := by
  rw [k21_at, k4_real W, k15_real W, rsqrt_coe _ (ms_pos _ _), W.g, ← EReal.coe_mul, ← EReal.coe_mul]; rfl
theorem k34_real (i : Fin 4096) (h : Fin 8) (d : Fin 128) : k34 V0 (ix3 i h d) = (((A.head h).K i d : ℝ) : EReal) := by
  rw [k34_at, k6_real W, k28_real W, rsqrt_coe _ (ms_pos _ _), W.γ, ← EReal.coe_mul, ← EReal.coe_mul]; rfl
theorem k50_real (h : Fin 8) (i j : Fin 4096) : k50 V0 (ix3 h i j) = (A.head h).row i j := by
  rw [k50_at, Head.row]
  refine if_congr Iff.rfl ?_ rfl
  rw [Finset.sum_congr rfl fun d _ => by rw [k21_real W, k34_real W, ← EReal.coe_mul], coe_sum, bits_sc, W.c, W.c,
    ← EReal.coe_mul, ← EReal.coe_sub, ← EReal.coe_add]
  rfl
theorem k51_real (h : Fin 8) (i : Fin 4096) : k51 V0 (ix2 h i) = (((A.head h).M i : ℝ) : EReal) := by
  rw [k51_at, bits_bot, ← Head.fold_row]
  exact congrArg (fun f => Finset.fold max ⊥ f Finset.univ) (funext fun j => k50_real W h i j)
theorem k55_real (h : Fin 8) (i j : Fin 4096) : k55 V0 (ix3 h i j) = (((A.head h).ex ((A.head h).M i) i j : ℝ) : EReal) := by
  rw [k55_at, k51_real W, k50_real W, Head.exp_row]
theorem k57_real (h : Fin 8) (i : Fin 4096) : k57 V0 (ix3 h i 0) = (((A.head h).Z ((A.head h).M i) i : ℝ) : EReal) := by
  rw [k57_at, Finset.sum_congr rfl fun j _ => k55_real W h i j, coe_sum, Head.Z]
theorem k59_real (h : Fin 8) (i j : Fin 4096) : k59 V0 (ix3 h i j) = (((A.head h).P ((A.head h).M i) i j : ℝ) : EReal) := by
  rw [k59_at, k55_real W, k57_real W, div_coe _ _ (Head.Z_pos _ _ _).ne', Head.P]
theorem k63_real (i : Fin 4096) (h : Fin 8) (d : Fin 128) :
    k63 V0 (ix2 i ⟨h.val * 128 + d.val, by omega⟩) = (((A.head h).O ((A.head h).M i) i d : ℝ) : EReal) := by
  rw [k63_at, k60_at, Finset.sum_congr rfl fun j _ => by rw [k8_real W, k59_real W, ← EReal.coe_mul], coe_sum, Head.O]
theorem k66_real (h : Fin 8) (i : Fin 4096) :
    k66 V0 (ix3 h 0 i) = (((A.head h).M i + Real.log ((A.head h).Z ((A.head h).M i) i) : ℝ) : EReal) := by
  rw [k66_at, k51_real W, k57_real W, log_coe _ (Head.Z_pos _ _ _), EReal.coe_add]
end Real

/-! ### What the call finds -/

section Found
variable (m : (ℓ : Loc nD τ sig) → Buf (Elt Ideal) ℓ)

abbrev V0at (c : Dev nD) : Valuation τ sig (Elt Ideal) := fun b => m (c, b)

theorem V_63 (c : Dev nD) : V m c main_v63 = k63 (V0at m c) := by
  unfold k63 k60 k59 k57 k55 k51 k50 k34 k21 k28 k15 k8 k6 k4 k2
  after_reads_simp
  rfl

theorem V_66 (c : Dev nD) : V m c main_v66 = k66 (V0at m c) := by
  unfold k66 k57 k55 k51 k50 k21 k34 k15 k28 k4 k6 k2
  after_reads_simp
  rfl

theorem V_67 (c : Dev nD) : V m c main_v67 = k67 (V0at m c) := by
  unfold k67
  after_reads_simp
  rfl

theorem V_69 (c : Dev nD) : V m c main_v69 = k69 (V0at m c) := by
  unfold k69
  after_reads_simp

theorem V_70 (c : Dev nD) : V m c main_v70 = k70 (V0at m c) := by
  unfold k70
  after_reads_simp
  rfl

theorem V_71 (c : Dev nD) : V m c main_v71 = k71 (V0at m c) := by
  unfold k71
  after_reads_simp
  rfl

end Found

end Cert.KernelIdeal.Fox

end
-- ==== Proof.FoxPoint.lean ====
/- The blocks each head reads, on real arguments. -/
module

public import proofs.«01_k».proof.Proof.FoxHost

@[expose] public section

set_option maxRecDepth 16384

noncomputable section

namespace Cert.KernelIdeal.Fox

open Idealize.ShloMosaic Idealize.ShloMosaic.TcCoe Idealize.SL.Sem
open Cert.KernelIdeal Cert.KernelIdeal.Gen
open Cert.Fox

variable (m : (ℓ : Loc nD τ sig) → Buf (Elt Ideal) ℓ)

/-- The block of each input at head `t`. -/
theorem at_in : ∀ t : Fin grid0.N,
    (win0_0.index t 0 = 0 ∧ win0_0.index t 1 = 72 + 3 * t.val) ∧ (win0_1.index t 0 = 0 ∧ win0_1.index t 1 = 73 + 3 * t.val)
    ∧ (win0_2.index t 0 = 0 ∧ win0_2.index t 1 = 74 + 3 * t.val) ∧ (win0_3.index t 0 = 0 ∧ win0_3.index t 1 = t.val)
    ∧ (win0_4.index t 0 = 0 ∧ win0_4.index t 1 = t.val) ∧ (win0_5.index t 0 = 0 ∧ win0_5.index t 1 = 0)
    ∧ (win0_6.index t 0 = 0 ∧ win0_6.index t 1 = 0) ∧ (win0_7.index t 0 = t.val ∧ win0_7.index t 1 = 0 ∧ win0_7.index t 2 = 0)
    ∧ (win0_8.index t 0 = t.val ∧ win0_8.index t 1 = 0 ∧ win0_8.index t 2 = 0)
    ∧ (win0_9.index t 0 = t.val ∧ win0_9.index t 1 = 0 ∧ win0_9.index t 2 = 0) := by decide +kernel

theorem lt8 (t : Fin cfg0.N) : t.val < 8 := t.isLt

/-- the head of point `t` -/
def hd (t : Fin cfg0.N) : Fin 8 := ⟨t.val, lt8 t⟩

variable (c : Dev nD) (t : Fin cfg0.N)

theorem in0 (i : Fin 4096) (d : Fin 128) :
    (inp m c t).q (ix2 i d) = A0 (V0at m c) (ix2 i ⟨9216 + ((hd t).val * 384 + d.val), by have := lt8 t; show 9216 + (t.val * 384 + d.val) < 13312; omega⟩) := by
  show V m c main_arg0 (((cfg0.win 0).blk t).view.emb (ix2 i d)) = _
  rw [V_main_arg0]
  refine congrArg (A0 (V0at m c)) (funext fun x => Fin.ext ?_)
  match x with
  | ⟨0, _⟩ => show win0_0.index t 0 * 4096 + 1 * i.val = i.val; rw [(at_in t).1.1]; omega
  | ⟨1, _⟩ => show win0_0.index t 1 * 128 + 1 * d.val = 9216 + (t.val * 384 + d.val); rw [(at_in t).1.2]; omega

theorem in1 (i : Fin 4096) (d : Fin 128) :
    (inp m c t).k (ix2 i d) = A0 (V0at m c) (ix2 i ⟨9216 + ((hd t).val * 384 + 128 + d.val), by have := lt8 t; show 9216 + (t.val * 384 + 128 + d.val) < 13312; omega⟩) := by
  show V m c main_arg0 (((cfg0.win 1).blk t).view.emb (ix2 i d)) = _
  rw [V_main_arg0]
  refine congrArg (A0 (V0at m c)) (funext fun x => Fin.ext ?_)
  match x with
  | ⟨0, _⟩ => show win0_1.index t 0 * 4096 + 1 * i.val = i.val; rw [(at_in t).2.1.1]; omega
  | ⟨1, _⟩ => show win0_1.index t 1 * 128 + 1 * d.val = 9216 + (t.val * 384 + 128 + d.val); rw [(at_in t).2.1.2]; omega

theorem in2 (i : Fin 4096) (d : Fin 128) :
    (inp m c t).v (ix2 i d) = A0 (V0at m c) (ix2 i ⟨9216 + ((hd t).val * 384 + 256 + d.val), by have := lt8 t; show 9216 + (t.val * 384 + 256 + d.val) < 13312; omega⟩) := by
  show V m c main_arg0 (((cfg0.win 2).blk t).view.emb (ix2 i d)) = _
  rw [V_main_arg0]
  refine congrArg (A0 (V0at m c)) (funext fun x => Fin.ext ?_)
  match x with
  | ⟨0, _⟩ => show win0_2.index t 0 * 4096 + 1 * i.val = i.val; rw [(at_in t).2.2.1.1]; omega
  | ⟨1, _⟩ => show win0_2.index t 1 * 128 + 1 * d.val = 9216 + (t.val * 384 + 256 + d.val); rw [(at_in t).2.2.1.2]; omega

theorem emb3 (i : Fin 4096) (d : Fin 128) : ((cfg0.win 3).blk t).view.emb (ix2 i d) = (ix2 i ⟨(hd t).val * 128 + d.val, by have := lt8 t; show t.val * 128 + d.val < 1024; omega⟩ : S4096x1024.Idx) := by
  refine funext fun x => Fin.ext ?_
  match x with
  | ⟨0, _⟩ => show win0_3.index t 0 * 4096 + 1 * i.val = i.val; rw [(at_in t).2.2.2.1.1]; omega
  | ⟨1, _⟩ => show win0_3.index t 1 * 128 + 1 * d.val = t.val * 128 + d.val; rw [(at_in t).2.2.2.1.2]; omega

theorem rd3 (X : FVec Ideal S4096x1024 .bf16) (i : Fin 4096) (d : Fin 128) : ((cfg0.win 3).blk t).view.read (Elt Ideal) X (ix2 i d) = X (((cfg0.win 3).blk t).view.emb (ix2 i d)) := rfl
theorem at3 : iblk m c 3 t = ((cfg0.win 3).blk t).view.read (Elt Ideal) (k63 (V0at m c)) := by
  rw [iblk, show V m c (Pipeline.arrRef spec0 3) = k63 (V0at m c) from V_63 m c]

theorem in3 (i : Fin 4096) (d : Fin 128) :
    (inp m c t).o (ix2 i d) = k63 (V0at m c) (ix2 i ⟨(hd t).val * 128 + d.val, by have := lt8 t; show t.val * 128 + d.val < 1024; omega⟩) :=
  (congrFun (at3 m c t) (ix2 i d)).trans ((rd3 t _ i d).trans (congrArg (k63 (V0at m c)) (emb3 t i d)))

theorem in4 (i : Fin 4096) (d : Fin 128) :
    (inp m c t).dO (ix2 i d) = A1 (V0at m c) (ix2 i ⟨(hd t).val * 128 + d.val, by have := lt8 t; show t.val * 128 + d.val < 1024; omega⟩) := by
  show V m c main_arg1 (((cfg0.win 4).blk t).view.emb (ix2 i d)) = _
  rw [V_main_arg1]
  refine congrArg (A1 (V0at m c)) (funext fun x => Fin.ext ?_)
  match x with
  | ⟨0, _⟩ => show win0_4.index t 0 * 4096 + 1 * i.val = i.val; rw [(at_in t).2.2.2.2.1.1]; omega
  | ⟨1, _⟩ => show win0_4.index t 1 * 128 + 1 * d.val = t.val * 128 + d.val; rw [(at_in t).2.2.2.2.1.2]; omega

theorem in5 (d : Fin 128) : (inp m c t).gq (ix2 0 d) = k70 (V0at m c) (ix2 0 d) := by
  show V m c main_v70 (((cfg0.win 5).blk t).view.emb (ix2 0 d)) = _
  rw [V_70]
  refine congrArg (k70 (V0at m c)) (funext fun x => Fin.ext ?_)
  match x with
  | ⟨0, _⟩ => show win0_5.index t 0 * 1 + 1 * 0 = 0; rw [(at_in t).2.2.2.2.2.1.1]
  | ⟨1, _⟩ => show win0_5.index t 1 * 128 + 1 * d.val = d.val; rw [(at_in t).2.2.2.2.2.1.2]; omega

theorem in6 (d : Fin 128) : (inp m c t).gk (ix2 0 d) = k71 (V0at m c) (ix2 0 d) := by
  show V m c main_v71 (((cfg0.win 6).blk t).view.emb (ix2 0 d)) = _
  rw [V_71]
  refine congrArg (k71 (V0at m c)) (funext fun x => Fin.ext ?_)
  match x with
  | ⟨0, _⟩ => show win0_6.index t 0 * 1 + 1 * 0 = 0; rw [(at_in t).2.2.2.2.2.2.1.1]
  | ⟨1, _⟩ => show win0_6.index t 1 * 128 + 1 * d.val = d.val; rw [(at_in t).2.2.2.2.2.2.1.2]; omega

theorem emb7 (i : Fin 4096) : ((cfg0.win 7).blk t).view.emb (ix3 0 0 i) = (ix3 (hd t) 0 i : S8x1x4096.Idx) := by
  refine funext fun x => Fin.ext ?_
  match x with
  | ⟨0, _⟩ => show win0_7.index t 0 * 1 + 1 * 0 = t.val; rw [(at_in t).2.2.2.2.2.2.2.1.1]; omega
  | ⟨1, _⟩ => show win0_7.index t 1 * 1 + 1 * 0 = 0; rw [(at_in t).2.2.2.2.2.2.2.1.2.1]
  | ⟨2, _⟩ => show win0_7.index t 2 * 4096 + 1 * i.val = i.val; rw [(at_in t).2.2.2.2.2.2.2.1.2.2]; omega

theorem rd7 (X : FVec Ideal S8x1x4096 .f32) (i : Fin 4096) : ((cfg0.win 7).blk t).view.read (Elt Ideal) X (ix3 0 0 i) = X (((cfg0.win 7).blk t).view.emb (ix3 0 0 i)) := rfl
theorem at7 : iblk m c 7 t = ((cfg0.win 7).blk t).view.read (Elt Ideal) (k67 (V0at m c)) := by
  rw [iblk, show V m c (Pipeline.arrRef spec0 7) = k67 (V0at m c) from V_67 m c]

theorem in7 (i : Fin 4096) : (inp m c t).cr (ix3 0 0 i) = k67 (V0at m c) (ix3 (hd t) 0 i) :=
  (congrFun (at7 m c t) (ix3 0 0 i)).trans ((rd7 t _ i).trans (congrArg (k67 (V0at m c)) (emb7 t i)))

theorem emb8 (i : Fin 4096) (d : Fin 128) : ((cfg0.win 8).blk t).view.emb (ix3 0 i d) = (ix3 (hd t) i d : S8x4096x128.Idx) := by
  refine funext fun x => Fin.ext ?_
  match x with
  | ⟨0, _⟩ => show win0_8.index t 0 * 1 + 1 * 0 = t.val; rw [(at_in t).2.2.2.2.2.2.2.2.1.1]; omega
  | ⟨1, _⟩ => show win0_8.index t 1 * 4096 + 1 * i.val = i.val; rw [(at_in t).2.2.2.2.2.2.2.2.1.2.1]; omega
  | ⟨2, _⟩ => show win0_8.index t 2 * 128 + 1 * d.val = d.val; rw [(at_in t).2.2.2.2.2.2.2.2.1.2.2]; omega

theorem rd8 (X : FVec Ideal S8x4096x128 .f32) (i : Fin 4096) (d : Fin 128) : ((cfg0.win 8).blk t).view.read (Elt Ideal) X (ix3 0 i d) = X (((cfg0.win 8).blk t).view.emb (ix3 0 i d)) := rfl
theorem at8 : iblk m c 8 t = ((cfg0.win 8).blk t).view.read (Elt Ideal) (k69 (V0at m c)) := by
  rw [iblk, show V m c (Pipeline.arrRef spec0 8) = k69 (V0at m c) from V_69 m c]

theorem in8 (i : Fin 4096) (d : Fin 128) : (inp m c t).cc (ix3 0 i d) = k69 (V0at m c) (ix3 (hd t) i d) :=
  (congrFun (at8 m c t) (ix3 0 i d)).trans ((rd8 t _ i d).trans (congrArg (k69 (V0at m c)) (emb8 t i d)))

theorem emb9 (i : Fin 4096) : ((cfg0.win 9).blk t).view.emb (ix3 0 0 i) = (ix3 (hd t) 0 i : S8x1x4096.Idx) := by
  refine funext fun x => Fin.ext ?_
  match x with
  | ⟨0, _⟩ => show win0_9.index t 0 * 1 + 1 * 0 = t.val; rw [(at_in t).2.2.2.2.2.2.2.2.2.1]; omega
  | ⟨1, _⟩ => show win0_9.index t 1 * 1 + 1 * 0 = 0; rw [(at_in t).2.2.2.2.2.2.2.2.2.2.1]
  | ⟨2, _⟩ => show win0_9.index t 2 * 4096 + 1 * i.val = i.val; rw [(at_in t).2.2.2.2.2.2.2.2.2.2.2]; omega

theorem rd9 (X : FVec Ideal S8x1x4096 .f32) (i : Fin 4096) : ((cfg0.win 9).blk t).view.read (Elt Ideal) X (ix3 0 0 i) = X (((cfg0.win 9).blk t).view.emb (ix3 0 0 i)) := rfl
theorem at9 : iblk m c 9 t = ((cfg0.win 9).blk t).view.read (Elt Ideal) (k66 (V0at m c)) := by
  rw [iblk, show V m c (Pipeline.arrRef spec0 9) = k66 (V0at m c) from V_66 m c]

theorem in9 (i : Fin 4096) : (inp m c t).ls (ix3 0 0 i) = k66 (V0at m c) (ix3 (hd t) 0 i) :=
  (congrFun (at9 m c t) (ix3 0 0 i)).trans ((rd9 t _ i).trans (congrArg (k66 (V0at m c)) (emb9 t i)))

/-- What head `t` reads, on real arguments. -/
theorem reads {A : Arr} (W : A.Holds (fun i n => A0 (V0at m c) (ix2 i n)) (fun i n => A1 (V0at m c) (ix2 i n)) (fun d => A2 (V0at m c) (ix1 d))
    (fun d => A3 (V0at m c) (ix1 d)) (fun h i => A4 (V0at m c) (ix2 h i))) :
    Reads (inp m c t) (A.head (hd t)) (A.head (hd t)).M where
  q i d := (in0 m c t i d).trans (W.x i ⟨(hd t).val * 384 + d.val, by have := (hd t).isLt; omega⟩)
  k i d := (in1 m c t i d).trans (W.x i ⟨(hd t).val * 384 + 128 + d.val, by have := (hd t).isLt; omega⟩)
  v i d := (in2 m c t i d).trans (W.x i ⟨(hd t).val * 384 + 256 + d.val, by have := (hd t).isLt; omega⟩)
  o i d := (in3 m c t i d).trans (k63_real W i (hd t) d)
  dO i d := (in4 m c t i d).trans (W.y i ⟨(hd t).val * 128 + d.val, by have := (hd t).isLt; omega⟩)
  gq d := (in5 m c t d).trans ((k70_at _ d).trans (W.g d))
  gk d := (in6 m c t d).trans ((k71_at _ d).trans (W.γ d))
  cr i := (in7 m c t i).trans ((k67_at _ (hd t) i).trans (W.c (hd t) i))
  cc i := (in8 m c t i 0).trans ((k69_at _ (hd t) i 0).trans (W.c (hd t) i))
  ls i := (in9 m c t i).trans (k66_real W (hd t) i)

end Cert.KernelIdeal.Fox

end
-- ==== Proof.FoxRef.lean ====
/- The reference's gradients, read at an index: first each of its named terms from the ones before it, and then, on real
   arguments, each as the real number that `FoxReal` names. -/
module

public import proofs.«01_k».proof.Proof.FoxReal
public import proofs.«01_k».proof.Proof.Gen.ReferenceIdeal.Run
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Fox

open Idealize.ShloMosaic Idealize.SL.Sem
open Cert.ReferenceIdeal Cert.ReferenceIdeal.Value Cert.ReferenceIdeal.Gen
open Cert.Fox

variable (V0 : Valuation τ sig (Elt Ideal))

/-! The arguments and the named terms, at their plain types. -/
abbrev A0 : S4096x13312.Idx → EReal := V0 (Proc.devRef .tc main_arg0)
abbrev A1 : S4096x1024.Idx → EReal := V0 (Proc.devRef .tc main_arg1)
abbrev A2 : S128.Idx → EReal := V0 (Proc.devRef .tc main_arg2)
abbrev A3 : S128.Idx → EReal := V0 (Proc.devRef .tc main_arg3)
abbrev A4 : S8x4096.Idx → EReal := V0 (Proc.devRef .tc main_arg4)
abbrev A5 : S4096x13312.Idx → EReal := V0 (Proc.devRef .tc main_arg5)
abbrev a2 : S4096x8x3x128.Idx → EReal := res_main_v2 V0
abbrev a4 : S4096x8x128.Idx → EReal := res_main_v4 V0
abbrev a6 : S4096x8x128.Idx → EReal := res_main_v6 V0
abbrev a8 : S4096x8x128.Idx → EReal := res_main_v8 V0
abbrev a15 : S4096x8x1.Idx → EReal := res_main_v15 V0
abbrev a16 : S4096x8x1.Idx → EReal := res_main_v16 V0
abbrev a21 : S4096x8x128.Idx → EReal := res_main_v21 V0
abbrev a24 : S4096x8x128.Idx → EReal := res_main_v24 V0
abbrev a31 : S4096x8x1.Idx → EReal := res_main_v31 V0
abbrev a32 : S4096x8x1.Idx → EReal := res_main_v32 V0
abbrev a37 : S4096x8x128.Idx → EReal := res_main_v37 V0
abbrev a40 : S4096x8x128.Idx → EReal := res_main_v40 V0
abbrev a56_0 : S8x4096x4096.Idx → EReal := res_main_v56_0 V0
abbrev a57 : S8x4096.Idx → EReal := res_main_v57 V0
abbrev a77 : S8x4096x4096.Idx → EReal := res_main_v77 V0
abbrev a79 : S8x4096x1.Idx → EReal := res_main_v79 V0
abbrev a81 : S8x4096x4096.Idx → EReal := res_main_v81 V0
abbrev a89 : S8x128x4096.Idx → EReal := res_main_v89 V0
abbrev a90 : S8x4096x4096.Idx → EReal := res_main_v90 V0
abbrev a105 : S8x4096x4096.Idx → EReal := res_main_v105 V0
abbrev a114 : S8x4096x4096.Idx → EReal := res_main_v114 V0
abbrev a116 : S4096x8x128.Idx → EReal := res_main_v116 V0
abbrev a118 : S4096x8x128.Idx → EReal := res_main_v118 V0
abbrev a123 : S4096x8x128.Idx → EReal := res_main_v123 V0
abbrev a134 : S4096x8x128.Idx → EReal := res_main_v134 V0
abbrev a143 : S4096x8x128.Idx → EReal := res_main_v143 V0
abbrev a154 : S4096x8x128.Idx → EReal := res_main_v154 V0

/-! ### Each term from the ones before -/

theorem sel_ge (i j : Fin 4096) (a b b' : EReal) {m : BitVec 1} (hm : m = IntOp.cmpi .sge (BitVec.ofNat 32 i.val) (BitVec.ofNat 32 j.val)) (hb : b = b') :
    Scalar.select m a b = if j.val ≤ i.val then a else b' := by
  subst hm hb
  rw [Scalar.select]
  rw [show IntOp.cmpi .sge (BitVec.ofNat 32 i.val) (BitVec.ofNat 32 j.val) = BitVec.ofBool (decide (j.val ≤ i.val)) from by
      rw [Idealize.ShloMosaic.WordCmp.cmpi_sge_ofNat (by omega) (by omega)]]
  by_cases e : j.val ≤ i.val <;> simp [e]

/-- A sum over the two leading axes. -/
theorem sum2 {n0 n1 n2 : Nat} (h : (⟨3, ![n0, n1, n2]⟩ : Shape).ReducesTo [0, 1] ⟨1, ![n2]⟩)
    (v : (⟨3, ![n0, n1, n2]⟩ : Shape).Idx → EReal) (b : EReal) (d : Fin n2) :
    Ideal.hostReduceAdd h v b (ix1 d) = b + ∑ i : Fin n0, ∑ k : Fin n1, v (ix3 i k d) := by
  refine congrArg (b + ·) ?_
  have key : ∀ i : (⟨3, ![n0, n1, n2]⟩ : Shape).Idx, h.drop i = ix1 d ↔ ∃ k : Fin n0 × Fin n1, ix3 k.1 k.2 d = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e ⟨0, Nat.one_pos⟩)).symm
    · rintro ⟨k, rfl⟩
      funext b
      apply Fin.ext
      match b with
      | ⟨0, _⟩ => rfl
  refine (Finset.sum_filter_eq_sum_of_fiber _ (fun k : Fin n0 × Fin n1 => ix3 k.1 k.2 d)
    (fun _ _ e => Prod.ext (congrFun e 0) (congrFun e 1)) key v).trans ?_
  simp only [Fintype.sum_prod_type]

theorem v4_at (i : Fin 4096) (h : Fin 8) (d : Fin 128) : a4 V0 (ix3 i h d)
    = A0 V0 (ix2 i ⟨9216 + (h.val * 384 + d.val), by omega⟩) := by
  unfold a4 A0  res_main_v4 res_main_v2
  clean_types
  pointwise []

theorem v6_at (i : Fin 4096) (h : Fin 8) (d : Fin 128) : a6 V0 (ix3 i h d)
    = A0 V0 (ix2 i ⟨9216 + (h.val * 384 + 128 + d.val), by omega⟩) := by
  unfold a6 A0  res_main_v6 res_main_v2
  clean_types
  pointwise []

theorem v8_at (i : Fin 4096) (h : Fin 8) (d : Fin 128) : a8 V0 (ix3 i h d)
    = A0 V0 (ix2 i ⟨9216 + (h.val * 384 + 256 + d.val), by omega⟩) := by
  unfold a8 A0  res_main_v8 res_main_v2
  clean_types
  pointwise []

theorem v15_at (i : Fin 4096) (h : Fin 8) : a15 V0 (ix3 i h 0)
    = Ideal.div (∑ d, a4 V0 (ix3 i h d) * a4 V0 (ix3 i h d)) (Ideal.ofBits .f32 0x43000000#32) + Ideal.ofBits .f32 0x358637BD#32 := by
  unfold a15  a4 res_main_v15
  obtain ⟨x4, e4⟩ : ∃ x : S4096x8x128.Idx → EReal, x = res_main_v4 V0 := ⟨_, rfl⟩
  rw [← e4]
  clear e4
  clean_types
  pointwise []

theorem v31_at (i : Fin 4096) (h : Fin 8) : a31 V0 (ix3 i h 0)
    = Ideal.div (∑ d, a6 V0 (ix3 i h d) * a6 V0 (ix3 i h d)) (Ideal.ofBits .f32 0x43000000#32) + Ideal.ofBits .f32 0x358637BD#32 := by
  unfold a31  a6 res_main_v31
  obtain ⟨x6, e6⟩ : ∃ x : S4096x8x128.Idx → EReal, x = res_main_v6 V0 := ⟨_, rfl⟩
  rw [← e6]
  clear e6
  clean_types
  pointwise []

theorem v16_at (i : Fin 4096) (h : Fin 8) : a16 V0 (ix3 i h 0)
    = Ideal.rsqrt (a15 V0 (ix3 i h 0)) := by
  unfold a16  a15 res_main_v16
  obtain ⟨x15, e15⟩ : ∃ x : S4096x8x1.Idx → EReal, x = res_main_v15 V0 := ⟨_, rfl⟩
  rw [← e15]
  clear e15
  clean_types
  pointwise []

theorem v32_at (i : Fin 4096) (h : Fin 8) : a32 V0 (ix3 i h 0)
    = Ideal.rsqrt (a31 V0 (ix3 i h 0)) := by
  unfold a32  a31 res_main_v32
  obtain ⟨x31, e31⟩ : ∃ x : S4096x8x1.Idx → EReal, x = res_main_v31 V0 := ⟨_, rfl⟩
  rw [← e31]
  clear e31
  clean_types
  pointwise []

theorem v21_at (i : Fin 4096) (h : Fin 8) (d : Fin 128) : a21 V0 (ix3 i h d)
    = a4 V0 (ix3 i h d) * a16 V0 (ix3 i h 0) := by
  unfold a21  a4 a16 res_main_v21
  obtain ⟨x4, e4⟩ : ∃ x : S4096x8x128.Idx → EReal, x = res_main_v4 V0 := ⟨_, rfl⟩
  obtain ⟨x16, e16⟩ : ∃ x : S4096x8x1.Idx → EReal, x = res_main_v16 V0 := ⟨_, rfl⟩
  rw [← e4, ← e16]
  clear e4 e16
  clean_types
  pointwise []

theorem v37_at (i : Fin 4096) (h : Fin 8) (d : Fin 128) : a37 V0 (ix3 i h d)
    = a6 V0 (ix3 i h d) * a32 V0 (ix3 i h 0) := by
  unfold a37  a6 a32 res_main_v37
  obtain ⟨x6, e6⟩ : ∃ x : S4096x8x128.Idx → EReal, x = res_main_v6 V0 := ⟨_, rfl⟩
  obtain ⟨x32, e32⟩ : ∃ x : S4096x8x1.Idx → EReal, x = res_main_v32 V0 := ⟨_, rfl⟩
  rw [← e6, ← e32]
  clear e6 e32
  clean_types
  pointwise []

theorem v24_at (i : Fin 4096) (h : Fin 8) (d : Fin 128) : a24 V0 (ix3 i h d)
    = a21 V0 (ix3 i h d) * A2 V0 (ix1 d) := by
  unfold a24 A2 a21 res_main_v24 res_main_v22
  obtain ⟨x21, e21⟩ : ∃ x : S4096x8x128.Idx → EReal, x = res_main_v21 V0 := ⟨_, rfl⟩
  rw [← e21]
  clear e21
  clean_types
  pointwise []

theorem v40_at (i : Fin 4096) (h : Fin 8) (d : Fin 128) : a40 V0 (ix3 i h d)
    = a37 V0 (ix3 i h d) * A3 V0 (ix1 d) := by
  unfold a40 A3 a37 res_main_v40 res_main_v38
  obtain ⟨x37, e37⟩ : ∃ x : S4096x8x128.Idx → EReal, x = res_main_v37 V0 := ⟨_, rfl⟩
  rw [← e37]
  clear e37
  clean_types
  pointwise []

theorem v123_at (i : Fin 4096) (h : Fin 8) (d : Fin 128) : a123 V0 (ix3 i h d)
    = a116 V0 (ix3 i h d) * A3 V0 (ix1 d) := by
  unfold a123 A3 a116 res_main_v123 res_main_v38
  obtain ⟨x116, e116⟩ : ∃ x : S4096x8x128.Idx → EReal, x = res_main_v116 V0 := ⟨_, rfl⟩
  rw [← e116]
  clear e116
  clean_types
  pointwise []

theorem v143_at (i : Fin 4096) (h : Fin 8) (d : Fin 128) : a143 V0 (ix3 i h d)
    = a118 V0 (ix3 i h d) * A2 V0 (ix1 d) := by
  unfold a143 A2 a118 res_main_v143 res_main_v22
  obtain ⟨x118, e118⟩ : ∃ x : S4096x8x128.Idx → EReal, x = res_main_v118 V0 := ⟨_, rfl⟩
  rw [← e118]
  clear e118
  clean_types
  pointwise []

theorem v56_0_at (h : Fin 8) (i j : Fin 4096) : a56_0 V0 (ix3 h i j)
    = (if j.val ≤ i.val then (∑ d, a24 V0 (ix3 i h d) * a40 V0 (ix3 j h d)) * Ideal.ofBits .f32 0x3DB504F3#32 + (A4 V0 (ix2 h i) - A4 V0 (ix2 h j)) else ⊥) := by
  unfold a56_0 A4 a24 a40 res_main_v56_0 res_main_v56_1 res_main_v50
  obtain ⟨x24, e24⟩ : ∃ x : S4096x8x128.Idx → EReal, x = res_main_v24 V0 := ⟨_, rfl⟩
  obtain ⟨x40, e40⟩ : ∃ x : S4096x8x128.Idx → EReal, x = res_main_v40 V0 := ⟨_, rfl⟩
  rw [← e24, ← e40]
  clear e24 e40
  clean_types
  pointwise []
  exact sel_ge i j _ _ _ rfl bits_bot

theorem v57_at (h : Fin 8) (i : Fin 4096) : a57 V0 (ix2 h i)
    = Finset.fold max (Ideal.ofBits .f32 0xFF800000#32) (fun j => a56_0 V0 (ix3 h i j)) Finset.univ := by
  unfold a57  a56_0 res_main_v57
  obtain ⟨x56_0, e56_0⟩ : ∃ x : S8x4096x4096.Idx → EReal, x = res_main_v56_0 V0 := ⟨_, rfl⟩
  rw [← e56_0]
  clear e56_0
  clean_types
  pointwise []

theorem v77_at (h : Fin 8) (i j : Fin 4096) : a77 V0 (ix3 h i j)
    = Ideal.exp (a56_0 V0 (ix3 h i j) - max (Ideal.ofBits .f32 0xFF800000#32) (a57 V0 (ix2 h i))) := by
  unfold a77  a56_0 a57 res_main_v77
  obtain ⟨x56_0, e56_0⟩ : ∃ x : S8x4096x4096.Idx → EReal, x = res_main_v56_0 V0 := ⟨_, rfl⟩
  obtain ⟨x57, e57⟩ : ∃ x : S8x4096.Idx → EReal, x = res_main_v57 V0 := ⟨_, rfl⟩
  rw [← e56_0, ← e57]
  clear e56_0 e57
  clean_types
  pointwise []

theorem v79_at (h : Fin 8) (i : Fin 4096) : a79 V0 (ix3 h i 0)
    = ∑ j, a77 V0 (ix3 h i j) := by
  unfold a79  a77 res_main_v79
  obtain ⟨x77, e77⟩ : ∃ x : S8x4096x4096.Idx → EReal, x = res_main_v77 V0 := ⟨_, rfl⟩
  rw [← e77]
  clear e77
  clean_types
  pointwise []

theorem v81_at (h : Fin 8) (i j : Fin 4096) : a81 V0 (ix3 h i j)
    = Ideal.div (a77 V0 (ix3 h i j)) (a79 V0 (ix3 h i 0)) := by
  unfold a81  a77 a79 res_main_v81
  obtain ⟨x77, e77⟩ : ∃ x : S8x4096x4096.Idx → EReal, x = res_main_v77 V0 := ⟨_, rfl⟩
  obtain ⟨x79, e79⟩ : ∃ x : S8x4096x1.Idx → EReal, x = res_main_v79 V0 := ⟨_, rfl⟩
  rw [← e77, ← e79]
  clear e77 e79
  clean_types
  pointwise []

theorem v89_at (h : Fin 8) (d : Fin 128) (i : Fin 4096) : a89 V0 (ix3 h d i)
    = A1 V0 (ix2 i ⟨h.val * 128 + d.val, by omega⟩) := by
  unfold a89 A1  res_main_v89
  clean_types
  pointwise []

theorem v90_at (h : Fin 8) (i j : Fin 4096) : a90 V0 (ix3 h i j)
    = ∑ d, a89 V0 (ix3 h d i) * a8 V0 (ix3 j h d) := by
  unfold a90  a89 a8 res_main_v90
  obtain ⟨x89, e89⟩ : ∃ x : S8x128x4096.Idx → EReal, x = res_main_v89 V0 := ⟨_, rfl⟩
  obtain ⟨x8, e8⟩ : ∃ x : S4096x8x128.Idx → EReal, x = res_main_v8 V0 := ⟨_, rfl⟩
  rw [← e89, ← e8]
  clear e89 e8
  clean_types
  pointwise []

theorem v105_at (h : Fin 8) (i j : Fin 4096) : a105 V0 (ix3 h i j)
    = (if j.val ≤ i.val then (Ideal.div (a90 V0 (ix3 h i j)) (a79 V0 (ix3 h i 0)) + ∑ _x : Fin 1, -∑ l, a90 V0 (ix3 h i l) * Ideal.div 1 (a79 V0 (ix3 h i 0) * a79 V0 (ix3 h i 0)) * a77 V0 (ix3 h i l)) * a77 V0 (ix3 h i j) else 0) := by
  unfold a105  a90 a79 a77 res_main_v105 res_main_v56_1 res_main_v50
  obtain ⟨x90, e90⟩ : ∃ x : S8x4096x4096.Idx → EReal, x = res_main_v90 V0 := ⟨_, rfl⟩
  obtain ⟨x79, e79⟩ : ∃ x : S8x4096x1.Idx → EReal, x = res_main_v79 V0 := ⟨_, rfl⟩
  obtain ⟨x77, e77⟩ : ∃ x : S8x4096x4096.Idx → EReal, x = res_main_v77 V0 := ⟨_, rfl⟩
  rw [← e90, ← e79, ← e77]
  clear e90 e79 e77
  clean_types
  pointwise []
  exact sel_ge i j _ _ _ rfl rfl

theorem v114_at (h : Fin 8) (i j : Fin 4096) : a114 V0 (ix3 h i j)
    = a105 V0 (ix3 h i j) * Ideal.ofBits .f32 0x3DB504F3#32 := by
  unfold a114  a105 res_main_v114
  obtain ⟨x105, e105⟩ : ∃ x : S8x4096x4096.Idx → EReal, x = res_main_v105 V0 := ⟨_, rfl⟩
  rw [← e105]
  clear e105
  clean_types
  pointwise []

theorem v116_at (j : Fin 4096) (h : Fin 8) (d : Fin 128) : a116 V0 (ix3 j h d)
    = ∑ i, a114 V0 (ix3 h i j) * a24 V0 (ix3 i h d) := by
  unfold a116  a114 a24 res_main_v116
  obtain ⟨x114, e114⟩ : ∃ x : S8x4096x4096.Idx → EReal, x = res_main_v114 V0 := ⟨_, rfl⟩
  obtain ⟨x24, e24⟩ : ∃ x : S4096x8x128.Idx → EReal, x = res_main_v24 V0 := ⟨_, rfl⟩
  rw [← e114, ← e24]
  clear e114 e24
  clean_types
  pointwise []

theorem v118_at (i : Fin 4096) (h : Fin 8) (d : Fin 128) : a118 V0 (ix3 i h d)
    = ∑ j, a114 V0 (ix3 h i j) * a40 V0 (ix3 j h d) := by
  unfold a118  a114 a40 res_main_v118
  obtain ⟨x114, e114⟩ : ∃ x : S8x4096x4096.Idx → EReal, x = res_main_v114 V0 := ⟨_, rfl⟩
  obtain ⟨x40, e40⟩ : ∃ x : S4096x8x128.Idx → EReal, x = res_main_v40 V0 := ⟨_, rfl⟩
  rw [← e114, ← e40]
  clear e114 e40
  clean_types
  pointwise []

theorem v134_at (i : Fin 4096) (h : Fin 8) (d : Fin 128) : a134 V0 (ix3 i h d)
    = ∑ _x : Fin 1, Ideal.div ((∑ e, a6 V0 (ix3 i h e) * a123 V0 (ix3 i h e)) * (Ideal.ofBits .f32 0xBF000000#32 * Ideal.div (a32 V0 (ix3 i h 0)) (a31 V0 (ix3 i h 0)))) (Ideal.ofBits .f32 0x43000000#32) := by
  unfold a134  a6 a123 a32 a31 res_main_v134
  obtain ⟨x6, e6⟩ : ∃ x : S4096x8x128.Idx → EReal, x = res_main_v6 V0 := ⟨_, rfl⟩
  obtain ⟨x123, e123⟩ : ∃ x : S4096x8x128.Idx → EReal, x = res_main_v123 V0 := ⟨_, rfl⟩
  obtain ⟨x32, e32⟩ : ∃ x : S4096x8x1.Idx → EReal, x = res_main_v32 V0 := ⟨_, rfl⟩
  obtain ⟨x31, e31⟩ : ∃ x : S4096x8x1.Idx → EReal, x = res_main_v31 V0 := ⟨_, rfl⟩
  rw [← e6, ← e123, ← e32, ← e31]
  clear e6 e123 e32 e31
  clean_types
  pointwise []
  try exact Finset.sum_congr rfl fun z _ => by rw [Subsingleton.elim z 0]

theorem v154_at (i : Fin 4096) (h : Fin 8) (d : Fin 128) : a154 V0 (ix3 i h d)
    = ∑ _x : Fin 1, Ideal.div ((∑ e, a4 V0 (ix3 i h e) * a143 V0 (ix3 i h e)) * (Ideal.ofBits .f32 0xBF000000#32 * Ideal.div (a16 V0 (ix3 i h 0)) (a15 V0 (ix3 i h 0)))) (Ideal.ofBits .f32 0x43000000#32) := by
  unfold a154  a4 a143 a16 a15 res_main_v154
  obtain ⟨x4, e4⟩ : ∃ x : S4096x8x128.Idx → EReal, x = res_main_v4 V0 := ⟨_, rfl⟩
  obtain ⟨x143, e143⟩ : ∃ x : S4096x8x128.Idx → EReal, x = res_main_v143 V0 := ⟨_, rfl⟩
  obtain ⟨x16, e16⟩ : ∃ x : S4096x8x1.Idx → EReal, x = res_main_v16 V0 := ⟨_, rfl⟩
  obtain ⟨x15, e15⟩ : ∃ x : S4096x8x1.Idx → EReal, x = res_main_v15 V0 := ⟨_, rfl⟩
  rw [← e4, ← e143, ← e16, ← e15]
  clear e4 e143 e16 e15
  clean_types
  pointwise []
  try exact Finset.sum_congr rfl fun z _ => by rw [Subsingleton.elim z 0]

/-! ### The results, written as the reference leaves them -/

/-- the gradient of the queries, by rows, heads and columns -/
def rq : FVec Ideal S4096x8x128 .f32 :=
  (addf (addf (mulf (res_main_v143 V0) (broadcastInDim S4096x8x128 ![0, 1, 2] bcast_S4096x8x1_S4096x8x128_0_1_2 (res_main_v16 V0))) (mulf (res_main_v4 V0) (res_main_v154 V0))) (mulf (res_main_v154 V0) (res_main_v4 V0)))
/-- the gradient of the keys, by rows, heads and columns -/
def rk : FVec Ideal S4096x8x128 .f32 :=
  (addf (addf (mulf (res_main_v123 V0) (broadcastInDim S4096x8x128 ![0, 1, 2] bcast_S4096x8x1_S4096x8x128_0_1_2 (res_main_v32 V0))) (mulf (res_main_v6 V0) (res_main_v134 V0))) (mulf (res_main_v134 V0) (res_main_v6 V0)))
/-- the gradient of the values, by rows, heads and columns -/
def rv : FVec Ideal S4096x8x128 .f32 :=
  (transpose S4096x8x128 [2, 0, 1] (Host.dotGeneral (φ₁ := .f32) (φ₂ := .f32) dot_S8x128x4096_S8x4096x4096_S8x128x4096_2_1_1_2_0_0 none (res_main_v89 V0) (res_main_v81 V0)) transposes_S8x128x4096_S4096x8x128_2_0_1)
/-- the gradients of queries, keys and values, rounded, as columns of the projection -/
def rmid : FVec Ideal S4096x3072 .bf16 :=
  truncf (F := Ideal) .bf16 (shapeCast _ ((concatenate S4096x8x3x128 2 [⟨S4096x8x1x128, ((broadcastInDim S4096x8x1x128 ![0, 1, 3] bcast_S4096x8x128_S4096x8x1x128_0_1_3 (rq V0)) : (⟨S4096x8x1x128, .f32⟩ : BufTy).Contents (Elt Ideal))⟩, ⟨S4096x8x1x128, ((broadcastInDim S4096x8x1x128 ![0, 1, 3] bcast_S4096x8x128_S4096x8x1x128_0_1_3 (rk V0)) : (⟨S4096x8x1x128, .f32⟩ : BufTy).Contents (Elt Ideal))⟩, ⟨S4096x8x1x128, ((broadcastInDim S4096x8x1x128 ![0, 1, 3] bcast_S4096x8x128_S4096x8x1x128_0_1_3 (rv V0)) : (⟨S4096x8x1x128, .f32⟩ : BufTy).Contents (Elt Ideal))⟩] concatenates_S4096x8x1x128_S4096x8x1x128_S4096x8x1x128_S4096x8x3x128_d2 : (⟨S4096x8x3x128, .f32⟩ : BufTy).Contents (Elt Ideal))) shapeCasts_S4096x8x3x128_S4096x3072) bitsLt_bf16_f32
/-- the gradient of the projection: the blocks of queries, keys and values inside the array it is added into -/
def r167 : FVec Ideal S4096x13312 .bf16 :=
  (concatenate S4096x13312 1 [⟨S4096x9216, ((extractStridedSlice S4096x9216 ![0, 0] (V0 (Proc.devRef .tc main_arg5)) slices_S4096x13312_S4096x9216_0_0) : (⟨S4096x9216, .bf16⟩ : BufTy).Contents (Elt Ideal))⟩, ⟨S4096x3072, ((rmid V0) : (⟨S4096x3072, .bf16⟩ : BufTy).Contents (Elt Ideal))⟩, ⟨S4096x1024, ((extractStridedSlice S4096x1024 ![0, 12288] (V0 (Proc.devRef .tc main_arg5)) slices_S4096x13312_S4096x1024_0_12288) : (⟨S4096x1024, .bf16⟩ : BufTy).Contents (Elt Ideal))⟩] concatenates_S4096x9216_S4096x3072_S4096x1024_S4096x13312_d1 : (⟨S4096x13312, .bf16⟩ : BufTy).Contents (Elt Ideal))
/-- the gradient of the gates, the queries' part -/
def r168 : FVec Ideal S8x1x4096 .f32 :=
  shapeCast _ (Host.reduceAdd (shapeCast _ (Host.reduceAdd (res_main_v105 V0) (constant S_ .f32 0x00000000#32) reducesTo_S8x4096x4096_S8x4096_d2 h_S_) shapeCasts_S8x4096_S8x4096x1) (constant S_ .f32 0x00000000#32) reducesTo_S8x4096x1_S8x4096_d2 h_S_) shapeCasts_S8x4096_S8x1x4096
/-- the gradient of the gates, the keys' part -/
def r170 : FVec Ideal S8x4096x1 .f32 :=
  Host.negf (shapeCast _ (Host.reduceAdd (shapeCast _ (Host.reduceAdd (Host.negf (res_main_v105 V0)) (constant S_ .f32 0x00000000#32) reducesTo_S8x4096x4096_S8x4096_d1 h_S_) shapeCasts_S8x4096_S8x1x4096) (constant S_ .f32 0x00000000#32) reducesTo_S8x1x4096_S8x4096_d1 h_S_) shapeCasts_S8x4096_S8x4096x1)
/-- the gradient of the queries' gain -/
def r171 : FVec Ideal S1x128 .f32 :=
  shapeCast _ (Host.reduceAdd (shapeCast _ (Host.reduceAdd (mulf (res_main_v21 V0) (res_main_v118 V0)) (constant S_ .f32 0x00000000#32) reducesTo_S4096x8x128_S128_d0_1 h_S_) shapeCasts_S128_S1x1x128) (constant S_ .f32 0x00000000#32) reducesTo_S1x1x128_S128_d0_1 h_S_) shapeCasts_S128_S1x128
/-- the gradient of the keys' gain -/
def r172 : FVec Ideal S1x128 .f32 :=
  shapeCast _ (Host.reduceAdd (shapeCast _ (Host.reduceAdd (mulf (res_main_v37 V0) (res_main_v116 V0)) (constant S_ .f32 0x00000000#32) reducesTo_S4096x8x128_S128_d0_1 h_S_) shapeCasts_S128_S1x1x128) (constant S_ .f32 0x00000000#32) reducesTo_S1x1x128_S128_d0_1 h_S_) shapeCasts_S128_S1x128

theorem rq_at (i : Fin 4096) (h : Fin 8) (d : Fin 128) : rq V0 (ix3 i h d)
    = a143 V0 (ix3 i h d) * a16 V0 (ix3 i h 0) + a4 V0 (ix3 i h d) * a154 V0 (ix3 i h d) + a154 V0 (ix3 i h d) * a4 V0 (ix3 i h d) := by
  unfold rq  a143 a16 a4 a154
  obtain ⟨x143, e143⟩ : ∃ x : S4096x8x128.Idx → EReal, x = res_main_v143 V0 := ⟨_, rfl⟩
  obtain ⟨x16, e16⟩ : ∃ x : S4096x8x1.Idx → EReal, x = res_main_v16 V0 := ⟨_, rfl⟩
  obtain ⟨x4, e4⟩ : ∃ x : S4096x8x128.Idx → EReal, x = res_main_v4 V0 := ⟨_, rfl⟩
  obtain ⟨x154, e154⟩ : ∃ x : S4096x8x128.Idx → EReal, x = res_main_v154 V0 := ⟨_, rfl⟩
  rw [← e143, ← e16, ← e4, ← e154]
  clear e143 e16 e4 e154
  clean_types
  pointwise []

theorem rk_at (i : Fin 4096) (h : Fin 8) (d : Fin 128) : rk V0 (ix3 i h d)
    = a123 V0 (ix3 i h d) * a32 V0 (ix3 i h 0) + a6 V0 (ix3 i h d) * a134 V0 (ix3 i h d) + a134 V0 (ix3 i h d) * a6 V0 (ix3 i h d) := by
  unfold rk  a123 a32 a6 a134
  obtain ⟨x123, e123⟩ : ∃ x : S4096x8x128.Idx → EReal, x = res_main_v123 V0 := ⟨_, rfl⟩
  obtain ⟨x32, e32⟩ : ∃ x : S4096x8x1.Idx → EReal, x = res_main_v32 V0 := ⟨_, rfl⟩
  obtain ⟨x6, e6⟩ : ∃ x : S4096x8x128.Idx → EReal, x = res_main_v6 V0 := ⟨_, rfl⟩
  obtain ⟨x134, e134⟩ : ∃ x : S4096x8x128.Idx → EReal, x = res_main_v134 V0 := ⟨_, rfl⟩
  rw [← e123, ← e32, ← e6, ← e134]
  clear e123 e32 e6 e134
  clean_types
  pointwise []

theorem rv_at (i : Fin 4096) (h : Fin 8) (d : Fin 128) : rv V0 (ix3 i h d)
    = ∑ l, a89 V0 (ix3 h d l) * a81 V0 (ix3 h l i) := by
  unfold rv  a89 a81
  obtain ⟨x89, e89⟩ : ∃ x : S8x128x4096.Idx → EReal, x = res_main_v89 V0 := ⟨_, rfl⟩
  obtain ⟨x81, e81⟩ : ∃ x : S8x4096x4096.Idx → EReal, x = res_main_v81 V0 := ⟨_, rfl⟩
  rw [← e89, ← e81]
  clear e89 e81
  clean_types
  pointwise []

theorem r167_rq (i : Fin 4096) (h : Fin 8) (d : Fin 128) : r167 V0 (ix2 i ⟨9216 + (h.val * 384 + d.val), by omega⟩) = rq V0 (ix3 i h d) := by
  unfold r167 rmid
  generalize rq V0 = xq
  generalize rk V0 = xk
  generalize rv V0 = xv
  clean_types
  pointwise []
  rw [dif_pos (by omega), dif_pos (by omega)]

theorem r167_rk (i : Fin 4096) (h : Fin 8) (d : Fin 128) : r167 V0 (ix2 i ⟨9216 + (h.val * 384 + 128 + d.val), by omega⟩) = rk V0 (ix3 i h d) := by
  unfold r167 rmid
  generalize rq V0 = xq
  generalize rk V0 = xk
  generalize rv V0 = xv
  clean_types
  pointwise []
  rw [dif_pos (by omega), dif_neg (by omega), dif_pos (by omega)]

theorem r167_rv (i : Fin 4096) (h : Fin 8) (d : Fin 128) : r167 V0 (ix2 i ⟨9216 + (h.val * 384 + 256 + d.val), by omega⟩) = rv V0 (ix3 i h d) := by
  unfold r167 rmid
  generalize rq V0 = xq
  generalize rk V0 = xk
  generalize rv V0 = xv
  clean_types
  pointwise []
  rw [dif_pos (by omega), dif_neg (by omega), dif_neg (by omega)]

theorem r168_at (h : Fin 8) (i : Fin 4096) : r168 V0 (ix3 h 0 i)
    = ∑ _x : Fin 1, ∑ j, a105 V0 (ix3 h i j) := by
  unfold r168  a105
  obtain ⟨x105, e105⟩ : ∃ x : S8x4096x4096.Idx → EReal, x = res_main_v105 V0 := ⟨_, rfl⟩
  rw [← e105]
  clear e105
  clean_types
  pointwise []

theorem r170_at (h : Fin 8) (j : Fin 4096) : r170 V0 (ix3 h j 0)
    = -(∑ _x : Fin 1, ∑ i, -(a105 V0 (ix3 h i j))) := by
  unfold r170  a105
  obtain ⟨x105, e105⟩ : ∃ x : S8x4096x4096.Idx → EReal, x = res_main_v105 V0 := ⟨_, rfl⟩
  rw [← e105]
  clear e105
  clean_types
  pointwise []

theorem r171_at (d : Fin 128) : r171 V0 (ix2 0 d)
    = ∑ i, ∑ h, a21 V0 (ix3 i h d) * a118 V0 (ix3 i h d) := by
  unfold r171  a21 a118
  obtain ⟨x21, e21⟩ : ∃ x : S4096x8x128.Idx → EReal, x = res_main_v21 V0 := ⟨_, rfl⟩
  obtain ⟨x118, e118⟩ : ∃ x : S4096x8x128.Idx → EReal, x = res_main_v118 V0 := ⟨_, rfl⟩
  rw [← e21, ← e118]
  clear e21 e118
  clean_types
  pointwise []
  rw [sum2, zero_add, Fintype.sum_unique, Fintype.sum_unique]
  pointwise []
  rw [sum2, zero_add]
  rfl

theorem r172_at (d : Fin 128) : r172 V0 (ix2 0 d)
    = ∑ i, ∑ h, a37 V0 (ix3 i h d) * a116 V0 (ix3 i h d) := by
  unfold r172  a37 a116
  obtain ⟨x37, e37⟩ : ∃ x : S4096x8x128.Idx → EReal, x = res_main_v37 V0 := ⟨_, rfl⟩
  obtain ⟨x116, e116⟩ : ∃ x : S4096x8x128.Idx → EReal, x = res_main_v116 V0 := ⟨_, rfl⟩
  rw [← e37, ← e116]
  clear e37 e116
  clean_types
  pointwise []
  rw [sum2, zero_add, Fintype.sum_unique, Fintype.sum_unique]
  pointwise []
  rw [sum2, zero_add]
  rfl

theorem r167_left (i : Fin 4096) (n : Fin 9216) : r167 V0 (ix2 i ⟨n.val, by omega⟩) = A5 V0 (ix2 i ⟨n.val, by omega⟩) := by
  unfold r167 A5
  generalize rmid V0 = x
  clean_types
  pointwise []

theorem r167_right (i : Fin 4096) (n : Fin 1024) :
    r167 V0 (ix2 i ⟨12288 + n.val, by omega⟩) = A5 V0 (ix2 i ⟨12288 + n.val, by omega⟩) := by
  unfold r167 A5
  generalize rmid V0 = x
  clean_types
  pointwise []
  rw [dif_neg (by omega), dif_neg (by omega)]
  exact congrArg (fun k => (V0 (Proc.devRef .tc main_arg5) : S4096x13312.Idx → EReal) (ix2 i k)) (Fin.ext (by dsimp only; omega))

/-! ### On real arguments -/

variable {V0} {A : Arr} (W : A.Holds (fun i n => A0 V0 (ix2 i n)) (fun i n => A1 V0 (ix2 i n)) (fun d => A2 V0 (ix1 d))
  (fun d => A3 V0 (ix1 d)) (fun h i => A4 V0 (ix2 h i)))
include W

theorem v4_real (i : Fin 4096) (h : Fin 8) (d : Fin 128) : a4 V0 (ix3 i h d) = (((A.head h).q i d : ℝ) : EReal) :=
  (v4_at V0 i h d).trans (W.x i ⟨h.val * 384 + d.val, by omega⟩)
theorem v6_real (i : Fin 4096) (h : Fin 8) (d : Fin 128) : a6 V0 (ix3 i h d) = (((A.head h).k i d : ℝ) : EReal) :=
  (v6_at V0 i h d).trans (W.x i ⟨h.val * 384 + 128 + d.val, by omega⟩)
theorem v8_real (i : Fin 4096) (h : Fin 8) (d : Fin 128) : a8 V0 (ix3 i h d) = (((A.head h).v i d : ℝ) : EReal) :=
  (v8_at V0 i h d).trans (W.x i ⟨h.val * 384 + 256 + d.val, by omega⟩)
theorem v89_real (h : Fin 8) (d : Fin 128) (i : Fin 4096) : a89 V0 (ix3 h d i) = (((A.head h).dy i d : ℝ) : EReal) :=
  (v89_at V0 h d i).trans (W.y i ⟨h.val * 128 + d.val, by omega⟩)

theorem v15_real (i : Fin 4096) (h : Fin 8) : a15 V0 (ix3 i h 0) = ((ms (A.head h).q i : ℝ) : EReal) := by
  rw [v15_at, Finset.sum_congr rfl fun d _ => by rw [v4_real W, ← EReal.coe_mul], coe_sum, bits_128, bits_eps,
    div_coe _ _ (by norm_num), ← EReal.coe_add, ms]
theorem v31_real (i : Fin 4096) (h : Fin 8) : a31 V0 (ix3 i h 0) = ((ms (A.head h).k i : ℝ) : EReal) := by
  rw [v31_at, Finset.sum_congr rfl fun d _ => by rw [v6_real W, ← EReal.coe_mul], coe_sum, bits_128, bits_eps,
    div_coe _ _ (by norm_num), ← EReal.coe_add, ms]
theorem v16_real (i : Fin 4096) (h : Fin 8) : a16 V0 (ix3 i h 0) = ((rt (A.head h).q i : ℝ) : EReal) := by
  rw [v16_at, v15_real W, rsqrt_coe _ (ms_pos _ _), rt]
theorem v32_real (i : Fin 4096) (h : Fin 8) : a32 V0 (ix3 i h 0) = ((rt (A.head h).k i : ℝ) : EReal) := by
  rw [v32_at, v31_real W, rsqrt_coe _ (ms_pos _ _), rt]
theorem v21_real (i : Fin 4096) (h : Fin 8) (d : Fin 128) :
    a21 V0 (ix3 i h d) = (((A.head h).q i d * rt (A.head h).q i : ℝ) : EReal) := by
  rw [v21_at, v4_real W, v16_real W, ← EReal.coe_mul]
theorem v37_real (i : Fin 4096) (h : Fin 8) (d : Fin 128) :
    a37 V0 (ix3 i h d) = (((A.head h).k i d * rt (A.head h).k i : ℝ) : EReal) := by
  rw [v37_at, v6_real W, v32_real W, ← EReal.coe_mul]
theorem v24_real (i : Fin 4096) (h : Fin 8) (d : Fin 128) : a24 V0 (ix3 i h d) = (((A.head h).Q i d : ℝ) : EReal) := by
  rw [v24_at, v21_real W, W.g, ← EReal.coe_mul]; rfl
theorem v40_real (i : Fin 4096) (h : Fin 8) (d : Fin 128) : a40 V0 (ix3 i h d) = (((A.head h).K i d : ℝ) : EReal) := by
  rw [v40_at, v37_real W, W.γ, ← EReal.coe_mul]; rfl

theorem v56_real (h : Fin 8) (i j : Fin 4096) : a56_0 V0 (ix3 h i j) = (A.head h).row i j := by
  rw [v56_0_at, Head.row]
  refine if_congr Iff.rfl ?_ rfl
  rw [Finset.sum_congr rfl fun d _ => by rw [v24_real W, v40_real W, ← EReal.coe_mul], coe_sum, bits_sc, W.c, W.c,
    ← EReal.coe_mul, ← EReal.coe_sub, ← EReal.coe_add]
  rfl
theorem v57_real (h : Fin 8) (i : Fin 4096) : a57 V0 (ix2 h i) = (((A.head h).M i : ℝ) : EReal) := by
  rw [v57_at, bits_bot, ← Head.fold_row]
  exact congrArg (fun f => Finset.fold max ⊥ f Finset.univ) (funext fun j => v56_real W h i j)
theorem v77_real (h : Fin 8) (i j : Fin 4096) : a77 V0 (ix3 h i j) = (((A.head h).ex ((A.head h).M i) i j : ℝ) : EReal) := by
  rw [v77_at, bits_bot, max_eq_right bot_le, v57_real W, v56_real W, Head.exp_row]
theorem v79_real (h : Fin 8) (i : Fin 4096) : a79 V0 (ix3 h i 0) = (((A.head h).Z ((A.head h).M i) i : ℝ) : EReal) := by
  rw [v79_at, Finset.sum_congr rfl fun j _ => v77_real W h i j, coe_sum, Head.Z]
theorem v81_real (h : Fin 8) (i j : Fin 4096) : a81 V0 (ix3 h i j) = (((A.head h).P ((A.head h).M i) i j : ℝ) : EReal) := by
  rw [v81_at, v77_real W, v79_real W, div_coe _ _ (Head.Z_pos _ _ _).ne', Head.P]
theorem v90_real (h : Fin 8) (i j : Fin 4096) : a90 V0 (ix3 h i j) = (((A.head h).dP i j : ℝ) : EReal) := by
  rw [v90_at, Finset.sum_congr rfl fun d _ => by rw [v89_real W, v8_real W, ← EReal.coe_mul], coe_sum, Head.dP]
theorem v105_real (h : Fin 8) (i j : Fin 4096) : a105 V0 (ix3 h i j) = (((A.head h).dS ((A.head h).M i) i j : ℝ) : EReal) := by
  have hz : (A.head h).Z ((A.head h).M i) i * (A.head h).Z ((A.head h).M i) i ≠ 0 :=
    mul_ne_zero (Head.Z_pos _ _ _).ne' (Head.Z_pos _ _ _).ne'
  rw [v105_at]
  split
  · rw [v79_real W, v77_real W, v90_real W, Fintype.sum_unique, div_coe _ _ (Head.Z_pos _ _ _).ne', ← EReal.coe_mul,
      ← EReal.coe_one, div_coe _ _ hz, Finset.sum_congr rfl fun l _ => by
        rw [v90_real W, v77_real W, ← EReal.coe_mul, ← EReal.coe_mul], coe_sum, ← EReal.coe_neg, ← EReal.coe_add, ← EReal.coe_mul,
      Head.dS_quot]
  · next hji => rw [Head.dS_behind _ _ _ _ hji, EReal.coe_zero]
theorem v114_real (h : Fin 8) (i j : Fin 4096) :
    a114 V0 (ix3 h i j) = (((A.head h).dS ((A.head h).M i) i j * sc : ℝ) : EReal) := by
  rw [v114_at, v105_real W, bits_sc, ← EReal.coe_mul]
theorem v116_real (j : Fin 4096) (h : Fin 8) (d : Fin 128) :
    a116 V0 (ix3 j h d) = (((A.head h).dK (A.head h).M j d : ℝ) : EReal) := by
  rw [v116_at, Finset.sum_congr rfl fun i _ => by rw [v114_real W, v24_real W, ← EReal.coe_mul], coe_sum, Head.dK]
theorem v118_real (i : Fin 4096) (h : Fin 8) (d : Fin 128) :
    a118 V0 (ix3 i h d) = (((A.head h).dQ ((A.head h).M i) i d : ℝ) : EReal) := by
  rw [v118_at, Finset.sum_congr rfl fun j _ => by rw [v114_real W, v40_real W, ← EReal.coe_mul], coe_sum, Head.dQ]
theorem v123_real (i : Fin 4096) (h : Fin 8) (d : Fin 128) :
    a123 V0 (ix3 i h d) = (((A.head h).dK (A.head h).M i d * (A.head h).γ d : ℝ) : EReal) := by
  rw [v123_at, v116_real W, W.γ, ← EReal.coe_mul]; rfl
theorem v143_real (i : Fin 4096) (h : Fin 8) (d : Fin 128) :
    a143 V0 (ix3 i h d) = (((A.head h).dQ ((A.head h).M i) i d * (A.head h).g d : ℝ) : EReal) := by
  rw [v143_at, v118_real W, W.g, ← EReal.coe_mul]; rfl
theorem v134_real (i : Fin 4096) (h : Fin 8) (d : Fin 128) : a134 V0 (ix3 i h d)
    = (((∑ e, (A.head h).k i e * ((A.head h).dK (A.head h).M i e * (A.head h).γ e))
        * (-(1 / 2) * (rt (A.head h).k i / ms (A.head h).k i)) / 128 : ℝ) : EReal) := by
  rw [v134_at, Fintype.sum_unique, v32_real W, v31_real W, bits_neg_half, bits_128, div_coe _ _ (ms_pos _ _).ne',
    Finset.sum_congr rfl fun e _ => by rw [v6_real W, v123_real W, ← EReal.coe_mul], coe_sum, ← EReal.coe_mul, ← EReal.coe_mul,
    div_coe _ _ (by norm_num)]
theorem v154_real (i : Fin 4096) (h : Fin 8) (d : Fin 128) : a154 V0 (ix3 i h d)
    = (((∑ e, (A.head h).q i e * ((A.head h).dQ ((A.head h).M i) i e * (A.head h).g e))
        * (-(1 / 2) * (rt (A.head h).q i / ms (A.head h).q i)) / 128 : ℝ) : EReal) := by
  rw [v154_at, Fintype.sum_unique, v16_real W, v15_real W, bits_neg_half, bits_128, div_coe _ _ (ms_pos _ _).ne',
    Finset.sum_congr rfl fun e _ => by rw [v4_real W, v143_real W, ← EReal.coe_mul], coe_sum, ← EReal.coe_mul, ← EReal.coe_mul,
    div_coe _ _ (by norm_num)]

/-! ### The results -/

theorem rq_real (i : Fin 4096) (h : Fin 8) (d : Fin 128) : rq V0 (ix3 i h d)
    = ((rmsBwd ((A.head h).q i) (fun e => (A.head h).dQ ((A.head h).M i) i e * (A.head h).g e) (rt (A.head h).q i) d : ℝ) : EReal) := by
  rw [rq_at, v143_real W, v16_real W, v4_real W, v154_real W, ← rmsBwd_chain]
  simp only [EReal.coe_add, EReal.coe_mul]
theorem rk_real (i : Fin 4096) (h : Fin 8) (d : Fin 128) : rk V0 (ix3 i h d)
    = ((rmsBwd ((A.head h).k i) (fun e => (A.head h).dK (A.head h).M i e * (A.head h).γ e) (rt (A.head h).k i) d : ℝ) : EReal) := by
  rw [rk_at, v123_real W, v32_real W, v6_real W, v134_real W, ← rmsBwd_chain]
  simp only [EReal.coe_add, EReal.coe_mul]
theorem rv_real (i : Fin 4096) (h : Fin 8) (d : Fin 128) : rv V0 (ix3 i h d)
    = ((∑ l, (A.head h).dy l d * (A.head h).P ((A.head h).M l) l i : ℝ) : EReal) := by
  rw [rv_at, Finset.sum_congr rfl fun l _ => by rw [v89_real W, v81_real W, ← EReal.coe_mul], coe_sum]
theorem r168_real (h : Fin 8) (i : Fin 4096) :
    r168 V0 (ix3 h 0 i) = ((∑ j, (A.head h).dS ((A.head h).M i) i j : ℝ) : EReal) := by
  rw [r168_at, Fintype.sum_unique, Finset.sum_congr rfl fun j _ => v105_real W h i j, coe_sum]
theorem r170_real (h : Fin 8) (j : Fin 4096) :
    r170 V0 (ix3 h j 0) = ((∑ i, (A.head h).dS ((A.head h).M i) i j : ℝ) : EReal) := by
  rw [r170_at, Fintype.sum_unique, Finset.sum_congr rfl fun i _ => by rw [v105_real W, ← EReal.coe_neg], coe_sum, ← EReal.coe_neg,
    Finset.sum_neg_distrib, neg_neg]
theorem r171_real (d : Fin 128) : r171 V0 (ix2 0 d)
    = ((∑ h, ∑ i, (A.head h).q i d * rt (A.head h).q i * (A.head h).dQ ((A.head h).M i) i d : ℝ) : EReal) := by
  rw [r171_at, Finset.sum_comm, Finset.sum_congr rfl fun h _ => by
    rw [Finset.sum_congr rfl fun i _ => by rw [v21_real W, v118_real W, ← EReal.coe_mul], coe_sum], coe_sum]
theorem r172_real (d : Fin 128) : r172 V0 (ix2 0 d)
    = ((∑ h, ∑ i, (A.head h).k i d * rt (A.head h).k i * (A.head h).dK (A.head h).M i d : ℝ) : EReal) := by
  rw [r172_at, Finset.sum_comm, Finset.sum_congr rfl fun h _ => by
    rw [Finset.sum_congr rfl fun i _ => by rw [v37_real W, v116_real W, ← EReal.coe_mul], coe_sum], coe_sum]

end Cert.ReferenceIdeal.Fox

end
-- ==== Proof.FoxValue.lean ====
/- The arrays the call leaves, on real arguments: those of the reference. -/
module

public import proofs.«01_k».proof.Proof.FoxPoint
public import proofs.«01_k».proof.Proof.FoxRef
public import Idealize.ShloMosaic.Lib.Pipeline.ValueKit.Partial

@[expose] public section

set_option maxRecDepth 16384

noncomputable section

namespace Cert.KernelIdeal.Fox

open Idealize.ShloMosaic Idealize.ShloMosaic.TcCoe Idealize.SL.Sem
open Cert.KernelIdeal Cert.KernelIdeal.Gen
open Cert.Fox

variable (m : (ℓ : Loc nD τ sig) → Buf (Elt Ideal) ℓ)

/-- The block of each result at head `t`. -/
theorem at_out : ∀ t : Fin grid0.N,
    (win0_10.index t 0 = 0 ∧ win0_10.index t 1 = 24 + t.val)
    ∧ (win0_11.index t 0 = t.val ∧ win0_11.index t 1 = 0 ∧ win0_11.index t 2 = 0)
    ∧ (win0_12.index t 0 = t.val ∧ win0_12.index t 1 = 0 ∧ win0_12.index t 2 = 0) := by decide +kernel

section
variable (c : Dev nD) (t : Fin cfg0.N)

theorem emb10 (y : ((cfg0.win 10).xblock (cfg0.grid.coords t)).Idx) (i : Fin 4096) (b : Fin 384)
    (h : (cfg0.win 10).xinj (cfg0.grid.coords t) y = (ix2 i b : S4096x384.Idx)) : ((cfg0.win 10).blk t).view.emb y
    = (ix2 i ⟨9216 + (t.val * 384 + b.val), by have := lt8 t; omega⟩ : S4096x13312.Idx) := by
  have h0 : (y 0).val = i.val := congrArg (fun z : S4096x384.Idx => (z 0).val) h
  have h1 : (y 1).val = b.val := congrArg (fun z : S4096x384.Idx => (z 1).val) h
  refine funext fun x => Fin.ext ?_
  match x with
  | ⟨0, _⟩ => show win0_10.index t 0 * 4096 + 1 * (y 0).val = i.val; rw [(at_out t).1.1, h0]; omega
  | ⟨1, _⟩ => show win0_10.index t 1 * 384 + 1 * (y 1).val = 9216 + (t.val * 384 + b.val); rw [(at_out t).1.2, h1]; omega

theorem emb11 (i : Fin 4096) : ((cfg0.win 11).blk t).view.emb (ix3 0 0 i) = (ix3 (hd t) 0 i : S8x1x4096.Idx) := by
  refine funext fun x => Fin.ext ?_
  match x with
  | ⟨0, _⟩ => show win0_11.index t 0 * 1 + 1 * 0 = t.val; rw [(at_out t).2.1.1]; omega
  | ⟨1, _⟩ => show win0_11.index t 1 * 1 + 1 * 0 = 0; rw [(at_out t).2.1.2.1]
  | ⟨2, _⟩ => show win0_11.index t 2 * 4096 + 1 * i.val = i.val; rw [(at_out t).2.1.2.2]; omega

theorem emb12 (i : Fin 4096) : ((cfg0.win 12).blk t).view.emb (ix3 0 i 0) = (ix3 (hd t) i 0 : S8x4096x1.Idx) := by
  refine funext fun x => Fin.ext ?_
  match x with
  | ⟨0, _⟩ => show win0_12.index t 0 * 1 + 1 * 0 = t.val; rw [(at_out t).2.2.1]; omega
  | ⟨1, _⟩ => show win0_12.index t 1 * 4096 + 1 * i.val = i.val; rw [(at_out t).2.2.2.1]; omega
  | ⟨2, _⟩ => show win0_12.index t 2 * 1 + 1 * 0 = 0; rw [(at_out t).2.2.2.2]

end

/-- The columns the call leaves alone are the argument's. -/
theorem V_72_0 (c : Dev nD) : V m c main_v72_0 = A5 (V0at m c) := by
  after_reads_simp
  rfl

section Arrays
variable {A : Arr} {c : Dev nD} (W : A.Holds (fun i n => A0 (V0at m c) (ix2 i n)) (fun i n => A1 (V0at m c) (ix2 i n)) (fun d => A2 (V0at m c) (ix1 d))
    (fun d => A3 (V0at m c) (ix1 d)) (fun h i => A4 (V0at m c) (ix2 h i)))
include W

/-- The gradient of the gates, the queries' part. -/
theorem final11 (G : FVec Ideal S8x1x4096 .f32)
    (hG : ∀ h i, G (ix3 h 0 i) = ((∑ j, (A.head h).dS ((A.head h).M i) i j : ℝ) : EReal)) :
    (dats m 0 c).arrAt 11 cfg0.N = G := by
  refine (dats m 0 c).arrAt_eq_of_covers 11 G (by decide +kernel) fun t hf y => ?_
  obtain ⟨i, rfl⟩ : ∃ i : Fin 4096, y = (ix3 0 0 i : S1x1x4096.Idx) := ⟨y 2, (eq_ix3 (y : S1x1x4096.Idx)).trans (by
    rw [Fin.fin_one_eq_zero ((y : S1x1x4096.Idx) 0), Fin.fin_one_eq_zero ((y : S1x1x4096.Idx) 1)])⟩
  refine Eq.trans ?_ (congrArg G (emb11 t i)).symm
  rw [hG]
  exact (congrFun (after_11 m c t) (ix3 0 0 i)).trans (dcq_real (reads m c t W) i)

/-- The gradient of the gates, the keys' part. -/
theorem final12 (G : FVec Ideal S8x4096x1 .f32)
    (hG : ∀ h i, G (ix3 h i 0) = ((∑ j, (A.head h).dS ((A.head h).M j) j i : ℝ) : EReal)) :
    (dats m 0 c).arrAt 12 cfg0.N = G := by
  refine (dats m 0 c).arrAt_eq_of_covers 12 G (by decide +kernel) fun t hf y => ?_
  obtain ⟨i, rfl⟩ : ∃ i : Fin 4096, y = (ix3 0 i 0 : S1x4096x1.Idx) := ⟨y 1, (eq_ix3 (y : S1x4096x1.Idx)).trans (by
    rw [Fin.fin_one_eq_zero ((y : S1x4096x1.Idx) 0), Fin.fin_one_eq_zero ((y : S1x4096x1.Idx) 2)])⟩
  refine Eq.trans ?_ (congrArg G (emb12 t i)).symm
  rw [hG]
  exact (congrFun (after_12 m c t) (ix3 0 i 0)).trans (dck_real (reads m c t W) i)

/-- The gradient of the projection: the columns of the queries, keys and values, head by head. -/
theorem final10 (G : FVec Ideal S4096x13312 .bf16)
    (hq : ∀ i (h : Fin 8) (d : Fin 128), G (ix2 i ⟨9216 + (h.val * 384 + d.val), by omega⟩)
      = ((rmsBwd ((A.head h).q i) (fun e => (A.head h).dQ ((A.head h).M i) i e * (A.head h).g e) (rt (A.head h).q i) d : ℝ) : EReal))
    (hk : ∀ i (h : Fin 8) (d : Fin 128), G (ix2 i ⟨9216 + (h.val * 384 + 128 + d.val), by omega⟩)
      = ((rmsBwd ((A.head h).k i) (fun e => (A.head h).dK (A.head h).M i e * (A.head h).γ e) (rt (A.head h).k i) d : ℝ) : EReal))
    (hv : ∀ i (h : Fin 8) (d : Fin 128), G (ix2 i ⟨9216 + (h.val * 384 + 256 + d.val), by omega⟩)
      = ((∑ l, (A.head h).dy l d * (A.head h).P ((A.head h).M l) l i : ℝ) : EReal))
    (hl : ∀ i (n : Fin 13312), n.val < 9216 ∨ 12288 ≤ n.val → A5 (V0at m c) (ix2 i n) = G (ix2 i n)) :
    (dats m 0 c).arrAt 10 cfg0.N = G := by
  refine (dats m 0 c).arrAt_eq_of_coversWhere_of_agree 10 G (fun β => 24 ≤ β (1 : Fin 2) ∧ β (1 : Fin 2) < 32) (by decide +kernel) (fun t hf y => ?_) (fun j hj => ?_)
  · obtain ⟨i, b, hy⟩ : ∃ (i : Fin 4096) (b : Fin 384), (cfg0.win 10).xinj (cfg0.grid.coords t) y = (ix2 i b : S4096x384.Idx) :=
      ⟨_, _, eq_ix2 ((cfg0.win 10).xinj (cfg0.grid.coords t) y : S4096x384.Idx)⟩
    refine Eq.trans ?_ (congrArg G (emb10 t y i b hy)).symm
    rw [hy]
    refine (congrFun (after_10 m c t) (ix2 i b)).trans ?_
    rcases Nat.lt_or_ge b.val 128 with h1 | h1
    · exact (dp_q (reads m c t W) i ⟨b.val, h1⟩ b rfl).trans (hq i (hd t) ⟨b.val, h1⟩).symm
    · rcases Nat.lt_or_ge b.val 256 with h2 | h2
      · refine (dp_k (reads m c t W) i ⟨b.val - 128, by omega⟩ b (by show b.val = 128 + (b.val - 128); omega)).trans ((hk i (hd t) ⟨b.val - 128, by omega⟩).symm.trans ?_)
        exact congrArg G (congrArg (ix2 i) (Fin.ext (by show 9216 + (t.val * 384 + 128 + (b.val - 128)) = 9216 + (t.val * 384 + b.val); omega)))
      · refine (dp_v (reads m c t W) i ⟨b.val - 256, by omega⟩ b (by show b.val = 256 + (b.val - 256); omega)).trans ((hv i (hd t) ⟨b.val - 256, by omega⟩).symm.trans ?_)
        exact congrArg G (congrArg (ix2 i) (Fin.ext (by show 9216 + (t.val * 384 + 256 + (b.val - 256)) = 9216 + (t.val * 384 + b.val); omega)))
  · obtain ⟨i, n, rfl⟩ : ∃ (i : Fin 4096) (n : Fin 13312), j = (ix2 i n : S4096x13312.Idx) := ⟨j 0, j 1, eq_ix2 (j : S4096x13312.Idx)⟩
    have hn : ¬ (24 ≤ n.val / 384 ∧ n.val / 384 < 32) := hj
    exact (congrFun (V_72_0 m c) (ix2 i n)).trans (hl i n (by omega))

/-- The gradient of the queries' gain, summed over the heads so far. -/
theorem ggq_upto (d : Fin 128) : ∀ n : ℕ, ∀ hn : n < 8, ggqAt m c n (ix2 0 d)
    = ((∑ h : Fin (n + 1), ∑ i, (A.head (h.castLE hn)).q i d * rt (A.head (h.castLE hn)).q i * (A.head (h.castLE hn)).dQ ((A.head (h.castLE hn)).M i) i d : ℝ) : EReal) := by
  intro n
  induction n with
  | zero =>
    intro hn
    refine (ggq_real (reads m c ⟨0, by decide⟩ W) _ d).trans ?_
    rw [pay79, zero_add, Fin.sum_univ_one]
    rfl
  | succ n ih =>
    intro hn
    rw [ggqAt_of_pos m c ⟨n + 1, hn⟩ (Nat.succ_ne_zero n), Fin.sum_univ_castSucc]
    refine (ggq_real (reads m c ⟨n + 1, hn⟩ W) _ d).trans ?_
    rw [EReal.coe_add]
    exact congrArg (· + _) (ih (by omega))

/-- The gradient of the keys' gain, summed over the heads so far. -/
theorem ggk_upto (d : Fin 128) : ∀ n : ℕ, ∀ hn : n < 8, ggkAt m c n (ix2 0 d)
    = ((∑ h : Fin (n + 1), ∑ i, (A.head (h.castLE hn)).k i d * rt (A.head (h.castLE hn)).k i * (A.head (h.castLE hn)).dK (A.head (h.castLE hn)).M i d : ℝ) : EReal) := by
  intro n
  induction n with
  | zero =>
    intro hn
    refine (ggk_real (reads m c ⟨0, by decide⟩ W) _ d).trans ?_
    rw [pay80, zero_add, Fin.sum_univ_one]
    rfl
  | succ n ih =>
    intro hn
    rw [ggkAt_of_pos m c ⟨n + 1, hn⟩ (Nat.succ_ne_zero n), Fin.sum_univ_castSucc]
    refine (ggk_real (reads m c ⟨n + 1, hn⟩ W) _ d).trans ?_
    rw [EReal.coe_add]
    exact congrArg (· + _) (ih (by omega))

/-- The gradient of the queries' gain. -/
theorem final13 (G : FVec Ideal S1x128 .f32)
    (hG : ∀ d, G (ix2 0 d) = ((∑ h, ∑ i, (A.head h).q i d * rt (A.head h).q i * (A.head h).dQ ((A.head h).M i) i d : ℝ) : EReal)) :
    (dats m 0 c).arrAt 13 cfg0.N = G := by
  refine (dats m 0 c).arrAt_eq_of_after_last 13 ⟨7, by decide⟩ (by decide +kernel) G fun j => ?_
  obtain ⟨d, rfl⟩ : ∃ d : Fin 128, j = (ix2 0 d : S1x128.Idx) := ⟨j 1, (eq_ix2 (j : S1x128.Idx)).trans (by rw [Fin.fin_one_eq_zero ((j : S1x128.Idx) 0)])⟩
  exact (congrFun (after_13 m c ⟨7, by decide⟩) (ix2 0 d)).trans ((ggq_upto m W d 7 (by omega)).trans (hG d).symm)

/-- The gradient of the keys' gain. -/
theorem final14 (G : FVec Ideal S1x128 .f32)
    (hG : ∀ d, G (ix2 0 d) = ((∑ h, ∑ i, (A.head h).k i d * rt (A.head h).k i * (A.head h).dK (A.head h).M i d : ℝ) : EReal)) :
    (dats m 0 c).arrAt 14 cfg0.N = G := by
  refine (dats m 0 c).arrAt_eq_of_after_last 14 ⟨7, by decide⟩ (by decide +kernel) G fun j => ?_
  obtain ⟨d, rfl⟩ : ∃ d : Fin 128, j = (ix2 0 d : S1x128.Idx) := ⟨j 1, (eq_ix2 (j : S1x128.Idx)).trans (by rw [Fin.fin_one_eq_zero ((j : S1x128.Idx) 0)])⟩
  exact (congrFun (after_14 m c ⟨7, by decide⟩) (ix2 0 d)).trans ((ggk_upto m W d 7 (by omega)).trans (hG d).symm)

end Arrays

end Cert.KernelIdeal.Fox

end
-- ==== Proof.FoxFinite.lean ====
/- The precondition: its five masks say that the arguments the call computes with are real. -/
module

public import proofs.«01_k».proof.Defs
public import proofs.«01_k».proof.Proof.FoxPoint
public import Idealize.ShloMosaic.Lib.Pointwise

@[expose] public section

set_option maxRecDepth 16384

noncomputable section

namespace Cert.Pre_finite

open Idealize.ShloMosaic

/-- The shapes of the precondition's operations fit. -/
instance facts : Cert.Pre_finite.Facts where
  slices_S4096x13312_S4096x3072_0_9216 := by decide
  bitsLt_bf16_f32 := by decide
  bcast_S_S4096x3072 := by decide
  bcast_S_S4096x1024 := by decide
  bcast_S_S128 := by decide
  bcast_S_S8x4096 := by decide

/-- A number whose mask is set is real. -/
theorem real_of_mask {a : EReal} (h : BitVec.ofBool (decide (max a (-a) < Ideal.ofBits .f32 0x7F800000#32)) = 1#1) : ∃ r : ℝ, a = r := by
  refine Cert.Fox.exists_real ?_
  rw [Cert.Fox.bits_top] at h
  by_contra hn
  rw [decide_eq_false hn] at h
  exact absurd h (by decide)

variable (x : FVec Ideal S4096x13312 .bf16) (y : FVec Ideal S4096x1024 .bf16) (g γ : FVec Ideal S128 .f32) (c : FVec Ideal S8x4096 .f32) (o : FVec Ideal S4096x13312 .bf16)

theorem mask_x (i : Fin 4096) (n : Fin 3072) : (fn (F := Ideal) x y g γ c o).1 (ix2 i n)
    = BitVec.ofBool (decide (max (x (ix2 i ⟨9216 + n.val, by omega⟩)) (-(x (ix2 i ⟨9216 + n.val, by omega⟩)) : EReal) < Ideal.ofBits .f32 0x7F800000#32)) := by
  pointwise [fn]
  rfl
theorem mask_y (i : Fin 4096) (n : Fin 1024) : (fn (F := Ideal) x y g γ c o).2.1 (ix2 i n)
    = BitVec.ofBool (decide (max (y (ix2 i n)) (-(y (ix2 i n)) : EReal) < Ideal.ofBits .f32 0x7F800000#32)) := by
  pointwise [fn]
  rfl
theorem mask_g (d : Fin 128) : (fn (F := Ideal) x y g γ c o).2.2.1 (ix1 d)
    = BitVec.ofBool (decide (max (g (ix1 d)) (-(g (ix1 d)) : EReal) < Ideal.ofBits .f32 0x7F800000#32)) := by
  pointwise [fn]
  rfl
theorem mask_γ (d : Fin 128) : (fn (F := Ideal) x y g γ c o).2.2.2.1 (ix1 d)
    = BitVec.ofBool (decide (max (γ (ix1 d)) (-(γ (ix1 d)) : EReal) < Ideal.ofBits .f32 0x7F800000#32)) := by
  pointwise [fn]
  rfl
theorem mask_c (h : Fin 8) (i : Fin 4096) : (fn (F := Ideal) x y g γ c o).2.2.2.2 (ix2 h i)
    = BitVec.ofBool (decide (max (c (ix2 h i)) (-(c (ix2 h i)) : EReal) < Ideal.ofBits .f32 0x7F800000#32)) := by
  pointwise [fn]
  rfl

/-- Under the precondition the arguments the call computes with are real. -/
theorem exists_arr (hx : (fn (F := Ideal) x y g γ c o).1 = fun _ => 1#1) (hy : (fn (F := Ideal) x y g γ c o).2.1 = fun _ => 1#1)
    (hg : (fn (F := Ideal) x y g γ c o).2.2.1 = fun _ => 1#1) (hγ : (fn (F := Ideal) x y g γ c o).2.2.2.1 = fun _ => 1#1)
    (hc : (fn (F := Ideal) x y g γ c o).2.2.2.2 = fun _ => 1#1) :
    ∃ A : Cert.Fox.Arr, A.Holds (fun i n => x (ix2 i n)) (fun i n => y (ix2 i n)) (fun d => g (ix1 d)) (fun d => γ (ix1 d)) (fun h i => c (ix2 h i)) := by
  have ex (i : Fin 4096) (n : Fin 3072) := real_of_mask ((mask_x x y g γ c o i n).symm.trans (congrFun hx _))
  have ey (i : Fin 4096) (n : Fin 1024) := real_of_mask ((mask_y x y g γ c o i n).symm.trans (congrFun hy _))
  have eg (d : Fin 128) := real_of_mask ((mask_g x y g γ c o d).symm.trans (congrFun hg _))
  have eγ (d : Fin 128) := real_of_mask ((mask_γ x y g γ c o d).symm.trans (congrFun hγ _))
  have ec (h : Fin 8) (i : Fin 4096) := real_of_mask ((mask_c x y g γ c o h i).symm.trans (congrFun hc _))
  choose X hX using ex
  choose Y hY using ey
  choose G hG using eg
  choose Γ hΓ using eγ
  choose C hC using ec
  exact ⟨⟨X, Y, G, Γ, C⟩, hX, hY, hG, hΓ, hC⟩

end Cert.Pre_finite

end
-- ==== Proof.FoxClaim.lean ====
/- The attention's backward call computes the gradients of the reference, on real arguments. -/
module

public import proofs.«01_k».proof.Defs
public import proofs.«01_k».proof.Proof.FoxValue
public import proofs.«01_k».proof.Proof.FoxFinite

@[expose] public section

set_option maxRecDepth 16384

noncomputable section

namespace Cert.Proof

open Idealize.ShloMosaic Idealize.ShloMosaic.TcCoe Idealize.SL.Sem
open Cert.KernelIdeal.Fox (V0at)

/-- The reference's contents at its launch. -/
abbrev refAt (m' : (ℓ : Loc Cert.ReferenceIdeal.nD Cert.ReferenceIdeal.τ Cert.ReferenceIdeal.sig) → Buf (Elt Ideal) ℓ) (c : Dev Cert.ReferenceIdeal.nD) :
    Valuation Cert.ReferenceIdeal.τ Cert.ReferenceIdeal.sig (Elt Ideal) := StableHlo.launchContents m' c

section
variable (m : (ℓ : Loc Cert.KernelIdeal.nD Cert.KernelIdeal.τ Cert.KernelIdeal.sig) → Buf (Elt Ideal) ℓ)
  (V' : Valuation Cert.ReferenceIdeal.τ Cert.ReferenceIdeal.sig (Elt Ideal)) (c : Dev Cert.KernelIdeal.nD)
  (h0 : Cert.ReferenceIdeal.Fox.A0 V' = Cert.KernelIdeal.Fox.A0 (V0at m c)) (h1 : Cert.ReferenceIdeal.Fox.A1 V' = Cert.KernelIdeal.Fox.A1 (V0at m c))
  (h2 : Cert.ReferenceIdeal.Fox.A2 V' = Cert.KernelIdeal.Fox.A2 (V0at m c)) (h3 : Cert.ReferenceIdeal.Fox.A3 V' = Cert.KernelIdeal.Fox.A3 (V0at m c))
  (h4 : Cert.ReferenceIdeal.Fox.A4 V' = Cert.KernelIdeal.Fox.A4 (V0at m c)) (h5 : Cert.ReferenceIdeal.Fox.A5 V' = Cert.KernelIdeal.Fox.A5 (V0at m c))
  {A : Cert.Fox.Arr}
  (W : A.Holds (fun i n => Cert.KernelIdeal.Fox.A0 (V0at m c) (ix2 i n)) (fun i n => Cert.KernelIdeal.Fox.A1 (V0at m c) (ix2 i n))
    (fun d => Cert.KernelIdeal.Fox.A2 (V0at m c) (ix1 d)) (fun d => Cert.KernelIdeal.Fox.A3 (V0at m c) (ix1 d)) (fun h i => Cert.KernelIdeal.Fox.A4 (V0at m c) (ix2 h i)))
include h0 h1 h2 h3 h4 W

theorem holds_ref : A.Holds (fun i n => Cert.ReferenceIdeal.Fox.A0 V' (ix2 i n)) (fun i n => Cert.ReferenceIdeal.Fox.A1 V' (ix2 i n))
    (fun d => Cert.ReferenceIdeal.Fox.A2 V' (ix1 d)) (fun d => Cert.ReferenceIdeal.Fox.A3 V' (ix1 d)) (fun h i => Cert.ReferenceIdeal.Fox.A4 V' (ix2 h i)) where
  x i n := (congrFun h0 _).trans (W.x i n)
  y i n := (congrFun h1 _).trans (W.y i n)
  g d := (congrFun h2 _).trans (W.g d)
  γ d := (congrFun h3 _).trans (W.γ d)
  c h i := (congrFun h4 _).trans (W.c h i)

/-- The five arrays the call leaves are the reference's results. -/
theorem results_eq :
    (Cert.KernelIdeal.Fox.dats m 0 c).arrAt 11 Cert.KernelIdeal.cfg0.N = Cert.ReferenceIdeal.Fox.r168 V'
    ∧ (Cert.KernelIdeal.Fox.dats m 0 c).arrAt 12 Cert.KernelIdeal.cfg0.N = Cert.ReferenceIdeal.Fox.r170 V'
    ∧ (Cert.KernelIdeal.Fox.dats m 0 c).arrAt 13 Cert.KernelIdeal.cfg0.N = Cert.ReferenceIdeal.Fox.r171 V'
    ∧ (Cert.KernelIdeal.Fox.dats m 0 c).arrAt 14 Cert.KernelIdeal.cfg0.N = Cert.ReferenceIdeal.Fox.r172 V' :=
  have W' := holds_ref m V' c h0 h1 h2 h3 h4 W
  ⟨Cert.KernelIdeal.Fox.final11 m W (Cert.ReferenceIdeal.Fox.r168 V') (Cert.ReferenceIdeal.Fox.r168_real W'),
    Cert.KernelIdeal.Fox.final12 m W (Cert.ReferenceIdeal.Fox.r170 V') (Cert.ReferenceIdeal.Fox.r170_real W'),
    Cert.KernelIdeal.Fox.final13 m W (Cert.ReferenceIdeal.Fox.r171 V') (Cert.ReferenceIdeal.Fox.r171_real W'),
    Cert.KernelIdeal.Fox.final14 m W (Cert.ReferenceIdeal.Fox.r172 V') (Cert.ReferenceIdeal.Fox.r172_real W')⟩

include h5
theorem result0_eq :
    (Cert.KernelIdeal.Fox.dats m 0 c).arrAt 10 Cert.KernelIdeal.cfg0.N = Cert.ReferenceIdeal.Fox.r167 V' := by
  have W' := holds_ref m V' c h0 h1 h2 h3 h4 W
  refine Cert.KernelIdeal.Fox.final10 m W (Cert.ReferenceIdeal.Fox.r167 V')
    (fun i h d => (Cert.ReferenceIdeal.Fox.r167_rq V' i h d).trans (Cert.ReferenceIdeal.Fox.rq_real W' i h d))
    (fun i h d => (Cert.ReferenceIdeal.Fox.r167_rk V' i h d).trans (Cert.ReferenceIdeal.Fox.rk_real W' i h d))
    (fun i h d => (Cert.ReferenceIdeal.Fox.r167_rv V' i h d).trans (Cert.ReferenceIdeal.Fox.rv_real W' i h d)) fun i n hn => ?_
  refine (congrFun h5 (ix2 i n)).symm.trans ?_
  rcases hn with hn | hn
  · exact (Cert.ReferenceIdeal.Fox.r167_left V' i ⟨n.val, hn⟩).symm
  · obtain ⟨k, hk⟩ : ∃ k : Fin 1024, n = ⟨12288 + k.val, by omega⟩ := ⟨⟨n.val - 12288, by omega⟩, Fin.ext (by show n.val = 12288 + (n.val - 12288); omega)⟩
    rw [hk]
    exact (Cert.ReferenceIdeal.Fox.r167_right V' i k).symm
end

section
variable (m : (ℓ : Loc Cert.KernelIdeal.nD Cert.KernelIdeal.τ Cert.KernelIdeal.sig) → Buf (Elt Ideal) ℓ)
/-! The results' arrays after a run. -/
theorem post10 (r : PUnit × MemSt Cert.KernelIdeal.nD Cert.KernelIdeal.τ Cert.KernelIdeal.sig (Elt Ideal))
    (h : Pipeline.FramePost Cert.KernelIdeal.cfgs (Cert.KernelIdeal.Fox.dats m) 0 (Cert.KernelIdeal.Gen.V m) r) (c : Dev Cert.KernelIdeal.nD) :
    r.2.mem ((c.tc : Thread Cert.KernelIdeal.nD Cert.KernelIdeal.τ).loc Cert.KernelIdeal.main_v72_0) = (Cert.KernelIdeal.Fox.dats m 0 c).arrAt 10 Cert.KernelIdeal.cfg0.N :=
  h.out_eq c 10
theorem post11 (r : PUnit × MemSt Cert.KernelIdeal.nD Cert.KernelIdeal.τ Cert.KernelIdeal.sig (Elt Ideal))
    (h : Pipeline.FramePost Cert.KernelIdeal.cfgs (Cert.KernelIdeal.Fox.dats m) 0 (Cert.KernelIdeal.Gen.V m) r) (c : Dev Cert.KernelIdeal.nD) :
    r.2.mem ((c.tc : Thread Cert.KernelIdeal.nD Cert.KernelIdeal.τ).loc Cert.KernelIdeal.main_v72_1) = (Cert.KernelIdeal.Fox.dats m 0 c).arrAt 11 Cert.KernelIdeal.cfg0.N :=
  h.out_eq c 11
theorem post12 (r : PUnit × MemSt Cert.KernelIdeal.nD Cert.KernelIdeal.τ Cert.KernelIdeal.sig (Elt Ideal))
    (h : Pipeline.FramePost Cert.KernelIdeal.cfgs (Cert.KernelIdeal.Fox.dats m) 0 (Cert.KernelIdeal.Gen.V m) r) (c : Dev Cert.KernelIdeal.nD) :
    r.2.mem ((c.tc : Thread Cert.KernelIdeal.nD Cert.KernelIdeal.τ).loc Cert.KernelIdeal.main_v72_2) = (Cert.KernelIdeal.Fox.dats m 0 c).arrAt 12 Cert.KernelIdeal.cfg0.N :=
  h.out_eq c 12
theorem post13 (r : PUnit × MemSt Cert.KernelIdeal.nD Cert.KernelIdeal.τ Cert.KernelIdeal.sig (Elt Ideal))
    (h : Pipeline.FramePost Cert.KernelIdeal.cfgs (Cert.KernelIdeal.Fox.dats m) 0 (Cert.KernelIdeal.Gen.V m) r) (c : Dev Cert.KernelIdeal.nD) :
    r.2.mem ((c.tc : Thread Cert.KernelIdeal.nD Cert.KernelIdeal.τ).loc Cert.KernelIdeal.main_v72_3) = (Cert.KernelIdeal.Fox.dats m 0 c).arrAt 13 Cert.KernelIdeal.cfg0.N :=
  h.out_eq c 13
theorem post14 (r : PUnit × MemSt Cert.KernelIdeal.nD Cert.KernelIdeal.τ Cert.KernelIdeal.sig (Elt Ideal))
    (h : Pipeline.FramePost Cert.KernelIdeal.cfgs (Cert.KernelIdeal.Fox.dats m) 0 (Cert.KernelIdeal.Gen.V m) r) (c : Dev Cert.KernelIdeal.nD) :
    r.2.mem ((c.tc : Thread Cert.KernelIdeal.nD Cert.KernelIdeal.τ).loc Cert.KernelIdeal.main_v72_4) = (Cert.KernelIdeal.Fox.dats m 0 c).arrAt 14 Cert.KernelIdeal.cfg0.N :=
  h.out_eq c 14
end

/-- The attention's backward call: kernel and reference leave the same five arrays. -/
theorem algebraic_fox : Cert.algebraic_KernelIdeal_ReferenceIdeal_pre_finite := by
  intro m g m' g' hp hin
  have hA (c : Dev Cert.KernelIdeal.nD) := Cert.Pre_finite.exists_arr _ _ _ _ _ _ (hp c).1 (hp c).2.1 (hp c).2.2.1 (hp c).2.2.2.1 (hp c).2.2.2.2
  have hr (c : Dev Cert.KernelIdeal.nD) := results_eq m (refAt m' c) c (hin c).1 (hin c).2.1 (hin c).2.2.1 (hin c).2.2.2.1 (hin c).2.2.2.2.1 (hA c).choose_spec
  have h0 (c : Dev Cert.KernelIdeal.nD) := result0_eq m (refAt m' c) c (hin c).1 (hin c).2.1 (hin c).2.2.1 (hin c).2.2.2.1 (hin c).2.2.2.2.1 (hin c).2.2.2.2.2 (hA c).choose_spec
  refine ⟨fun c => Cert.ReferenceIdeal.Fox.r167 (refAt m' c), fun c => Cert.ReferenceIdeal.Fox.r168 (refAt m' c), fun c => Cert.ReferenceIdeal.Fox.r170 (refAt m' c),
    fun c => Cert.ReferenceIdeal.Fox.r171 (refAt m' c), fun c => Cert.ReferenceIdeal.Fox.r172 (refAt m' c), ?_, ?_⟩
  · refine (θ_run Cert.KernelIdeal.defs _ _).mono (fun r h c => ?_)
      (θ_run_and (Cert.KernelIdeal.Fox.run_main m g) (Cert.KernelIdeal.Fox.frame m g))
    exact ⟨(post10 m r h.1 c).trans (h0 c), (post11 m r h.1 c).trans (hr c).1, (post12 m r h.1 c).trans (hr c).2.1,
      (post13 m r h.1 c).trans (hr c).2.2.1, (post14 m r h.1 c).trans (hr c).2.2.2, h.2.1 c⟩
  · exact Cert.ReferenceIdeal.Value.run m' g'

end Cert.Proof

end
-- ==== Proof.lean ====
module

public import Idealize.ShloMosaic.Adequacy
public import Idealize.ShloMosaic.Init
public import proofs.«01_k».proof.Defs
public import proofs.«01_k».proof.Proof.ActValue
public import proofs.«01_k».proof.Proof.Gen.ActKernel
public import proofs.«01_k».proof.Proof.Gen.ActKernel.Frame
public import proofs.«01_k».proof.Proof.Gen.ActKernel.Launch
public import proofs.«01_k».proof.Proof.Gen.ActKernel.Points
public import proofs.«01_k».proof.Proof.Gen.ActKernel.Skeleton
public import proofs.«01_k».proof.Proof.Gen.ActKernelIdeal
public import proofs.«01_k».proof.Proof.Gen.ActKernelIdeal.Frame
public import proofs.«01_k».proof.Proof.Gen.ActKernelIdeal.Launch
public import proofs.«01_k».proof.Proof.Gen.ActKernelIdeal.Points
public import proofs.«01_k».proof.Proof.Gen.ActKernelIdeal.Skeleton
public import proofs.«01_k».proof.Proof.Gen.ActKernelIdeal.Value
public import proofs.«01_k».proof.Proof.Gen.ActReferenceIdeal
public import proofs.«01_k».proof.Proof.Gen.ActReferenceIdeal.Run
public import proofs.«01_k».proof.Proof.Gen.Kernel
public import proofs.«01_k».proof.Proof.Gen.Kernel.Frame
public import proofs.«01_k».proof.Proof.Gen.Kernel.Launch
public import proofs.«01_k».proof.Proof.Gen.Kernel.Points
public import proofs.«01_k».proof.Proof.Gen.Kernel.Skeleton
public import proofs.«01_k».proof.Proof.Gen.KernelIdeal
public import proofs.«01_k».proof.Proof.Gen.KernelIdeal.Frame
public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.LossKernel.Frame
public import proofs.«01_k».proof.Proof.LossValue
public import proofs.«01_k».proof.Proof.Gen.ProjKernel.Frame
public import proofs.«01_k».proof.Proof.ProjValue
public import proofs.«01_k».proof.Proof.Gen.HiddenKernel.Frame
public import proofs.«01_k».proof.Proof.HiddenValue
public import proofs.«01_k».proof.Proof.Gen.BranchKernel.Frame
public import proofs.«01_k».proof.Proof.BranchValue
public import proofs.«01_k».proof.Proof.Gen.H2Kernel.Frame
public import proofs.«01_k».proof.Proof.H2Value
public import proofs.«01_k».proof.Proof.Gen.HKernel.Frame
public import proofs.«01_k».proof.Proof.HValue
public import proofs.«01_k».proof.Proof.Gen.DownKernel.Frame
public import proofs.«01_k».proof.Proof.DownValue
public import proofs.«01_k».proof.Proof.Gen.UpKernel.Frame
public import proofs.«01_k».proof.Proof.UpValue
public import proofs.«01_k».proof.Proof.Gen.InKernel.Frame
public import proofs.«01_k».proof.Proof.InValue
public import proofs.«01_k».proof.Proof.Gen.OutKernel.Frame
public import proofs.«01_k».proof.Proof.OutValue
public import proofs.«01_k».proof.Proof.FoxBits
public import proofs.«01_k».proof.Proof.FoxClaim

@[expose] public section

noncomputable section

namespace Cert.Proof

open Idealize.ShloMosaic Idealize.SL.Sem Cert.ActKernel

/-- The rectifier's gradient: kernel and reference compute the same. -/
theorem algebraic_act : Cert.algebraic_ActKernelIdeal_ActReferenceIdeal := by
  intro m g m' g' _ hin
  refine ⟨fun c => Cert.ActKernelIdeal.Dup.dup (m ((c.tc : Thread _ _).loc Cert.ActKernelIdeal.main_arg0)) (m ((c.tc : Thread _ _).loc Cert.ActKernelIdeal.main_arg1)) (m ((c.tc : Thread _ _).loc Cert.ActKernelIdeal.main_arg2)), ?_, ?_⟩
  · exact (θ_run Cert.ActKernelIdeal.defs _ _).mono (fun r h c => ⟨(h c).1.trans (Cert.ActKernelIdeal.Dup.final m c), (h c).2⟩)
      (Cert.ActKernelIdeal.Value.run_blocks m g)
  · refine (θ_run Cert.ActReferenceIdeal.defs _ _).mono (fun r h c => ⟨(h c).1.trans ?_, (h c).2⟩)
      (Cert.ActReferenceIdeal.Value.run m' g')
    rw [(hin c).1, (hin c).2.1, (hin c).2.2]
    exact Cert.ActKernelIdeal.Dup.ref_eq _ _ _

/-- The frame of the attention's backward kernel, over the extended reals. -/
theorem frame_ideal : Cert.quiescent_KernelIdeal := fun m ρ _ => Cert.KernelIdeal.Fox.frame m ρ

/-- The frame of the attention's reference. -/
theorem frame_ref : Cert.quiescent_ReferenceIdeal := fun m ρ _ =>
  (θ_run Cert.ReferenceIdeal.defs _ _).mono (fun r h => ⟨fun c => (h c).2.2.2.2.2, Idealize.ShloMosaic.sem_eq_zero_of_no_sems (by decide) r.2⟩)
    (Cert.ReferenceIdeal.Value.run m ρ)

theorem claim : Cert.Claim := ⟨Cert.LossKernel.Gen.facts, Cert.LossKernelIdeal.Gen.facts, Cert.LossReferenceIdeal.Gen.facts,
  Cert.ProjKernel.Gen.facts, Cert.ProjKernelIdeal.Gen.facts, Cert.ProjReferenceIdeal.Gen.facts,
  Cert.HiddenKernel.Gen.facts, Cert.HiddenKernelIdeal.Gen.facts, Cert.HiddenReferenceIdeal.Gen.facts,
  Cert.BranchKernel.Gen.facts, Cert.BranchKernelIdeal.Gen.facts, Cert.BranchReferenceIdeal.Gen.facts,
  Cert.H2Kernel.Gen.facts, Cert.H2KernelIdeal.Gen.facts, Cert.H2ReferenceIdeal.Gen.facts,
  Cert.HKernel.Gen.facts, Cert.HKernelIdeal.Gen.facts, Cert.HReferenceIdeal.Gen.facts,
  Cert.DownKernel.Gen.facts, Cert.DownKernelIdeal.Gen.facts, Cert.DownReferenceIdeal.Gen.facts,
  Cert.UpKernel.Gen.facts, Cert.UpKernelIdeal.Gen.facts, Cert.UpReferenceIdeal.Gen.facts,
  Cert.InKernel.Gen.facts, Cert.InKernelIdeal.Gen.facts, Cert.InReferenceIdeal.Gen.facts,
  Cert.OutKernel.Gen.facts, Cert.OutKernelIdeal.Gen.facts, Cert.OutReferenceIdeal.Gen.facts,
  Cert.ActKernel.Gen.facts, Cert.ActKernelIdeal.Gen.facts, Cert.ActReferenceIdeal.Gen.facts,
  Cert.Kernel.Gen.facts, Cert.KernelIdeal.Gen.facts, Cert.ReferenceIdeal.Gen.facts, Cert.Pre_finite.facts,
  fun m ρ _ => Cert.LossKernel.Gen.frame m ρ, fun m ρ _ => Cert.LossKernelIdeal.Gen.frame m ρ, Cert.LossKernelIdeal.Prod.frame_ref,
  fun m ρ _ => Cert.ProjKernel.Gen.frame m ρ, fun m ρ _ => Cert.ProjKernelIdeal.Gen.frame m ρ, Cert.ProjKernelIdeal.Prod.frame_ref,
  fun m ρ _ => Cert.HiddenKernel.Gen.frame m ρ, fun m ρ _ => Cert.HiddenKernelIdeal.Gen.frame m ρ, Cert.HiddenKernelIdeal.Prod.frame_ref,
  fun m ρ _ => Cert.BranchKernel.Gen.frame m ρ, fun m ρ _ => Cert.BranchKernelIdeal.Gen.frame m ρ, Cert.BranchKernelIdeal.Prod.frame_ref,
  fun m ρ _ => Cert.H2Kernel.Gen.frame m ρ, fun m ρ _ => Cert.H2KernelIdeal.Gen.frame m ρ, Cert.H2KernelIdeal.Prod.frame_ref,
  fun m ρ _ => Cert.HKernel.Gen.frame m ρ, fun m ρ _ => Cert.HKernelIdeal.Gen.frame m ρ, Cert.HKernelIdeal.Prod.frame_ref,
  fun m ρ _ => Cert.DownKernel.Gen.frame m ρ, fun m ρ _ => Cert.DownKernelIdeal.Gen.frame m ρ, Cert.DownKernelIdeal.Prod.frame_ref,
  fun m ρ _ => Cert.UpKernel.Gen.frame m ρ, fun m ρ _ => Cert.UpKernelIdeal.Gen.frame m ρ, Cert.UpKernelIdeal.Prod.frame_ref,
  fun m ρ _ => Cert.InKernel.Gen.frame m ρ, fun m ρ _ => Cert.InKernelIdeal.Gen.frame m ρ, Cert.InKernelIdeal.Prod.frame_ref,
  fun m ρ _ => Cert.OutKernel.Gen.frame m ρ, fun m ρ _ => Cert.OutKernelIdeal.Gen.frame m ρ, Cert.OutKernelIdeal.Prod.frame_ref,
  fun m ρ _ => Cert.ActKernel.Gen.frame m ρ, fun m ρ _ => Cert.ActKernelIdeal.Gen.frame m ρ,
  fun m ρ _ => (θ_run Cert.ActReferenceIdeal.defs _ _).mono (fun r h => ⟨fun c => (h c).2, Idealize.ShloMosaic.sem_eq_zero_of_no_sems (by decide) r.2⟩)
    (Cert.ActReferenceIdeal.Value.run m ρ),
  frame_kernel, frame_ideal, fun m ρ _ => frame_ideal m ρ trivial, frame_ref, fun m ρ _ => frame_ref m ρ trivial,
  trivial, Cert.LossKernelIdeal.Prod.algebraic,
  trivial, Cert.ProjKernelIdeal.Prod.algebraic,
  trivial, Cert.HiddenKernelIdeal.Prod.algebraic,
  trivial, Cert.BranchKernelIdeal.Prod.algebraic,
  trivial, Cert.H2KernelIdeal.Prod.algebraic,
  trivial, Cert.HKernelIdeal.Prod.algebraic,
  trivial, Cert.DownKernelIdeal.Prod.algebraic,
  trivial, Cert.UpKernelIdeal.Prod.algebraic,
  trivial, Cert.InKernelIdeal.Prod.algebraic,
  trivial, Cert.OutKernelIdeal.Prod.algebraic,
  trivial, algebraic_act, trivial, algebraic_fox⟩

end Cert.Proof

end
